-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg3) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg3) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg3) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v10_0)) (v1 : (c : Dev Cert.Kernel21Ideal.nD) → Buf (Elt Ideal) ((c.tc : Thread Cert.Kernel21Ideal.nD Cert.Kernel21Ideal.τ).loc Cert.Kernel21Ideal.main_v10_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v10_0) = v0 c
          ∧ r.2.mem ((c.tc : Thread Cert.Kernel21Ideal.nD Cert.Kernel21Ideal.τ).loc Cert.Kernel21Ideal.main_v10_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v15) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v25) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v36) = v0 c
          ∧ r.2.mem ((c.tc : Thread Cert.Reference29Ideal.nD Cert.Reference29Ideal.τ).loc Cert.Reference29Ideal.main_v37) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v40) = v0 c
          ∧ r.2.mem ((c.tc : Thread Cert.Reference30Ideal.nD Cert.Reference30Ideal.τ).loc Cert.Reference30Ideal.main_v41) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v36) = v0 c
          ∧ r.2.mem ((c.tc : Thread Cert.Reference31Ideal.nD Cert.Reference31Ideal.τ).loc Cert.Reference31Ideal.main_v37) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Kernel.lean ====
abbrev S4096x1024 : Shape := ⟨2, ![4096, 1024]⟩
abbrev S8x64x64x64 : Shape := ⟨4, ![8, 64, 64, 64]⟩
abbrev S8x64 : Shape := ⟨2, ![8, 64]⟩
abbrev S64x1024x128 : Shape := ⟨3, ![64, 1024, 128]⟩
abbrev S64x64x8x64 : Shape := ⟨4, ![64, 64, 8, 64]⟩
abbrev S_ : Shape := ⟨0, ![]⟩
abbrev S64x64x8x128 : Shape := ⟨4, ![64, 64, 8, 128]⟩
abbrev S64x8 : Shape := ⟨2, ![64, 8]⟩
abbrev S512x1 : Shape := ⟨2, ![512, 1]⟩
abbrev S512x128 : Shape := ⟨2, ![512, 128]⟩
abbrev S256x1024 : Shape := ⟨2, ![256, 1024]⟩
abbrev S32x128 : Shape := ⟨2, ![32, 128]⟩
abbrev S4x1024x128 : Shape := ⟨3, ![4, 1024, 128]⟩
abbrev S1024x128 : Shape := ⟨2, ![1024, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S1x1 : Shape := ⟨2, ![1, 1]⟩
abbrev S1 : Shape := ⟨1, ![1]⟩
abbrev S1x1x1 : Shape := ⟨3, ![1, 1, 1]⟩
abbrev S128x64 : Shape := ⟨2, ![128, 64]⟩
abbrev S1x128 : Shape := ⟨2, ![1, 128]⟩

abbrev nBuf : Space → Nat
  | .hbm => 26
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x64x64x64, .f32⟩
  | .hbm, ⟨5, _⟩ => ⟨S8x64, .f32⟩
  | .hbm, ⟨6, _⟩ => ⟨S64x1024x128, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S64x64x8x64, .f32⟩
  | .hbm, ⟨12, _⟩ => ⟨S_, .i32⟩
  | .hbm, ⟨13, _⟩ => ⟨S_, .f32⟩
  | .hbm, ⟨14, _⟩ => ⟨S64x64x8x128, .f32⟩
  | .hbm, ⟨15, _⟩ => ⟨S4096x1024, .f32⟩
  | .hbm, ⟨16, _⟩ => ⟨S64x8, .f32⟩
  | .hbm, ⟨17, _⟩ => ⟨S512x1, .f32⟩
  | .hbm, ⟨18, _⟩ => ⟨S512x128, .f32⟩
  | .hbm, ⟨19, _⟩ => ⟨S4096x1024, .bf16⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S512x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S32x128, .f32⟩
  | .local _ .vmem, ⟨11, _⟩ => ⟨S32x128, .f32⟩
  | .local _ .vmem, ⟨12, _⟩ => ⟨S4x1024x128, .bf16⟩
  | .local _ .vmem, ⟨13, _⟩ => ⟨S4x1024x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S32x128, .f32⟩
  | .local _ .vmem, ⟨27, _⟩ => ⟨S32x128, .f32⟩
  | .local _ .vmem, ⟨28, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1024 : Shape := ⟨2, ![4096, 1024]⟩
abbrev S8x64x64x64 : Shape := ⟨4, ![8, 64, 64, 64]⟩
abbrev S8x64 : Shape := ⟨2, ![8, 64]⟩
abbrev S64x1024x128 : Shape := ⟨3, ![64, 1024, 128]⟩
abbrev S64x64x8x128 : Shape := ⟨4, ![64, 64, 8, 128]⟩
abbrev S64x8x64x128 : Shape := ⟨4, ![64, 8, 64, 128]⟩
abbrev S64x8x64x64 : Shape := ⟨4, ![64, 8, 64, 64]⟩
abbrev S64x8 : Shape := ⟨2, ![64, 8]⟩
abbrev S64x8x128x128 : Shape := ⟨4, ![64, 8, 128, 128]⟩
abbrev S_ : Shape := ⟨0, ![]⟩
abbrev S8x128x128 : Shape := ⟨3, ![8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S64x64x8x64 : Shape := ⟨4, ![64, 64, 8, 64]⟩
abbrev S512x1 : Shape := ⟨2, ![512, 1]⟩
abbrev S512x128 : Shape := ⟨2, ![512, 128]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S8x64x64x64, .f32⟩
  | 5 => ⟨S8x64, .f32⟩
  | 6 => ⟨S64x1024x128, .bf16⟩
  | 7 => ⟨S4096x1024, .f32⟩
  | 8 => ⟨S64x64x8x128, .f32⟩
  | 9 => ⟨S64x8x64x128, .f32⟩
  | 10 => ⟨S64x64x8x128, .f32⟩
  | 11 => ⟨S64x8x64x128, .f32⟩
  | 12 => ⟨S64x64x8x128, .f32⟩
  | 13 => ⟨S64x8x64x128, .f32⟩
  | 14 => ⟨S64x64x8x128, .f32⟩
  | 15 => ⟨S64x8x64x128, .f32⟩
  | 16 => ⟨S64x8x64x64, .f32⟩
  | 17 => ⟨S64x8, .f32⟩
  | 18 => ⟨S64x1024x128, .f32⟩
  | 19 => ⟨S64x8x128x128, .f32⟩
  | 20 => ⟨S_, .f32⟩
  | 21 => ⟨S8x128x128, .f32⟩
  | 22 => ⟨S64x64x8x128, .f32⟩
  | 23 => ⟨S64x8x64x128, .f32⟩
  | 24 => ⟨S_, .f32⟩
  | 25 => ⟨S64x8x64x128, .f32⟩
  | 26 => ⟨S_, .f32⟩
  | 27 => ⟨S64x8x64x128, .f32⟩
  | 28 => ⟨S_, .f32⟩
  | 29 => ⟨S64x8x64x128, .f32⟩
  | 30 => ⟨S_, .f32⟩
  | 31 => ⟨S64x8x64x128, .f32⟩
  | 32 => ⟨S_, .f32⟩
  | 33 => ⟨S64x8x64x64, .f32⟩
  | 34 => ⟨S_, .f32⟩
  | 35 => ⟨S64x8, .f32⟩
  | 36 => ⟨S_, .i32⟩
  | 37 => ⟨S64x8x128x128, .f32⟩
  | 38 => ⟨S64x8x64x128, .f32⟩
  | 39 => ⟨S64x8x64x128, .f32⟩
  | 40 => ⟨S64x8x64x128, .f32⟩
  | 41 => ⟨S64x8x64x128, .f32⟩
  | 42 => ⟨S64x8x64x64, .f32⟩
  | 43 => ⟨S64x8, .f32⟩
  | 44 => ⟨S64x8x64x128, .f32⟩
  | 45 => ⟨S_, .i32⟩
  | 46 => ⟨S8x128x128, .f32⟩
  | 47 => ⟨S64x8x64x128, .f32⟩
  | 48 => ⟨S64x8x64x128, .f32⟩
  | 49 => ⟨S64x8x64x128, .f32⟩
  | 50 => ⟨S64x8x64x128, .f32⟩
  | 51 => ⟨S64x8x64x64, .f32⟩
  | 52 => ⟨S64x8, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x8x128x128, .f32⟩
  | 63 => ⟨S8x128x128, .f32⟩
  | 64 => ⟨S_, .i32⟩
  | 65 => ⟨S_, .i32⟩
  | 66 => ⟨S_, .i32⟩
  | 67 => ⟨S1x8x64x128, .f32⟩
  | 68 => ⟨S8x64x128, .f32⟩
  | 69 => ⟨S_, .i32⟩
  | 70 => ⟨S_, .i32⟩
  | 71 => ⟨S_, .i32⟩
  | 72 => ⟨S1x8x64x128, .f32⟩
  | 73 => ⟨S8x64x128, .f32⟩
  | 74 => ⟨S_, .i32⟩
  | 75 => ⟨S_, .i32⟩
  | 76 => ⟨S_, .i32⟩
  | 77 => ⟨S1x8x64x128, .f32⟩
  | 78 => ⟨S8x64x128, .f32⟩
  | 79 => ⟨S_, .i32⟩
  | 80 => ⟨S_, .i32⟩
  | 81 => ⟨S_, .i32⟩
  | 82 => ⟨S1x8x64x128, .f32⟩
  | 83 => ⟨S8x64x128, .f32⟩
  | 84 => ⟨S_, .i32⟩
  | 85 => ⟨S_, .i32⟩
  | 86 => ⟨S_, .i32⟩
  | 87 => ⟨S1x8x64x64, .f32⟩
  | 88 => ⟨S8x64x64, .f32⟩
  | 89 => ⟨S_, .i32⟩
  | 90 => ⟨S1x8, .f32⟩
  | 91 => ⟨S8, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S8x64x128, .f32⟩
  | 98 => ⟨S8x64x128, .f32⟩
  | 99 => ⟨S8x64x128, .f32⟩
  | 100 => ⟨S8x64x128, .f32⟩
  | 101 => ⟨S8x64x128, .f32⟩
  | 102 => ⟨S8x1x1, .f32⟩
  | 103 => ⟨S8x128x128, .f32⟩
  | 104 => ⟨S8x128x128, .f32⟩
  | 105 => ⟨S8x128x128, .f32⟩
  | 106 => ⟨S8x128x128, .f32⟩
  | 107 => ⟨S8x128x64, .f32⟩
  | 108 => ⟨S8x64x128, .f32⟩
  | 109 => ⟨S8x128x64, .f32⟩
  | 110 => ⟨S8x64x128, .f32⟩
  | 111 => ⟨S8x128x128, .f32⟩
  | 112 => ⟨S_, .f32⟩
  | 113 => ⟨S8, .f32⟩
  | 114 => ⟨S8x1x1, .f32⟩
  | 115 => ⟨S8x128x128, .f32⟩
  | 116 => ⟨S8x128x128, .f32⟩
  | 117 => ⟨S_, .f32⟩
  | 118 => ⟨S8, .f32⟩
  | 119 => ⟨S8x128x64, .f32⟩
  | 120 => ⟨S8x64x128, .f32⟩
  | 121 => ⟨S8x64x128, .f32⟩
  | 122 => ⟨S8x64x64, .f32⟩
  | 123 => ⟨S8x128x128, .f32⟩
  | 124 => ⟨S8x128x128, .f32⟩
  | 125 => ⟨S8x128x128, .f32⟩
  | 126 => ⟨S8x64x128, .f32⟩
  | 127 => ⟨S8x64x128, .f32⟩
  | _ => ⟨S4096x1024, .f32⟩

abbrev hbmTy0_1 (i : Nat) : BufTy := match i % 128 with
  | 0 => ⟨S8x128x128, .f32⟩
  | 1 => ⟨S8x128x128, .f32⟩
  | 2 => ⟨S8x128x128, .f32⟩
  | 3 => ⟨S8x64x128, .f32⟩
  | 4 => ⟨S1x8x64x128, .f32⟩
  | 5 => ⟨S_, .i32⟩
  | 6 => ⟨S_, .i32⟩
  | 7 => ⟨S_, .i32⟩
  | 8 => ⟨S64x8x64x128, .f32⟩
  | 9 => ⟨S1x8x64x128, .f32⟩
  | 10 => ⟨S_, .i32⟩
  | 11 => ⟨S_, .i32⟩
  | 12 => ⟨S_, .i32⟩
  | 13 => ⟨S64x8x64x128, .f32⟩
  | 14 => ⟨S1x8x64x128, .f32⟩
  | 15 => ⟨S_, .i32⟩
  | 16 => ⟨S_, .i32⟩
  | 17 => ⟨S_, .i32⟩
  | 18 => ⟨S64x8x64x128, .f32⟩
  | 19 => ⟨S1x8x64x128, .f32⟩
  | 20 => ⟨S_, .i32⟩
  | 21 => ⟨S_, .i32⟩
  | 22 => ⟨S_, .i32⟩
  | 23 => ⟨S64x8x64x128, .f32⟩
  | 24 => ⟨S1x8x64x64, .f32⟩
  | 25 => ⟨S_, .i32⟩
  | 26 => ⟨S_, .i32⟩
  | 27 => ⟨S_, .i32⟩
  | 28 => ⟨S64x8x64x64, .f32⟩
  | 29 => ⟨S1x8, .f32⟩
  | 30 => ⟨S_, .i32⟩
  | 31 => ⟨S64x8, .f32⟩
  | 32 => ⟨S_, .i32⟩
  | 33 => ⟨S_, .i32⟩
  | 34 => ⟨S64x64x8x64, .f32⟩
  | 35 => ⟨S_, .i32⟩
  | 36 => ⟨S_, .f32⟩
  | 37 => ⟨S64x64x8x128, .f32⟩
  | 38 => ⟨S4096x1024, .f32⟩
  | 39 => ⟨S512x1, .f32⟩
  | 40 => ⟨S512x128, .f32⟩
  | 41 => ⟨S64x64x8x128, .f32⟩
  | 42 => ⟨S4096x1024, .f32⟩
  | 43 => ⟨S64x64x8x128, .f32⟩
  | 44 => ⟨S4096x1024, .f32⟩
  | 45 => ⟨S64x64x8x128, .f32⟩
  | 46 => ⟨S4096x1024, .f32⟩
  | 47 => ⟨S64x64x8x128, .f32⟩
  | 48 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_v21_10 : Ref sig .tc := ⟨.hbm, 47, rfl⟩
abbrev main_v21_11 : Ref sig .tc := ⟨.hbm, 48, rfl⟩
abbrev main_v21_12 : Ref sig .tc := ⟨.hbm, 49, rfl⟩
abbrev main_v21_13 : Ref sig .tc := ⟨.hbm, 50, rfl⟩
abbrev main_v21_14 : Ref sig .tc := ⟨.hbm, 51, rfl⟩
abbrev main_v21_15 : Ref sig .tc := ⟨.hbm, 52, rfl⟩
abbrev main_while0c_c_22 : Ref sig .tc := ⟨.hbm, 53, rfl⟩
abbrev main_while0c_v35 : Ref sig .tc := ⟨.hbm, 54, rfl⟩
abbrev main_while0b_c_22 : Ref sig .tc := ⟨.hbm, 55, rfl⟩
abbrev main_while0b_v35 : Ref sig .tc := ⟨.hbm, 56, rfl⟩
abbrev main_while0b_c_23 : Ref sig .tc := ⟨.hbm, 57, rfl⟩
abbrev main_while0b_v36 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v37 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v38 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v39 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v40 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v41 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v42 : Ref sig .tc := ⟨.hbm, 88, rfl⟩
abbrev main_while0b_call6_c : Ref sig .tc := ⟨.hbm, 89, rfl⟩
abbrev main_while0b_call6_v0 : Ref sig .tc := ⟨.hbm, 90, rfl⟩
abbrev main_while0b_v43 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_v0 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_cst_24 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_v63 : Ref sig .tc := ⟨.hbm, 116, rfl⟩
abbrev main_while0b_cst_25 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_v77 : Ref sig .tc := ⟨.hbm, 131, rfl⟩
abbrev main_while0b_call8_v0 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_v78 : Ref sig .tc := ⟨.hbm, 136, rfl⟩
abbrev main_while0b_call9_v0 : Ref sig .tc := ⟨.hbm, 137, rfl⟩
abbrev main_while0b_call9_c : Ref sig .tc := ⟨.hbm, 138, rfl⟩
abbrev main_while0b_call9_c_0 : Ref sig .tc := ⟨.hbm, 139, rfl⟩
abbrev main_while0b_call9_c_1 : Ref sig .tc := ⟨.hbm, 140, rfl⟩
abbrev main_while0b_v79 : Ref sig .tc := ⟨.hbm, 141, rfl⟩
abbrev main_while0b_call10_v0 : Ref sig .tc := ⟨.hbm, 142, rfl⟩
abbrev main_while0b_call10_c : Ref sig .tc := ⟨.hbm, 143, rfl⟩
abbrev main_while0b_call10_c_0 : Ref sig .tc := ⟨.hbm, 144, rfl⟩
abbrev main_while0b_call10_c_1 : Ref sig .tc := ⟨.hbm, 145, rfl⟩
abbrev main_while0b_v80 : Ref sig .tc := ⟨.hbm, 146, rfl⟩
abbrev main_while0b_call11_v0 : Ref sig .tc := ⟨.hbm, 147, rfl⟩
abbrev main_while0b_call11_c : Ref sig .tc := ⟨.hbm, 148, rfl⟩
abbrev main_while0b_call11_c_0 : Ref sig .tc := ⟨.hbm, 149, rfl⟩
abbrev main_while0b_call11_c_1 : Ref sig .tc := ⟨.hbm, 150, rfl⟩
abbrev main_while0b_v81 : Ref sig .tc := ⟨.hbm, 151, rfl⟩
abbrev main_while0b_call12_v0 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_v82 : Ref sig .tc := ⟨.hbm, 156, rfl⟩
abbrev main_while0b_call13_v0 : Ref sig .tc := ⟨.hbm, 157, rfl⟩
abbrev main_while0b_call13_c : Ref sig .tc := ⟨.hbm, 158, rfl⟩
abbrev main_while0b_v83 : Ref sig .tc := ⟨.hbm, 159, rfl⟩
abbrev main_while0b_c_26 : Ref sig .tc := ⟨.hbm, 160, rfl⟩
abbrev main_while0b_v84 : Ref sig .tc := ⟨.hbm, 161, rfl⟩
abbrev main_v22 : Ref sig .tc := ⟨.hbm, 162, rfl⟩
abbrev main_c_6 : Ref sig .tc := ⟨.hbm, 163, rfl⟩
abbrev main_call14_v0 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S4x256x1408 : Shape := ⟨3, ![4, 256, 1408]⟩
abbrev S1024x256 : Shape := ⟨2, ![1024, 256]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x5632, .bf16⟩
  | .hbm, ⟨6, _⟩ => ⟨S4096x1024, .f32⟩
  | .local _ .vmem, ⟨0, _⟩ => ⟨S1024x5632, .bf16⟩
  | .local _ .vmem, ⟨1, _⟩ => ⟨S1024x5632, .bf16⟩
  | .local _ .vmem, ⟨2, _⟩ => ⟨S4x256x1408, .bf16⟩
  | .local _ .vmem, ⟨3, _⟩ => ⟨S4x256x1408, .bf16⟩
  | .local _ .vmem, ⟨4, _⟩ => ⟨S1024x256, .f32⟩
  | .local _ .vmem, ⟨5, _⟩ => ⟨S1024x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x8208 : Shape := ⟨2, ![4096, 8208]⟩
abbrev S1024x8208 : Shape := ⟨2, ![1024, 8208]⟩
abbrev S4096x3072 : Shape := ⟨2, ![4096, 3072]⟩
abbrev S4096x1024 : Shape := ⟨2, ![4096, 1024]⟩
abbrev S4096x16 : Shape := ⟨2, ![4096, 16]⟩
abbrev S_ : Shape := ⟨0, ![]⟩
abbrev S4096x128 : Shape := ⟨2, ![4096, 128]⟩
abbrev S1024x112 : Shape := ⟨2, ![1024, 112]⟩
abbrev S1024x4096 : Shape := ⟨2, ![1024, 4096]⟩
abbrev S1024x16 : Shape := ⟨2, ![1024, 16]⟩
abbrev S1024x8320 : Shape := ⟨2, ![1024, 8320]⟩
abbrev S512x3072 : Shape := ⟨2, ![512, 3072]⟩
abbrev S512x1024 : Shape := ⟨2, ![512, 1024]⟩
abbrev S512x128 : Shape := ⟨2, ![512, 128]⟩
abbrev S512x512 : Shape := ⟨2, ![512, 512]⟩

abbrev nBuf : Space → Nat
  | .hbm => 21
  | .vmem => 30
  | .smem => 0
  | _ => 0

abbrev bufTy : (tb : Table) → Fin (tcTables nBuf tb) → BufTy
  | .hbm, ⟨0, _⟩ => ⟨S4096x8208, .f32⟩
  | .hbm, ⟨1, _⟩ => ⟨S1024x8208, .f32⟩
  | .hbm, ⟨2, _⟩ => ⟨S4096x8208, .bf16⟩
  | .hbm, ⟨3, _⟩ => ⟨S4096x3072, .bf16⟩
  | .hbm, ⟨4, _⟩ => ⟨S4096x1024, .bf16⟩
  | .hbm, ⟨5, _⟩ => ⟨S4096x16, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S_, .i32⟩
  | .hbm, ⟨11, _⟩ => ⟨S_, .bf16⟩
  | .hbm, ⟨12, _⟩ => ⟨S4096x128, .bf16⟩
  | .hbm, ⟨13, _⟩ => ⟨S1024x8208, .bf16⟩
  | .hbm, ⟨14, _⟩ => ⟨S_, .bf16⟩
  | .hbm, ⟨15, _⟩ => ⟨S1024x112, .bf16⟩
  | .hbm, ⟨16, _⟩ => ⟨S1024x4096, .bf16⟩
  | .hbm, ⟨17, _⟩ => ⟨S1024x4096, .bf16⟩
  | .hbm, ⟨18, _⟩ => ⟨S1024x16, .bf16⟩
  | .hbm, ⟨19, _⟩ => ⟨S1024x8320, .bf16⟩
  | .hbm, ⟨20, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x128, .bf16⟩
  | .local _ .vmem, ⟨27, _⟩ => ⟨S512x128, .bf16⟩
  | .local _ .vmem, ⟨28, _⟩ => ⟨S512x512, .f32⟩
  | .local _ .vmem, ⟨29, _⟩ => ⟨S512x512, .f32⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_10 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, c7_i32.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  ![arg1.toNat, c64_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference9Ideal.lean ====
abbrev S4096x8208 : Shape := ⟨2, ![4096, 8208]⟩
abbrev S1024x8208 : Shape := ⟨2, ![1024, 8208]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x8208, .f32⟩
  | .hbm, ⟨1, _⟩ => ⟨S1024x8208, .f32⟩
  | .hbm, ⟨2, _⟩ => ⟨S_, .f32⟩
  | .hbm, ⟨3, _⟩ => ⟨S4096x1024, .f32⟩
  | .hbm, ⟨4, _⟩ => ⟨S4096x8208, .f32⟩
  | .hbm, ⟨5, _⟩ => ⟨S4096x1024, .f32⟩
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .bf16⟩
  | .hbm, ⟨6, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S4096x1024 : Shape := ⟨2, ![4096, 1024]⟩
abbrev S1024x8208 : Shape := ⟨2, ![1024, 8208]⟩
abbrev S_ : Shape := ⟨0, ![]⟩
abbrev S1024x112 : Shape := ⟨2, ![1024, 112]⟩
abbrev S1024x4096 : Shape := ⟨2, ![1024, 4096]⟩
abbrev S1024x16 : Shape := ⟨2, ![1024, 16]⟩
abbrev S1024x8320 : Shape := ⟨2, ![1024, 8320]⟩
abbrev S4096x8320 : Shape := ⟨2, ![4096, 8320]⟩
abbrev S1024x1024 : Shape := ⟨2, ![1024, 1024]⟩
abbrev S1024x640 : Shape := ⟨2, ![1024, 640]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8208, .f32⟩
  | .hbm, ⟨2, _⟩ => ⟨S4096x1024, .bf16⟩
  | .hbm, ⟨3, _⟩ => ⟨S1024x8208, .bf16⟩
  | .hbm, ⟨4, _⟩ => ⟨S_, .bf16⟩
  | .hbm, ⟨5, _⟩ => ⟨S1024x112, .bf16⟩
  | .hbm, ⟨6, _⟩ => ⟨S1024x4096, .bf16⟩
  | .hbm, ⟨7, _⟩ => ⟨S1024x4096, .bf16⟩
  | .hbm, ⟨8, _⟩ => ⟨S1024x16, .bf16⟩
  | .hbm, ⟨9, _⟩ => ⟨S1024x8320, .bf16⟩
  | .hbm, ⟨10, _⟩ => ⟨S4096x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x8208 : Shape := ⟨2, ![1024, 8208]⟩
abbrev S4096x8208 : Shape := ⟨2, ![4096, 8208]⟩
abbrev S_ : Shape := ⟨0, ![]⟩
abbrev S4096x112 : Shape := ⟨2, ![4096, 112]⟩
abbrev S4096x4096 : Shape := ⟨2, ![4096, 4096]⟩
abbrev S4096x16 : Shape := ⟨2, ![4096, 16]⟩
abbrev S4096x8320 : Shape := ⟨2, ![4096, 8320]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8208, .f32⟩
  | .hbm, ⟨2, _⟩ => ⟨S4096x8208, .f32⟩
  | .hbm, ⟨3, _⟩ => ⟨S_, .f32⟩
  | .hbm, ⟨4, _⟩ => ⟨S4096x112, .f32⟩
  | .hbm, ⟨5, _⟩ => ⟨S4096x4096, .f32⟩
  | .hbm, ⟨6, _⟩ => ⟨S4096x4096, .f32⟩
  | .hbm, ⟨7, _⟩ => ⟨S4096x16, .f32⟩
  | .hbm, ⟨8, _⟩ => ⟨S4096x8320, .f32⟩
  | .hbm, ⟨9, _⟩ => ⟨S4096x8320, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S1024x1408, .f32⟩
  | .hbm, ⟨4, _⟩ => ⟨S1024x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S1024x1408, .f32⟩
  | .hbm, ⟨4, _⟩ => ⟨S1024x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x1408 : Shape := ⟨2, ![2048, 1408]⟩
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S1024x1408, .f32⟩
  | .hbm, ⟨4, _⟩ => ⟨S1024x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S2048x2052 : Shape := ⟨2, ![2048, 2052]⟩
abbrev S1024x2052 : Shape := ⟨2, ![1024, 2052]⟩
abbrev S128x2052 : Shape := ⟨2, ![128, 2052]⟩

abbrev nBuf : Space → Nat
  | .hbm => 9
  | .vmem => 18
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S1024x2052, .f32⟩
  | .hbm, ⟨4, _⟩ => ⟨S1024x2052, .f32⟩
  | .hbm, ⟨5, _⟩ => ⟨S2048x2052, .f32⟩
  | .hbm, ⟨6, _⟩ => ⟨S2048x2052, .f32⟩
  | .hbm, ⟨7, _⟩ => ⟨S2048x2052, .f32⟩
  | .hbm, ⟨8, _⟩ => ⟨S2048x2052, .f32⟩
  | .local _ .vmem, ⟨0, _⟩ => ⟨S128x2052, .f32⟩
  | .local _ .vmem, ⟨1, _⟩ => ⟨S128x2052, .f32⟩
  | .local _ .vmem, ⟨2, _⟩ => ⟨S128x2052, .f32⟩
  | .local _ .vmem, ⟨3, _⟩ => ⟨S128x2052, .f32⟩
  | .local _ .vmem, ⟨4, _⟩ => ⟨S128x2052, .f32⟩
  | .local _ .vmem, ⟨5, _⟩ => ⟨S128x2052, .f32⟩
  | .local _ .vmem, ⟨6, _⟩ => ⟨S128x2052, .f32⟩
  | .local _ .vmem, ⟨7, _⟩ => ⟨S128x2052, .f32⟩
  | .local _ .vmem, ⟨8, _⟩ => ⟨S128x2052, .f32⟩
  | .local _ .vmem, ⟨9, _⟩ => ⟨S128x2052, .f32⟩
  | .local _ .vmem, ⟨10, _⟩ => ⟨S128x2052, .f32⟩
  | .local _ .vmem, ⟨11, _⟩ => ⟨S128x2052, .f32⟩
  | .local _ .vmem, ⟨12, _⟩ => ⟨S128x2052, .f32⟩
  | .local _ .vmem, ⟨13, _⟩ => ⟨S128x2052, .f32⟩
  | .local _ .vmem, ⟨14, _⟩ => ⟨S128x2052, .f32⟩
  | .local _ .vmem, ⟨15, _⟩ => ⟨S128x2052, .f32⟩
  | .local _ .vmem, ⟨16, _⟩ => ⟨S128x2052, .f32⟩
  | .local _ .vmem, ⟨17, _⟩ => ⟨S128x2052, .f32⟩
  | _, _ => ⟨S2048x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2052 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2052 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S2048x2052 : Shape := ⟨2, ![2048, 2052]⟩
abbrev S1024x2052 : Shape := ⟨2, ![1024, 2052]⟩
abbrev S128x2052 : Shape := ⟨2, ![128, 2052]⟩

abbrev nBuf : Space → Nat
  | .hbm => 9
  | .vmem => 18
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S1024x2052, .f32⟩
  | .hbm, ⟨4, _⟩ => ⟨S1024x2052, .f32⟩
  | .hbm, ⟨5, _⟩ => ⟨S2048x2052, .f32⟩
  | .hbm, ⟨6, _⟩ => ⟨S2048x2052, .f32⟩
  | .hbm, ⟨7, _⟩ => ⟨S2048x2052, .f32⟩
  | .hbm, ⟨8, _⟩ => ⟨S2048x2052, .f32⟩
  | .local _ .vmem, ⟨0, _⟩ => ⟨S128x2052, .f32⟩
  | .local _ .vmem, ⟨1, _⟩ => ⟨S128x2052, .f32⟩
  | .local _ .vmem, ⟨2, _⟩ => ⟨S128x2052, .f32⟩
  | .local _ .vmem, ⟨3, _⟩ => ⟨S128x2052, .f32⟩
  | .local _ .vmem, ⟨4, _⟩ => ⟨S128x2052, .f32⟩
  | .local _ .vmem, ⟨5, _⟩ => ⟨S128x2052, .f32⟩
  | .local _ .vmem, ⟨6, _⟩ => ⟨S128x2052, .f32⟩
  | .local _ .vmem, ⟨7, _⟩ => ⟨S128x2052, .f32⟩
  | .local _ .vmem, ⟨8, _⟩ => ⟨S128x2052, .f32⟩
  | .local _ .vmem, ⟨9, _⟩ => ⟨S128x2052, .f32⟩
  | .local _ .vmem, ⟨10, _⟩ => ⟨S128x2052, .f32⟩
  | .local _ .vmem, ⟨11, _⟩ => ⟨S128x2052, .f32⟩
  | .local _ .vmem, ⟨12, _⟩ => ⟨S128x2052, .f32⟩
  | .local _ .vmem, ⟨13, _⟩ => ⟨S128x2052, .f32⟩
  | .local _ .vmem, ⟨14, _⟩ => ⟨S128x2052, .f32⟩
  | .local _ .vmem, ⟨15, _⟩ => ⟨S128x2052, .f32⟩
  | .local _ .vmem, ⟨16, _⟩ => ⟨S128x2052, .f32⟩
  | .local _ .vmem, ⟨17, _⟩ => ⟨S128x2052, .f32⟩
  | _, _ => ⟨S2048x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2052 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2052 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x2052 : Shape := ⟨2, ![2048, 2052]⟩
abbrev S1024x2052 : Shape := ⟨2, ![1024, 2052]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S1024x2052, .f32⟩
  | .hbm, ⟨4, _⟩ => ⟨S1024x2052, .f32⟩
  | .hbm, ⟨5, _⟩ => ⟨S2048x2052, .f32⟩
  | .hbm, ⟨6, _⟩ => ⟨S_, .f32⟩
  | .hbm, ⟨7, _⟩ => ⟨S2048x2052, .f32⟩
  | .hbm, ⟨8, _⟩ => ⟨S2048x2052, .f32⟩
  | .hbm, ⟨9, _⟩ => ⟨S_, .f32⟩
  | .hbm, ⟨10, _⟩ => ⟨S2048x2052, .f32⟩
  | .hbm, ⟨11, _⟩ => ⟨S2048x2052, .f32⟩
  | .hbm, ⟨12, _⟩ => ⟨S2048x2052, .f32⟩
  | .hbm, ⟨13, _⟩ => ⟨S_, .f32⟩
  | .hbm, ⟨14, _⟩ => ⟨S2048x2052, .f32⟩
  | .hbm, ⟨15, _⟩ => ⟨S2048x2052, .f32⟩
  | .hbm, ⟨16, _⟩ => ⟨S2048x2052, .f32⟩
  | .hbm, ⟨17, _⟩ => ⟨S_, .f32⟩
  | .hbm, ⟨18, _⟩ => ⟨S2048x2052, .f32⟩
  | .hbm, ⟨19, _⟩ => ⟨S2048x2052, .f32⟩
  | .hbm, ⟨20, _⟩ => ⟨S2048x2052, .f32⟩
  | .hbm, ⟨21, _⟩ => ⟨S_, .f32⟩
  | .hbm, ⟨22, _⟩ => ⟨S2048x2052, .f32⟩
  | .hbm, ⟨23, _⟩ => ⟨S2048x2052, .f32⟩
  | .hbm, ⟨24, _⟩ => ⟨S_, .f32⟩
  | .hbm, ⟨25, _⟩ => ⟨S2048x2052, .f32⟩
  | .hbm, ⟨26, _⟩ => ⟨S2048x2052, .f32⟩
  | .hbm, ⟨27, _⟩ => ⟨S2048x2052, .f32⟩
  | .hbm, ⟨28, _⟩ => ⟨S_, .f32⟩
  | .hbm, ⟨29, _⟩ => ⟨S2048x2052, .f32⟩
  | .hbm, ⟨30, _⟩ => ⟨S2048x2052, .f32⟩
  | .hbm, ⟨31, _⟩ => ⟨S2048x2052, .f32⟩
  | .hbm, ⟨32, _⟩ => ⟨S_, .f32⟩
  | .hbm, ⟨33, _⟩ => ⟨S2048x2052, .f32⟩
  | .hbm, ⟨34, _⟩ => ⟨S2048x2052, .f32⟩
  | .hbm, ⟨35, _⟩ => ⟨S2048x2052, .f32⟩
  | .hbm, ⟨36, _⟩ => ⟨S_, .f32⟩
  | .hbm, ⟨37, _⟩ => ⟨S2048x2052, .f32⟩
  | .hbm, ⟨38, _⟩ => ⟨S2048x2052, .f32⟩
  | _, _ => ⟨S2048x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S1408x1024 : Shape := ⟨2, ![1408, 1024]⟩
abbrev S704x1024 : Shape := ⟨2, ![704, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S704x1024, .f32⟩
  | .hbm, ⟨4, _⟩ => ⟨S704x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S1408x1024 : Shape := ⟨2, ![1408, 1024]⟩
abbrev S704x1024 : Shape := ⟨2, ![704, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S704x1024, .f32⟩
  | .hbm, ⟨4, _⟩ => ⟨S704x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1408x1024 : Shape := ⟨2, ![1408, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S704x1024, .f32⟩
  | .hbm, ⟨4, _⟩ => ⟨S704x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S512x1024 : Shape := ⟨2, ![512, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S8x768 : Shape := ⟨2, ![8, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel18Ideal.lean ====
abbrev S8x768 : Shape := ⟨2, ![8, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S62x256 : Shape := ⟨2, ![62, 256]⟩

abbrev nBuf : Space → Nat
  | .hbm => 8
  | .vmem => 8
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S62x256 : Shape := ⟨2, ![62, 256]⟩

abbrev nBuf : Space → Nat
  | .hbm => 8
  | .vmem => 8
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S62x256 : Shape := ⟨2, ![62, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S_, .f32⟩
  | .hbm, ⟨5, _⟩ => ⟨S62x256, .f32⟩
  | .hbm, ⟨6, _⟩ => ⟨S62x256, .f32⟩
  | .hbm, ⟨7, _⟩ => ⟨S_, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S_, .f32⟩
  | .hbm, ⟨12, _⟩ => ⟨S62x256, .f32⟩
  | .hbm, ⟨13, _⟩ => ⟨S62x256, .f32⟩
  | .hbm, ⟨14, _⟩ => ⟨S62x256, .f32⟩
  | .hbm, ⟨15, _⟩ => ⟨S_, .f32⟩
  | .hbm, ⟨16, _⟩ => ⟨S62x256, .f32⟩
  | .hbm, ⟨17, _⟩ => ⟨S62x256, .f32⟩
  | .hbm, ⟨18, _⟩ => ⟨S62x256, .f32⟩
  | .hbm, ⟨19, _⟩ => ⟨S_, .f32⟩
  | .hbm, ⟨20, _⟩ => ⟨S62x256, .f32⟩
  | .hbm, ⟨21, _⟩ => ⟨S62x256, .f32⟩
  | .hbm, ⟨22, _⟩ => ⟨S_, .f32⟩
  | .hbm, ⟨23, _⟩ => ⟨S62x256, .f32⟩
  | .hbm, ⟨24, _⟩ => ⟨S62x256, .f32⟩
  | .hbm, ⟨25, _⟩ => ⟨S62x256, .f32⟩
  | .hbm, ⟨26, _⟩ => ⟨S_, .f32⟩
  | .hbm, ⟨27, _⟩ => ⟨S62x256, .f32⟩
  | .hbm, ⟨28, _⟩ => ⟨S62x256, .f32⟩
  | .hbm, ⟨29, _⟩ => ⟨S62x256, .f32⟩
  | .hbm, ⟨30, _⟩ => ⟨S_, .f32⟩
  | .hbm, ⟨31, _⟩ => ⟨S62x256, .f32⟩
  | .hbm, ⟨32, _⟩ => ⟨S62x256, .f32⟩
  | .hbm, ⟨33, _⟩ => ⟨S62x256, .f32⟩
  | .hbm, ⟨34, _⟩ => ⟨S_, .f32⟩
  | .hbm, ⟨35, _⟩ => ⟨S62x256, .f32⟩
  | .hbm, ⟨36, _⟩ => ⟨S62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S200x128 : Shape := ⟨2, ![200, 128]⟩

abbrev nBuf : Space → Nat
  | .hbm => 8
  | .vmem => 8
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S200x128, .f32⟩
  | .hbm, ⟨5, _⟩ => ⟨S200x128, .f32⟩
  | .hbm, ⟨6, _⟩ => ⟨S200x128, .f32⟩
  | .hbm, ⟨7, _⟩ => ⟨S200x128, .f32⟩
  | .local _ .vmem, ⟨0, _⟩ => ⟨S200x128, .f32⟩
  | .local _ .vmem, ⟨1, _⟩ => ⟨S200x128, .f32⟩
  | .local _ .vmem, ⟨2, _⟩ => ⟨S200x128, .f32⟩
  | .local _ .vmem, ⟨3, _⟩ => ⟨S200x128, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | _, _ => ⟨S200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S200x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S200x128 : Shape := ⟨2, ![200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S_, .f32⟩
  | .hbm, ⟨5, _⟩ => ⟨S200x128, .f32⟩
  | .hbm, ⟨6, _⟩ => ⟨S200x128, .f32⟩
  | .hbm, ⟨7, _⟩ => ⟨S_, .f32⟩
  | .hbm, ⟨8, _⟩ => ⟨S200x128, .f32⟩
  | .hbm, ⟨9, _⟩ => ⟨S200x128, .f32⟩
  | .hbm, ⟨10, _⟩ => ⟨S200x128, .f32⟩
  | .hbm, ⟨11, _⟩ => ⟨S_, .f32⟩
  | .hbm, ⟨12, _⟩ => ⟨S200x128, .f32⟩
  | .hbm, ⟨13, _⟩ => ⟨S200x128, .f32⟩
  | .hbm, ⟨14, _⟩ => ⟨S200x128, .f32⟩
  | .hbm, ⟨15, _⟩ => ⟨S_, .f32⟩
  | .hbm, ⟨16, _⟩ => ⟨S200x128, .f32⟩
  | .hbm, ⟨17, _⟩ => ⟨S200x128, .f32⟩
  | .hbm, ⟨18, _⟩ => ⟨S200x128, .f32⟩
  | .hbm, ⟨19, _⟩ => ⟨S_, .f32⟩
  | .hbm, ⟨20, _⟩ => ⟨S200x128, .f32⟩
  | .hbm, ⟨21, _⟩ => ⟨S200x128, .f32⟩
  | .hbm, ⟨22, _⟩ => ⟨S_, .f32⟩
  | .hbm, ⟨23, _⟩ => ⟨S200x128, .f32⟩
  | .hbm, ⟨24, _⟩ => ⟨S200x128, .f32⟩
  | .hbm, ⟨25, _⟩ => ⟨S200x128, .f32⟩
  | .hbm, ⟨26, _⟩ => ⟨S_, .f32⟩
  | .hbm, ⟨27, _⟩ => ⟨S200x128, .f32⟩
  | .hbm, ⟨28, _⟩ => ⟨S200x128, .f32⟩
  | .hbm, ⟨29, _⟩ => ⟨S200x128, .f32⟩
  | .hbm, ⟨30, _⟩ => ⟨S_, .f32⟩
  | .hbm, ⟨31, _⟩ => ⟨S200x128, .f32⟩
  | .hbm, ⟨32, _⟩ => ⟨S200x128, .f32⟩
  | .hbm, ⟨33, _⟩ => ⟨S200x128, .f32⟩
  | .hbm, ⟨34, _⟩ => ⟨S_, .f32⟩
  | .hbm, ⟨35, _⟩ => ⟨S200x128, .f32⟩
  | .hbm, ⟨36, _⟩ => ⟨S200x128, .f32⟩
  | _, _ => ⟨S200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x1024 : Shape := ⟨2, ![4096, 1024]⟩
abbrev S8x64x64x64 : Shape := ⟨4, ![8, 64, 64, 64]⟩
abbrev S8x64 : Shape := ⟨2, ![8, 64]⟩
abbrev S64x64x8x64 : Shape := ⟨4, ![64, 64, 8, 64]⟩
abbrev S_ : Shape := ⟨0, ![]⟩
abbrev S64x64x8x128 : Shape := ⟨4, ![64, 64, 8, 128]⟩
abbrev S64x8 : Shape := ⟨2, ![64, 8]⟩
abbrev S512x1 : Shape := ⟨2, ![512, 1]⟩
abbrev S512x128 : Shape := ⟨2, ![512, 128]⟩
abbrev S64x1024x128 : Shape := ⟨3, ![64, 1024, 128]⟩
abbrev S256x1024 : Shape := ⟨2, ![256, 1024]⟩
abbrev S32x128 : Shape := ⟨2, ![32, 128]⟩
abbrev S4x1024x128 : Shape := ⟨3, ![4, 1024, 128]⟩
abbrev S1024x128 : Shape := ⟨2, ![1024, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x64x64x64, .f32⟩
  | .hbm, ⟨5, _⟩ => ⟨S8x64, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S64x64x8x64, .f32⟩
  | .hbm, ⟨10, _⟩ => ⟨S_, .i32⟩
  | .hbm, ⟨11, _⟩ => ⟨S_, .f32⟩
  | .hbm, ⟨12, _⟩ => ⟨S64x64x8x128, .f32⟩
  | .hbm, ⟨13, _⟩ => ⟨S4096x1024, .f32⟩
  | .hbm, ⟨14, _⟩ => ⟨S64x8, .f32⟩
  | .hbm, ⟨15, _⟩ => ⟨S512x1, .f32⟩
  | .hbm, ⟨16, _⟩ => ⟨S512x128, .f32⟩
  | .hbm, ⟨17, _⟩ => ⟨S4096x1024, .bf16⟩
  | .hbm, ⟨18, _⟩ => ⟨S4096x1024, .f32⟩
  | .hbm, ⟨19, _⟩ => ⟨S64x1024x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S32x128, .f32⟩
  | .local _ .vmem, ⟨11, _⟩ => ⟨S32x128, .f32⟩
  | .local _ .vmem, ⟨12, _⟩ => ⟨S256x1024, .f32⟩
  | .local _ .vmem, ⟨13, _⟩ => ⟨S256x1024, .f32⟩
  | .local _ .vmem, ⟨14, _⟩ => ⟨S4x1024x128, .bf16⟩
  | .local _ .vmem, ⟨15, _⟩ => ⟨S4x1024x128, .bf16⟩
  | .local _ .vmem, ⟨16, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4096x1024 : Shape := ⟨2, ![4096, 1024]⟩
abbrev S8x64x64x64 : Shape := ⟨4, ![8, 64, 64, 64]⟩
abbrev S8x64 : Shape := ⟨2, ![8, 64]⟩
abbrev S64x64x8x128 : Shape := ⟨4, ![64, 64, 8, 128]⟩
abbrev S64x8x64x128 : Shape := ⟨4, ![64, 8, 64, 128]⟩
abbrev S64x8x64x64 : Shape := ⟨4, ![64, 8, 64, 64]⟩
abbrev S64x8 : Shape := ⟨2, ![64, 8]⟩
abbrev S_ : Shape := ⟨0, ![]⟩
abbrev S8x128x128 : Shape := ⟨3, ![8, 128, 128]⟩
abbrev S64x8x128x128 : Shape := ⟨4, ![64, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S64x1024x128 : Shape := ⟨3, ![64, 1024, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x64x64x64, .f32⟩
  | .hbm, ⟨5, _⟩ => ⟨S8x64, .f32⟩
  | .hbm, ⟨6, _⟩ => ⟨S64x64x8x128, .f32⟩
  | .hbm, ⟨7, _⟩ => ⟨S64x8x64x128, .f32⟩
  | .hbm, ⟨8, _⟩ => ⟨S64x64x8x128, .f32⟩
  | .hbm, ⟨9, _⟩ => ⟨S64x8x64x128, .f32⟩
  | .hbm, ⟨10, _⟩ => ⟨S64x64x8x128, .f32⟩
  | .hbm, ⟨11, _⟩ => ⟨S64x8x64x128, .f32⟩
  | .hbm, ⟨12, _⟩ => ⟨S64x64x8x128, .f32⟩
  | .hbm, ⟨13, _⟩ => ⟨S64x8x64x128, .f32⟩
  | .hbm, ⟨14, _⟩ => ⟨S64x8x64x64, .f32⟩
  | .hbm, ⟨15, _⟩ => ⟨S64x8, .f32⟩
  | .hbm, ⟨16, _⟩ => ⟨S_, .f32⟩
  | .hbm, ⟨17, _⟩ => ⟨S8x128x128, .f32⟩
  | .hbm, ⟨18, _⟩ => ⟨S_, .f32⟩
  | .hbm, ⟨19, _⟩ => ⟨S64x8x128x128, .f32⟩
  | .hbm, ⟨20, _⟩ => ⟨S_, .f32⟩
  | .hbm, ⟨21, _⟩ => ⟨S64x8x64x128, .f32⟩
  | .hbm, ⟨22, _⟩ => ⟨S_, .i32⟩
  | .hbm, ⟨23, _⟩ => ⟨S64x8x64x128, .f32⟩
  | .hbm, ⟨24, _⟩ => ⟨S64x8x64x128, .f32⟩
  | .hbm, ⟨25, _⟩ => ⟨S64x8x64x128, .f32⟩
  | .hbm, ⟨26, _⟩ => ⟨S64x8x64x128, .f32⟩
  | .hbm, ⟨27, _⟩ => ⟨S64x8x64x64, .f32⟩
  | .hbm, ⟨28, _⟩ => ⟨S64x8, .f32⟩
  | .hbm, ⟨29, _⟩ => ⟨S_, .i32⟩
  | .hbm, ⟨30, _⟩ => ⟨S8x128x128, .f32⟩
  | .hbm, ⟨31, _⟩ => ⟨S64x8x128x128, .f32⟩
  | .hbm, ⟨32, _⟩ => ⟨S64x8x64x128, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x8x64x128, .f32⟩
  | .hbm, ⟨39, _⟩ => ⟨S8x64x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x8x64x128, .f32⟩
  | .hbm, ⟨44, _⟩ => ⟨S8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x8x64x128, .f32⟩
  | .hbm, ⟨49, _⟩ => ⟨S8x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x64x128, .f32⟩
  | .hbm, ⟨54, _⟩ => ⟨S8x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x8x64x64, .f32⟩
  | .hbm, ⟨59, _⟩ => ⟨S8x64x64, .f32⟩
  | .hbm, ⟨60, _⟩ => ⟨S_, .i32⟩
  | .hbm, ⟨61, _⟩ => ⟨S1x8, .f32⟩
  | .hbm, ⟨62, _⟩ => ⟨S8, .f32⟩
  | .hbm, ⟨63, _⟩ => ⟨S8x64x128, .f32⟩
  | .hbm, ⟨64, _⟩ => ⟨S8x64x128, .f32⟩
  | .hbm, ⟨65, _⟩ => ⟨S8x64x128, .f32⟩
  | .hbm, ⟨66, _⟩ => ⟨S8x64x128, .f32⟩
  | .hbm, ⟨67, _⟩ => ⟨S8x64x128, .f32⟩
  | .hbm, ⟨68, _⟩ => ⟨S8x1x1, .f32⟩
  | .hbm, ⟨69, _⟩ => ⟨S8x128x128, .f32⟩
  | .hbm, ⟨70, _⟩ => ⟨S8x128x128, .f32⟩
  | .hbm, ⟨71, _⟩ => ⟨S8x128x128, .f32⟩
  | .hbm, ⟨72, _⟩ => ⟨S8x128x128, .f32⟩
  | .hbm, ⟨73, _⟩ => ⟨S1x8x128x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S64x8x128x128, .f32⟩
  | .hbm, ⟨78, _⟩ => ⟨S1x8x64x128, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S64x8x64x128, .f32⟩
  | .hbm, ⟨83, _⟩ => ⟨S_, .i32⟩
  | .hbm, ⟨84, _⟩ => ⟨S_, .i32⟩
  | .hbm, ⟨85, _⟩ => ⟨S64x64x8x128, .f32⟩
  | .hbm, ⟨86, _⟩ => ⟨S4096x1024, .f32⟩
  | .hbm, ⟨87, _⟩ => ⟨S64x1024x128, .f32⟩
  | .hbm, ⟨88, _⟩ => ⟨S64x1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_c : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev main_v13_9 : Ref sig .tc := ⟨.hbm, 32, rfl⟩
abbrev main_while0c_c_11 : Ref sig .tc := ⟨.hbm, 33, rfl⟩
abbrev main_while0c_v18 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_v0 : Ref sig .tc := ⟨.hbm, 38, rfl⟩
abbrev main_while0b_v18 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_v0 : Ref sig .tc := ⟨.hbm, 43, rfl⟩
abbrev main_while0b_v19 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_v0 : Ref sig .tc := ⟨.hbm, 48, rfl⟩
abbrev main_while0b_v20 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v21 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_v0 : Ref sig .tc := ⟨.hbm, 58, rfl⟩
abbrev main_while0b_v22 : Ref sig .tc := ⟨.hbm, 59, rfl⟩
abbrev main_while0b_call5_c : Ref sig .tc := ⟨.hbm, 60, rfl⟩
abbrev main_while0b_call5_v0 : Ref sig .tc := ⟨.hbm, 61, rfl⟩
abbrev main_while0b_v23 : Ref sig .tc := ⟨.hbm, 62, rfl⟩
abbrev main_while0b_v24 : Ref sig .tc := ⟨.hbm, 63, rfl⟩
abbrev main_while0b_v25 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_call6_v0 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_v34 : Ref sig .tc := ⟨.hbm, 77, rfl⟩
abbrev main_while0b_call7_v0 : Ref sig .tc := ⟨.hbm, 78, rfl⟩
abbrev main_while0b_call7_c : Ref sig .tc := ⟨.hbm, 79, rfl⟩
abbrev main_while0b_call7_c_0 : Ref sig .tc := ⟨.hbm, 80, rfl⟩
abbrev main_while0b_call7_c_1 : Ref sig .tc := ⟨.hbm, 81, rfl⟩
abbrev main_while0b_v35 : Ref sig .tc := ⟨.hbm, 82, rfl⟩
abbrev main_while0b_c_11 : Ref sig .tc := ⟨.hbm, 83, rfl⟩
abbrev main_while0b_v36 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩

abbrev nD : Nat := 1
abbrev τ : Topo := Topo.v7x

variable {F : FTy → Type} [FloatOps F]

abbrev main_while0_count : Scf.Loop 32 := ⟨0#32, 64#32, 1#32⟩
-- ==== Kernel22.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x1024, .bf16⟩
  | .hbm, ⟨3, _⟩ => ⟨S4096x128, .bf16⟩
  | .hbm, ⟨4, _⟩ => ⟨S1024x128, .bf16⟩
  | .local _ .vmem, ⟨0, _⟩ => ⟨S4096x1024, .bf16⟩
  | .local _ .vmem, ⟨1, _⟩ => ⟨S4096x128, .bf16⟩
  | .local _ .vmem, ⟨2, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference22Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x128, .f32⟩
  | .hbm, ⟨5, _⟩ => ⟨S128x1024, .f32⟩
  | .hbm, ⟨6, _⟩ => ⟨S1024x128, .f32⟩
  | .hbm, ⟨7, _⟩ => ⟨S1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x1024 : Shape := ⟨2, ![4096, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel24.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference24Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel25.lean ====
abbrev S4096x5632 : Shape := ⟨2, ![4096, 5632]⟩
abbrev S4096x2816 : Shape := ⟨2, ![4096, 2816]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x5632, .bf16⟩
  | .hbm, ⟨2, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference25Ideal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel26.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference26Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel27.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference27Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel28.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference28Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel29.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference29Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel30.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference30Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel31.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference31Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.Spec.lean ====
module

public import Idealize.ShloMosaic.Lib.Pointwise

/-! The gradient of the gated delta rule's recurrence over chunks, as plain formulas over the extended reals. -/

@[expose] public section

noncomputable section

namespace Cert.Gdn

open Idealize.ShloMosaic

/-- A matrix of extended reals. -/
abbrev Mat (a b : ℕ) := Fin a → Fin b → EReal

/-- One head of one chunk: its operands, the state it starts from and the cotangent of its output. -/
structure Chunk where
  U : Mat 64 128
  W : Mat 64 128
  Q : Mat 64 128
  K : Mat 64 128
  CT : Mat 64 128
  QK : Mat 64 64
  D : EReal
  St : Mat 128 128

namespace Chunk

variable (x : Chunk) (DS : Mat 128 128)

/-- The corrected values, `u - w·state`. -/
def vn : Mat 64 128 := fun c v => x.U c v - ∑ k, x.W c k * x.St k v

/-- Their cotangent, which is also the cotangent of `u`. -/
def dv : Mat 64 128 := fun s v => (∑ k, DS k v * x.K s k) + ∑ c, x.CT c v * x.QK c s

/-- The cotangent of `w`. -/
def dw : Mat 64 128 := fun c k => ∑ v, (-(x.dv DS c v)) * x.St k v

/-- The cotangent of the decayed queries. -/
def dq : Mat 64 128 := fun c k => ∑ v, x.CT c v * x.St k v

/-- The cotangent of the decayed keys. -/
def dk : Mat 64 128 := fun s k => ∑ v, DS k v * x.vn s v

/-- The cotangent of the masked products of queries and keys. -/
def dqk : Mat 64 64 := fun c s => ∑ v, x.CT c v * x.vn s v

/-- The cotangent of the chunk's decay. -/
def dd : EReal := ∑ k, ∑ v, x.St k v * DS k v

/-- The cotangent of the state the chunk starts from. -/
def ds : Mat 128 128 := fun k v => (DS k v * x.D + ∑ c, x.CT c v * x.Q c k) + ∑ c, (-(x.dv DS c v)) * x.W c k

end Chunk

/-- The cotangent of the state after the last `j` chunks of one head were walked back; `x n` is chunk `n`. -/
def back (x : ℕ → Chunk) : ℕ → Mat 128 128
  | 0 => fun _ _ => 0
  | j + 1 => (x (63 - j)).ds (back x j)

/-- Token `c` of chunk `n`. -/
abbrev row (n c : Fin 64) : Fin 4096 := ⟨n.val * 64 + c.val, by omega⟩

/-- Lane `v` of head `h`. -/
abbrev col (h : Fin 8) (v : Fin 128) : Fin 1024 := ⟨h.val * 128 + v.val, by omega⟩

/-- The arguments: the operands of the recurrence, the states the forward pass saved and the cotangent of its output. -/
@[ext] structure Args where
  U : Mat 4096 1024
  W : Mat 4096 1024
  Q : Mat 4096 1024
  K : Mat 4096 1024
  QK : Fin 8 → Fin 64 → Mat 64 64
  D : Mat 8 64
  St : Fin 64 → Mat 1024 128
  CT : Mat 4096 1024

namespace Args

variable (a : Args)

/-- Head `h` of chunk `n`. -/
def chunk (n : Fin 64) (h : Fin 8) : Chunk where
  U c v := a.U (row n c) (col h v)
  W c v := a.W (row n c) (col h v)
  Q c v := a.Q (row n c) (col h v)
  K c v := a.K (row n c) (col h v)
  CT c v := a.CT (row n c) (col h v)
  QK := a.QK h n
  D := a.D h n
  St k v := a.St n (col h k) v

/-- The chunks of head `h`, numbered by naturals. -/
def chunks (h : Fin 8) : ℕ → Chunk := fun n => a.chunk (Fin.ofNat 64 n) h

/-- The cotangent of the state that head `h` of chunk `n` hands on. -/
def dst (n : Fin 64) (h : Fin 8) : Mat 128 128 := back (a.chunks h) (63 - n.val)

abbrev rowChunk (r : Fin 4096) : Fin 64 := ⟨r.val / 64, by omega⟩
abbrev rowTok (r : Fin 4096) : Fin 64 := ⟨r.val % 64, by omega⟩
abbrev colHead (l : Fin 1024) : Fin 8 := ⟨l.val / 128, by omega⟩
abbrev colLane (l : Fin 1024) : Fin 128 := ⟨l.val % 128, by omega⟩

/-- The gradient of `u`. -/
def du : Mat 4096 1024 := fun r l => (a.chunk (rowChunk r) (colHead l)).dv (a.dst (rowChunk r) (colHead l)) (rowTok r) (colLane l)

/-- The gradient of `w`. -/
def dw : Mat 4096 1024 := fun r l => (a.chunk (rowChunk r) (colHead l)).dw (a.dst (rowChunk r) (colHead l)) (rowTok r) (colLane l)

/-- The gradient of the decayed queries. -/
def dq : Mat 4096 1024 := fun r l => (a.chunk (rowChunk r) (colHead l)).dq (rowTok r) (colLane l)

/-- The gradient of the decayed keys. -/
def dk : Mat 4096 1024 := fun r l => (a.chunk (rowChunk r) (colHead l)).dk (a.dst (rowChunk r) (colHead l)) (rowTok r) (colLane l)

/-- The gradient of the masked products, 64 lanes of each head's 128; the others are zero. -/
def dqk : Mat 4096 1024 := fun r l =>
  if h : l.val % 128 < 64 then (a.chunk (rowChunk r) (colHead l)).dqk (rowTok r) ⟨l.val % 128, h⟩ else 0

/-- The gradient of the chunks' decays, the same on every lane. -/
def dd : Mat 512 128 := fun i _ =>
  (a.chunk ⟨i.val / 8, by omega⟩ ⟨i.val % 8, by omega⟩).dd (a.dst ⟨i.val / 8, by omega⟩ ⟨i.val % 8, by omega⟩)

end Args

end Cert.Gdn

end

end
-- ==== Proof.Body.lean ====
module

public import Idealize.ShloMosaic.Lib.Pointwise
public import proofs.«01_k».proof.Proof.Spec
public import proofs.«01_k».proof.Proof.Gen.KernelIdeal.Skeleton

/-! The kernel's body at one head of one chunk: its vector operations, and what they are at an index. -/

@[expose] public section

noncomputable section

namespace Cert.KernelIdeal.Body

open Idealize.ShloMosaic Cert.KernelIdeal Cert.KernelIdeal.Gen Cert.Gdn

set_option maxRecDepth 16384

/-- The operands of one head of one chunk, as the body hands them to its matrix products. -/
structure VChunk where
  u : FVec Ideal S64x128 .f32
  w : FVec Ideal S64x128 .bf16
  q : FVec Ideal S64x128 .bf16
  k : FVec Ideal S64x128 .bf16
  qk : FVec Ideal S64x64 .bf16
  d : FVec Ideal S1x1 .f32
  st : FVec Ideal S128x128 .f32
  ct : FVec Ideal S64x128 .f32

namespace VChunk

variable (x : VChunk) (DS : FVec Ideal S128x128 .f32)

/-- The operands as matrices. -/
def toChunk : Chunk where
  U c v := x.u (ix2 c v)
  W c v := x.w (ix2 c v)
  Q c v := x.q (ix2 c v)
  K c v := x.k (ix2 c v)
  CT c v := x.ct (ix2 c v)
  QK c v := x.qk (ix2 c v)
  D := x.d (ix2 0 0)
  St k v := x.st (ix2 k v)

/-- A vector as a matrix. -/
abbrev mat (DS : FVec Ideal S128x128 .f32) : Mat 128 128 := fun k v => DS (ix2 k v)

def stB : FVec Ideal S128x128 .bf16 := truncf .bf16 x.st bitsLt_bf16_f32

def vn : FVec Ideal S64x128 .f32 :=
  subf x.u (matmul dot_S64x128_S128x128_S64x128_1_0_0_1_n_n none x.w x.stB (constant S64x128 .f32 0x00000000#32))

def vnB : FVec Ideal S64x128 .bf16 := truncf .bf16 x.vn bitsLt_bf16_f32

def dv : FVec Ideal S64x128 .f32 :=
  addf
    (extf .f32 (truncf .bf16 (transpose S64x128 [1, 0]
      (matmul dot_S128x128_S64x128_S128x64_0_1_1_0_n_n none DS x.k (constant S128x64 .f32 0x00000000#32))
      transposes_S128x64_p1_0_S64x128) bitsLt_bf16_f32) bitsLt_bf16_f32)
    (extf .f32 (truncf .bf16 (transpose S64x128 [1, 0]
      (matmul dot_S64x128_S64x64_S128x64_0_0_1_1_n_n none x.ct x.qk (constant S128x64 .f32 0x00000000#32))
      transposes_S128x64_p1_0_S64x128) bitsLt_bf16_f32) bitsLt_bf16_f32)

def neg : FVec Ideal S64x128 .f32 := subf (broadcast S64x128 (Scalar.ofBits .f32 0x00000000#32)) (x.dv DS)

def dw : FVec Ideal S64x128 .f32 :=
  extf .f32 (truncf .bf16
    (matmul dot_S64x128_S128x128_S64x128_1_1_0_0_n_n none (x.neg DS) x.stB (constant S64x128 .f32 0x00000000#32))
    bitsLt_bf16_f32) bitsLt_bf16_f32

def dq : FVec Ideal S64x128 .f32 :=
  extf .f32 (truncf .bf16
    (matmul dot_S64x128_S128x128_S64x128_1_1_0_0_n_n none x.ct x.stB (constant S64x128 .f32 0x00000000#32))
    bitsLt_bf16_f32) bitsLt_bf16_f32

def dk : FVec Ideal S64x128 .f32 :=
  extf .f32 (truncf .bf16 (transpose S64x128 [1, 0]
    (matmul dot_S128x128_S64x128_S128x64_1_1_0_0_n_n none DS x.vnB (constant S128x64 .f32 0x00000000#32))
    transposes_S128x64_p1_0_S64x128) bitsLt_bf16_f32) bitsLt_bf16_f32

def dqk : FVec Ideal S64x64 .f32 :=
  extf .f32 (truncf .bf16
    (matmul dot_S64x128_S64x128_S64x64_1_1_0_0_n_n none x.ct x.vnB (constant S64x64 .f32 0x00000000#32))
    bitsLt_bf16_f32) bitsLt_bf16_f32

def dd : FVec Ideal S1x128 .f32 :=
  broadcastTo S1x128 (shapeCast S1x1 (broadcast S1x1 (extractAt ![0, 0, 0] (shapeCast S1x1x1
    (multiReduction .add [1, 2] S1 (shapeCast S1x128x128 (mulf x.st DS) shapeCasts_S128x128_S1x128x128) 0x00000000#32
      reduces_S1x128x128_S1 (.inl rfl) rfl) shapeCasts_S1_S1x1x1) inpos_S1x1x1_p0_0_0)) shapeCasts_S1x1_S1x1) broadcasts_S1x1_S1x128

def ds : FVec Ideal S128x128 .f32 :=
  addf
    (addf (mulf DS (broadcastTo S128x128 x.d broadcasts_S1x1_S128x128))
      (extf .f32 (truncf .bf16 (transpose S128x128 [1, 0]
        (matmul dot_S64x128_S64x128_S128x128_0_0_1_1_n_n none x.ct x.q (constant S128x128 .f32 0x00000000#32))
        transposes_S128x128_p1_0_S128x128) bitsLt_bf16_f32) bitsLt_bf16_f32))
    (extf .f32 (truncf .bf16 (transpose S128x128 [1, 0]
      (matmul dot_S64x128_S64x128_S128x128_0_0_1_1_n_n none (x.neg DS) x.w (constant S128x128 .f32 0x00000000#32))
      transposes_S128x128_p1_0_S128x128) bitsLt_bf16_f32) bitsLt_bf16_f32)

theorem vn_at (c : Fin 64) (v : Fin 128) : x.vn (ix2 c v) = x.toChunk.vn c v := by
  unfold vn stB
  pointwise
  rfl

theorem dv_at (c : Fin 64) (v : Fin 128) : x.dv DS (ix2 c v) = x.toChunk.dv (mat DS) c v := by
  unfold dv
  pointwise
  rfl

theorem neg_at (c : Fin 64) (v : Fin 128) : x.neg DS (ix2 c v) = -x.toChunk.dv (mat DS) c v := by
  unfold neg
  pointwise
  rw [dv_at]
  simp

theorem dw_at (c : Fin 64) (v : Fin 128) : x.dw DS (ix2 c v) = x.toChunk.dw (mat DS) c v := by
  unfold dw stB
  pointwise
  simp only [neg_at]
  rfl

theorem dq_at (c : Fin 64) (v : Fin 128) : x.dq (ix2 c v) = x.toChunk.dq c v := by
  unfold dq stB
  pointwise
  rfl

theorem dk_at (c : Fin 64) (v : Fin 128) : x.dk DS (ix2 c v) = x.toChunk.dk (mat DS) c v := by
  unfold dk vnB
  pointwise
  simp only [vn_at]
  rfl

theorem dqk_at (c v : Fin 64) : x.dqk (ix2 c v) = x.toChunk.dqk c v := by
  unfold dqk vnB
  pointwise
  simp only [vn_at]
  rfl

theorem dd_at (v : Fin 128) : x.dd DS (ix2 0 v) = x.toChunk.dd (mat DS) := by
  unfold dd
  pointwise
  rfl

theorem ds_at (k v : Fin 128) : x.ds DS (ix2 k v) = x.toChunk.ds (mat DS) k v := by
  unfold ds
  pointwise
  simp only [neg_at]
  rfl

end VChunk

end Cert.KernelIdeal.Body

end

end
-- ==== Proof.Blocks.lean ====
module

public import proofs.«01_k».proof.Proof.Body

/-! The blocks one grid point reads: four chunks of every operand, eight heads side by side. -/

@[expose] public section

noncomputable section

namespace Cert.KernelIdeal.Body

open Idealize.ShloMosaic Cert.KernelIdeal Cert.KernelIdeal.Gen Cert.Gdn

set_option maxRecDepth 16384

/-- The blocks a grid point reads, with the cotangent the point before left in the scratch. -/
structure Blocks where
  u : Vec Ideal S256x1024 .f32
  w : Vec Ideal S256x1024 .bf16
  q : Vec Ideal S256x1024 .bf16
  k : Vec Ideal S256x1024 .bf16
  qk : Vec Ideal S256x1024 .bf16
  d : Vec Ideal S32x128 .f32
  st : Vec Ideal S4x1024x128 .bf16
  ct : Vec Ideal S256x1024 .f32

theorem inRow (g : Fin 4) (h : Fin 8) : ∀ a, (![64 * g.val, 128 * h.val] : Fin 2 → Nat) a + S64x128.size a ≤ S256x1024.size a := by
  intro a; fin_cases a <;> simp [S64x128, S256x1024] <;> omega

theorem inSq (g : Fin 4) (h : Fin 8) : ∀ a, (![64 * g.val, 128 * h.val] : Fin 2 → Nat) a + S64x64.size a ≤ S256x1024.size a := by
  intro a; fin_cases a <;> simp [S64x64, S256x1024] <;> omega

theorem inSq' (g : Fin 4) (h : Fin 8) : ∀ a, (![64 * g.val, 128 * h.val + 64] : Fin 2 → Nat) a + S64x64.size a ≤ S256x1024.size a := by
  intro a; fin_cases a <;> simp [S64x64, S256x1024] <;> omega

theorem inDec (g : Fin 4) (h : Fin 8) : ∀ a, (![8 * g.val + h.val, 0] : Fin 2 → Nat) a + S1x1.size a ≤ S32x128.size a := by
  intro a; fin_cases a <;> simp [S1x1, S32x128] <;> omega

theorem inDecRow (g : Fin 4) (h : Fin 8) : ∀ a, (![8 * g.val + h.val, 0] : Fin 2 → Nat) a + S1x128.size a ≤ S32x128.size a := by
  intro a; fin_cases a <;> simp [S1x128, S32x128] <;> omega

theorem inSt (g : Fin 4) (h : Fin 8) : ∀ a, (![g.val, 128 * h.val, 0] : Fin 3 → Nat) a + S1x128x128.size a ≤ S4x1024x128.size a := by
  intro a; fin_cases a <;> simp [S1x128x128, S4x1024x128] <;> omega

theorem inScr (h : Fin 8) : ∀ a, (![128 * h.val, 0] : Fin 2 → Nat) a + S128x128.size a ≤ S1024x128.size a := by
  intro a; fin_cases a <;> simp [S128x128, S1024x128] <;> omega

namespace Blocks

variable (B : Blocks) (S0 : Vec Ideal S1024x128 .f32)

/-- The operands of head `h` of the block's chunk `g`, as the body loads and casts them. -/
def vchunk (g : Fin 4) (h : Fin 8) : VChunk where
  u := View.ld B.u (Rect.unit ![64 * g.val, 128 * h.val] S64x128.size (inRow g h))
  w := truncf .bf16 (extf .f32 (shapeCast S64x128 (View.ld B.w (Rect.unit ![64 * g.val, 128 * h.val] S64x128.size (inRow g h))) shapeCasts_S64x128_S64x128) bitsLt_bf16_f32) bitsLt_bf16_f32
  q := truncf .bf16 (extf .f32 (shapeCast S64x128 (View.ld B.q (Rect.unit ![64 * g.val, 128 * h.val] S64x128.size (inRow g h))) shapeCasts_S64x128_S64x128) bitsLt_bf16_f32) bitsLt_bf16_f32
  k := truncf .bf16 (extf .f32 (shapeCast S64x128 (View.ld B.k (Rect.unit ![64 * g.val, 128 * h.val] S64x128.size (inRow g h))) shapeCasts_S64x128_S64x128) bitsLt_bf16_f32) bitsLt_bf16_f32
  qk := truncf .bf16 (extf .f32 (shapeCast S64x64 (View.ld B.qk (Rect.unit ![64 * g.val, 128 * h.val] S64x64.size (inSq g h))) shapeCasts_S64x64_S64x64) bitsLt_bf16_f32) bitsLt_bf16_f32
  d := shapeCast S1x1 (View.ld B.d (Rect.unit ![8 * g.val + h.val, 0] S1x1.size (inDec g h))) shapeCasts_S1x1_S1x1
  st := extf .f32 (shapeCast S128x128 (View.ld B.st (Rect.unit ![g.val, 128 * h.val, 0] S1x128x128.size (inSt g h))) shapeCasts_S1x128x128_S128x128) bitsLt_bf16_f32
  ct := shapeCast S64x128 (View.ld B.ct (Rect.unit ![64 * g.val, 128 * h.val] S64x128.size (inRow g h))) shapeCasts_S64x128_S64x128

abbrev brow (g : Fin 4) (c : Fin 64) : Fin 256 := ⟨64 * g.val + c.val, by omega⟩
abbrev bcol (h : Fin 8) (v : Fin 128) : Fin 1024 := ⟨128 * h.val + v.val, by omega⟩

/-- The same operands as matrices. -/
def chunk (g : Fin 4) (h : Fin 8) : Chunk where
  U c v := B.u (ix2 (brow g c) (bcol h v))
  W c v := B.w (ix2 (brow g c) (bcol h v))
  Q c v := B.q (ix2 (brow g c) (bcol h v))
  K c v := B.k (ix2 (brow g c) (bcol h v))
  CT c v := B.ct (ix2 (brow g c) (bcol h v))
  QK c v := B.qk (ix2 (brow g c) ⟨128 * h.val + v.val, by omega⟩)
  D := B.d (ix2 ⟨8 * g.val + h.val, by omega⟩ 0)
  St k v := B.st (ix3 g (bcol h k) v)

theorem drop_one (y : S1x128x128.Idx → EReal) (k v : Fin 128) :
    shapeCast S128x128 y shapeCasts_S1x128x128_S128x128 (ix2 k v) = y (ix3 0 k v) := by
  pointwise

theorem toChunk_vchunk (g : Fin 4) (h : Fin 8) : (B.vchunk g h).toChunk = B.chunk g h := by
  unfold vchunk VChunk.toChunk chunk
  congr 1
  · funext c v; pointwise
  · funext c v; pointwise
  · funext c v; pointwise
  · funext c v; pointwise
  · funext c v; pointwise
  · funext c v; pointwise
  · pointwise
  · funext c v
    show shapeCast S128x128 (View.ld B.st (Rect.unit ![g.val, 128 * h.val, 0] S1x128x128.size (inSt g h))) shapeCasts_S1x128x128_S128x128 (ix2 c v) = _
    rw [drop_one]
    refine congrArg B.st (funext fun a => Fin.ext ?_)
    fin_cases a <;> simp [View.ld, ix3]

/-- The cotangent the block starts from, of head `h`. -/
def vds0 (h : Fin 8) : FVec Ideal S128x128 .f32 :=
  shapeCast S128x128 (View.ld S0 (Rect.unit ![128 * h.val, 0] S128x128.size (inScr h))) shapeCasts_S128x128_S128x128

def vds1 (h : Fin 8) : FVec Ideal S128x128 .f32 := (B.vchunk 3 h).ds (vds0 S0 h)
def vds2 (h : Fin 8) : FVec Ideal S128x128 .f32 := (B.vchunk 2 h).ds (B.vds1 S0 h)
def vds3 (h : Fin 8) : FVec Ideal S128x128 .f32 := (B.vchunk 1 h).ds (B.vds2 S0 h)
def vds4 (h : Fin 8) : FVec Ideal S128x128 .f32 := (B.vchunk 0 h).ds (B.vds3 S0 h)

/-- The cotangent chunk `g` of the block meets. -/
def vdsAt (g : Fin 4) (h : Fin 8) : FVec Ideal S128x128 .f32 :=
  match g with
  | 0 => B.vds3 S0 h
  | 1 => B.vds2 S0 h
  | 2 => B.vds1 S0 h
  | 3 => vds0 S0 h

/-- The same as matrices: after the block's last `n` chunks. -/
def dst (h : Fin 8) : ℕ → Mat 128 128
  | 0 => fun k v => S0 (ix2 (bcol h k) v)
  | n + 1 => (B.chunk (Fin.ofNat 4 (3 - n)) h).ds (dst h n)

theorem vds0_mat (h : Fin 8) : VChunk.mat (vds0 S0 h) = B.dst S0 h 0 := by
  funext k v
  show vds0 S0 h (ix2 k v) = S0 (ix2 (bcol h k) v)
  unfold vds0
  pointwise

theorem ds_mat (g : Fin 4) (h : Fin 8) (DS : FVec Ideal S128x128 .f32) :
    VChunk.mat ((B.vchunk g h).ds DS) = (B.chunk g h).ds (VChunk.mat DS) := by
  funext k v
  show (B.vchunk g h).ds DS (ix2 k v) = _
  rw [VChunk.ds_at, toChunk_vchunk]

theorem vds1_mat (h : Fin 8) : VChunk.mat (B.vds1 S0 h) = B.dst S0 h 1 := by
  unfold vds1; rw [ds_mat, B.vds0_mat]; rfl

theorem vds2_mat (h : Fin 8) : VChunk.mat (B.vds2 S0 h) = B.dst S0 h 2 := by
  unfold vds2; rw [ds_mat, vds1_mat]; rfl

theorem vds3_mat (h : Fin 8) : VChunk.mat (B.vds3 S0 h) = B.dst S0 h 3 := by
  unfold vds3; rw [ds_mat, vds2_mat]; rfl

theorem vds4_mat (h : Fin 8) : VChunk.mat (B.vds4 S0 h) = B.dst S0 h 4 := by
  unfold vds4; rw [ds_mat, vds3_mat]; rfl

theorem vdsAt_mat (g : Fin 4) (h : Fin 8) : VChunk.mat (B.vdsAt S0 g h) = B.dst S0 h (3 - g.val) := by
  fin_cases g
  · exact B.vds3_mat S0 h
  · exact B.vds2_mat S0 h
  · exact B.vds1_mat S0 h
  · exact B.vds0_mat S0 h

abbrev rowChunk (r : Fin 256) : Fin 4 := ⟨r.val / 64, by omega⟩
abbrev rowTok (r : Fin 256) : Fin 64 := ⟨r.val % 64, by omega⟩
abbrev colHead (l : Fin 1024) : Fin 8 := ⟨l.val / 128, by omega⟩
abbrev colLane (l : Fin 1024) : Fin 128 := ⟨l.val % 128, by omega⟩

/-- The blocks the point writes. -/
def du : Vec Ideal S256x1024 .f32 := fun j =>
  (B.chunk (rowChunk (j 0)) (colHead (j 1))).dv (B.dst S0 (colHead (j 1)) (3 - (rowChunk (j 0)).val)) (rowTok (j 0)) (colLane (j 1))

def dw : Vec Ideal S256x1024 .f32 := fun j =>
  (B.chunk (rowChunk (j 0)) (colHead (j 1))).dw (B.dst S0 (colHead (j 1)) (3 - (rowChunk (j 0)).val)) (rowTok (j 0)) (colLane (j 1))

def dq : Vec Ideal S256x1024 .f32 := fun j =>
  (B.chunk (rowChunk (j 0)) (colHead (j 1))).dq (rowTok (j 0)) (colLane (j 1))

def dk : Vec Ideal S256x1024 .f32 := fun j =>
  (B.chunk (rowChunk (j 0)) (colHead (j 1))).dk (B.dst S0 (colHead (j 1)) (3 - (rowChunk (j 0)).val)) (rowTok (j 0)) (colLane (j 1))

def dqk : Vec Ideal S256x1024 .f32 := fun j =>
  if e : (j 1).val % 128 < 64 then (B.chunk (rowChunk (j 0)) (colHead (j 1))).dqk (rowTok (j 0)) ⟨(j 1).val % 128, e⟩ else (0 : EReal)

def dd : Vec Ideal S32x128 .f32 := fun j =>
  (B.chunk ⟨(j 0).val / 8, Nat.div_lt_of_lt_mul (j 0).isLt⟩ ⟨(j 0).val % 8, Nat.mod_lt _ (by decide)⟩).dd
    (B.dst S0 ⟨(j 0).val % 8, Nat.mod_lt _ (by decide)⟩ (3 - (j 0).val / 8))

def scr : Vec Ideal S1024x128 .f32 := fun j => B.dst S0 (colHead (j 0)) 4 ⟨(j 0).val % 128, Nat.mod_lt _ (by decide)⟩ (j 1)

end Blocks

end Cert.KernelIdeal.Body

end

end
-- ==== Proof.Pieces.lean ====
module

public import proofs.«01_k».proof.Proof.Blocks

/-! The sub-blocks the body stores, each the part of one function of the block's index. -/

@[expose] public section

noncomputable section

namespace Cert.KernelIdeal.Body.Blocks

open Idealize.ShloMosaic Cert.KernelIdeal Cert.KernelIdeal.Gen Cert.Gdn

set_option maxRecDepth 16384

variable (B : Blocks) (S0 : Vec Ideal S1024x128 .f32) (g : Fin 4) (h : Fin 8)

/-- The rectangle of head `h` of chunk `g`. -/
abbrev rect : Rect S256x1024 := Rect.unit (s := S256x1024) ![64 * g.val, 128 * h.val] S64x128.size (inRow g h)

theorem rect_chunk (c : Fin 64) (v : Fin 128) : rowChunk ((rect g h).emb (ix2 c v) 0) = g :=
  Fin.ext (by show (64 * g.val + 1 * c.val) / 64 = g.val; omega)
theorem rect_tok (c : Fin 64) (v : Fin 128) : rowTok ((rect g h).emb (ix2 c v) 0) = c :=
  Fin.ext (by show (64 * g.val + 1 * c.val) % 64 = c.val; omega)
theorem rect_head (c : Fin 64) (v : Fin 128) : colHead ((rect g h).emb (ix2 c v) 1) = h :=
  Fin.ext (by show (128 * h.val + 1 * v.val) / 128 = h.val; omega)
theorem rect_lane (c : Fin 64) (v : Fin 128) : colLane ((rect g h).emb (ix2 c v) 1) = v :=
  Fin.ext (by show (128 * h.val + 1 * v.val) % 128 = v.val; omega)

theorem piece_du (x : S64x128.Idx) : (B.vchunk g h).dv (B.vdsAt S0 g h) x = B.du S0 ((rect g h).emb x) := by
  idx_vars x
  rw [VChunk.dv_at, toChunk_vchunk, vdsAt_mat]
  unfold du
  rw [rect_chunk, rect_tok, rect_head, rect_lane]

theorem piece_dw (x : S64x128.Idx) : (B.vchunk g h).dw (B.vdsAt S0 g h) x = B.dw S0 ((rect g h).emb x) := by
  idx_vars x
  rw [VChunk.dw_at, toChunk_vchunk, vdsAt_mat]
  unfold dw
  rw [rect_chunk, rect_tok, rect_head, rect_lane]

theorem piece_dq (x : S64x128.Idx) : (B.vchunk g h).dq x = B.dq ((rect g h).emb x) := by
  idx_vars x
  rw [VChunk.dq_at, toChunk_vchunk]
  unfold dq
  rw [rect_chunk, rect_tok, rect_head, rect_lane]

theorem piece_dk (x : S64x128.Idx) : (B.vchunk g h).dk (B.vdsAt S0 g h) x = B.dk S0 ((rect g h).emb x) := by
  idx_vars x
  rw [VChunk.dk_at, toChunk_vchunk, vdsAt_mat]
  unfold dk
  rw [rect_chunk, rect_tok, rect_head, rect_lane]

/-- The rectangle of head `h`'s 64 lanes of chunk `g`. -/
abbrev sq : Rect S256x1024 := Rect.unit (s := S256x1024) ![64 * g.val, 128 * h.val] S64x64.size (inSq g h)
abbrev sq' : Rect S256x1024 := Rect.unit (s := S256x1024) ![64 * g.val, 128 * h.val + 64] S64x64.size (inSq' g h)

theorem piece_dqk (x : S64x64.Idx) : (B.vchunk g h).dqk x = B.dqk ((sq g h).emb x) := by
  obtain ⟨c, v, rfl⟩ : ∃ c v, x = ix2 c v := ⟨x 0, x 1, (ix2_eta x).symm⟩
  rw [VChunk.dqk_at, toChunk_vchunk]
  unfold dqk
  have hv : ((sq g h).emb (ix2 c v) 1).val % 128 = v.val := by show (128 * h.val + 1 * v.val) % 128 = v.val; omega
  have e0 : rowChunk ((sq g h).emb (ix2 c v) 0) = g := Fin.ext (by show (64 * g.val + 1 * c.val) / 64 = g.val; omega)
  have e1 : rowTok ((sq g h).emb (ix2 c v) 0) = c := Fin.ext (by show (64 * g.val + 1 * c.val) % 64 = c.val; omega)
  have e2 : colHead ((sq g h).emb (ix2 c v) 1) = h := Fin.ext (by show (128 * h.val + 1 * v.val) / 128 = h.val; omega)
  rw [dif_pos (by rw [hv]; exact v.isLt), e0, e1, e2]
  exact congrArg _ (Fin.ext hv.symm)

theorem piece_zero (x : S64x64.Idx) :
    (broadcast S64x64 (Scalar.ofBits .f32 0x00000000#32) : FVec Ideal S64x64 .f32) x = B.dqk ((sq' g h).emb x) := by
  obtain ⟨c, v, rfl⟩ : ∃ c v, x = ix2 c v := ⟨x 0, x 1, (ix2_eta x).symm⟩
  unfold dqk
  have hv : ((sq' g h).emb (ix2 c v) 1).val % 128 = 64 + v.val := by show (128 * h.val + 64 + 1 * v.val) % 128 = 64 + v.val; omega
  rw [dif_neg (by rw [hv]; omega)]
  pointwise

theorem piece_dd (x : S1x128.Idx) : (B.vchunk g h).dd (B.vdsAt S0 g h) x =
    B.dd S0 ((Rect.unit (s := S32x128) ![8 * g.val + h.val, 0] S1x128.size (inDecRow g h)).emb x) := by
  obtain ⟨c, v, rfl⟩ : ∃ c v, x = ix2 c v := ⟨x 0, x 1, (ix2_eta x).symm⟩
  obtain rfl : c = 0 := Subsingleton.elim _ _
  rw [VChunk.dd_at, toChunk_vchunk, vdsAt_mat]
  unfold dd
  have e0 : (⟨((Rect.unit (s := S32x128) ![8 * g.val + h.val, 0] S1x128.size (inDecRow g h)).emb (ix2 0 v) 0).val / 8,
      Nat.div_lt_of_lt_mul (Fin.isLt _)⟩ : Fin 4) = g := Fin.ext (by show (8 * g.val + h.val + 1 * 0) / 8 = g.val; omega)
  have e1 : (⟨((Rect.unit (s := S32x128) ![8 * g.val + h.val, 0] S1x128.size (inDecRow g h)).emb (ix2 0 v) 0).val % 8,
      Nat.mod_lt _ (by decide)⟩ : Fin 8) = h := Fin.ext (by show (8 * g.val + h.val + 1 * 0) % 8 = h.val; omega)
  have e2 : ((Rect.unit (s := S32x128) ![8 * g.val + h.val, 0] S1x128.size (inDecRow g h)).emb (ix2 0 v) 0).val / 8 = g.val := congrArg Fin.val e0
  rw [e0, e1, e2]

theorem piece_scr (x : S128x128.Idx) : shapeCast S128x128 (B.vds4 S0 h) shapeCasts_S128x128_S128x128 x =
    B.scr S0 ((Rect.unit (s := S1024x128) ![128 * h.val, 0] S128x128.size (inScr h)).emb x) := by
  obtain ⟨k, v, rfl⟩ : ∃ c v, x = ix2 c v := ⟨x 0, x 1, (ix2_eta x).symm⟩
  have e : shapeCast S128x128 (B.vds4 S0 h) shapeCasts_S128x128_S128x128 (ix2 k v) = B.vds4 S0 h (ix2 k v) := by pointwise
  rw [e]
  have := congrFun (congrFun (B.vds4_mat S0 h) k) v
  refine Eq.trans this ?_
  unfold scr
  have e0 : colHead ((Rect.unit (s := S1024x128) ![128 * h.val, 0] S128x128.size (inScr h)).emb (ix2 k v) 0) = h :=
    Fin.ext (by show (128 * h.val + 1 * k.val) / 128 = h.val; omega)
  have e1 : (⟨((Rect.unit (s := S1024x128) ![128 * h.val, 0] S128x128.size (inScr h)).emb (ix2 k v) 0).val % 128,
      Nat.mod_lt _ (by decide)⟩ : Fin 128) = k := Fin.ext (by show (128 * h.val + 1 * k.val) % 128 = k.val; omega)
  have e2 : (Rect.unit (s := S1024x128) ![128 * h.val, 0] S128x128.size (inScr h)).emb (ix2 k v) 1 = v :=
    Fin.ext (by show 0 + 1 * v.val = v.val; omega)
  rw [e0, e1, e2]

end Cert.KernelIdeal.Body.Blocks

end

end
-- ==== Proof.Inputs.lean ====
module

public import Idealize.ShloMosaic.Lib.StableHlo.ReadAt
public import proofs.«01_k».proof.Proof.Pieces
public import proofs.«01_k».proof.Proof.Gen.KernelIdeal.Frame

/-! The blocks each grid point reads, as parts of the program's arguments. -/

@[expose] public section

noncomputable section

namespace Cert.KernelIdeal.Body

open Idealize.ShloMosaic Idealize.ShloMosaic.TcCoe Idealize.SL.Sem Idealize.ShloMosaic.StableHlo
open Cert.KernelIdeal Cert.KernelIdeal.Gen Cert.Gdn

set_option maxRecDepth 16384

variable (m : (ℓ : Loc nD τ sig) → Buf (Elt Ideal) ℓ) (c : Dev nD)

/-- The kernel's arguments. -/
def args : Args where
  U r l := m ((c.tc : Thread nD τ).loc main_arg0) (ix2 r l)
  W r l := m ((c.tc : Thread nD τ).loc main_arg1) (ix2 r l)
  Q r l := m ((c.tc : Thread nD τ).loc main_arg2) (ix2 r l)
  K r l := m ((c.tc : Thread nD τ).loc main_arg3) (ix2 r l)
  QK h n c' s := m ((c.tc : Thread nD τ).loc main_arg4) (ix4 h n c' s)
  D h n := m ((c.tc : Thread nD τ).loc main_arg5) (ix2 h n)
  St n k v := m ((c.tc : Thread nD τ).loc main_arg6) (ix3 n k v)
  CT r l := m ((c.tc : Thread nD τ).loc main_arg7) (ix2 r l)

theorem V_w (r : Fin 4096) (l : Fin 1024) : V m c main_v0 (ix2 r l) = (args m c).W r l := by
  unfold V
  after_reads_at
  rfl

theorem V_q (r : Fin 4096) (l : Fin 1024) : V m c main_v1 (ix2 r l) = (args m c).Q r l := by
  unfold V
  after_reads_at
  rfl

theorem V_k (r : Fin 4096) (l : Fin 1024) : V m c main_v2 (ix2 r l) = (args m c).K r l := by
  unfold V
  after_reads_at
  rfl

theorem V_d (r : Fin 512) (l : Fin 128) : V m c main_v8 (ix2 r l) = (args m c).D ⟨r.val % 8, Nat.mod_lt _ (by decide)⟩ ⟨r.val / 8, by omega⟩ := by
  unfold V
  after_reads_at
  rfl

theorem V_qk (r : Fin 4096) (h : Fin 8) (s : Fin 64) :
    V m c main_v9 (ix2 r ⟨128 * h.val + s.val, by omega⟩) = (args m c).QK h ⟨r.val / 64, by omega⟩ ⟨r.val % 64, Nat.mod_lt _ (by decide)⟩ s := by
  unfold V
  after_reads_at
  rw [dif_pos (by omega)]
  show (args m c).QK _ _ _ _ = _
  congr 1
  · exact Fin.ext (by show (128 * h.val + s.val) / 128 = h.val; omega)
  · exact Fin.ext (by show (128 * h.val + s.val) % 128 = s.val; omega)

theorem index0 : ∀ t : Fin grid0.N, win0_0.index t 0 = 15 - t.val ∧ win0_0.index t 1 = 0 := by decide +kernel
theorem index1 : ∀ t : Fin grid0.N, win0_1.index t 0 = 15 - t.val ∧ win0_1.index t 1 = 0 := by decide +kernel
theorem index2 : ∀ t : Fin grid0.N, win0_2.index t 0 = 15 - t.val ∧ win0_2.index t 1 = 0 := by decide +kernel
theorem index3 : ∀ t : Fin grid0.N, win0_3.index t 0 = 15 - t.val ∧ win0_3.index t 1 = 0 := by decide +kernel
theorem index4 : ∀ t : Fin grid0.N, win0_4.index t 0 = 15 - t.val ∧ win0_4.index t 1 = 0 := by decide +kernel
theorem index5 : ∀ t : Fin grid0.N, win0_5.index t 0 = 15 - t.val ∧ win0_5.index t 1 = 0 := by decide +kernel
theorem index6 : ∀ t : Fin grid0.N, win0_6.index t 0 = 15 - t.val ∧ win0_6.index t 1 = 0 ∧ win0_6.index t 2 = 0 := by decide +kernel
theorem index7 : ∀ t : Fin grid0.N, win0_7.index t 0 = 15 - t.val ∧ win0_7.index t 1 = 0 := by decide +kernel

/-- Row `r` of the block that point `t` reads. -/
abbrev prow (t : Fin cfg0.N) (r : Fin 256) : Fin 4096 := ⟨(15 - t.val) * 256 + r.val, by omega⟩

theorem iblk0 (t : Fin cfg0.N) (r : Fin 256) (l : Fin 1024) : (iblk m c 0 t : Vec Ideal S256x1024 .f32) (ix2 r l) = V m c main_arg0 (ix2 (prow t r) l) := by
  unfold iblk
  rw [View.read_apply]
  refine congrArg (V m c main_arg0) (funext fun a => Fin.ext ?_)
  match a with
  | ⟨0, _⟩ => show win0_0.index t 0 * 256 + 1 * r.val = (15 - t.val) * 256 + r.val; rw [(index0 t).1]; omega
  | ⟨1, _⟩ => show win0_0.index t 1 * 1024 + 1 * l.val = l.val; rw [(index0 t).2]; omega

theorem iblk1 (t : Fin cfg0.N) (r : Fin 256) (l : Fin 1024) : (iblk m c 1 t : Vec Ideal S256x1024 .bf16) (ix2 r l) = V m c main_v0 (ix2 (prow t r) l) := by
  unfold iblk
  rw [View.read_apply]
  refine congrArg (V m c main_v0) (funext fun a => Fin.ext ?_)
  match a with
  | ⟨0, _⟩ => show win0_1.index t 0 * 256 + 1 * r.val = (15 - t.val) * 256 + r.val; rw [(index1 t).1]; omega
  | ⟨1, _⟩ => show win0_1.index t 1 * 1024 + 1 * l.val = l.val; rw [(index1 t).2]; omega

theorem iblk2 (t : Fin cfg0.N) (r : Fin 256) (l : Fin 1024) : (iblk m c 2 t : Vec Ideal S256x1024 .bf16) (ix2 r l) = V m c main_v1 (ix2 (prow t r) l) := by
  unfold iblk
  rw [View.read_apply]
  refine congrArg (V m c main_v1) (funext fun a => Fin.ext ?_)
  match a with
  | ⟨0, _⟩ => show win0_2.index t 0 * 256 + 1 * r.val = (15 - t.val) * 256 + r.val; rw [(index2 t).1]; omega
  | ⟨1, _⟩ => show win0_2.index t 1 * 1024 + 1 * l.val = l.val; rw [(index2 t).2]; omega

theorem iblk3 (t : Fin cfg0.N) (r : Fin 256) (l : Fin 1024) : (iblk m c 3 t : Vec Ideal S256x1024 .bf16) (ix2 r l) = V m c main_v2 (ix2 (prow t r) l) := by
  unfold iblk
  rw [View.read_apply]
  refine congrArg (V m c main_v2) (funext fun a => Fin.ext ?_)
  match a with
  | ⟨0, _⟩ => show win0_3.index t 0 * 256 + 1 * r.val = (15 - t.val) * 256 + r.val; rw [(index3 t).1]; omega
  | ⟨1, _⟩ => show win0_3.index t 1 * 1024 + 1 * l.val = l.val; rw [(index3 t).2]; omega

theorem iblk4 (t : Fin cfg0.N) (r : Fin 256) (l : Fin 1024) : (iblk m c 4 t : Vec Ideal S256x1024 .bf16) (ix2 r l) = V m c main_v9 (ix2 (prow t r) l) := by
  unfold iblk
  rw [View.read_apply]
  refine congrArg (V m c main_v9) (funext fun a => Fin.ext ?_)
  match a with
  | ⟨0, _⟩ => show win0_4.index t 0 * 256 + 1 * r.val = (15 - t.val) * 256 + r.val; rw [(index4 t).1]; omega
  | ⟨1, _⟩ => show win0_4.index t 1 * 1024 + 1 * l.val = l.val; rw [(index4 t).2]; omega

theorem iblk5 (t : Fin cfg0.N) (r : Fin 32) (l : Fin 128) : (iblk m c 5 t : Vec Ideal S32x128 .f32) (ix2 r l) = V m c main_v8 (ix2 ⟨(15 - t.val) * 32 + r.val, by omega⟩ l) := by
  unfold iblk
  rw [View.read_apply]
  refine congrArg (V m c main_v8) (funext fun a => Fin.ext ?_)
  match a with
  | ⟨0, _⟩ => show win0_5.index t 0 * 32 + 1 * r.val = (15 - t.val) * 32 + r.val; rw [(index5 t).1]; omega
  | ⟨1, _⟩ => show win0_5.index t 1 * 128 + 1 * l.val = l.val; rw [(index5 t).2]; omega

theorem iblk6 (t : Fin cfg0.N) (g : Fin 4) (k : Fin 1024) (v : Fin 128) : (iblk m c 6 t : Vec Ideal S4x1024x128 .bf16) (ix3 g k v) = V m c main_arg6 (ix3 ⟨(15 - t.val) * 4 + g.val, by omega⟩ k v) := by
  unfold iblk
  rw [View.read_apply]
  refine congrArg (V m c main_arg6) (funext fun a => Fin.ext ?_)
  match a with
  | ⟨0, _⟩ => show win0_6.index t 0 * 4 + 1 * g.val = (15 - t.val) * 4 + g.val; rw [(index6 t).1]; omega
  | ⟨1, _⟩ => show win0_6.index t 1 * 1024 + 1 * k.val = k.val; rw [(index6 t).2.1]; omega
  | ⟨2, _⟩ => show win0_6.index t 2 * 128 + 1 * v.val = v.val; rw [(index6 t).2.2]; omega

theorem iblk7 (t : Fin cfg0.N) (r : Fin 256) (l : Fin 1024) : (iblk m c 7 t : Vec Ideal S256x1024 .f32) (ix2 r l) = V m c main_arg7 (ix2 (prow t r) l) := by
  unfold iblk
  rw [View.read_apply]
  refine congrArg (V m c main_arg7) (funext fun a => Fin.ext ?_)
  match a with
  | ⟨0, _⟩ => show win0_7.index t 0 * 256 + 1 * r.val = (15 - t.val) * 256 + r.val; rw [(index7 t).1]; omega
  | ⟨1, _⟩ => show win0_7.index t 1 * 1024 + 1 * l.val = l.val; rw [(index7 t).2]; omega

/-- The blocks point `t` reads. -/
def blocks (t : Fin cfg0.N) : Blocks :=
  Blocks.mk (iblk m c 0 t) (iblk m c 1 t) (iblk m c 2 t) (iblk m c 3 t) (iblk m c 4 t) (iblk m c 5 t) (iblk m c 6 t) (iblk m c 7 t)

/-- Chunk `g` of the block that point `t` reads. -/
abbrev pchunk (t : Fin cfg0.N) (g : Fin 4) : Fin 64 := ⟨(15 - t.val) * 4 + g.val, by omega⟩

theorem chunk_eq (t : Fin cfg0.N) (g : Fin 4) (h : Fin 8) : (blocks m c t).chunk g h = (args m c).chunk (pchunk t g) h := by
  have hr (k : Fin 64) : prow t (Blocks.brow g k) = row (pchunk t g) k := Fin.ext (by show (15 - t.val) * 256 + (64 * g.val + k.val) = ((15 - t.val) * 4 + g.val) * 64 + k.val; omega)
  have hc (v : Fin 128) : Blocks.bcol h v = col h v := Fin.ext (by show 128 * h.val + v.val = h.val * 128 + v.val; omega)
  have hN : cfg0.N = 16 := N_0
  unfold blocks Blocks.chunk Args.chunk
  congr 1
  · funext a b; refine (iblk0 m c t _ _).trans ?_; rw [hr, hc, V_main_arg0]; rfl
  · funext a b; refine (iblk1 m c t _ _).trans ?_; rw [hr, hc, V_w]
  · funext a b; refine (iblk2 m c t _ _).trans ?_; rw [hr, hc, V_q]
  · funext a b; refine (iblk3 m c t _ _).trans ?_; rw [hr, hc, V_k]
  · funext a b; refine (iblk7 m c t _ _).trans ?_; rw [hr, hc, V_main_arg7]; rfl
  · funext a b; refine (iblk4 m c t _ _).trans ?_; rw [hr, V_qk]
    congr 1
    · exact Fin.ext (by show (((15 - t.val) * 4 + g.val) * 64 + a.val) / 64 = (15 - t.val) * 4 + g.val; omega)
    · exact Fin.ext (by show (((15 - t.val) * 4 + g.val) * 64 + a.val) % 64 = a.val; omega)
  · refine (iblk5 m c t _ _).trans ?_; rw [V_d]
    congr 1
    · exact Fin.ext (by show ((15 - t.val) * 32 + (8 * g.val + h.val)) % 8 = h.val; omega)
    · exact Fin.ext (by show ((15 - t.val) * 32 + (8 * g.val + h.val)) / 8 = (15 - t.val) * 4 + g.val; omega)
  · funext a b; refine (iblk6 m c t _ _ _).trans ?_; rw [hc, V_main_arg6]; rfl

end Cert.KernelIdeal.Body

end

end
-- ==== Proof.OutsA.lean ====
module

public import Idealize.ShloMosaic.Lib.Pipeline.CanonAppend
public import proofs.«01_k».proof.Proof.Pieces
public import proofs.«01_k».proof.Proof.Gen.KernelIdeal.Frame

/-! What the body leaves in the blocks it writes at the first point. -/

@[expose] public section

noncomputable section

namespace Cert.KernelIdeal.Body.CaseA

open Idealize.ShloMosaic Cert.KernelIdeal Cert.KernelIdeal.Gen Cert.Gdn Idealize.SL.Sem

set_option maxRecDepth 16384
set_option maxHeartbeats 4000000

/-- An index of the scratch lies in its head's rectangle. -/
theorem in_head (h : Fin 8) (r : Fin 1024) (v : Fin 128) (e : r.val / 128 = h.val) :
    (ix2 r v : S1024x128.Idx) ∈ (Rect.unit (s := S1024x128) ![128 * h.val, 0] S128x128.size (inScr h)).set := by
  refine Rect.mem_set_unit.2 fun a => ?_
  fin_cases a
  · show 128 * h.val ≤ r.val ∧ r.val < 128 * h.val + 128; omega
  · show 0 ≤ v.val ∧ v.val < 0 + 128; omega

/-- A load of what one store through the whole shape left reads that store's payload. -/
theorem readCov_whole (v : View sig .tc .vmem S1024x128 .f32) (inb) (w : Vec Ideal S1024x128 .f32) (R : Rect S1024x128) :
    v.readCov [(⟨Rect.unit (s := S1024x128) ![0, 0] (no_index ![1024, 128]) inb, w⟩ : View.Piece (Elt Ideal) S1024x128 .f32)] R.toLoadRect =
      View.ld w R := by
  have e := View.canon_unit_zero (Val := Elt Ideal) (S := S1024x128) (e := .f32) (off := ![0, 0]) (by funext a; fin_cases a <;> rfl) inb w
  rw [View.readCov_eq_canon']
  exact congrArg (fun X => View.ld X R) e

/-- Where one of the last `n` stores went, they decide what is left. -/
theorem canon_of_take (n : ℕ) (G : Vec Ideal S1024x128 .f32) (L : List (View.Piece (Elt Ideal) S1024x128 .f32)) (y : S1024x128.Idx)
    (h : ∀ p ∈ L.take n, ∀ x : p.1.shape.Idx, p.2 x = G (p.1.emb x)) (hy : ∃ p ∈ L.take n, y ∈ p.1.set) :
    View.canon L y = G y := by
  have e := View.canon_append_of_pieces G (L.drop n) (L.take n) h y hy
  rwa [List.take_append_drop] at e

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S32x128 .f32) (harg6 : arg6.IsWhole) (arg7 : Memref sig .tc .vmem S4x1024x128 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S32x128 .f32) (harg14 : arg14.IsWhole) (arg15 : Memref sig .tc .vmem S1024x128 .f32) (harg15 : arg15.IsWhole) (hc0 : cond0_0 i)
  (x0 : Vec Ideal S256x1024 .f32) (x1 : Vec Ideal S256x1024 .bf16) (x2 : Vec Ideal S256x1024 .bf16) (x3 : Vec Ideal S256x1024 .bf16) (x4 : Vec Ideal S256x1024 .bf16) (x5 : Vec Ideal S32x128 .f32) (x6 : Vec Ideal S4x1024x128 .bf16) (x7 : Vec Ideal S256x1024 .f32)

theorem du_block : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).du (k0_pay6 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_du S0 0 7 x, ?_⟩
  refine List.forall_mem_cons.2 ⟨fun x => B.piece_du S0 0 6 x, ?_⟩
  refine List.forall_mem_cons.2 ⟨fun x => B.piece_du S0 0 5 x, ?_⟩
  refine List.forall_mem_cons.2 ⟨fun x => B.piece_du S0 0 4 x, ?_⟩
  refine List.forall_mem_cons.2 ⟨fun x => B.piece_du S0 0 3 x, ?_⟩
  refine List.forall_mem_cons.2 ⟨fun x => B.piece_du S0 0 2 x, ?_⟩
  refine List.forall_mem_cons.2 ⟨fun x => B.piece_du S0 0 1 x, ?_⟩
  refine List.forall_mem_cons.2 ⟨fun x => B.piece_du S0 0 0 x, ?_⟩
  refine List.forall_mem_cons.2 ⟨fun x => B.piece_du S0 1 7 x, ?_⟩
  refine List.forall_mem_cons.2 ⟨fun x => B.piece_du S0 1 6 x, ?_⟩
  refine List.forall_mem_cons.2 ⟨fun x => B.piece_du S0 1 5 x, ?_⟩
  refine List.forall_mem_cons.2 ⟨fun x => B.piece_du S0 1 4 x, ?_⟩
  refine List.forall_mem_cons.2 ⟨fun x => B.piece_du S0 1 3 x, ?_⟩
  refine List.forall_mem_cons.2 ⟨fun x => B.piece_du S0 1 2 x, ?_⟩
  refine List.forall_mem_cons.2 ⟨fun x => B.piece_du S0 1 1 x, ?_⟩
  refine List.forall_mem_cons.2 ⟨fun x => B.piece_du S0 1 0 x, ?_⟩
  refine List.forall_mem_cons.2 ⟨fun x => B.piece_du S0 2 7 x, ?_⟩
  refine List.forall_mem_cons.2 ⟨fun x => B.piece_du S0 2 6 x, ?_⟩
  refine List.forall_mem_cons.2 ⟨fun x => B.piece_du S0 2 5 x, ?_⟩
  refine List.forall_mem_cons.2 ⟨fun x => B.piece_du S0 2 4 x, ?_⟩
  refine List.forall_mem_cons.2 ⟨fun x => B.piece_du S0 2 3 x, ?_⟩
  refine List.forall_mem_cons.2 ⟨fun x => B.piece_du S0 2 2 x, ?_⟩
  refine List.forall_mem_cons.2 ⟨fun x => B.piece_du S0 2 1 x, ?_⟩
  refine List.forall_mem_cons.2 ⟨fun x => B.piece_du S0 2 0 x, ?_⟩
  refine List.forall_mem_cons.2 ⟨fun x => B.piece_du S0 3 7 x, ?_⟩
  refine List.forall_mem_cons.2 ⟨fun x => B.piece_du S0 3 6 x, ?_⟩
  refine List.forall_mem_cons.2 ⟨fun x => B.piece_du S0 3 5 x, ?_⟩
  refine List.forall_mem_cons.2 ⟨fun x => B.piece_du S0 3 4 x, ?_⟩
  refine List.forall_mem_cons.2 ⟨fun x => B.piece_du S0 3 3 x, ?_⟩
  refine List.forall_mem_cons.2 ⟨fun x => B.piece_du S0 3 2 x, ?_⟩
  refine List.forall_mem_cons.2 ⟨fun x => B.piece_du S0 3 1 x, ?_⟩
  refine List.forall_mem_cons.2 ⟨fun x => B.piece_du S0 3 0 x, ?_⟩
  exact List.forall_mem_nil _

theorem dw_block : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).dw (k0_pay6 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_dw S0 0 7 x, ?_⟩
  refine List.forall_mem_cons.2 ⟨fun x => B.piece_dw S0 0 6 x, ?_⟩
  refine List.forall_mem_cons.2 ⟨fun x => B.piece_dw S0 0 5 x, ?_⟩
  refine List.forall_mem_cons.2 ⟨fun x => B.piece_dw S0 0 4 x, ?_⟩
  refine List.forall_mem_cons.2 ⟨fun x => B.piece_dw S0 0 3 x, ?_⟩
  refine List.forall_mem_cons.2 ⟨fun x => B.piece_dw S0 0 2 x, ?_⟩
  refine List.forall_mem_cons.2 ⟨fun x => B.piece_dw S0 0 1 x, ?_⟩
  refine List.forall_mem_cons.2 ⟨fun x => B.piece_dw S0 0 0 x, ?_⟩
  refine List.forall_mem_cons.2 ⟨fun x => B.piece_dw S0 1 7 x, ?_⟩
  refine List.forall_mem_cons.2 ⟨fun x => B.piece_dw S0 1 6 x, ?_⟩
  refine List.forall_mem_cons.2 ⟨fun x => B.piece_dw S0 1 5 x, ?_⟩
  refine List.forall_mem_cons.2 ⟨fun x => B.piece_dw S0 1 4 x, ?_⟩
  refine List.forall_mem_cons.2 ⟨fun x => B.piece_dw S0 1 3 x, ?_⟩
  refine List.forall_mem_cons.2 ⟨fun x => B.piece_dw S0 1 2 x, ?_⟩
  refine List.forall_mem_cons.2 ⟨fun x => B.piece_dw S0 1 1 x, ?_⟩
  refine List.forall_mem_cons.2 ⟨fun x => B.piece_dw S0 1 0 x, ?_⟩
  refine List.forall_mem_cons.2 ⟨fun x => B.piece_dw S0 2 7 x, ?_⟩
  refine List.forall_mem_cons.2 ⟨fun x => B.piece_dw S0 2 6 x, ?_⟩
  refine List.forall_mem_cons.2 ⟨fun x => B.piece_dw S0 2 5 x, ?_⟩
  refine List.forall_mem_cons.2 ⟨fun x => B.piece_dw S0 2 4 x, ?_⟩
  refine List.forall_mem_cons.2 ⟨fun x => B.piece_dw S0 2 3 x, ?_⟩
  refine List.forall_mem_cons.2 ⟨fun x => B.piece_dw S0 2 2 x, ?_⟩
  refine List.forall_mem_cons.2 ⟨fun x => B.piece_dw S0 2 1 x, ?_⟩
  refine List.forall_mem_cons.2 ⟨fun x => B.piece_dw S0 2 0 x, ?_⟩
  refine List.forall_mem_cons.2 ⟨fun x => B.piece_dw S0 3 7 x, ?_⟩
  refine List.forall_mem_cons.2 ⟨fun x => B.piece_dw S0 3 6 x, ?_⟩
  refine List.forall_mem_cons.2 ⟨fun x => B.piece_dw S0 3 5 x, ?_⟩
  refine List.forall_mem_cons.2 ⟨fun x => B.piece_dw S0 3 4 x, ?_⟩
  refine List.forall_mem_cons.2 ⟨fun x => B.piece_dw S0 3 3 x, ?_⟩
  refine List.forall_mem_cons.2 ⟨fun x => B.piece_dw S0 3 2 x, ?_⟩
  refine List.forall_mem_cons.2 ⟨fun x => B.piece_dw S0 3 1 x, ?_⟩
  refine List.forall_mem_cons.2 ⟨fun x => B.piece_dw S0 3 0 x, ?_⟩
  exact List.forall_mem_nil _

theorem dq_block : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).dq := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_dq 0 7 x, ?_⟩
  refine List.forall_mem_cons.2 ⟨fun x => B.piece_dq 0 6 x, ?_⟩
  refine List.forall_mem_cons.2 ⟨fun x => B.piece_dq 0 5 x, ?_⟩
  refine List.forall_mem_cons.2 ⟨fun x => B.piece_dq 0 4 x, ?_⟩
  refine List.forall_mem_cons.2 ⟨fun x => B.piece_dq 0 3 x, ?_⟩
  refine List.forall_mem_cons.2 ⟨fun x => B.piece_dq 0 2 x, ?_⟩
  refine List.forall_mem_cons.2 ⟨fun x => B.piece_dq 0 1 x, ?_⟩
  refine List.forall_mem_cons.2 ⟨fun x => B.piece_dq 0 0 x, ?_⟩
  refine List.forall_mem_cons.2 ⟨fun x => B.piece_dq 1 7 x, ?_⟩
  refine List.forall_mem_cons.2 ⟨fun x => B.piece_dq 1 6 x, ?_⟩
  refine List.forall_mem_cons.2 ⟨fun x => B.piece_dq 1 5 x, ?_⟩
  refine List.forall_mem_cons.2 ⟨fun x => B.piece_dq 1 4 x, ?_⟩
  refine List.forall_mem_cons.2 ⟨fun x => B.piece_dq 1 3 x, ?_⟩
  refine List.forall_mem_cons.2 ⟨fun x => B.piece_dq 1 2 x, ?_⟩
  refine List.forall_mem_cons.2 ⟨fun x => B.piece_dq 1 1 x, ?_⟩
  refine List.forall_mem_cons.2 ⟨fun x => B.piece_dq 1 0 x, ?_⟩
  refine List.forall_mem_cons.2 ⟨fun x => B.piece_dq 2 7 x, ?_⟩
  refine List.forall_mem_cons.2 ⟨fun x => B.piece_dq 2 6 x, ?_⟩
  refine List.forall_mem_cons.2 ⟨fun x => B.piece_dq 2 5 x, ?_⟩
  refine List.forall_mem_cons.2 ⟨fun x => B.piece_dq 2 4 x, ?_⟩
  refine List.forall_mem_cons.2 ⟨fun x => B.piece_dq 2 3 x, ?_⟩
  refine List.forall_mem_cons.2 ⟨fun x => B.piece_dq 2 2 x, ?_⟩
  refine List.forall_mem_cons.2 ⟨fun x => B.piece_dq 2 1 x, ?_⟩
  refine List.forall_mem_cons.2 ⟨fun x => B.piece_dq 2 0 x, ?_⟩
  refine List.forall_mem_cons.2 ⟨fun x => B.piece_dq 3 7 x, ?_⟩
  refine List.forall_mem_cons.2 ⟨fun x => B.piece_dq 3 6 x, ?_⟩
  refine List.forall_mem_cons.2 ⟨fun x => B.piece_dq 3 5 x, ?_⟩
  refine List.forall_mem_cons.2 ⟨fun x => B.piece_dq 3 4 x, ?_⟩
  refine List.forall_mem_cons.2 ⟨fun x => B.piece_dq 3 3 x, ?_⟩
  refine List.forall_mem_cons.2 ⟨fun x => B.piece_dq 3 2 x, ?_⟩
  refine List.forall_mem_cons.2 ⟨fun x => B.piece_dq 3 1 x, ?_⟩
  refine List.forall_mem_cons.2 ⟨fun x => B.piece_dq 3 0 x, ?_⟩
  exact List.forall_mem_nil _

theorem dk_block : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).dk (k0_pay6 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_dk S0 0 7 x, ?_⟩
  refine List.forall_mem_cons.2 ⟨fun x => B.piece_dk S0 0 6 x, ?_⟩
  refine List.forall_mem_cons.2 ⟨fun x => B.piece_dk S0 0 5 x, ?_⟩
  refine List.forall_mem_cons.2 ⟨fun x => B.piece_dk S0 0 4 x, ?_⟩
  refine List.forall_mem_cons.2 ⟨fun x => B.piece_dk S0 0 3 x, ?_⟩
  refine List.forall_mem_cons.2 ⟨fun x => B.piece_dk S0 0 2 x, ?_⟩
  refine List.forall_mem_cons.2 ⟨fun x => B.piece_dk S0 0 1 x, ?_⟩
  refine List.forall_mem_cons.2 ⟨fun x => B.piece_dk S0 0 0 x, ?_⟩
  refine List.forall_mem_cons.2 ⟨fun x => B.piece_dk S0 1 7 x, ?_⟩
  refine List.forall_mem_cons.2 ⟨fun x => B.piece_dk S0 1 6 x, ?_⟩
  refine List.forall_mem_cons.2 ⟨fun x => B.piece_dk S0 1 5 x, ?_⟩
  refine List.forall_mem_cons.2 ⟨fun x => B.piece_dk S0 1 4 x, ?_⟩
  refine List.forall_mem_cons.2 ⟨fun x => B.piece_dk S0 1 3 x, ?_⟩
  refine List.forall_mem_cons.2 ⟨fun x => B.piece_dk S0 1 2 x, ?_⟩
  refine List.forall_mem_cons.2 ⟨fun x => B.piece_dk S0 1 1 x, ?_⟩
  refine List.forall_mem_cons.2 ⟨fun x => B.piece_dk S0 1 0 x, ?_⟩
  refine List.forall_mem_cons.2 ⟨fun x => B.piece_dk S0 2 7 x, ?_⟩
  refine List.forall_mem_cons.2 ⟨fun x => B.piece_dk S0 2 6 x, ?_⟩
  refine List.forall_mem_cons.2 ⟨fun x => B.piece_dk S0 2 5 x, ?_⟩
  refine List.forall_mem_cons.2 ⟨fun x => B.piece_dk S0 2 4 x, ?_⟩
  refine List.forall_mem_cons.2 ⟨fun x => B.piece_dk S0 2 3 x, ?_⟩
  refine List.forall_mem_cons.2 ⟨fun x => B.piece_dk S0 2 2 x, ?_⟩
  refine List.forall_mem_cons.2 ⟨fun x => B.piece_dk S0 2 1 x, ?_⟩
  refine List.forall_mem_cons.2 ⟨fun x => B.piece_dk S0 2 0 x, ?_⟩
  refine List.forall_mem_cons.2 ⟨fun x => B.piece_dk S0 3 7 x, ?_⟩
  refine List.forall_mem_cons.2 ⟨fun x => B.piece_dk S0 3 6 x, ?_⟩
  refine List.forall_mem_cons.2 ⟨fun x => B.piece_dk S0 3 5 x, ?_⟩
  refine List.forall_mem_cons.2 ⟨fun x => B.piece_dk S0 3 4 x, ?_⟩
  refine List.forall_mem_cons.2 ⟨fun x => B.piece_dk S0 3 3 x, ?_⟩
  refine List.forall_mem_cons.2 ⟨fun x => B.piece_dk S0 3 2 x, ?_⟩
  refine List.forall_mem_cons.2 ⟨fun x => B.piece_dk S0 3 1 x, ?_⟩
  refine List.forall_mem_cons.2 ⟨fun x => B.piece_dk S0 3 0 x, ?_⟩
  exact List.forall_mem_nil _

theorem dqk_block : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).dqk := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_zero 0 7 x, ?_⟩
  refine List.forall_mem_cons.2 ⟨fun x => B.piece_dqk 0 7 x, ?_⟩
  refine List.forall_mem_cons.2 ⟨fun x => B.piece_zero 0 6 x, ?_⟩
  refine List.forall_mem_cons.2 ⟨fun x => B.piece_dqk 0 6 x, ?_⟩
  refine List.forall_mem_cons.2 ⟨fun x => B.piece_zero 0 5 x, ?_⟩
  refine List.forall_mem_cons.2 ⟨fun x => B.piece_dqk 0 5 x, ?_⟩
  refine List.forall_mem_cons.2 ⟨fun x => B.piece_zero 0 4 x, ?_⟩
  refine List.forall_mem_cons.2 ⟨fun x => B.piece_dqk 0 4 x, ?_⟩
  refine List.forall_mem_cons.2 ⟨fun x => B.piece_zero 0 3 x, ?_⟩
  refine List.forall_mem_cons.2 ⟨fun x => B.piece_dqk 0 3 x, ?_⟩
  refine List.forall_mem_cons.2 ⟨fun x => B.piece_zero 0 2 x, ?_⟩
  refine List.forall_mem_cons.2 ⟨fun x => B.piece_dqk 0 2 x, ?_⟩
  refine List.forall_mem_cons.2 ⟨fun x => B.piece_zero 0 1 x, ?_⟩
  refine List.forall_mem_cons.2 ⟨fun x => B.piece_dqk 0 1 x, ?_⟩
  refine List.forall_mem_cons.2 ⟨fun x => B.piece_zero 0 0 x, ?_⟩
  refine List.forall_mem_cons.2 ⟨fun x => B.piece_dqk 0 0 x, ?_⟩
  refine List.forall_mem_cons.2 ⟨fun x => B.piece_zero 1 7 x, ?_⟩
  refine List.forall_mem_cons.2 ⟨fun x => B.piece_dqk 1 7 x, ?_⟩
  refine List.forall_mem_cons.2 ⟨fun x => B.piece_zero 1 6 x, ?_⟩
  refine List.forall_mem_cons.2 ⟨fun x => B.piece_dqk 1 6 x, ?_⟩
  refine List.forall_mem_cons.2 ⟨fun x => B.piece_zero 1 5 x, ?_⟩
  refine List.forall_mem_cons.2 ⟨fun x => B.piece_dqk 1 5 x, ?_⟩
  refine List.forall_mem_cons.2 ⟨fun x => B.piece_zero 1 4 x, ?_⟩
  refine List.forall_mem_cons.2 ⟨fun x => B.piece_dqk 1 4 x, ?_⟩
  refine List.forall_mem_cons.2 ⟨fun x => B.piece_zero 1 3 x, ?_⟩
  refine List.forall_mem_cons.2 ⟨fun x => B.piece_dqk 1 3 x, ?_⟩
  refine List.forall_mem_cons.2 ⟨fun x => B.piece_zero 1 2 x, ?_⟩
  refine List.forall_mem_cons.2 ⟨fun x => B.piece_dqk 1 2 x, ?_⟩
  refine List.forall_mem_cons.2 ⟨fun x => B.piece_zero 1 1 x, ?_⟩
  refine List.forall_mem_cons.2 ⟨fun x => B.piece_dqk 1 1 x, ?_⟩
  refine List.forall_mem_cons.2 ⟨fun x => B.piece_zero 1 0 x, ?_⟩
  refine List.forall_mem_cons.2 ⟨fun x => B.piece_dqk 1 0 x, ?_⟩
  refine List.forall_mem_cons.2 ⟨fun x => B.piece_zero 2 7 x, ?_⟩
  refine List.forall_mem_cons.2 ⟨fun x => B.piece_dqk 2 7 x, ?_⟩
  refine List.forall_mem_cons.2 ⟨fun x => B.piece_zero 2 6 x, ?_⟩
  refine List.forall_mem_cons.2 ⟨fun x => B.piece_dqk 2 6 x, ?_⟩
  refine List.forall_mem_cons.2 ⟨fun x => B.piece_zero 2 5 x, ?_⟩
  refine List.forall_mem_cons.2 ⟨fun x => B.piece_dqk 2 5 x, ?_⟩
  refine List.forall_mem_cons.2 ⟨fun x => B.piece_zero 2 4 x, ?_⟩
  refine List.forall_mem_cons.2 ⟨fun x => B.piece_dqk 2 4 x, ?_⟩
  refine List.forall_mem_cons.2 ⟨fun x => B.piece_zero 2 3 x, ?_⟩
  refine List.forall_mem_cons.2 ⟨fun x => B.piece_dqk 2 3 x, ?_⟩
  refine List.forall_mem_cons.2 ⟨fun x => B.piece_zero 2 2 x, ?_⟩
  refine List.forall_mem_cons.2 ⟨fun x => B.piece_dqk 2 2 x, ?_⟩
  refine List.forall_mem_cons.2 ⟨fun x => B.piece_zero 2 1 x, ?_⟩
  refine List.forall_mem_cons.2 ⟨fun x => B.piece_dqk 2 1 x, ?_⟩
  refine List.forall_mem_cons.2 ⟨fun x => B.piece_zero 2 0 x, ?_⟩
  refine List.forall_mem_cons.2 ⟨fun x => B.piece_dqk 2 0 x, ?_⟩
  refine List.forall_mem_cons.2 ⟨fun x => B.piece_zero 3 7 x, ?_⟩
  refine List.forall_mem_cons.2 ⟨fun x => B.piece_dqk 3 7 x, ?_⟩
  refine List.forall_mem_cons.2 ⟨fun x => B.piece_zero 3 6 x, ?_⟩
  refine List.forall_mem_cons.2 ⟨fun x => B.piece_dqk 3 6 x, ?_⟩
  refine List.forall_mem_cons.2 ⟨fun x => B.piece_zero 3 5 x, ?_⟩
  refine List.forall_mem_cons.2 ⟨fun x => B.piece_dqk 3 5 x, ?_⟩
  refine List.forall_mem_cons.2 ⟨fun x => B.piece_zero 3 4 x, ?_⟩
  refine List.forall_mem_cons.2 ⟨fun x => B.piece_dqk 3 4 x, ?_⟩
  refine List.forall_mem_cons.2 ⟨fun x => B.piece_zero 3 3 x, ?_⟩
  refine List.forall_mem_cons.2 ⟨fun x => B.piece_dqk 3 3 x, ?_⟩
  refine List.forall_mem_cons.2 ⟨fun x => B.piece_zero 3 2 x, ?_⟩
  refine List.forall_mem_cons.2 ⟨fun x => B.piece_dqk 3 2 x, ?_⟩
  refine List.forall_mem_cons.2 ⟨fun x => B.piece_zero 3 1 x, ?_⟩
  refine List.forall_mem_cons.2 ⟨fun x => B.piece_dqk 3 1 x, ?_⟩
  refine List.forall_mem_cons.2 ⟨fun x => B.piece_zero 3 0 x, ?_⟩
  refine List.forall_mem_cons.2 ⟨fun x => B.piece_dqk 3 0 x, ?_⟩
  exact List.forall_mem_nil _

theorem dd_block : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).dd (k0_pay6 (F := Ideal)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine List.forall_mem_cons.2 ⟨fun x => B.piece_dd S0 0 7 x, ?_⟩
  refine List.forall_mem_cons.2 ⟨fun x => B.piece_dd S0 0 6 x, ?_⟩
  refine List.forall_mem_cons.2 ⟨fun x => B.piece_dd S0 0 5 x, ?_⟩
  refine List.forall_mem_cons.2 ⟨fun x => B.piece_dd S0 0 4 x, ?_⟩
  refine List.forall_mem_cons.2 ⟨fun x => B.piece_dd S0 0 3 x, ?_⟩
  refine List.forall_mem_cons.2 ⟨fun x => B.piece_dd S0 0 2 x, ?_⟩
  refine List.forall_mem_cons.2 ⟨fun x => B.piece_dd S0 0 1 x, ?_⟩
  refine List.forall_mem_cons.2 ⟨fun x => B.piece_dd S0 0 0 x, ?_⟩
  refine List.forall_mem_cons.2 ⟨fun x => B.piece_dd S0 1 7 x, ?_⟩
  refine List.forall_mem_cons.2 ⟨fun x => B.piece_dd S0 1 6 x, ?_⟩
  refine List.forall_mem_cons.2 ⟨fun x => B.piece_dd S0 1 5 x, ?_⟩
  refine List.forall_mem_cons.2 ⟨fun x => B.piece_dd S0 1 4 x, ?_⟩
  refine List.forall_mem_cons.2 ⟨fun x => B.piece_dd S0 1 3 x, ?_⟩
  refine List.forall_mem_cons.2 ⟨fun x => B.piece_dd S0 1 2 x, ?_⟩
  refine List.forall_mem_cons.2 ⟨fun x => B.piece_dd S0 1 1 x, ?_⟩
  refine List.forall_mem_cons.2 ⟨fun x => B.piece_dd S0 1 0 x, ?_⟩
  refine List.forall_mem_cons.2 ⟨fun x => B.piece_dd S0 2 7 x, ?_⟩
  refine List.forall_mem_cons.2 ⟨fun x => B.piece_dd S0 2 6 x, ?_⟩
  refine List.forall_mem_cons.2 ⟨fun x => B.piece_dd S0 2 5 x, ?_⟩
  refine List.forall_mem_cons.2 ⟨fun x => B.piece_dd S0 2 4 x, ?_⟩
  refine List.forall_mem_cons.2 ⟨fun x => B.piece_dd S0 2 3 x, ?_⟩
  refine List.forall_mem_cons.2 ⟨fun x => B.piece_dd S0 2 2 x, ?_⟩
  refine List.forall_mem_cons.2 ⟨fun x => B.piece_dd S0 2 1 x, ?_⟩
  refine List.forall_mem_cons.2 ⟨fun x => B.piece_dd S0 2 0 x, ?_⟩
  refine List.forall_mem_cons.2 ⟨fun x => B.piece_dd S0 3 7 x, ?_⟩
  refine List.forall_mem_cons.2 ⟨fun x => B.piece_dd S0 3 6 x, ?_⟩
  refine List.forall_mem_cons.2 ⟨fun x => B.piece_dd S0 3 5 x, ?_⟩
  refine List.forall_mem_cons.2 ⟨fun x => B.piece_dd S0 3 4 x, ?_⟩
  refine List.forall_mem_cons.2 ⟨fun x => B.piece_dd S0 3 3 x, ?_⟩
  refine List.forall_mem_cons.2 ⟨fun x => B.piece_dd S0 3 2 x, ?_⟩
  refine List.forall_mem_cons.2 ⟨fun x => B.piece_dd S0 3 1 x, ?_⟩
  refine List.forall_mem_cons.2 ⟨fun x => B.piece_dd S0 3 0 x, ?_⟩
  exact List.forall_mem_nil _

theorem scr_block : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = (Blocks.mk x0 x1 x2 x3 x4 x5 x6 x7).scr (k0_pay6 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  obtain ⟨r, v, rfl⟩ : ∃ r v, y = ix2 r v := ⟨y 0, y 1, (ix2_eta y).symm⟩
  unfold kernelRun0_A
  dsimp only
  sl_unfold_words
  simp only [View.readAt_eq_ld, Memref.IsWhole.read_unread, readCov_whole]
  let B : Blocks := Blocks.mk x0 x1 x2 x3 x4 x5 x6 x7
  generalize (k0_pay6 (F := Ideal)) = S0
  refine canon_of_take 8 _ _ _ ?_ ?_
  · dsimp only [List.take]
    refine List.forall_mem_cons.2 ⟨fun x => B.piece_scr S0 7 x, ?_⟩
    refine List.forall_mem_cons.2 ⟨fun x => B.piece_scr S0 6 x, ?_⟩
    refine List.forall_mem_cons.2 ⟨fun x => B.piece_scr S0 5 x, ?_⟩
    refine List.forall_mem_cons.2 ⟨fun x => B.piece_scr S0 4 x, ?_⟩
    refine List.forall_mem_cons.2 ⟨fun x => B.piece_scr S0 3 x, ?_⟩
    refine List.forall_mem_cons.2 ⟨fun x => B.piece_scr S0 2 x, ?_⟩
    refine List.forall_mem_cons.2 ⟨fun x => B.piece_scr S0 1 x, ?_⟩
    refine List.forall_mem_cons.2 ⟨fun x => B.piece_scr S0 0 x, ?_⟩
    exact List.forall_mem_nil _
  · dsimp only [List.take]
    have hr := r.isLt
    have hd : r.val / 128 = 7 ∨ r.val / 128 = 6 ∨ r.val / 128 = 5 ∨ r.val / 128 = 4 ∨ r.val / 128 = 3 ∨ r.val / 128 = 2 ∨ r.val / 128 = 1 ∨ r.val / 128 = 0 := by omega
    rcases hd with hd | hd | hd | hd | hd | hd | hd | hd
    · exact ⟨_, List.mem_cons_self, in_head 7 r v hd⟩
    · exact ⟨_, List.mem_cons_of_mem _ (List.mem_cons_self), in_head 6 r v hd⟩
    · exact ⟨_, List.mem_cons_of_mem _ (List.mem_cons_of_mem _ (List.mem_cons_self)), in_head 5 r v hd⟩
    · exact ⟨_, List.mem_cons_of_mem _ (List.mem_cons_of_mem _ (List.mem_cons_of_mem _ (List.mem_cons_self))), in_head 4 r v hd⟩
    · exact ⟨_, List.mem_cons_of_mem _ (List.mem_cons_of_mem _ (List.mem_cons_of_mem _ (List.mem_cons_of_mem _ (List.mem_cons_self)))), in_head 3 r v hd⟩
    · exact ⟨_, List.mem_cons_of_mem _ (List.mem_cons_of_mem _ (List.mem_cons_of_mem _ (List.mem_cons_of_mem _ (List.mem_cons_of_mem _ (List.mem_cons_self))))), in_head 2 r v hd⟩
    · exact ⟨_, List.mem_cons_of_mem _ (List.mem_cons_of_mem _ (List.mem_cons_of_mem _ (List.mem_cons_of_mem _ (List.mem_cons_of_mem _ (List.mem_cons_of_mem _ (List.mem_cons_self)))))), in_head 1 r v hd⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_head 0 r v hd⟩

end Cert.KernelIdeal.Body.CaseA

end

end
-- ==== Proof.OutsB.lean ====
module

public import proofs.«01_k».proof.Proof.Pieces
public import proofs.«01_k».proof.Proof.Gen.KernelIdeal.Frame

/-! What the body leaves in the blocks it writes at a later point. -/

@[expose] public section

noncomputable section

namespace Cert.KernelIdeal.Body.CaseB

open Idealize.ShloMosaic Cert.KernelIdeal Cert.KernelIdeal.Gen Cert.Gdn Idealize.SL.Sem

set_option maxRecDepth 16384
set_option maxHeartbeats 4000000

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S32x128 .f32) (harg6 : arg6.IsWhole) (arg7 : Memref sig .tc .vmem S4x1024x128 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S32x128 .f32) (harg14 : arg14.IsWhole) (arg15 : Memref sig .tc .vmem S1024x128 .f32) (harg15 : arg15.IsWhole) (hc0 : ¬cond0_0 i)
  (x0 : Vec Ideal S256x1024 .f32) (x1 : Vec Ideal S256x1024 .bf16) (x2 : Vec Ideal S256x1024 .bf16) (x3 : Vec Ideal S256x1024 .bf16) (x4 : Vec Ideal S256x1024 .bf16) (x5 : Vec Ideal S32x128 .f32) (x6 : Vec Ideal S4x1024x128 .bf16) (x7 : Vec Ideal S256x1024 .f32) (xs0 : Vec Ideal S1024x128 .f32)

theorem du_block : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).du xs0 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_du xs0 0 7 x, ?_⟩
  refine List.forall_mem_cons.2 ⟨fun x => B.piece_du xs0 0 6 x, ?_⟩
  refine List.forall_mem_cons.2 ⟨fun x => B.piece_du xs0 0 5 x, ?_⟩
  refine List.forall_mem_cons.2 ⟨fun x => B.piece_du xs0 0 4 x, ?_⟩
  refine List.forall_mem_cons.2 ⟨fun x => B.piece_du xs0 0 3 x, ?_⟩
  refine List.forall_mem_cons.2 ⟨fun x => B.piece_du xs0 0 2 x, ?_⟩
  refine List.forall_mem_cons.2 ⟨fun x => B.piece_du xs0 0 1 x, ?_⟩
  refine List.forall_mem_cons.2 ⟨fun x => B.piece_du xs0 0 0 x, ?_⟩
  refine List.forall_mem_cons.2 ⟨fun x => B.piece_du xs0 1 7 x, ?_⟩
  refine List.forall_mem_cons.2 ⟨fun x => B.piece_du xs0 1 6 x, ?_⟩
  refine List.forall_mem_cons.2 ⟨fun x => B.piece_du xs0 1 5 x, ?_⟩
  refine List.forall_mem_cons.2 ⟨fun x => B.piece_du xs0 1 4 x, ?_⟩
  refine List.forall_mem_cons.2 ⟨fun x => B.piece_du xs0 1 3 x, ?_⟩
  refine List.forall_mem_cons.2 ⟨fun x => B.piece_du xs0 1 2 x, ?_⟩
  refine List.forall_mem_cons.2 ⟨fun x => B.piece_du xs0 1 1 x, ?_⟩
  refine List.forall_mem_cons.2 ⟨fun x => B.piece_du xs0 1 0 x, ?_⟩
  refine List.forall_mem_cons.2 ⟨fun x => B.piece_du xs0 2 7 x, ?_⟩
  refine List.forall_mem_cons.2 ⟨fun x => B.piece_du xs0 2 6 x, ?_⟩
  refine List.forall_mem_cons.2 ⟨fun x => B.piece_du xs0 2 5 x, ?_⟩
  refine List.forall_mem_cons.2 ⟨fun x => B.piece_du xs0 2 4 x, ?_⟩
  refine List.forall_mem_cons.2 ⟨fun x => B.piece_du xs0 2 3 x, ?_⟩
  refine List.forall_mem_cons.2 ⟨fun x => B.piece_du xs0 2 2 x, ?_⟩
  refine List.forall_mem_cons.2 ⟨fun x => B.piece_du xs0 2 1 x, ?_⟩
  refine List.forall_mem_cons.2 ⟨fun x => B.piece_du xs0 2 0 x, ?_⟩
  refine List.forall_mem_cons.2 ⟨fun x => B.piece_du xs0 3 7 x, ?_⟩
  refine List.forall_mem_cons.2 ⟨fun x => B.piece_du xs0 3 6 x, ?_⟩
  refine List.forall_mem_cons.2 ⟨fun x => B.piece_du xs0 3 5 x, ?_⟩
  refine List.forall_mem_cons.2 ⟨fun x => B.piece_du xs0 3 4 x, ?_⟩
  refine List.forall_mem_cons.2 ⟨fun x => B.piece_du xs0 3 3 x, ?_⟩
  refine List.forall_mem_cons.2 ⟨fun x => B.piece_du xs0 3 2 x, ?_⟩
  refine List.forall_mem_cons.2 ⟨fun x => B.piece_du xs0 3 1 x, ?_⟩
  refine List.forall_mem_cons.2 ⟨fun x => B.piece_du xs0 3 0 x, ?_⟩
  exact List.forall_mem_nil _

theorem dw_block : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).dw xs0 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_dw xs0 0 7 x, ?_⟩
  refine List.forall_mem_cons.2 ⟨fun x => B.piece_dw xs0 0 6 x, ?_⟩
  refine List.forall_mem_cons.2 ⟨fun x => B.piece_dw xs0 0 5 x, ?_⟩
  refine List.forall_mem_cons.2 ⟨fun x => B.piece_dw xs0 0 4 x, ?_⟩
  refine List.forall_mem_cons.2 ⟨fun x => B.piece_dw xs0 0 3 x, ?_⟩
  refine List.forall_mem_cons.2 ⟨fun x => B.piece_dw xs0 0 2 x, ?_⟩
  refine List.forall_mem_cons.2 ⟨fun x => B.piece_dw xs0 0 1 x, ?_⟩
  refine List.forall_mem_cons.2 ⟨fun x => B.piece_dw xs0 0 0 x, ?_⟩
  refine List.forall_mem_cons.2 ⟨fun x => B.piece_dw xs0 1 7 x, ?_⟩
  refine List.forall_mem_cons.2 ⟨fun x => B.piece_dw xs0 1 6 x, ?_⟩
  refine List.forall_mem_cons.2 ⟨fun x => B.piece_dw xs0 1 5 x, ?_⟩
  refine List.forall_mem_cons.2 ⟨fun x => B.piece_dw xs0 1 4 x, ?_⟩
  refine List.forall_mem_cons.2 ⟨fun x => B.piece_dw xs0 1 3 x, ?_⟩
  refine List.forall_mem_cons.2 ⟨fun x => B.piece_dw xs0 1 2 x, ?_⟩
  refine List.forall_mem_cons.2 ⟨fun x => B.piece_dw xs0 1 1 x, ?_⟩
  refine List.forall_mem_cons.2 ⟨fun x => B.piece_dw xs0 1 0 x, ?_⟩
  refine List.forall_mem_cons.2 ⟨fun x => B.piece_dw xs0 2 7 x, ?_⟩
  refine List.forall_mem_cons.2 ⟨fun x => B.piece_dw xs0 2 6 x, ?_⟩
  refine List.forall_mem_cons.2 ⟨fun x => B.piece_dw xs0 2 5 x, ?_⟩
  refine List.forall_mem_cons.2 ⟨fun x => B.piece_dw xs0 2 4 x, ?_⟩
  refine List.forall_mem_cons.2 ⟨fun x => B.piece_dw xs0 2 3 x, ?_⟩
  refine List.forall_mem_cons.2 ⟨fun x => B.piece_dw xs0 2 2 x, ?_⟩
  refine List.forall_mem_cons.2 ⟨fun x => B.piece_dw xs0 2 1 x, ?_⟩
  refine List.forall_mem_cons.2 ⟨fun x => B.piece_dw xs0 2 0 x, ?_⟩
  refine List.forall_mem_cons.2 ⟨fun x => B.piece_dw xs0 3 7 x, ?_⟩
  refine List.forall_mem_cons.2 ⟨fun x => B.piece_dw xs0 3 6 x, ?_⟩
  refine List.forall_mem_cons.2 ⟨fun x => B.piece_dw xs0 3 5 x, ?_⟩
  refine List.forall_mem_cons.2 ⟨fun x => B.piece_dw xs0 3 4 x, ?_⟩
  refine List.forall_mem_cons.2 ⟨fun x => B.piece_dw xs0 3 3 x, ?_⟩
  refine List.forall_mem_cons.2 ⟨fun x => B.piece_dw xs0 3 2 x, ?_⟩
  refine List.forall_mem_cons.2 ⟨fun x => B.piece_dw xs0 3 1 x, ?_⟩
  refine List.forall_mem_cons.2 ⟨fun x => B.piece_dw xs0 3 0 x, ?_⟩
  exact List.forall_mem_nil _

theorem dq_block : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).dq := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_dq 0 7 x, ?_⟩
  refine List.forall_mem_cons.2 ⟨fun x => B.piece_dq 0 6 x, ?_⟩
  refine List.forall_mem_cons.2 ⟨fun x => B.piece_dq 0 5 x, ?_⟩
  refine List.forall_mem_cons.2 ⟨fun x => B.piece_dq 0 4 x, ?_⟩
  refine List.forall_mem_cons.2 ⟨fun x => B.piece_dq 0 3 x, ?_⟩
  refine List.forall_mem_cons.2 ⟨fun x => B.piece_dq 0 2 x, ?_⟩
  refine List.forall_mem_cons.2 ⟨fun x => B.piece_dq 0 1 x, ?_⟩
  refine List.forall_mem_cons.2 ⟨fun x => B.piece_dq 0 0 x, ?_⟩
  refine List.forall_mem_cons.2 ⟨fun x => B.piece_dq 1 7 x, ?_⟩
  refine List.forall_mem_cons.2 ⟨fun x => B.piece_dq 1 6 x, ?_⟩
  refine List.forall_mem_cons.2 ⟨fun x => B.piece_dq 1 5 x, ?_⟩
  refine List.forall_mem_cons.2 ⟨fun x => B.piece_dq 1 4 x, ?_⟩
  refine List.forall_mem_cons.2 ⟨fun x => B.piece_dq 1 3 x, ?_⟩
  refine List.forall_mem_cons.2 ⟨fun x => B.piece_dq 1 2 x, ?_⟩
  refine List.forall_mem_cons.2 ⟨fun x => B.piece_dq 1 1 x, ?_⟩
  refine List.forall_mem_cons.2 ⟨fun x => B.piece_dq 1 0 x, ?_⟩
  refine List.forall_mem_cons.2 ⟨fun x => B.piece_dq 2 7 x, ?_⟩
  refine List.forall_mem_cons.2 ⟨fun x => B.piece_dq 2 6 x, ?_⟩
  refine List.forall_mem_cons.2 ⟨fun x => B.piece_dq 2 5 x, ?_⟩
  refine List.forall_mem_cons.2 ⟨fun x => B.piece_dq 2 4 x, ?_⟩
  refine List.forall_mem_cons.2 ⟨fun x => B.piece_dq 2 3 x, ?_⟩
  refine List.forall_mem_cons.2 ⟨fun x => B.piece_dq 2 2 x, ?_⟩
  refine List.forall_mem_cons.2 ⟨fun x => B.piece_dq 2 1 x, ?_⟩
  refine List.forall_mem_cons.2 ⟨fun x => B.piece_dq 2 0 x, ?_⟩
  refine List.forall_mem_cons.2 ⟨fun x => B.piece_dq 3 7 x, ?_⟩
  refine List.forall_mem_cons.2 ⟨fun x => B.piece_dq 3 6 x, ?_⟩
  refine List.forall_mem_cons.2 ⟨fun x => B.piece_dq 3 5 x, ?_⟩
  refine List.forall_mem_cons.2 ⟨fun x => B.piece_dq 3 4 x, ?_⟩
  refine List.forall_mem_cons.2 ⟨fun x => B.piece_dq 3 3 x, ?_⟩
  refine List.forall_mem_cons.2 ⟨fun x => B.piece_dq 3 2 x, ?_⟩
  refine List.forall_mem_cons.2 ⟨fun x => B.piece_dq 3 1 x, ?_⟩
  refine List.forall_mem_cons.2 ⟨fun x => B.piece_dq 3 0 x, ?_⟩
  exact List.forall_mem_nil _

theorem dk_block : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).dk xs0 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_dk xs0 0 7 x, ?_⟩
  refine List.forall_mem_cons.2 ⟨fun x => B.piece_dk xs0 0 6 x, ?_⟩
  refine List.forall_mem_cons.2 ⟨fun x => B.piece_dk xs0 0 5 x, ?_⟩
  refine List.forall_mem_cons.2 ⟨fun x => B.piece_dk xs0 0 4 x, ?_⟩
  refine List.forall_mem_cons.2 ⟨fun x => B.piece_dk xs0 0 3 x, ?_⟩
  refine List.forall_mem_cons.2 ⟨fun x => B.piece_dk xs0 0 2 x, ?_⟩
  refine List.forall_mem_cons.2 ⟨fun x => B.piece_dk xs0 0 1 x, ?_⟩
  refine List.forall_mem_cons.2 ⟨fun x => B.piece_dk xs0 0 0 x, ?_⟩
  refine List.forall_mem_cons.2 ⟨fun x => B.piece_dk xs0 1 7 x, ?_⟩
  refine List.forall_mem_cons.2 ⟨fun x => B.piece_dk xs0 1 6 x, ?_⟩
  refine List.forall_mem_cons.2 ⟨fun x => B.piece_dk xs0 1 5 x, ?_⟩
  refine List.forall_mem_cons.2 ⟨fun x => B.piece_dk xs0 1 4 x, ?_⟩
  refine List.forall_mem_cons.2 ⟨fun x => B.piece_dk xs0 1 3 x, ?_⟩
  refine List.forall_mem_cons.2 ⟨fun x => B.piece_dk xs0 1 2 x, ?_⟩
  refine List.forall_mem_cons.2 ⟨fun x => B.piece_dk xs0 1 1 x, ?_⟩
  refine List.forall_mem_cons.2 ⟨fun x => B.piece_dk xs0 1 0 x, ?_⟩
  refine List.forall_mem_cons.2 ⟨fun x => B.piece_dk xs0 2 7 x, ?_⟩
  refine List.forall_mem_cons.2 ⟨fun x => B.piece_dk xs0 2 6 x, ?_⟩
  refine List.forall_mem_cons.2 ⟨fun x => B.piece_dk xs0 2 5 x, ?_⟩
  refine List.forall_mem_cons.2 ⟨fun x => B.piece_dk xs0 2 4 x, ?_⟩
  refine List.forall_mem_cons.2 ⟨fun x => B.piece_dk xs0 2 3 x, ?_⟩
  refine List.forall_mem_cons.2 ⟨fun x => B.piece_dk xs0 2 2 x, ?_⟩
  refine List.forall_mem_cons.2 ⟨fun x => B.piece_dk xs0 2 1 x, ?_⟩
  refine List.forall_mem_cons.2 ⟨fun x => B.piece_dk xs0 2 0 x, ?_⟩
  refine List.forall_mem_cons.2 ⟨fun x => B.piece_dk xs0 3 7 x, ?_⟩
  refine List.forall_mem_cons.2 ⟨fun x => B.piece_dk xs0 3 6 x, ?_⟩
  refine List.forall_mem_cons.2 ⟨fun x => B.piece_dk xs0 3 5 x, ?_⟩
  refine List.forall_mem_cons.2 ⟨fun x => B.piece_dk xs0 3 4 x, ?_⟩
  refine List.forall_mem_cons.2 ⟨fun x => B.piece_dk xs0 3 3 x, ?_⟩
  refine List.forall_mem_cons.2 ⟨fun x => B.piece_dk xs0 3 2 x, ?_⟩
  refine List.forall_mem_cons.2 ⟨fun x => B.piece_dk xs0 3 1 x, ?_⟩
  refine List.forall_mem_cons.2 ⟨fun x => B.piece_dk xs0 3 0 x, ?_⟩
  exact List.forall_mem_nil _

theorem dqk_block : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).dqk := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_zero 0 7 x, ?_⟩
  refine List.forall_mem_cons.2 ⟨fun x => B.piece_dqk 0 7 x, ?_⟩
  refine List.forall_mem_cons.2 ⟨fun x => B.piece_zero 0 6 x, ?_⟩
  refine List.forall_mem_cons.2 ⟨fun x => B.piece_dqk 0 6 x, ?_⟩
  refine List.forall_mem_cons.2 ⟨fun x => B.piece_zero 0 5 x, ?_⟩
  refine List.forall_mem_cons.2 ⟨fun x => B.piece_dqk 0 5 x, ?_⟩
  refine List.forall_mem_cons.2 ⟨fun x => B.piece_zero 0 4 x, ?_⟩
  refine List.forall_mem_cons.2 ⟨fun x => B.piece_dqk 0 4 x, ?_⟩
  refine List.forall_mem_cons.2 ⟨fun x => B.piece_zero 0 3 x, ?_⟩
  refine List.forall_mem_cons.2 ⟨fun x => B.piece_dqk 0 3 x, ?_⟩
  refine List.forall_mem_cons.2 ⟨fun x => B.piece_zero 0 2 x, ?_⟩
  refine List.forall_mem_cons.2 ⟨fun x => B.piece_dqk 0 2 x, ?_⟩
  refine List.forall_mem_cons.2 ⟨fun x => B.piece_zero 0 1 x, ?_⟩
  refine List.forall_mem_cons.2 ⟨fun x => B.piece_dqk 0 1 x, ?_⟩
  refine List.forall_mem_cons.2 ⟨fun x => B.piece_zero 0 0 x, ?_⟩
  refine List.forall_mem_cons.2 ⟨fun x => B.piece_dqk 0 0 x, ?_⟩
  refine List.forall_mem_cons.2 ⟨fun x => B.piece_zero 1 7 x, ?_⟩
  refine List.forall_mem_cons.2 ⟨fun x => B.piece_dqk 1 7 x, ?_⟩
  refine List.forall_mem_cons.2 ⟨fun x => B.piece_zero 1 6 x, ?_⟩
  refine List.forall_mem_cons.2 ⟨fun x => B.piece_dqk 1 6 x, ?_⟩
  refine List.forall_mem_cons.2 ⟨fun x => B.piece_zero 1 5 x, ?_⟩
  refine List.forall_mem_cons.2 ⟨fun x => B.piece_dqk 1 5 x, ?_⟩
  refine List.forall_mem_cons.2 ⟨fun x => B.piece_zero 1 4 x, ?_⟩
  refine List.forall_mem_cons.2 ⟨fun x => B.piece_dqk 1 4 x, ?_⟩
  refine List.forall_mem_cons.2 ⟨fun x => B.piece_zero 1 3 x, ?_⟩
  refine List.forall_mem_cons.2 ⟨fun x => B.piece_dqk 1 3 x, ?_⟩
  refine List.forall_mem_cons.2 ⟨fun x => B.piece_zero 1 2 x, ?_⟩
  refine List.forall_mem_cons.2 ⟨fun x => B.piece_dqk 1 2 x, ?_⟩
  refine List.forall_mem_cons.2 ⟨fun x => B.piece_zero 1 1 x, ?_⟩
  refine List.forall_mem_cons.2 ⟨fun x => B.piece_dqk 1 1 x, ?_⟩
  refine List.forall_mem_cons.2 ⟨fun x => B.piece_zero 1 0 x, ?_⟩
  refine List.forall_mem_cons.2 ⟨fun x => B.piece_dqk 1 0 x, ?_⟩
  refine List.forall_mem_cons.2 ⟨fun x => B.piece_zero 2 7 x, ?_⟩
  refine List.forall_mem_cons.2 ⟨fun x => B.piece_dqk 2 7 x, ?_⟩
  refine List.forall_mem_cons.2 ⟨fun x => B.piece_zero 2 6 x, ?_⟩
  refine List.forall_mem_cons.2 ⟨fun x => B.piece_dqk 2 6 x, ?_⟩
  refine List.forall_mem_cons.2 ⟨fun x => B.piece_zero 2 5 x, ?_⟩
  refine List.forall_mem_cons.2 ⟨fun x => B.piece_dqk 2 5 x, ?_⟩
  refine List.forall_mem_cons.2 ⟨fun x => B.piece_zero 2 4 x, ?_⟩
  refine List.forall_mem_cons.2 ⟨fun x => B.piece_dqk 2 4 x, ?_⟩
  refine List.forall_mem_cons.2 ⟨fun x => B.piece_zero 2 3 x, ?_⟩
  refine List.forall_mem_cons.2 ⟨fun x => B.piece_dqk 2 3 x, ?_⟩
  refine List.forall_mem_cons.2 ⟨fun x => B.piece_zero 2 2 x, ?_⟩
  refine List.forall_mem_cons.2 ⟨fun x => B.piece_dqk 2 2 x, ?_⟩
  refine List.forall_mem_cons.2 ⟨fun x => B.piece_zero 2 1 x, ?_⟩
  refine List.forall_mem_cons.2 ⟨fun x => B.piece_dqk 2 1 x, ?_⟩
  refine List.forall_mem_cons.2 ⟨fun x => B.piece_zero 2 0 x, ?_⟩
  refine List.forall_mem_cons.2 ⟨fun x => B.piece_dqk 2 0 x, ?_⟩
  refine List.forall_mem_cons.2 ⟨fun x => B.piece_zero 3 7 x, ?_⟩
  refine List.forall_mem_cons.2 ⟨fun x => B.piece_dqk 3 7 x, ?_⟩
  refine List.forall_mem_cons.2 ⟨fun x => B.piece_zero 3 6 x, ?_⟩
  refine List.forall_mem_cons.2 ⟨fun x => B.piece_dqk 3 6 x, ?_⟩
  refine List.forall_mem_cons.2 ⟨fun x => B.piece_zero 3 5 x, ?_⟩
  refine List.forall_mem_cons.2 ⟨fun x => B.piece_dqk 3 5 x, ?_⟩
  refine List.forall_mem_cons.2 ⟨fun x => B.piece_zero 3 4 x, ?_⟩
  refine List.forall_mem_cons.2 ⟨fun x => B.piece_dqk 3 4 x, ?_⟩
  refine List.forall_mem_cons.2 ⟨fun x => B.piece_zero 3 3 x, ?_⟩
  refine List.forall_mem_cons.2 ⟨fun x => B.piece_dqk 3 3 x, ?_⟩
  refine List.forall_mem_cons.2 ⟨fun x => B.piece_zero 3 2 x, ?_⟩
  refine List.forall_mem_cons.2 ⟨fun x => B.piece_dqk 3 2 x, ?_⟩
  refine List.forall_mem_cons.2 ⟨fun x => B.piece_zero 3 1 x, ?_⟩
  refine List.forall_mem_cons.2 ⟨fun x => B.piece_dqk 3 1 x, ?_⟩
  refine List.forall_mem_cons.2 ⟨fun x => B.piece_zero 3 0 x, ?_⟩
  refine List.forall_mem_cons.2 ⟨fun x => B.piece_dqk 3 0 x, ?_⟩
  exact List.forall_mem_nil _

theorem dd_block : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).dd xs0 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_dd xs0 0 7 x, ?_⟩
  refine List.forall_mem_cons.2 ⟨fun x => B.piece_dd xs0 0 6 x, ?_⟩
  refine List.forall_mem_cons.2 ⟨fun x => B.piece_dd xs0 0 5 x, ?_⟩
  refine List.forall_mem_cons.2 ⟨fun x => B.piece_dd xs0 0 4 x, ?_⟩
  refine List.forall_mem_cons.2 ⟨fun x => B.piece_dd xs0 0 3 x, ?_⟩
  refine List.forall_mem_cons.2 ⟨fun x => B.piece_dd xs0 0 2 x, ?_⟩
  refine List.forall_mem_cons.2 ⟨fun x => B.piece_dd xs0 0 1 x, ?_⟩
  refine List.forall_mem_cons.2 ⟨fun x => B.piece_dd xs0 0 0 x, ?_⟩
  refine List.forall_mem_cons.2 ⟨fun x => B.piece_dd xs0 1 7 x, ?_⟩
  refine List.forall_mem_cons.2 ⟨fun x => B.piece_dd xs0 1 6 x, ?_⟩
  refine List.forall_mem_cons.2 ⟨fun x => B.piece_dd xs0 1 5 x, ?_⟩
  refine List.forall_mem_cons.2 ⟨fun x => B.piece_dd xs0 1 4 x, ?_⟩
  refine List.forall_mem_cons.2 ⟨fun x => B.piece_dd xs0 1 3 x, ?_⟩
  refine List.forall_mem_cons.2 ⟨fun x => B.piece_dd xs0 1 2 x, ?_⟩
  refine List.forall_mem_cons.2 ⟨fun x => B.piece_dd xs0 1 1 x, ?_⟩
  refine List.forall_mem_cons.2 ⟨fun x => B.piece_dd xs0 1 0 x, ?_⟩
  refine List.forall_mem_cons.2 ⟨fun x => B.piece_dd xs0 2 7 x, ?_⟩
  refine List.forall_mem_cons.2 ⟨fun x => B.piece_dd xs0 2 6 x, ?_⟩
  refine List.forall_mem_cons.2 ⟨fun x => B.piece_dd xs0 2 5 x, ?_⟩
  refine List.forall_mem_cons.2 ⟨fun x => B.piece_dd xs0 2 4 x, ?_⟩
  refine List.forall_mem_cons.2 ⟨fun x => B.piece_dd xs0 2 3 x, ?_⟩
  refine List.forall_mem_cons.2 ⟨fun x => B.piece_dd xs0 2 2 x, ?_⟩
  refine List.forall_mem_cons.2 ⟨fun x => B.piece_dd xs0 2 1 x, ?_⟩
  refine List.forall_mem_cons.2 ⟨fun x => B.piece_dd xs0 2 0 x, ?_⟩
  refine List.forall_mem_cons.2 ⟨fun x => B.piece_dd xs0 3 7 x, ?_⟩
  refine List.forall_mem_cons.2 ⟨fun x => B.piece_dd xs0 3 6 x, ?_⟩
  refine List.forall_mem_cons.2 ⟨fun x => B.piece_dd xs0 3 5 x, ?_⟩
  refine List.forall_mem_cons.2 ⟨fun x => B.piece_dd xs0 3 4 x, ?_⟩
  refine List.forall_mem_cons.2 ⟨fun x => B.piece_dd xs0 3 3 x, ?_⟩
  refine List.forall_mem_cons.2 ⟨fun x => B.piece_dd xs0 3 2 x, ?_⟩
  refine List.forall_mem_cons.2 ⟨fun x => B.piece_dd xs0 3 1 x, ?_⟩
  refine List.forall_mem_cons.2 ⟨fun x => B.piece_dd xs0 3 0 x, ?_⟩
  exact List.forall_mem_nil _

theorem scr_block : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = (Blocks.mk x0 x1 x2 x3 x4 x5 x6 x7).scr xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, Memref.IsWhole.read_unread]
  let B : Blocks := Blocks.mk x0 x1 x2 x3 x4 x5 x6 x7
  refine List.forall_mem_cons.2 ⟨fun x => B.piece_scr xs0 7 x, ?_⟩
  refine List.forall_mem_cons.2 ⟨fun x => B.piece_scr xs0 6 x, ?_⟩
  refine List.forall_mem_cons.2 ⟨fun x => B.piece_scr xs0 5 x, ?_⟩
  refine List.forall_mem_cons.2 ⟨fun x => B.piece_scr xs0 4 x, ?_⟩
  refine List.forall_mem_cons.2 ⟨fun x => B.piece_scr xs0 3 x, ?_⟩
  refine List.forall_mem_cons.2 ⟨fun x => B.piece_scr xs0 2 x, ?_⟩
  refine List.forall_mem_cons.2 ⟨fun x => B.piece_scr xs0 1 x, ?_⟩
  refine List.forall_mem_cons.2 ⟨fun x => B.piece_scr xs0 0 x, ?_⟩
  exact List.forall_mem_nil _

end Cert.KernelIdeal.Body.CaseB

end

end
-- ==== Proof.Sweep.lean ====
module

public import proofs.«01_k».proof.Proof.Inputs
public import proofs.«01_k».proof.Proof.OutsA
public import proofs.«01_k».proof.Proof.OutsB

/-! What each grid point leaves, over the whole sweep: the recurrence's gradient of the arguments. -/

@[expose] public section

noncomputable section

namespace Cert.KernelIdeal.Body

open Idealize.ShloMosaic Idealize.ShloMosaic.TcCoe Idealize.SL.Sem Idealize.ShloMosaic.StableHlo
open Cert.KernelIdeal Cert.KernelIdeal.Gen Cert.Gdn

set_option maxRecDepth 16384

variable (m : (ℓ : Loc nD τ sig) → Buf (Elt Ideal) ℓ) (c : Dev nD)

/-- Everything a point leaves, over the scratch it starts from. -/
def leaves (t : Fin cfg0.N) (S0 : Vec Ideal S1024x128 .f32) :=
  ((blocks m c t).du S0, (blocks m c t).dw S0, (blocks m c t).dq, (blocks m c t).dk S0, (blocks m c t).dqk, (blocks m c t).dd S0,
    (blocks m c t).scr S0)

theorem outs_first (t : Fin cfg0.N) (h0 : t.val % 16 = 0) : outsAt0 m c t.val t.isLt = leaves m c t (k0_pay6 (F := Ideal)) := by
  rw [outsAt0_A m c t h0]
  rw [CaseA.du_block, CaseA.dw_block, CaseA.dq_block, CaseA.dk_block, CaseA.dqk_block, CaseA.dd_block, CaseA.scr_block]
  rfl

theorem outs_later (n : ℕ) (hn : n + 1 < cfg0.N) (h0 : ¬(n + 1) % 16 = 0) :
    outsAt0 m c (n + 1) hn = leaves m c ⟨n + 1, hn⟩ (outsAt0 m c n (Nat.lt_of_succ_lt hn)).2.2.2.2.2.2 := by
  rw [outsAt0_B m c ⟨n + 1, hn⟩ h0]
  rw [CaseB.du_block, CaseB.dw_block, CaseB.dq_block, CaseB.dk_block, CaseB.dqk_block, CaseB.dd_block, CaseB.scr_block]
  rfl

theorem reset_at (j : S1024x128.Idx) : k0_pay6 (F := Ideal) j = (0 : EReal) := by
  idx_vars j
  unfold k0_pay6
  pointwise

/-- The scratch a point starts from holds the cotangent of the state its last chunk hands on. -/
def Starts (t : Fin cfg0.N) (S0 : Vec Ideal S1024x128 .f32) : Prop :=
  ∀ (h : Fin 8) (k v : Fin 128), S0 (ix2 (Blocks.bcol h k) v) = back ((args m c).chunks h) (4 * t.val) k v

theorem dst_eq (t : Fin cfg0.N) (S0 : Vec Ideal S1024x128 .f32) (hS : Starts m c t S0) (h : Fin 8) :
    ∀ n ≤ 4, (blocks m c t).dst S0 h n = back ((args m c).chunks h) (4 * t.val + n)
  | 0, _ => funext fun k => funext fun v => hS h k v
  | n + 1, hn => by
    have hN : cfg0.N = 16 := N_0
    have ht := t.isLt
    show ((blocks m c t).chunk (Fin.ofNat 4 (3 - n)) h).ds ((blocks m c t).dst S0 h n) =
      ((args m c).chunk (Fin.ofNat 64 (63 - (4 * t.val + n))) h).ds (back ((args m c).chunks h) (4 * t.val + n))
    rw [dst_eq t S0 hS h n (by omega), chunk_eq]
    have e : pchunk t (Fin.ofNat 4 (3 - n)) = Fin.ofNat 64 (63 - (4 * t.val + n)) :=
      Fin.ext (by show (15 - t.val) * 4 + (3 - n) % 4 = (63 - (4 * t.val + n)) % 64; omega)
    rw [e]

theorem scr_starts (t : Fin cfg0.N) (S0 : Vec Ideal S1024x128 .f32) (hS : Starts m c t S0) (h : Fin 8) (k v : Fin 128) :
    (blocks m c t).scr S0 (ix2 (Blocks.bcol h k) v) = back ((args m c).chunks h) (4 * (t.val + 1)) k v := by
  have e0 : Blocks.colHead (Blocks.bcol h k) = h := Fin.ext (by show (128 * h.val + k.val) / 128 = h.val; omega)
  have e1 : (⟨(Blocks.bcol h k).val % 128, Nat.mod_lt _ (by decide)⟩ : Fin 128) = k := Fin.ext (by show (128 * h.val + k.val) % 128 = k.val; omega)
  show (blocks m c t).dst S0 (Blocks.colHead (Blocks.bcol h k)) 4 ⟨(Blocks.bcol h k).val % 128, Nat.mod_lt _ (by decide)⟩ v = _
  rw [e0, e1, dst_eq m c t S0 hS h 4 le_rfl]
  rfl

/-- Every point starts from such a scratch. -/
theorem outs_eq : ∀ (n : ℕ) (hn : n < cfg0.N), ∃ S0, Starts m c ⟨n, hn⟩ S0 ∧ outsAt0 m c n hn = leaves m c ⟨n, hn⟩ S0
  | 0, hn => ⟨k0_pay6 (F := Ideal), fun h k v => reset_at _, outs_first m c ⟨0, hn⟩ rfl⟩
  | n + 1, hn => by
    have hN : cfg0.N = 16 := N_0
    refine ⟨_, fun h k v => ?_, outs_later m c n hn (by omega)⟩
    obtain ⟨S0, hS, e⟩ := outs_eq n (Nat.lt_of_succ_lt hn)
    rw [e]
    exact scr_starts m c ⟨n, _⟩ S0 hS h k v

theorem rowChunk_eq (t : Fin cfg0.N) (r : Fin 256) : Args.rowChunk (prow t r) = pchunk t (Blocks.rowChunk r) :=
  Fin.ext (by show ((15 - t.val) * 256 + r.val) / 64 = (15 - t.val) * 4 + r.val / 64; omega)

theorem rowTok_eq (t : Fin cfg0.N) (r : Fin 256) : Args.rowTok (prow t r) = Blocks.rowTok r :=
  Fin.ext (by show ((15 - t.val) * 256 + r.val) % 64 = r.val % 64; omega)

theorem dst_at (t : Fin cfg0.N) (S0 : Vec Ideal S1024x128 .f32) (hS : Starts m c t S0) (g : Fin 4) (h : Fin 8) :
    (blocks m c t).dst S0 h (3 - g.val) = (args m c).dst (pchunk t g) h := by
  have hN : cfg0.N = 16 := N_0
  have ht := t.isLt
  rw [dst_eq m c t S0 hS h _ (by omega)]
  show _ = back _ (63 - ((15 - t.val) * 4 + g.val))
  congr 1
  omega

variable (t : Fin cfg0.N) (S0 : Vec Ideal S1024x128 .f32) (hS : Starts m c t S0)
include hS

theorem du_at (r : Fin 256) (l : Fin 1024) : (blocks m c t).du S0 (ix2 r l) = (args m c).du (prow t r) l := by
  show ((blocks m c t).chunk (Blocks.rowChunk r) (Blocks.colHead l)).dv ((blocks m c t).dst S0 (Blocks.colHead l) (3 - (Blocks.rowChunk r).val)) (Blocks.rowTok r) (Blocks.colLane l) = _
  unfold Args.du
  rw [rowChunk_eq, rowTok_eq, chunk_eq, dst_at m c t S0 hS]

theorem dw_at (r : Fin 256) (l : Fin 1024) : (blocks m c t).dw S0 (ix2 r l) = (args m c).dw (prow t r) l := by
  show ((blocks m c t).chunk (Blocks.rowChunk r) (Blocks.colHead l)).dw ((blocks m c t).dst S0 (Blocks.colHead l) (3 - (Blocks.rowChunk r).val)) (Blocks.rowTok r) (Blocks.colLane l) = _
  unfold Args.dw
  rw [rowChunk_eq, rowTok_eq, chunk_eq, dst_at m c t S0 hS]

theorem dk_at (r : Fin 256) (l : Fin 1024) : (blocks m c t).dk S0 (ix2 r l) = (args m c).dk (prow t r) l := by
  show ((blocks m c t).chunk (Blocks.rowChunk r) (Blocks.colHead l)).dk ((blocks m c t).dst S0 (Blocks.colHead l) (3 - (Blocks.rowChunk r).val)) (Blocks.rowTok r) (Blocks.colLane l) = _
  unfold Args.dk
  rw [rowChunk_eq, rowTok_eq, chunk_eq, dst_at m c t S0 hS]

theorem dd_at (r : Fin 32) (l : Fin 128) : (blocks m c t).dd S0 (ix2 r l) = (args m c).dd ⟨(15 - t.val) * 32 + r.val, by omega⟩ l := by
  have e0 : (⟨((15 - t.val) * 32 + r.val) / 8, by omega⟩ : Fin 64) = pchunk t ⟨r.val / 8, by omega⟩ :=
    Fin.ext (by show ((15 - t.val) * 32 + r.val) / 8 = (15 - t.val) * 4 + r.val / 8; omega)
  have e1 : (⟨((15 - t.val) * 32 + r.val) % 8, by omega⟩ : Fin 8) = ⟨r.val % 8, by omega⟩ :=
    Fin.ext (by show ((15 - t.val) * 32 + r.val) % 8 = r.val % 8; omega)
  have e2 := dst_at m c t S0 hS ⟨r.val / 8, by omega⟩ ⟨r.val % 8, by omega⟩
  show ((blocks m c t).chunk ⟨r.val / 8, _⟩ ⟨r.val % 8, _⟩).dd ((blocks m c t).dst S0 ⟨r.val % 8, _⟩ (3 - r.val / 8)) = _
  unfold Args.dd
  dsimp only
  rw [e0, e1, chunk_eq]
  exact congrArg _ e2

omit hS

theorem dq_at (r : Fin 256) (l : Fin 1024) : (blocks m c t).dq (ix2 r l) = (args m c).dq (prow t r) l := by
  show ((blocks m c t).chunk (Blocks.rowChunk r) (Blocks.colHead l)).dq (Blocks.rowTok r) (Blocks.colLane l) = _
  unfold Args.dq
  rw [rowChunk_eq, rowTok_eq, chunk_eq]

theorem dqk_at (r : Fin 256) (l : Fin 1024) : (blocks m c t).dqk (ix2 r l) = (args m c).dqk (prow t r) l := by
  show (if e : l.val % 128 < 64 then ((blocks m c t).chunk (Blocks.rowChunk r) (Blocks.colHead l)).dqk (Blocks.rowTok r) ⟨l.val % 128, e⟩ else (0 : EReal)) = _
  unfold Args.dqk
  rw [rowChunk_eq, rowTok_eq, chunk_eq]

end Cert.KernelIdeal.Body

end

end
-- ==== Proof.Results.lean ====
module

public import proofs.«01_k».proof.Proof.Sweep
public import proofs.«01_k».proof.Proof.Gen.KernelIdeal.Value

/-! The kernel's result arrays: the recurrence's gradient of the arguments. -/

@[expose] public section

noncomputable section

namespace Cert.KernelIdeal.Body

open Idealize.ShloMosaic Idealize.ShloMosaic.TcCoe Idealize.SL.Sem Idealize.ShloMosaic.StableHlo
open Cert.KernelIdeal Cert.KernelIdeal.Gen Cert.KernelIdeal.Value Cert.Gdn

set_option maxRecDepth 16384

variable (m : (ℓ : Loc nD τ sig) → Buf (Elt Ideal) ℓ) (c : Dev nD)

/-- The point that writes row `r`, of arrays of 4096 rows. -/
abbrev pointOf (r : Fin 4096) : Fin cfg0.N := ⟨15 - r.val / 256, by have : cfg0.N = 16 := N_0; omega⟩

/-- The point that writes row `r`, of the array of 512 rows. -/
abbrev pointOf' (r : Fin 512) : Fin cfg0.N := ⟨15 - r.val / 32, by have : cfg0.N = 16 := N_0; omega⟩

theorem index8 : ∀ t : Fin grid0.N, win0_8.index t 0 = 15 - t.val ∧ win0_8.index t 1 = 0 := by decide +kernel
theorem sizes8 : ∀ t : Fin grid0.N, win0_8.xsize (grid0.coords t) 0 = 256 ∧ win0_8.xsize (grid0.coords t) 1 = 1024 := by decide +kernel

/-- The result array that window 8 writes. -/
def res_du : Buf (Elt Ideal) ((c : Thread nD τ).loc main_v10_0) := fun i : S4096x1024.Idx => (args m c).du (i 0) (i 1)

theorem left_du (t : Fin cfg0.N) (r : Fin 256) (l : Fin 1024) :
    (outsAt0 m c t.val t.isLt).1 (ix2 r l) = (args m c).du (prow t r) l := by
  obtain ⟨S0, hS, e⟩ := outs_eq m c t.val t.isLt
  rw [e]
  exact du_at m c t S0 hS r l

theorem flushed_du (t : Fin cfg0.N) : (dats m 0 c).flushed 8 t = ((cfg0.win 8).blk t).view.read (Elt Ideal) (res_du m c) := by
  rw [flushed8]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_du m c t r l).trans ?_
  refine congrArg₂ (args m c).du (Fin.ext ?_) (Fin.ext ?_)
  · show (15 - t.val) * 256 + r.val = win0_8.index t 0 * 256 + 1 * r.val; rw [(index8 t).1]; omega
  · show l.val = win0_8.index t 1 * 1024 + 1 * l.val; rw [(index8 t).2]; omega

theorem final_du : (dats m 0 c).arrAt 8 cfg0.N = res_du m c :=
  (dats m 0 c).arrAt_eq_of_cover 8 (res_du m c) (fun t _ => flushed_du m c t) fun i =>
    ⟨pointOf (i 0), flush0_8 _, by
      show i ∈ ((View.whole main_v10_0).slice (win0_8.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_8.index (pointOf (i 0)) 0 * 256 ≤ (i 0 : Nat) ∧ (i 0 : Nat) < win0_8.index (pointOf (i 0)) 0 * 256 + win0_8.xsize (grid0.coords (pointOf (i 0))) 0
        rw [(index8 _).1, (sizes8 _).1]
        show (15 - (15 - (i 0 : Nat) / 256)) * 256 ≤ (i 0 : Nat) ∧ (i 0 : Nat) < (15 - (15 - (i 0 : Nat) / 256)) * 256 + 256
        omega
      | ⟨1, _⟩ =>
        show win0_8.index (pointOf (i 0)) 1 * 1024 ≤ (i 1 : Nat) ∧ (i 1 : Nat) < win0_8.index (pointOf (i 0)) 1 * 1024 + win0_8.xsize (grid0.coords (pointOf (i 0))) 1
        rw [(index8 _).2, (sizes8 _).2]
        omega⟩

theorem index9 : ∀ t : Fin grid0.N, win0_9.index t 0 = 15 - t.val ∧ win0_9.index t 1 = 0 := by decide +kernel
theorem sizes9 : ∀ t : Fin grid0.N, win0_9.xsize (grid0.coords t) 0 = 256 ∧ win0_9.xsize (grid0.coords t) 1 = 1024 := by decide +kernel

/-- The result array that window 9 writes. -/
def res_dw : Buf (Elt Ideal) ((c : Thread nD τ).loc main_v10_1) := fun i : S4096x1024.Idx => (args m c).dw (i 0) (i 1)

theorem left_dw (t : Fin cfg0.N) (r : Fin 256) (l : Fin 1024) :
    (outsAt0 m c t.val t.isLt).2.1 (ix2 r l) = (args m c).dw (prow t r) l := by
  obtain ⟨S0, hS, e⟩ := outs_eq m c t.val t.isLt
  rw [e]
  exact dw_at m c t S0 hS r l

theorem flushed_dw (t : Fin cfg0.N) : (dats m 0 c).flushed 9 t = ((cfg0.win 9).blk t).view.read (Elt Ideal) (res_dw m c) := by
  rw [flushed9]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_dw m c t r l).trans ?_
  refine congrArg₂ (args m c).dw (Fin.ext ?_) (Fin.ext ?_)
  · show (15 - t.val) * 256 + r.val = win0_9.index t 0 * 256 + 1 * r.val; rw [(index9 t).1]; omega
  · show l.val = win0_9.index t 1 * 1024 + 1 * l.val; rw [(index9 t).2]; omega

theorem final_dw : (dats m 0 c).arrAt 9 cfg0.N = res_dw m c :=
  (dats m 0 c).arrAt_eq_of_cover 9 (res_dw m c) (fun t _ => flushed_dw m c t) fun i =>
    ⟨pointOf (i 0), flush0_9 _, by
      show i ∈ ((View.whole main_v10_1).slice (win0_9.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_9.index (pointOf (i 0)) 0 * 256 ≤ (i 0 : Nat) ∧ (i 0 : Nat) < win0_9.index (pointOf (i 0)) 0 * 256 + win0_9.xsize (grid0.coords (pointOf (i 0))) 0
        rw [(index9 _).1, (sizes9 _).1]
        show (15 - (15 - (i 0 : Nat) / 256)) * 256 ≤ (i 0 : Nat) ∧ (i 0 : Nat) < (15 - (15 - (i 0 : Nat) / 256)) * 256 + 256
        omega
      | ⟨1, _⟩ =>
        show win0_9.index (pointOf (i 0)) 1 * 1024 ≤ (i 1 : Nat) ∧ (i 1 : Nat) < win0_9.index (pointOf (i 0)) 1 * 1024 + win0_9.xsize (grid0.coords (pointOf (i 0))) 1
        rw [(index9 _).2, (sizes9 _).2]
        omega⟩

theorem index10 : ∀ t : Fin grid0.N, win0_10.index t 0 = 15 - t.val ∧ win0_10.index t 1 = 0 := by decide +kernel
theorem sizes10 : ∀ t : Fin grid0.N, win0_10.xsize (grid0.coords t) 0 = 256 ∧ win0_10.xsize (grid0.coords t) 1 = 1024 := by decide +kernel

/-- The result array that window 10 writes. -/
def res_dq : Buf (Elt Ideal) ((c : Thread nD τ).loc main_v10_2) := fun i : S4096x1024.Idx => (args m c).dq (i 0) (i 1)

theorem left_dq (t : Fin cfg0.N) (r : Fin 256) (l : Fin 1024) :
    (outsAt0 m c t.val t.isLt).2.2.1 (ix2 r l) = (args m c).dq (prow t r) l := by
  obtain ⟨S0, hS, e⟩ := outs_eq m c t.val t.isLt
  rw [e]
  exact dq_at m c t r l

theorem flushed_dq (t : Fin cfg0.N) : (dats m 0 c).flushed 10 t = ((cfg0.win 10).blk t).view.read (Elt Ideal) (res_dq m c) := by
  rw [flushed10]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_dq m c t r l).trans ?_
  refine congrArg₂ (args m c).dq (Fin.ext ?_) (Fin.ext ?_)
  · show (15 - t.val) * 256 + r.val = win0_10.index t 0 * 256 + 1 * r.val; rw [(index10 t).1]; omega
  · show l.val = win0_10.index t 1 * 1024 + 1 * l.val; rw [(index10 t).2]; omega

theorem final_dq : (dats m 0 c).arrAt 10 cfg0.N = res_dq m c :=
  (dats m 0 c).arrAt_eq_of_cover 10 (res_dq m c) (fun t _ => flushed_dq m c t) fun i =>
    ⟨pointOf (i 0), flush0_10 _, by
      show i ∈ ((View.whole main_v10_2).slice (win0_10.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_10.index (pointOf (i 0)) 0 * 256 ≤ (i 0 : Nat) ∧ (i 0 : Nat) < win0_10.index (pointOf (i 0)) 0 * 256 + win0_10.xsize (grid0.coords (pointOf (i 0))) 0
        rw [(index10 _).1, (sizes10 _).1]
        show (15 - (15 - (i 0 : Nat) / 256)) * 256 ≤ (i 0 : Nat) ∧ (i 0 : Nat) < (15 - (15 - (i 0 : Nat) / 256)) * 256 + 256
        omega
      | ⟨1, _⟩ =>
        show win0_10.index (pointOf (i 0)) 1 * 1024 ≤ (i 1 : Nat) ∧ (i 1 : Nat) < win0_10.index (pointOf (i 0)) 1 * 1024 + win0_10.xsize (grid0.coords (pointOf (i 0))) 1
        rw [(index10 _).2, (sizes10 _).2]
        omega⟩

theorem index11 : ∀ t : Fin grid0.N, win0_11.index t 0 = 15 - t.val ∧ win0_11.index t 1 = 0 := by decide +kernel
theorem sizes11 : ∀ t : Fin grid0.N, win0_11.xsize (grid0.coords t) 0 = 256 ∧ win0_11.xsize (grid0.coords t) 1 = 1024 := by decide +kernel

/-- The result array that window 11 writes. -/
def res_dk : Buf (Elt Ideal) ((c : Thread nD τ).loc main_v10_3) := fun i : S4096x1024.Idx => (args m c).dk (i 0) (i 1)

theorem left_dk (t : Fin cfg0.N) (r : Fin 256) (l : Fin 1024) :
    (outsAt0 m c t.val t.isLt).2.2.2.1 (ix2 r l) = (args m c).dk (prow t r) l := by
  obtain ⟨S0, hS, e⟩ := outs_eq m c t.val t.isLt
  rw [e]
  exact dk_at m c t S0 hS r l

theorem flushed_dk (t : Fin cfg0.N) : (dats m 0 c).flushed 11 t = ((cfg0.win 11).blk t).view.read (Elt Ideal) (res_dk m c) := by
  rw [flushed11]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_dk m c t r l).trans ?_
  refine congrArg₂ (args m c).dk (Fin.ext ?_) (Fin.ext ?_)
  · show (15 - t.val) * 256 + r.val = win0_11.index t 0 * 256 + 1 * r.val; rw [(index11 t).1]; omega
  · show l.val = win0_11.index t 1 * 1024 + 1 * l.val; rw [(index11 t).2]; omega

theorem final_dk : (dats m 0 c).arrAt 11 cfg0.N = res_dk m c :=
  (dats m 0 c).arrAt_eq_of_cover 11 (res_dk m c) (fun t _ => flushed_dk m c t) fun i =>
    ⟨pointOf (i 0), flush0_11 _, by
      show i ∈ ((View.whole main_v10_3).slice (win0_11.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_11.index (pointOf (i 0)) 0 * 256 ≤ (i 0 : Nat) ∧ (i 0 : Nat) < win0_11.index (pointOf (i 0)) 0 * 256 + win0_11.xsize (grid0.coords (pointOf (i 0))) 0
        rw [(index11 _).1, (sizes11 _).1]
        show (15 - (15 - (i 0 : Nat) / 256)) * 256 ≤ (i 0 : Nat) ∧ (i 0 : Nat) < (15 - (15 - (i 0 : Nat) / 256)) * 256 + 256
        omega
      | ⟨1, _⟩ =>
        show win0_11.index (pointOf (i 0)) 1 * 1024 ≤ (i 1 : Nat) ∧ (i 1 : Nat) < win0_11.index (pointOf (i 0)) 1 * 1024 + win0_11.xsize (grid0.coords (pointOf (i 0))) 1
        rw [(index11 _).2, (sizes11 _).2]
        omega⟩

theorem index12 : ∀ t : Fin grid0.N, win0_12.index t 0 = 15 - t.val ∧ win0_12.index t 1 = 0 := by decide +kernel
theorem sizes12 : ∀ t : Fin grid0.N, win0_12.xsize (grid0.coords t) 0 = 256 ∧ win0_12.xsize (grid0.coords t) 1 = 1024 := by decide +kernel

/-- The result array that window 12 writes. -/
def res_dqk : Buf (Elt Ideal) ((c : Thread nD τ).loc main_v10_4) := fun i : S4096x1024.Idx => (args m c).dqk (i 0) (i 1)

theorem left_dqk (t : Fin cfg0.N) (r : Fin 256) (l : Fin 1024) :
    (outsAt0 m c t.val t.isLt).2.2.2.2.1 (ix2 r l) = (args m c).dqk (prow t r) l := by
  obtain ⟨S0, hS, e⟩ := outs_eq m c t.val t.isLt
  rw [e]
  exact dqk_at m c t r l

theorem flushed_dqk (t : Fin cfg0.N) : (dats m 0 c).flushed 12 t = ((cfg0.win 12).blk t).view.read (Elt Ideal) (res_dqk m c) := by
  rw [flushed12]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_dqk m c t r l).trans ?_
  refine congrArg₂ (args m c).dqk (Fin.ext ?_) (Fin.ext ?_)
  · show (15 - t.val) * 256 + r.val = win0_12.index t 0 * 256 + 1 * r.val; rw [(index12 t).1]; omega
  · show l.val = win0_12.index t 1 * 1024 + 1 * l.val; rw [(index12 t).2]; omega

theorem final_dqk : (dats m 0 c).arrAt 12 cfg0.N = res_dqk m c :=
  (dats m 0 c).arrAt_eq_of_cover 12 (res_dqk m c) (fun t _ => flushed_dqk m c t) fun i =>
    ⟨pointOf (i 0), flush0_12 _, by
      show i ∈ ((View.whole main_v10_4).slice (win0_12.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_12.index (pointOf (i 0)) 0 * 256 ≤ (i 0 : Nat) ∧ (i 0 : Nat) < win0_12.index (pointOf (i 0)) 0 * 256 + win0_12.xsize (grid0.coords (pointOf (i 0))) 0
        rw [(index12 _).1, (sizes12 _).1]
        show (15 - (15 - (i 0 : Nat) / 256)) * 256 ≤ (i 0 : Nat) ∧ (i 0 : Nat) < (15 - (15 - (i 0 : Nat) / 256)) * 256 + 256
        omega
      | ⟨1, _⟩ =>
        show win0_12.index (pointOf (i 0)) 1 * 1024 ≤ (i 1 : Nat) ∧ (i 1 : Nat) < win0_12.index (pointOf (i 0)) 1 * 1024 + win0_12.xsize (grid0.coords (pointOf (i 0))) 1
        rw [(index12 _).2, (sizes12 _).2]
        omega⟩

theorem index13 : ∀ t : Fin grid0.N, win0_13.index t 0 = 15 - t.val ∧ win0_13.index t 1 = 0 := by decide +kernel
theorem sizes13 : ∀ t : Fin grid0.N, win0_13.xsize (grid0.coords t) 0 = 32 ∧ win0_13.xsize (grid0.coords t) 1 = 128 := by decide +kernel

/-- The result array that window 13 writes. -/
def res_dd : Buf (Elt Ideal) ((c : Thread nD τ).loc main_v10_5) := fun i : S512x128.Idx => (args m c).dd (i 0) (i 1)

theorem left_dd (t : Fin cfg0.N) (r : Fin 32) (l : Fin 128) :
    (outsAt0 m c t.val t.isLt).2.2.2.2.2.1 (ix2 r l) = (args m c).dd ⟨(15 - t.val) * 32 + r.val, by omega⟩ l := by
  obtain ⟨S0, hS, e⟩ := outs_eq m c t.val t.isLt
  rw [e]
  exact dd_at m c t S0 hS r l

theorem flushed_dd (t : Fin cfg0.N) : (dats m 0 c).flushed 13 t = ((cfg0.win 13).blk t).view.read (Elt Ideal) (res_dd m c) := by
  rw [flushed13]
  funext j
  obtain ⟨r, l, rfl⟩ : ∃ (r : Fin 32) (l : Fin 128), j = (ix2 r l : S32x128.Idx) := ⟨j 0, j 1, (ix2_eta (j : S32x128.Idx)).symm⟩
  rw [View.read_apply]
  refine (left_dd m c t r l).trans ?_
  refine congrArg (fun k => (args m c).dd k l) (Fin.ext ?_)
  show (15 - t.val) * 32 + r.val = win0_13.index t 0 * 32 + 1 * r.val
  rw [(index13 t).1]
  omega

theorem final_dd : (dats m 0 c).arrAt 13 cfg0.N = res_dd m c :=
  (dats m 0 c).arrAt_eq_of_cover 13 (res_dd m c) (fun t _ => flushed_dd m c t) fun i =>
    ⟨pointOf' (i 0), flush0_13 _, by
      show i ∈ ((View.whole main_v10_5).slice (win0_13.rect (pointOf' (i 0)))).set
      rw [View.set_slice_whole, Rect.mem_set_unit]
      intro a
      have h0 : (i 0 : Nat) < 512 := (i 0).isLt
      have h1 : (i 1 : Nat) < 128 := (i 1).isLt
      match a with
      | ⟨0, _⟩ =>
        show win0_13.index (pointOf' (i 0)) 0 * 32 ≤ (i 0 : Nat) ∧ (i 0 : Nat) < win0_13.index (pointOf' (i 0)) 0 * 32 + win0_13.xsize (grid0.coords (pointOf' (i 0))) 0
        rw [(index13 _).1, (sizes13 _).1]
        show (15 - (15 - (i 0 : Nat) / 32)) * 32 ≤ (i 0 : Nat) ∧ (i 0 : Nat) < (15 - (15 - (i 0 : Nat) / 32)) * 32 + 32
        omega
      | ⟨1, _⟩ =>
        show win0_13.index (pointOf' (i 0)) 1 * 128 ≤ (i 1 : Nat) ∧ (i 1 : Nat) < win0_13.index (pointOf' (i 0)) 1 * 128 + win0_13.xsize (grid0.coords (pointOf' (i 0))) 1
        rw [(index13 _).2, (sizes13 _).2]
        omega⟩

end Cert.KernelIdeal.Body

end

end
-- ==== Proof.Trip.lean ====
module

public import Idealize.ShloMosaic.Lib.Pointwise
public import Idealize.ShloMosaic.Lib.DynamicIndex
public import proofs.«01_k».proof.Proof.Spec
public import proofs.«01_k».proof.Proof.Gen.ReferenceIdeal.Step

/-! One trip of the reference's backward scan, read at an index: the values it makes are the formulas of `Cert.Gdn.Chunk`
    at chunk `63 - j`. -/

@[expose] public section

noncomputable section

namespace Cert.ReferenceIdeal.Step

open Idealize.ShloMosaic Cert.ReferenceIdeal Cert.ReferenceIdeal.Gen Cert.Gdn

set_option maxRecDepth 16384

/-- The chunk the `j`-th trip works on. -/
abbrev rev (j : ℕ) : Fin 64 := ⟨63 - j, by omega⟩

theorem start_of (j : ℕ) (hj : j < 64) (i : S_.Idx) :
    (subi (subi (constantI S_ 32 64#32) (constantI S_ 32 (BitVec.ofNat 32 j))) (constantI S_ 32 1#32) i).toInt = (63 - j : ℕ) := by
  have : ∀ j : Fin 64, (64#32 - BitVec.ofNat 32 j.val - 1#32).toInt = (63 - j.val : ℕ) := by decide +kernel
  exact this ⟨j, hj⟩

/-- Head `h` of chunk `n`, of the loop's constants. -/
def chunkS (s : State Ideal) (n : Fin 64) (h : Fin 8) : Chunk where
  U c v := s.main_v21_1 (ix4 n h c v)
  W c v := s.main_v21_2 (ix4 n h c v)
  Q c v := s.main_v21_3 (ix4 n h c v)
  K c v := s.main_v21_4 (ix4 n h c v)
  CT c v := s.main_v21_7 (ix4 n h c v)
  QK c v := s.main_v21_5 (ix4 n h c v)
  D := s.main_v21_6 (ix2 n h)
  St k v := s.main_v21_0 (ix4 n h k v)

theorem read_st (x : S64x8x128x128.Idx → EReal) (j : ℕ) (hj : j < 64) (start : Fin 4 → Int) (hs : ∀ a, start a = ((![63 - j, 0, 0, 0] : Fin 4 → ℕ) a : Int))
    (hf : S64x8x128x128.Slices (fun _ => 0) S1x8x128x128) (h : Fin 8) (k : Fin 128) (v : Fin 128) :
    shapeCast S8x128x128 (Host.dynamicSlice S1x8x128x128 x start hf) shapeCasts_S1x8x128x128_S8x128x128 (ix3 h k v) = x (ix4 (rev j) h k v) := by
  rw [Host.dynamicSlice_eq_extractStridedSlice (s := S64x8x128x128) S1x8x128x128 x start ![63 - j, 0, 0, 0] hf
    ⟨rfl, fun a => by fin_cases a <;> simp [S64x8x128x128, S1x8x128x128] <;> omega⟩ hs]
  pointwise

theorem read_row (x : S64x8x64x128.Idx → EReal) (j : ℕ) (hj : j < 64) (start : Fin 4 → Int) (hs : ∀ a, start a = ((![63 - j, 0, 0, 0] : Fin 4 → ℕ) a : Int))
    (hf : S64x8x64x128.Slices (fun _ => 0) S1x8x64x128) (h : Fin 8) (k : Fin 64) (v : Fin 128) :
    shapeCast S8x64x128 (Host.dynamicSlice S1x8x64x128 x start hf) shapeCasts_S1x8x64x128_S8x64x128 (ix3 h k v) = x (ix4 (rev j) h k v) := by
  rw [Host.dynamicSlice_eq_extractStridedSlice (s := S64x8x64x128) S1x8x64x128 x start ![63 - j, 0, 0, 0] hf
    ⟨rfl, fun a => by fin_cases a <;> simp [S64x8x64x128, S1x8x64x128] <;> omega⟩ hs]
  pointwise

theorem read_sq (x : S64x8x64x64.Idx → EReal) (j : ℕ) (hj : j < 64) (start : Fin 4 → Int) (hs : ∀ a, start a = ((![63 - j, 0, 0, 0] : Fin 4 → ℕ) a : Int))
    (hf : S64x8x64x64.Slices (fun _ => 0) S1x8x64x64) (h : Fin 8) (k : Fin 64) (v : Fin 64) :
    shapeCast S8x64x64 (Host.dynamicSlice S1x8x64x64 x start hf) shapeCasts_S1x8x64x64_S8x64x64 (ix3 h k v) = x (ix4 (rev j) h k v) := by
  rw [Host.dynamicSlice_eq_extractStridedSlice (s := S64x8x64x64) S1x8x64x64 x start ![63 - j, 0, 0, 0] hf
    ⟨rfl, fun a => by fin_cases a <;> simp [S64x8x64x64, S1x8x64x64] <;> omega⟩ hs]
  pointwise

theorem read_dec (x : S64x8.Idx → EReal) (j : ℕ) (hj : j < 64) (start : Fin 2 → Int) (hs : ∀ a, start a = ((![63 - j, 0] : Fin 2 → ℕ) a : Int))
    (hf : S64x8.Slices (fun _ => 0) S1x8) (h : Fin 8) :
    shapeCast S8 (Host.dynamicSlice S1x8 x start hf) shapeCasts_S1x8_S8 (ix1 h) = x (ix2 (rev j) h) := by
  rw [Host.dynamicSlice_eq_extractStridedSlice (s := S64x8) S1x8 x start ![63 - j, 0] hf
    ⟨rfl, fun a => by fin_cases a <;> simp [S64x8, S1x8] <;> omega⟩ hs]
  pointwise

theorem write_row (x : S64x8x64x128.Idx → EReal) (y : S1x8x64x128.Idx → EReal) (j : ℕ) (hj : j < 64) (start : Fin 4 → Int)
    (hs : ∀ a, start a = ((![63 - j, 0, 0, 0] : Fin 4 → ℕ) a : Int))
    (hf : S64x8x64x128.Slices (fun _ => 0) S1x8x64x128) (n : Fin 64) (h : Fin 8) (k : Fin 64) (v : Fin 128) :
    Host.dynamicUpdateSlice x y start hf (ix4 n h k v) = if n = rev j then y (ix4 0 h k v) else x (ix4 n h k v) := by
  rw [Host.dynamicUpdateSlice_eq_updateSlice (s := S64x8x64x128) x y start hf ![63 - j, 0, 0, 0]
    (fun a => by rw [hs a]; fin_cases a <;> simp [S64x8x64x128, S1x8x64x128] <;> omega)
    ⟨rfl, fun a => by fin_cases a <;> simp [S64x8x64x128, S1x8x64x128] <;> omega⟩]
  pointwise
  by_cases e : n = rev j
  · subst e
    rw [if_pos rfl, dif_pos (by simp)]
    congr 2
    exact Fin.ext (by simp)
  · rw [if_neg e, dif_neg (fun h => e (Fin.ext (by simp; omega)))]

theorem write_sq (x : S64x8x64x64.Idx → EReal) (y : S1x8x64x64.Idx → EReal) (j : ℕ) (hj : j < 64) (start : Fin 4 → Int)
    (hs : ∀ a, start a = ((![63 - j, 0, 0, 0] : Fin 4 → ℕ) a : Int))
    (hf : S64x8x64x64.Slices (fun _ => 0) S1x8x64x64) (n : Fin 64) (h : Fin 8) (k v : Fin 64) :
    Host.dynamicUpdateSlice x y start hf (ix4 n h k v) = if n = rev j then y (ix4 0 h k v) else x (ix4 n h k v) := by
  rw [Host.dynamicUpdateSlice_eq_updateSlice (s := S64x8x64x64) x y start hf ![63 - j, 0, 0, 0]
    (fun a => by rw [hs a]; fin_cases a <;> simp [S64x8x64x64, S1x8x64x64] <;> omega)
    ⟨rfl, fun a => by fin_cases a <;> simp [S64x8x64x64, S1x8x64x64] <;> omega⟩]
  pointwise
  by_cases e : n = rev j
  · subst e
    rw [if_pos rfl, dif_pos (by simp)]
    congr 2
    exact Fin.ext (by simp)
  · rw [if_neg e, dif_neg (fun h => e (Fin.ext (by simp; omega)))]

theorem write_dec (x : S64x8.Idx → EReal) (y : S1x8.Idx → EReal) (j : ℕ) (hj : j < 64) (start : Fin 2 → Int)
    (hs : ∀ a, start a = ((![63 - j, 0] : Fin 2 → ℕ) a : Int))
    (hf : S64x8.Slices (fun _ => 0) S1x8) (n : Fin 64) (h : Fin 8) :
    Host.dynamicUpdateSlice x y start hf (ix2 n h) = if n = rev j then y (ix2 0 h) else x (ix2 n h) := by
  rw [Host.dynamicUpdateSlice_eq_updateSlice (s := S64x8) x y start hf ![63 - j, 0]
    (fun a => by rw [hs a]; fin_cases a <;> simp [S64x8, S1x8] <;> omega)
    ⟨rfl, fun a => by fin_cases a <;> simp [S64x8, S1x8] <;> omega⟩]
  pointwise
  by_cases e : n = rev j
  · subst e
    rw [if_pos rfl, dif_pos (by simp)]
    congr 2
    exact Fin.ext (by simp)
  · rw [if_neg e, dif_neg (fun h => e (Fin.ext (by simp; omega)))]

variable (s : State Ideal) (h : Fin 8) (j : ℕ) (hj : j < 64)
include hj

theorem b8_at (k v : Fin 128) : b8 j s (ix3 h k v) = (chunkS s (rev j) h).St k v :=
  read_st _ j hj _ (fun a => by fin_cases a; exacts [start_of j hj _, rfl, rfl, rfl]) _ h k v

theorem b13_at (c : Fin 64) (v : Fin 128) : b13 j s (ix3 h c v) = (chunkS s (rev j) h).U c v :=
  read_row _ j hj _ (fun a => by fin_cases a; exacts [start_of j hj _, rfl, rfl, rfl]) _ h c v

theorem b18_at (c : Fin 64) (v : Fin 128) : b18 j s (ix3 h c v) = (chunkS s (rev j) h).W c v :=
  read_row _ j hj _ (fun a => by fin_cases a; exacts [start_of j hj _, rfl, rfl, rfl]) _ h c v

theorem b23_at (c : Fin 64) (v : Fin 128) : b23 j s (ix3 h c v) = (chunkS s (rev j) h).Q c v :=
  read_row _ j hj _ (fun a => by fin_cases a; exacts [start_of j hj _, rfl, rfl, rfl]) _ h c v

theorem b28_at (c : Fin 64) (v : Fin 128) : b28 j s (ix3 h c v) = (chunkS s (rev j) h).K c v :=
  read_row _ j hj _ (fun a => by fin_cases a; exacts [start_of j hj _, rfl, rfl, rfl]) _ h c v

theorem b41_at (c : Fin 64) (v : Fin 128) : b41 j s (ix3 h c v) = (chunkS s (rev j) h).CT c v :=
  read_row _ j hj _ (fun a => by fin_cases a; exacts [start_of j hj _, rfl, rfl, rfl]) _ h c v

theorem b33_at (c v : Fin 64) : b33 j s (ix3 h c v) = (chunkS s (rev j) h).QK c v :=
  read_sq _ j hj _ (fun a => by fin_cases a; exacts [start_of j hj _, rfl, rfl, rfl]) _ h c v

theorem b36_at : b36 j s (ix1 h) = (chunkS s (rev j) h).D :=
  read_dec _ j hj _ (fun a => by fin_cases a; exacts [start_of j hj _, rfl]) _ h

/-- The cotangent the trip meets, of head `h`. -/
abbrev dsS (s : State Ideal) (h : Fin 8) : Mat 128 128 := fun k v => s.main_v21_9 (ix3 h k v)

theorem b43_at (c : Fin 64) (v : Fin 128) : b43 j s (ix3 h c v) = (chunkS s (rev j) h).vn c v := by
  unfold b43 b42
  pointwise
  simp only [b13_at s _ j hj, b18_at s _ j hj, b8_at s _ j hj]
  rfl

theorem b66_at (c : Fin 64) (v : Fin 128) : b66 j s (ix3 h c v) = (chunkS s (rev j) h).dv (dsS s h) c v := by
  unfold b66 b53 b52 b65 b64
  pointwise
  simp only [b28_at s _ j hj, b41_at s _ j hj, b33_at s _ j hj]
  rfl

theorem b72_at (c : Fin 64) (v : Fin 128) : b72 j s (ix3 h c v) = -(chunkS s (rev j) h).dv (dsS s h) c v := by
  unfold b72
  pointwise
  rw [b66_at s _ j hj]

theorem b76_at (c : Fin 64) (v : Fin 128) : b76 j s (ix3 h c v) = (chunkS s (rev j) h).dw (dsS s h) c v := by
  unfold b76
  pointwise
  simp only [b72_at s _ j hj, b8_at s _ j hj]
  rfl

theorem b71_at (c : Fin 64) (v : Fin 128) : b71 j s (ix3 h c v) = (chunkS s (rev j) h).dq c v := by
  unfold b71
  pointwise
  simp only [b41_at s _ j hj, b8_at s _ j hj]
  rfl

theorem b55_at (c : Fin 64) (v : Fin 128) : b55 j s (ix3 h c v) = (chunkS s (rev j) h).dk (dsS s h) c v := by
  unfold b55 b54
  pointwise
  simp only [b43_at s _ j hj]
  rfl

theorem b67_at (c v : Fin 64) : b67 j s (ix3 h c v) = (chunkS s (rev j) h).dqk c v := by
  unfold b67
  pointwise
  simp only [b43_at s _ j hj, b41_at s _ j hj]
  rfl

theorem b63_at : b63 j s (ix1 h) = (chunkS s (rev j) h).dd (dsS s h) := by
  unfold b63 b62 b59 b58 b57 b56
  pointwise
  simp only [b8_at s _ j hj]
  simp only [Finset.univ_unique, Finset.sum_singleton]
  rfl

theorem b75_at (k v : Fin 128) : b75 j s (ix3 h k v) = (chunkS s (rev j) h).ds (dsS s h) k v := by
  unfold b75 b70 b61 b60 b47 b69 b68 b74 b73
  pointwise
  simp only [b72_at s _ j hj, b41_at s _ j hj, b23_at s _ j hj, b18_at s _ j hj, b36_at s _ j hj]
  rfl

end Cert.ReferenceIdeal.Step

end

end
-- ==== Proof.Loop.lean ====
module

public import proofs.«01_k».proof.Proof.Trip

/-! The reference's backward scan after all of its trips. -/

@[expose] public section

noncomputable section

namespace Cert.ReferenceIdeal.Step

open Idealize.ShloMosaic Cert.ReferenceIdeal Cert.ReferenceIdeal.Gen Cert.Gdn

set_option maxRecDepth 16384

/-- An entry that trip `63 - n` alone writes, after all trips. -/
theorem last_write {α : Type} (O : ℕ → α) (g : ℕ → α) (n : Fin 64)
    (h : ∀ j, j < 64 → O (j + 1) = if n = rev j then g j else O j) : O 64 = g (63 - n.val) := by
  have key : ∀ d, 63 - n.val + 1 + d ≤ 64 → O (63 - n.val + 1 + d) = g (63 - n.val) := by
    intro d
    induction d with
    | zero => intro hd; rw [Nat.add_zero, h _ (by omega), if_pos (Fin.ext (by simp; omega))]
    | succ d ih =>
      intro hd
      rw [← Nat.add_assoc, h _ (by omega), if_neg (fun e => by have := congrArg Fin.val e; simp at this; omega), ih (by omega)]
  have := key n.val (by omega)
  rwa [show 63 - n.val + 1 + n.val = 64 by omega] at this

/-- The chunks of head `h`, numbered by naturals. -/
def chunksS (s : State Ideal) (h : Fin 8) : ℕ → Chunk := fun n => chunkS s (Fin.ofNat 64 n) h

theorem chunkS_step (j : ℕ) (s : State Ideal) : chunkS (step j s) = chunkS s := by
  unfold step chunkS
  rfl

theorem ofNat_rev (j : ℕ) : Fin.ofNat 64 (63 - j) = rev j := Fin.ext (Nat.mod_eq_of_lt (by omega))

theorem ofNat_val (n : Fin 64) : Fin.ofNat 64 n.val = n := Fin.ext (Nat.mod_eq_of_lt n.isLt)

variable (it : ℕ → State Ideal) (hs : ∀ n, it (n + 1) = step n (it n))
include hs

theorem chunkS_it (j : ℕ) : chunkS (it j) = chunkS (it 0) := by
  induction j with
  | zero => rfl
  | succ j ih => rw [hs, chunkS_step, ih]

theorem dsS_it (h0 : ∀ i, (it 0).main_v21_9 i = 0) (h : Fin 8) (j : ℕ) (hj : j ≤ 64) : dsS (it j) h = back (chunksS (it 0) h) j := by
  induction j with
  | zero => funext k v; exact h0 _
  | succ j ih =>
    funext k v
    show (it (j + 1)).main_v21_9 (ix3 h k v) = _
    rw [hs, step_main_v21_9, b75_at _ _ _ (by omega), ih (by omega), chunkS_it it hs]
    show _ = (chunkS (it 0) (Fin.ofNat 64 (63 - j)) h).ds (back (chunksS (it 0) h) j) k v
    rw [ofNat_rev]

variable (h0 : ∀ i, (it 0).main_v21_9 i = 0)
include h0

theorem du_it (n : Fin 64) (h : Fin 8) (c : Fin 64) (v : Fin 128) :
    (it 64).main_v21_10 (ix4 n h c v) = (chunkS (it 0) n h).dv (back (chunksS (it 0) h) (63 - n.val)) c v := by
  rw [last_write (fun j => (it j).main_v21_10 (ix4 n h c v)) (fun j => (chunkS (it 0) (rev j) h).dv (back (chunksS (it 0) h) j) c v) n ?_]
  · rw [show rev (63 - n.val) = n from Fin.ext (by simp; omega)]
  · intro j hj
    rw [hs, step_main_v21_10]
    unfold b81
    rw [write_row _ _ j hj _ (fun a => by fin_cases a; exacts [start_of j hj _, rfl, rfl, rfl])]
    congr 1
    unfold b77
    pointwise
    rw [b66_at _ _ _ hj, chunkS_it it hs, dsS_it it hs h0 h j (by omega)]

theorem dw_it (n : Fin 64) (h : Fin 8) (c : Fin 64) (v : Fin 128) :
    (it 64).main_v21_11 (ix4 n h c v) = (chunkS (it 0) n h).dw (back (chunksS (it 0) h) (63 - n.val)) c v := by
  rw [last_write (fun j => (it j).main_v21_11 (ix4 n h c v)) (fun j => (chunkS (it 0) (rev j) h).dw (back (chunksS (it 0) h) j) c v) n ?_]
  · rw [show rev (63 - n.val) = n from Fin.ext (by simp; omega)]
  · intro j hj
    rw [hs, step_main_v21_11]
    unfold b86
    rw [write_row _ _ j hj _ (fun a => by fin_cases a; exacts [start_of j hj _, rfl, rfl, rfl])]
    congr 1
    unfold b82
    pointwise
    rw [b76_at _ _ _ hj, chunkS_it it hs, dsS_it it hs h0 h j (by omega)]

theorem dq_it (n : Fin 64) (h : Fin 8) (c : Fin 64) (v : Fin 128) :
    (it 64).main_v21_12 (ix4 n h c v) = (chunkS (it 0) n h).dq c v := by
  rw [last_write (fun j => (it j).main_v21_12 (ix4 n h c v)) (fun j => (chunkS (it 0) (rev j) h).dq c v) n ?_]
  · rw [show rev (63 - n.val) = n from Fin.ext (by simp; omega)]
  · intro j hj
    rw [hs, step_main_v21_12]
    unfold b91
    rw [write_row _ _ j hj _ (fun a => by fin_cases a; exacts [start_of j hj _, rfl, rfl, rfl])]
    congr 1
    unfold b87
    pointwise
    rw [b71_at _ _ _ hj, chunkS_it it hs]

theorem dk_it (n : Fin 64) (h : Fin 8) (c : Fin 64) (v : Fin 128) :
    (it 64).main_v21_13 (ix4 n h c v) = (chunkS (it 0) n h).dk (back (chunksS (it 0) h) (63 - n.val)) c v := by
  rw [last_write (fun j => (it j).main_v21_13 (ix4 n h c v)) (fun j => (chunkS (it 0) (rev j) h).dk (back (chunksS (it 0) h) j) c v) n ?_]
  · rw [show rev (63 - n.val) = n from Fin.ext (by simp; omega)]
  · intro j hj
    rw [hs, step_main_v21_13]
    unfold b96
    rw [write_row _ _ j hj _ (fun a => by fin_cases a; exacts [start_of j hj _, rfl, rfl, rfl])]
    congr 1
    unfold b92
    pointwise
    rw [b55_at _ _ _ hj, chunkS_it it hs, dsS_it it hs h0 h j (by omega)]

theorem dqk_it (n : Fin 64) (h : Fin 8) (c : Fin 64) (v : Fin 64) :
    (it 64).main_v21_14 (ix4 n h c v) = (chunkS (it 0) n h).dqk c v := by
  rw [last_write (fun j => (it j).main_v21_14 (ix4 n h c v)) (fun j => (chunkS (it 0) (rev j) h).dqk c v) n ?_]
  · rw [show rev (63 - n.val) = n from Fin.ext (by simp; omega)]
  · intro j hj
    rw [hs, step_main_v21_14]
    unfold b101
    rw [write_sq _ _ j hj _ (fun a => by fin_cases a; exacts [start_of j hj _, rfl, rfl, rfl])]
    congr 1
    unfold b97
    pointwise
    rw [b67_at _ _ _ hj, chunkS_it it hs]

theorem dd_it (n : Fin 64) (h : Fin 8) :
    (it 64).main_v21_15 (ix2 n h) = (chunkS (it 0) n h).dd (back (chunksS (it 0) h) (63 - n.val)) := by
  rw [last_write (fun j => (it j).main_v21_15 (ix2 n h)) (fun j => (chunkS (it 0) (rev j) h).dd (back (chunksS (it 0) h) j)) n ?_]
  · rw [show rev (63 - n.val) = n from Fin.ext (by simp; omega)]
  · intro j hj
    rw [hs, step_main_v21_15]
    unfold b104
    rw [write_dec _ _ j hj _ (fun a => by fin_cases a; exacts [start_of j hj _, rfl])]
    congr 1
    unfold b102
    pointwise
    rw [b63_at _ _ _ hj, chunkS_it it hs, dsS_it it hs h0 h j (by omega)]

end Cert.ReferenceIdeal.Step

end

end
-- ==== Proof.RefRun.lean ====
module

public import proofs.«01_k».proof.Proof.Loop
public import proofs.«01_k».proof.Proof.Gen.ReferenceIdeal.Run

/-! The reference's run: its results are those of the last state of the backward scan. -/

@[expose] public section

noncomputable section

namespace Cert.ReferenceIdeal.Step

open Idealize.ShloMosaic Idealize.ShloMosaic.TcCoe Idealize.SL.Sem Idealize.ShloMosaic.StableHlo
open Cert.ReferenceIdeal Cert.ReferenceIdeal.Gen Cert.ReferenceIdeal.Value

set_option maxRecDepth 65536

variable {F : FTy → Type} [FloatOps F]

/-- The loop's state, read off a valuation. -/
def stateOf (V : Valuation τ sig (Elt F)) : State F where
  main_v21_9 := V (Proc.devRef .tc main_v21_9)
  main_v21_10 := V (Proc.devRef .tc main_v21_10)
  main_v21_11 := V (Proc.devRef .tc main_v21_11)
  main_v21_12 := V (Proc.devRef .tc main_v21_12)
  main_v21_13 := V (Proc.devRef .tc main_v21_13)
  main_v21_14 := V (Proc.devRef .tc main_v21_14)
  main_v21_15 := V (Proc.devRef .tc main_v21_15)
  main_v21_0 := V (Proc.devRef .tc main_v21_0)
  main_v21_1 := V (Proc.devRef .tc main_v21_1)
  main_v21_2 := V (Proc.devRef .tc main_v21_2)
  main_v21_3 := V (Proc.devRef .tc main_v21_3)
  main_v21_4 := V (Proc.devRef .tc main_v21_4)
  main_v21_5 := V (Proc.devRef .tc main_v21_5)
  main_v21_6 := V (Proc.devRef .tc main_v21_6)
  main_v21_7 := V (Proc.devRef .tc main_v21_7)

section Trip

variable {V : Valuation τ sig (Elt F)} {j : ℕ} (hc : V (Proc.devRef .tc main_v21_8) = constantI S_ 32 (BitVec.ofNat 32 j))
include hc

theorem named_36 : res_main_while0b_v36 V = b3 j (stateOf V) := by
  unfold res_main_while0b_v36
  rw [hc]
  rfl

theorem named_37 : res_main_while0b_v37 V = b8 j (stateOf V) := by
  unfold res_main_while0b_v37
  rw [named_36 hc]
  rfl

theorem named_39 : res_main_while0b_v39 V = b18 j (stateOf V) := by
  unfold res_main_while0b_v39
  rw [named_36 hc]
  rfl

theorem named_40 : res_main_while0b_v40 V = b23 j (stateOf V) := by
  unfold res_main_while0b_v40
  rw [named_36 hc]
  rfl

theorem named_41 : res_main_while0b_v41 V = b28 j (stateOf V) := by
  unfold res_main_while0b_v41
  rw [named_36 hc]
  rfl

theorem named_42 : res_main_while0b_v42 V = b33 j (stateOf V) := by
  unfold res_main_while0b_v42
  rw [named_36 hc]
  rfl

theorem named_44 : res_main_while0b_v44 V = b41 j (stateOf V) := by
  unfold res_main_while0b_v44
  rw [named_36 hc]
  rfl

theorem named_46 : res_main_while0b_v46 V = b43 j (stateOf V) := by
  unfold res_main_while0b_v46
  rw [named_39 hc, named_37 hc, named_36 hc]
  rfl

theorem named_50 : res_main_while0b_v50 V = b47 j (stateOf V) := by
  unfold res_main_while0b_v50
  rw [named_36 hc]
  rfl

theorem named_67 : res_main_while0b_v67 V = b66 j (stateOf V) := by
  unfold res_main_while0b_v67
  rw [named_41 hc, named_44 hc, named_42 hc]
  rfl

theorem named_73 : res_main_while0b_v73 V = b72 j (stateOf V) := by
  unfold res_main_while0b_v73
  rw [named_67 hc]
  rfl

theorem trip_9 : STEP V (Proc.devRef .tc main_v21_9) = (step j (stateOf V)).main_v21_9 := by
  rw [STEP_main_v21_9, step_main_v21_9, Value.step_main_v21_9]
  rw [named_50 hc, named_44 hc, named_40 hc, named_73 hc, named_39 hc]
  rfl

theorem trip_10 : STEP V (Proc.devRef .tc main_v21_10) = (step j (stateOf V)).main_v21_10 := by
  rw [STEP_main_v21_10, step_main_v21_10, Value.step_main_v21_10]
  rw [named_67 hc, named_36 hc]
  rfl

theorem trip_11 : STEP V (Proc.devRef .tc main_v21_11) = (step j (stateOf V)).main_v21_11 := by
  rw [STEP_main_v21_11, step_main_v21_11, Value.step_main_v21_11]
  rw [named_73 hc, named_37 hc, named_36 hc]
  rfl

theorem trip_12 : STEP V (Proc.devRef .tc main_v21_12) = (step j (stateOf V)).main_v21_12 := by
  rw [STEP_main_v21_12, step_main_v21_12, Value.step_main_v21_12]
  rw [named_44 hc, named_37 hc, named_36 hc]
  rfl

theorem trip_13 : STEP V (Proc.devRef .tc main_v21_13) = (step j (stateOf V)).main_v21_13 := by
  rw [STEP_main_v21_13, step_main_v21_13, Value.step_main_v21_13]
  rw [named_46 hc, named_36 hc]
  rfl

theorem trip_14 : STEP V (Proc.devRef .tc main_v21_14) = (step j (stateOf V)).main_v21_14 := by
  rw [STEP_main_v21_14, step_main_v21_14, Value.step_main_v21_14]
  rw [named_44 hc, named_46 hc, named_36 hc]
  rfl

theorem trip_15 : STEP V (Proc.devRef .tc main_v21_15) = (step j (stateOf V)).main_v21_15 := by
  rw [STEP_main_v21_15, step_main_v21_15, Value.step_main_v21_15]
  rw [named_37 hc, named_36 hc]
  rfl

theorem trip_number : STEP V (Proc.devRef .tc main_v21_8) = constantI S_ 32 (BitVec.ofNat 32 (j + 1)) := by
  rw [STEP_main_v21_8]
  unfold Value.step_main_v21_8
  rw [hc]
  funext i
  show BitVec.ofNat 32 j + 1#32 = BitVec.ofNat 32 (j + 1)
  simp only [BitVec.ofNat_add]

theorem stateOf_trip : stateOf (STEP V) = step j (stateOf V) := by
  unfold stateOf
  rw [trip_9 hc, trip_10 hc, trip_11 hc, trip_12 hc, trip_13 hc, trip_14 hc, trip_15 hc, STEP_main_v21_0, STEP_main_v21_1, STEP_main_v21_2, STEP_main_v21_3, STEP_main_v21_4, STEP_main_v21_5, STEP_main_v21_6, STEP_main_v21_7]
  rfl

end Trip

variable (m : (ℓ : Loc nD τ sig) → Buf (Elt F) ℓ) (c : Dev nD)

/-- The valuation before trip `k`. -/
def valAt (k : ℕ) : Valuation τ sig (Elt F) := STEP^[k] (entryContents preI m c)

/-- The state before trip `k`. -/
def stateAt (k : ℕ) : State F := stateOf (valAt m c k)

theorem valAt_number (k : ℕ) : valAt m c k (Proc.devRef .tc main_v21_8) = constantI S_ 32 (BitVec.ofNat 32 k) := by
  induction k with
  | zero => exact ctr_entry m c
  | succ k ih =>
    unfold valAt
    rw [Function.iterate_succ_apply']
    exact trip_number ih

theorem stateAt_succ (k : ℕ) : stateAt m c (k + 1) = step k (stateAt m c k) := by
  unfold stateAt
  rw [← stateOf_trip (valAt_number m c k)]
  unfold valAt
  rw [Function.iterate_succ_apply']

theorem stateAt_zero : stateAt m c 0 = init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold stateAt valAt stateOf init
  congr 1 <;> (simp only [Function.iterate_zero, id_eq, entryContents, afterL_cons, afterL_nil]; after_reads_simp) <;> rfl

end Cert.ReferenceIdeal.Step

end

end
-- ==== Proof.RefValue.lean ====
module

public import proofs.«01_k».proof.Proof.RefRun

/-! The reference's results at an index: the gradient of the recurrence, of the arguments. -/

@[expose] public section

noncomputable section

namespace Cert.ReferenceIdeal.Step

open Idealize.ShloMosaic Idealize.ShloMosaic.TcCoe Idealize.SL.Sem Idealize.ShloMosaic.StableHlo
open Cert.ReferenceIdeal Cert.ReferenceIdeal.Gen Cert.ReferenceIdeal.Value Cert.Gdn

set_option maxRecDepth 16384

variable (m : (ℓ : Loc nD τ sig) → Buf (Elt Ideal) ℓ) (c : Dev nD)

/-- The reference's arguments. -/
def args : Args where
  U r l := m ((c.tc : Thread nD τ).loc main_arg0) (ix2 r l)
  W r l := m ((c.tc : Thread nD τ).loc main_arg1) (ix2 r l)
  Q r l := m ((c.tc : Thread nD τ).loc main_arg2) (ix2 r l)
  K r l := m ((c.tc : Thread nD τ).loc main_arg3) (ix2 r l)
  QK h n c' s := m ((c.tc : Thread nD τ).loc main_arg4) (ix4 h n c' s)
  D h n := m ((c.tc : Thread nD τ).loc main_arg5) (ix2 h n)
  St n k v := m ((c.tc : Thread nD τ).loc main_arg6) (ix3 n k v)
  CT r l := m ((c.tc : Thread nD τ).loc main_arg7) (ix2 r l)

theorem chunkS_zero (n : Fin 64) (h : Fin 8) : chunkS (stateAt m c 0) n h = (args m c).chunk n h := by
  rw [stateAt_zero]
  unfold chunkS args Args.chunk init
  congr 1
  · funext a b; unfold A_main_v1 A_main_v0; pointwise
  · funext a b; unfold A_main_v3 A_main_v2; pointwise
  · funext a b; unfold A_main_v5 A_main_v4; pointwise
  · funext a b; unfold A_main_v7 A_main_v6; pointwise
  · funext a b; unfold A_main_v14 A_main_v13; pointwise
  · funext a b; unfold A_main_v8; pointwise
  · unfold A_main_v9; pointwise
  · funext a b; unfold A_main_v11 A_main_v10; pointwise

theorem chunksS_zero (h : Fin 8) : chunksS (stateAt m c 0) h = (args m c).chunks h := by
  unfold chunksS Args.chunks
  funext n
  exact chunkS_zero m c _ h

theorem cot_zero (i : S8x128x128.Idx) : (stateAt m c 0).main_v21_9 i = (0 : EReal) := by
  rw [stateAt_zero]
  unfold init K_main_v12 K_main_cst
  pointwise

theorem result_du (r : Fin 4096) (l : Fin 1024) : R_main_v28 (stateAt m c 64) (ix2 r l) = (args m c).du r l := by
  unfold R_main_v28
  pointwise
  rw [du_it (stateAt m c) (stateAt_succ m c) (cot_zero m c), chunkS_zero, chunksS_zero]
  rfl

theorem result_dw (r : Fin 4096) (l : Fin 1024) : R_main_v30 (stateAt m c 64) (ix2 r l) = (args m c).dw r l := by
  unfold R_main_v30
  pointwise
  rw [dw_it (stateAt m c) (stateAt_succ m c) (cot_zero m c), chunkS_zero, chunksS_zero]
  rfl

theorem result_dq (r : Fin 4096) (l : Fin 1024) : R_main_v32 (stateAt m c 64) (ix2 r l) = (args m c).dq r l := by
  unfold R_main_v32
  pointwise
  rw [dq_it (stateAt m c) (stateAt_succ m c) (cot_zero m c), chunkS_zero]
  rfl

theorem result_dk (r : Fin 4096) (l : Fin 1024) : R_main_v34 (stateAt m c 64) (ix2 r l) = (args m c).dk r l := by
  unfold R_main_v34
  pointwise
  rw [dk_it (stateAt m c) (stateAt_succ m c) (cot_zero m c), chunkS_zero, chunksS_zero]
  rfl

theorem result_dqk (r : Fin 4096) (l : Fin 1024) : R_main_v24 (stateAt m c 64) (ix2 r l) = (args m c).dqk r l := by
  unfold R_main_v24
  pointwise
  unfold Args.dqk
  by_cases e : l.val % 128 < 64
  · refine (dif_pos (⟨by omega, by omega, by omega, e⟩ : _ ∧ _ ∧ _ ∧ _)).trans ?_
    refine Eq.trans ?_ (dif_pos e).symm
    have key := dqk_it (stateAt m c) (stateAt_succ m c) (cot_zero m c) (Args.rowChunk r) (Args.colHead l) (Args.rowTok r) ⟨l.val % 128, e⟩
    rw [chunkS_zero m c] at key
    exact key
  · refine (dif_neg (fun h => e h.2.2.2)).trans ?_
    refine Eq.trans ?_ (dif_neg e).symm
    show ((((0#32 : BitVec 32).toInt : ℝ)) : EReal) = 0
    simp

theorem result_dd (r : Fin 512) (l : Fin 128) : R_main_v26 (stateAt m c 64) (ix2 r l) = (args m c).dd r l := by
  unfold R_main_v26
  pointwise
  rw [dd_it (stateAt m c) (stateAt_succ m c) (cot_zero m c), chunkS_zero, chunksS_zero]
  rfl

end Cert.ReferenceIdeal.Step

end

end
-- ==== Proof.RefResults.lean ====
module

public import proofs.«01_k».proof.Proof.RefValue

/-! The reference's results, read from its run. -/

@[expose] public section

noncomputable section

namespace Cert.ReferenceIdeal.Step

open Idealize.ShloMosaic Idealize.ShloMosaic.TcCoe Idealize.SL.Sem Idealize.ShloMosaic.StableHlo
open Cert.ReferenceIdeal Cert.ReferenceIdeal.Gen Cert.ReferenceIdeal.Value Cert.Gdn

set_option maxRecDepth 16384

variable (m : (ℓ : Loc nD τ sig) → Buf (Elt Ideal) ℓ) (c : Dev nD)

theorem last_du (V : Valuation τ sig (Elt Ideal)) : out_main_v28 V = R_main_v28 (stateOf V) := rfl

/-- The reference's result of du. -/
def res_du : S4096x1024.Idx → EReal := fun i => (args m c).du (i 0) (i 1)

theorem out_du (V : Valuation τ sig (Elt Ideal)) (hV : V = valAt m c 64) : out_main_v28 V = res_du m c := by
  rw [last_du]
  have e : stateOf V = stateAt m c 64 := congrArg stateOf hV
  rw [e]
  funext i
  obtain ⟨r, l, rfl⟩ : ∃ r l, i = ix2 r l := ⟨i 0, i 1, (ix2_eta i).symm⟩
  exact result_du m c r l

theorem last_dw (V : Valuation τ sig (Elt Ideal)) : out_main_v30 V = R_main_v30 (stateOf V) := rfl

/-- The reference's result of dw. -/
def res_dw : S4096x1024.Idx → EReal := fun i => (args m c).dw (i 0) (i 1)

theorem out_dw (V : Valuation τ sig (Elt Ideal)) (hV : V = valAt m c 64) : out_main_v30 V = res_dw m c := by
  rw [last_dw]
  have e : stateOf V = stateAt m c 64 := congrArg stateOf hV
  rw [e]
  funext i
  obtain ⟨r, l, rfl⟩ : ∃ r l, i = ix2 r l := ⟨i 0, i 1, (ix2_eta i).symm⟩
  exact result_dw m c r l

theorem last_dq (V : Valuation τ sig (Elt Ideal)) : out_main_v32 V = R_main_v32 (stateOf V) := rfl

/-- The reference's result of dq. -/
def res_dq : S4096x1024.Idx → EReal := fun i => (args m c).dq (i 0) (i 1)

theorem out_dq (V : Valuation τ sig (Elt Ideal)) (hV : V = valAt m c 64) : out_main_v32 V = res_dq m c := by
  rw [last_dq]
  have e : stateOf V = stateAt m c 64 := congrArg stateOf hV
  rw [e]
  funext i
  obtain ⟨r, l, rfl⟩ : ∃ r l, i = ix2 r l := ⟨i 0, i 1, (ix2_eta i).symm⟩
  exact result_dq m c r l

theorem last_dk (V : Valuation τ sig (Elt Ideal)) : out_main_v34 V = R_main_v34 (stateOf V) := rfl

/-- The reference's result of dk. -/
def res_dk : S4096x1024.Idx → EReal := fun i => (args m c).dk (i 0) (i 1)

theorem out_dk (V : Valuation τ sig (Elt Ideal)) (hV : V = valAt m c 64) : out_main_v34 V = res_dk m c := by
  rw [last_dk]
  have e : stateOf V = stateAt m c 64 := congrArg stateOf hV
  rw [e]
  funext i
  obtain ⟨r, l, rfl⟩ : ∃ r l, i = ix2 r l := ⟨i 0, i 1, (ix2_eta i).symm⟩
  exact result_dk m c r l

theorem last_dqk (V : Valuation τ sig (Elt Ideal)) : out_main_v24 V = R_main_v24 (stateOf V) := rfl

/-- The reference's result of dqk. -/
def res_dqk : S4096x1024.Idx → EReal := fun i => (args m c).dqk (i 0) (i 1)

theorem out_dqk (V : Valuation τ sig (Elt Ideal)) (hV : V = valAt m c 64) : out_main_v24 V = res_dqk m c := by
  rw [last_dqk]
  have e : stateOf V = stateAt m c 64 := congrArg stateOf hV
  rw [e]
  funext i
  obtain ⟨r, l, rfl⟩ : ∃ r l, i = ix2 r l := ⟨i 0, i 1, (ix2_eta i).symm⟩
  exact result_dqk m c r l

theorem last_dd (V : Valuation τ sig (Elt Ideal)) : out_main_v26 V = R_main_v26 (stateOf V) := rfl

/-- The reference's result of dd. -/
def res_dd : S512x128.Idx → EReal := fun i => (args m c).dd (i 0) (i 1)

theorem out_dd (V : Valuation τ sig (Elt Ideal)) (hV : V = valAt m c 64) : out_main_v26 V = res_dd m c := by
  rw [last_dd]
  have e : stateOf V = stateAt m c 64 := congrArg stateOf hV
  rw [e]
  funext i
  obtain ⟨r, l, rfl⟩ : ∃ r l, i = ix2 r l := ⟨i 0, i 1, (ix2_eta i).symm⟩
  exact result_dd m c r l

end Cert.ReferenceIdeal.Step

end

end
-- ==== Proof.Matrix.lean ====
module

public import Idealize.ShloMosaic.Lib.Pointwise

/-! Products of matrices of extended reals, as plain sums. -/

@[expose] public section

noncomputable section

namespace Cert

/-- A matrix of extended reals. -/
abbrev Mat (a b : ℕ) := Fin a → Fin b → EReal

namespace Mat

/-- The product of a transposed matrix with a matrix. -/
def tn {t a b : ℕ} (x : Mat t a) (y : Mat t b) : Mat a b := fun k n => ∑ r, x r k * y r n

/-- The product of two matrices. -/
def nn {a b k : ℕ} (x : Mat a k) (y : Mat k b) : Mat a b := fun r l => ∑ q, x r q * y q l

/-- The mixer's columns in the kernel's order: the sixteen columns from 4096 on are put last, and zeros after them. -/
def columns {a : ℕ} (w : Mat a 8208) : Mat a 8320 := fun r l =>
  if h : l.val < 4096 then w r ⟨l.val, by omega⟩
  else if h : l.val < 8192 then w r ⟨l.val + 16, by omega⟩
  else if h : l.val < 8208 then w r ⟨l.val - 4096, by omega⟩
  else 0

/-- A sum over 5632 columns as four sums over 1408. -/
theorem sum_four (f : Fin 5632 → EReal) :
    ∑ q, f q = (∑ n : Fin 1408, f ⟨n.val, by omega⟩) + (∑ n : Fin 1408, f ⟨1408 + n.val, by omega⟩)
      + (∑ n : Fin 1408, f ⟨2816 + n.val, by omega⟩) + ∑ n : Fin 1408, f ⟨4224 + n.val, by omega⟩ := by
  rw [← (finProdFinEquiv (m := 4) (n := 1408)).sum_comp f, Fintype.sum_prod_type, Fin.sum_univ_four]
  refine congrArg₂ (· + ·) (congrArg₂ (· + ·) (congrArg₂ (· + ·) ?_ ?_) ?_) ?_
  all_goals
    refine Finset.sum_congr rfl fun n _ => congrArg f (Fin.ext ?_)
    simp [finProdFinEquiv]
    try omega

/-- A sum over a range as two, over its first `a` and its last `b`. -/
theorem sum_part {n : ℕ} (f : Fin n → EReal) (o a b : ℕ) (h : o + (a + b) ≤ n) :
    ∑ q : Fin (a + b), f ⟨o + q.val, by omega⟩ = (∑ q : Fin a, f ⟨o + q.val, by omega⟩) + ∑ q : Fin b, f ⟨o + a + q.val, by omega⟩ := by
  rw [Fin.sum_univ_add]
  refine congrArg₂ (· + ·) (Finset.sum_congr rfl fun q _ => rfl) (Finset.sum_congr rfl fun q _ => congrArg f (Fin.ext ?_))
  show o + (a + q.val) = o + a + q.val
  omega

/-- The product of two numbers that are zero outside a range. -/
theorem pad_mul {p : Prop} [Decidable p] (a b : p → EReal) :
    (if h : p then a h else 0) * (if h : p then b h else 0) = if h : p then a h * b h else 0 := by
  by_cases h : p
  · rw [dif_pos h, dif_pos h, dif_pos h]
  · rw [dif_neg h, dif_neg h, dif_neg h, mul_zero]

/-- A sum over the mixer's columns as seven sums: the sixteen columns from 4096 on come last, with zeros after them. -/
theorem sum_mixer (f : Fin 8208 → EReal) :
    ∑ q, f q = (∑ q : Fin 3072, f ⟨0 + q.val, by omega⟩) + (∑ q : Fin 1024, f ⟨3072 + q.val, by omega⟩)
      + (∑ q : Fin 1024, f ⟨4112 + q.val, by omega⟩) + (∑ q : Fin 1024, f ⟨5136 + q.val, by omega⟩)
      + (∑ q : Fin 1024, f ⟨6160 + q.val, by omega⟩) + (∑ q : Fin 1024, f ⟨7184 + q.val, by omega⟩)
      + ∑ q : Fin 128, if h : q.val < 16 then f ⟨4096 + q.val, by omega⟩ else 0 := by
  have e : ∑ q, f q = ∑ q : Fin 8208, f ⟨0 + q.val, by omega⟩ :=
    Finset.sum_congr rfl fun q _ => congrArg f (Fin.ext (by show q.val = 0 + q.val; omega))
  have e0 : ∑ q : Fin 8208, f ⟨0 + q.val, by omega⟩ = (∑ q : Fin 3072, f ⟨0 + q.val, by omega⟩) + ∑ q : Fin 5136, f ⟨3072 + q.val, by omega⟩ :=
    sum_part f 0 3072 5136 (by omega)
  have e1 : ∑ q : Fin 5136, f ⟨3072 + q.val, by omega⟩ = (∑ q : Fin 1024, f ⟨3072 + q.val, by omega⟩) + ∑ q : Fin 4112, f ⟨4096 + q.val, by omega⟩ :=
    sum_part f 3072 1024 4112 (by omega)
  have e2 : ∑ q : Fin 4112, f ⟨4096 + q.val, by omega⟩ = (∑ q : Fin 16, f ⟨4096 + q.val, by omega⟩) + ∑ q : Fin 4096, f ⟨4112 + q.val, by omega⟩ :=
    sum_part f 4096 16 4096 (by omega)
  have e3 : ∑ q : Fin 4096, f ⟨4112 + q.val, by omega⟩ = (∑ q : Fin 1024, f ⟨4112 + q.val, by omega⟩) + ∑ q : Fin 3072, f ⟨5136 + q.val, by omega⟩ :=
    sum_part f 4112 1024 3072 (by omega)
  have e4 : ∑ q : Fin 3072, f ⟨5136 + q.val, by omega⟩ = (∑ q : Fin 1024, f ⟨5136 + q.val, by omega⟩) + ∑ q : Fin 2048, f ⟨6160 + q.val, by omega⟩ :=
    sum_part f 5136 1024 2048 (by omega)
  have e5 : ∑ q : Fin 2048, f ⟨6160 + q.val, by omega⟩ = (∑ q : Fin 1024, f ⟨6160 + q.val, by omega⟩) + ∑ q : Fin 1024, f ⟨7184 + q.val, by omega⟩ :=
    sum_part f 6160 1024 1024 (by omega)
  let g : Fin 128 → EReal := fun q => if h : q.val < 16 then f ⟨4096 + q.val, by omega⟩ else 0
  have g0 : ∑ q, g q = ∑ q : Fin 16, f ⟨4096 + q.val, by omega⟩ := by
    have ez : ∑ q, g q = ∑ q : Fin 128, g ⟨0 + q.val, by omega⟩ :=
      Finset.sum_congr rfl fun q _ => congrArg g (Fin.ext (by show q.val = 0 + q.val; omega))
    have ea : ∑ q : Fin 128, g ⟨0 + q.val, by omega⟩ = (∑ q : Fin 16, g ⟨0 + q.val, by omega⟩) + ∑ q : Fin 112, g ⟨16 + q.val, by omega⟩ :=
      sum_part g 0 16 112 (by omega)
    have eb : ∑ q : Fin 112, g ⟨16 + q.val, by omega⟩ = 0 :=
      Finset.sum_eq_zero fun q _ => dif_neg (by show ¬ 16 + q.val < 16; omega)
    rw [ez, ea, eb, add_zero]
    refine Finset.sum_congr rfl fun q _ => (dif_pos (show 0 + q.val < 16 by omega)).trans (congrArg f (Fin.ext ?_))
    show 4096 + (0 + q.val) = 4096 + q.val
    omega
  show _ = _ + ∑ q, g q
  rw [g0, e, e0, e1, e2, e3, e4, e5]
  ac_rfl

/-- The product of a matrix with a transposed matrix. -/
def nt {a b k : ℕ} (x : Mat a k) (y : Mat b k) : Mat a b := fun r l => ∑ q, x r q * y l q

end Mat

end Cert
-- ==== Proof.FfnInW.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel2.Frame
public import proofs.«01_k».proof.Proof.Gen.Kernel2Ideal.Value
public import proofs.«01_k».proof.Proof.Gen.Reference2Ideal.Run

/-! The gradient of the feed-forward layer's first matrix, in four blocks of columns: the product of the transposed input with the output's cotangent. -/

@[expose] public section

set_option maxRecDepth 16384

noncomputable section

open Idealize.ShloMosaic Idealize.ShloMosaic.TcCoe Idealize.SL.Sem Idealize.ShloMosaic.StableHlo

namespace Cert.Kernel2Ideal.Product

open Cert.Kernel2Ideal Cert.Kernel2Ideal.Gen Cert.Kernel2Ideal.Value

variable (m : (ℓ : Loc nD τ sig) → Buf (Elt Ideal) ℓ) (c : Dev nD)

/-- Argument 0 as a matrix. -/
def H : Mat 4096 1024 := fun r l => m ((c.tc : Thread nD τ).loc main_arg0) (ix2 r l)

/-- Argument 1 as a matrix. -/
def D : Mat 4096 5632 := fun r l => m ((c.tc : Thread nD τ).loc main_arg1) (ix2 r l)

theorem lt_N (t : Fin cfg0.N) : t.val < 8 := by
  have h : cfg0.N = 8 := N_0
  have := t.isLt
  omega

theorem V_H (r : Fin 4096) (l : Fin 1024) : V m c main_v0 (ix2 r l) = H m c r l := by
  unfold V
  after_reads_at
  rfl

theorem V_D (r : Fin 4096) (l : Fin 5632) : V m c main_v1 (ix2 r l) = D m c r l := by
  unfold V
  after_reads_at
  rfl

theorem index0 : ∀ t : Fin grid0.N, win0_0.index t 0 = 0 ∧ win0_0.index t 1 = t.val / 4 := by decide +kernel
theorem index1 : ∀ t : Fin grid0.N, win0_1.index t 0 = 0 ∧ win0_1.index t 1 = t.val % 4 := by decide +kernel
theorem index2 : ∀ t : Fin grid0.N, win0_2.index t 0 = t.val % 4 ∧ win0_2.index t 1 = t.val / 4 ∧ win0_2.index t 2 = 0 := by decide +kernel
theorem sizes2 : ∀ t : Fin grid0.N, win0_2.xsize (grid0.coords t) 0 = 1 ∧ win0_2.xsize (grid0.coords t) 1 = 512 ∧ win0_2.xsize (grid0.coords t) 2 = 1408 := by decide +kernel

theorem iblk0 (t : Fin cfg0.N) (r : Fin 4096) (l : Fin 512) : (iblk m c 0 t : Vec Ideal S4096x512 .bf16) (ix2 r l) = V m c main_v0 (ix2 r ⟨(t.val / 4) * 512 + l.val, by have := lt_N t; omega⟩) := by
  unfold iblk
  rw [View.read_apply]
  refine congrArg (V m c main_v0) (funext fun a => Fin.ext ?_)
  match a with
  | ⟨0, _⟩ => show win0_0.index t 0 * 4096 + 1 * r.val = r.val; rw [(index0 t).1]; omega
  | ⟨1, _⟩ => show win0_0.index t 1 * 512 + 1 * l.val = (t.val / 4) * 512 + l.val; rw [(index0 t).2]; omega

theorem iblk1 (t : Fin cfg0.N) (r : Fin 4096) (l : Fin 1408) : (iblk m c 1 t : Vec Ideal S4096x1408 .bf16) (ix2 r l) = V m c main_v1 (ix2 r ⟨(t.val % 4) * 1408 + l.val, by have := lt_N t; omega⟩) := by
  unfold iblk
  rw [View.read_apply]
  refine congrArg (V m c main_v1) (funext fun a => Fin.ext ?_)
  match a with
  | ⟨0, _⟩ => show win0_1.index t 0 * 4096 + 1 * r.val = r.val; rw [(index1 t).1]; omega
  | ⟨1, _⟩ => show win0_1.index t 1 * 1408 + 1 * l.val = (t.val % 4) * 1408 + l.val; rw [(index1 t).2]; omega

theorem pay_at (x : Vec Ideal S4096x512 .bf16) (y : Vec Ideal S4096x1408 .bf16) (r : Fin 1) (l : Fin 512) (q : Fin 1408) :
    k0_pay1 x y (ix3 r l q) = ∑ k : Fin 4096, x (ix2 k l) * y (ix2 k q) := by
  unfold k0_pay1
  pointwise

theorem out_at (x : Vec Ideal S4096x512 .bf16) (y : Vec Ideal S4096x1408 .bf16) (r : Fin 1) (l : Fin 512) (q : Fin 1408) :
    out0_2 x y (ix3 r l q) = ∑ k : Fin 4096, x (ix2 k l) * y (ix2 k q) := by
  unfold out0_2
  rw [View.canon_unit_zero (by funext a; fin_cases a <;> rfl), View.ld_unit_zero (by funext a; fin_cases a <;> rfl),
    View.ld_unit_zero (by funext a; fin_cases a <;> rfl), pay_at]

/-- The product's entry in block `b` of columns. -/
def entry (b : Fin 4) (k : Fin 1024) (n : Fin 1408) : EReal := Mat.tn (H m c) (D m c) k ⟨b.val * 1408 + n.val, by omega⟩

/-- The product that the call computes. -/
def res : Buf (Elt Ideal) ((c : Thread nD τ).loc main_v2) := fun i : S4x1024x1408.Idx => entry m c (i 0) (i 1) (i 2)

theorem left (t : Fin cfg0.N) (r : Fin 1) (l : Fin 512) (q : Fin 1408) :
    out0_2 (iblk m c 0 t) (iblk m c 1 t) (ix3 r l q) = entry m c ⟨t.val % 4, by omega⟩ ⟨t.val / 4 * 512 + l.val, by have := lt_N t; omega⟩ q := by
  rw [out_at]
  unfold entry Mat.tn
  refine Finset.sum_congr rfl fun k _ => ?_
  rw [iblk0, iblk1, V_H, V_D]

theorem flushed_eq (t : Fin cfg0.N) : (dats m 0 c).flushed 2 t = ((cfg0.win 2).blk t).view.read (Elt Ideal) (res m c) := by
  rw [flushed2]
  funext j
  obtain ⟨r, l, q, rfl⟩ : ∃ (r : Fin 1) (l : Fin 512) (q : Fin 1408), j = (ix3 r l q : S1x512x1408.Idx) := ⟨j 0, j 1, j 2, (ix3_eta (j : S1x512x1408.Idx)).symm⟩
  rw [View.read_apply]
  refine (left m c t r l q).trans ?_
  have e0 : (⟨t.val % 4, by omega⟩ : Fin 4) = (((cfg0.win 2).blk t).view.emb (ix3 r l q : S1x512x1408.Idx)) 0 := Fin.ext (by
    show t.val % 4 = win0_2.index t 0 * 1 + 1 * r.val; rw [(index2 t).1]; omega)
  have e1 : (⟨t.val / 4 * 512 + l.val, by have := lt_N t; omega⟩ : Fin 1024) = (((cfg0.win 2).blk t).view.emb (ix3 r l q : S1x512x1408.Idx)) 1 := Fin.ext (by
    show t.val / 4 * 512 + l.val = win0_2.index t 1 * 512 + 1 * l.val; rw [(index2 t).2.1]; omega)
  have e2 : q = (((cfg0.win 2).blk t).view.emb (ix3 r l q : S1x512x1408.Idx)) 2 := Fin.ext (by
    show q.val = win0_2.index t 2 * 1408 + 1 * q.val; rw [(index2 t).2.2]; omega)
  exact congr (congrArg₂ (entry m c) e0 e1) e2

/-- The point that writes an index. -/
abbrev pointOf (i : S4x1024x1408.Idx) : Fin cfg0.N := ⟨(i 1 : Nat) / 512 * 4 + (i 0 : Nat), by
  have h : cfg0.N = 8 := N_0
  have h0 : (i 0 : Nat) < 4 := (i 0).isLt
  have h1 : (i 1 : Nat) < 1024 := (i 1).isLt
  have h2 : (i 2 : Nat) < 1408 := (i 2).isLt
  omega⟩

theorem final : (dats m 0 c).arrAt 2 cfg0.N = res m c :=
  (dats m 0 c).arrAt_eq_of_cover 2 (res m c) (fun t _ => flushed_eq m c t) fun i : S4x1024x1408.Idx =>
    ⟨pointOf i, flush0_2 _, by
      show i ∈ ((View.whole main_v2).slice (win0_2.rect (pointOf i))).set
      rw [View.set_slice_whole, Rect.mem_set_unit]
      intro a
      have h0 : (i 0 : Nat) < 4 := (i 0).isLt
      have h1 : (i 1 : Nat) < 1024 := (i 1).isLt
      have h2 : (i 2 : Nat) < 1408 := (i 2).isLt
      match a with
      | ⟨0, _⟩ =>
        show win0_2.index (pointOf i) 0 * 1 ≤ (i 0 : Nat) ∧ (i 0 : Nat) < win0_2.index (pointOf i) 0 * 1 + win0_2.xsize (grid0.coords (pointOf i)) 0
        rw [(index2 _).1, (sizes2 _).1]
        show ((i 1 : Nat) / 512 * 4 + (i 0 : Nat)) % 4 * 1 ≤ (i 0 : Nat) ∧ (i 0 : Nat) < ((i 1 : Nat) / 512 * 4 + (i 0 : Nat)) % 4 * 1 + 1
        omega
      | ⟨1, _⟩ =>
        show win0_2.index (pointOf i) 1 * 512 ≤ (i 1 : Nat) ∧ (i 1 : Nat) < win0_2.index (pointOf i) 1 * 512 + win0_2.xsize (grid0.coords (pointOf i)) 1
        rw [(index2 _).2.1, (sizes2 _).2.1]
        show ((i 1 : Nat) / 512 * 4 + (i 0 : Nat)) / 4 * 512 ≤ (i 1 : Nat) ∧ (i 1 : Nat) < ((i 1 : Nat) / 512 * 4 + (i 0 : Nat)) / 4 * 512 + 512
        omega
      | ⟨2, _⟩ =>
        show win0_2.index (pointOf i) 2 * 1408 ≤ (i 2 : Nat) ∧ (i 2 : Nat) < win0_2.index (pointOf i) 2 * 1408 + win0_2.xsize (grid0.coords (pointOf i)) 2
        rw [(index2 _).2.2, (sizes2 _).2.2]
        omega⟩

end Cert.Kernel2Ideal.Product

namespace Cert.Reference2Ideal.Product

open Cert.Reference2Ideal Cert.Reference2Ideal.Gen

/-- The reference's product at an index. -/
theorem value (x : FVec Ideal S4096x1024 .f32) (y : FVec Ideal S4096x5632 .f32) (i : S4x1024x1408.Idx) :
    truncf (F := Ideal) .bf16 (transpose S4x1024x1408 [1, 0, 2] (shapeCast S1024x4x1408 (transpose S1024x5632 [1, 0] (Host.dotGeneral dot_S4096x5632_S4096x1024_S5632x1024_0_0_1_1_n_n none y x) transposes_S5632x1024_S1024x5632_1_0) shapeCasts_S1024x5632_S1024x4x1408) transposes_S1024x4x1408_S4x1024x1408_1_0_2) bitsLt_bf16_f32 i
      = Mat.tn (fun r l => x (ix2 r l)) (fun r l => y (ix2 r l)) (i 1) ⟨(i 0 : Nat) * 1408 + (i 2 : Nat), by
        have h0 : (i 0 : Nat) < 4 := (i 0).isLt
        have h2 : (i 2 : Nat) < 1408 := (i 2).isLt
        omega⟩ := by
  obtain ⟨b, r, l, rfl⟩ : ∃ (b : Fin 4) (r : Fin 1024) (l : Fin 1408), i = (ix3 b r l : S4x1024x1408.Idx) := ⟨i 0, i 1, i 2, (ix3_eta (i : S4x1024x1408.Idx)).symm⟩
  pointwise
  exact Finset.sum_congr rfl fun q _ => mul_comm _ _

end Cert.Reference2Ideal.Product

namespace Cert.Proof

theorem frame_reference2 : Cert.quiescent_Reference2Ideal := fun m ρ _ =>
  (θ_run Reference2Ideal.defs _ _).mono
    (fun r h => ⟨fun c => (h c).2, sem_eq_zero_of_no_sems (by decide) r.2⟩)
    (Reference2Ideal.Value.run (F := Ideal) m ρ)

theorem algebraic2 : Cert.algebraic_Kernel2Ideal_Reference2Ideal := by
  intro m ρ m' ρ' _ hagree
  refine ⟨fun c => Kernel2Ideal.Product.res m c, ?_, ?_⟩
  · exact (θ_run _ _ _).mono (fun r h c => ⟨(h c).1.trans (Kernel2Ideal.Product.final m c), (h c).2⟩) (Kernel2Ideal.Value.run_blocks (F := Ideal) m ρ)
  · refine (θ_run _ _ _).mono (fun r h c => ⟨(h c).1.trans ?_, (h c).2⟩) (Reference2Ideal.Value.run (F := Ideal) m' ρ')
    rw [(hagree c).1, (hagree c).2]
    exact funext fun i => Reference2Ideal.Product.value _ _ i

end Cert.Proof

end
-- ==== Proof.FfnInX.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel3.Frame
public import proofs.«01_k».proof.Proof.Gen.Kernel3Ideal.Value
public import proofs.«01_k».proof.Proof.Gen.Reference3Ideal.Run

/-! The cotangent of the feed-forward layer's input: the product of the hidden cotangent with the transposed first matrix, in four blocks of columns. -/

@[expose] public section

set_option maxRecDepth 16384

noncomputable section

open Idealize.ShloMosaic Idealize.ShloMosaic.TcCoe Idealize.SL.Sem Idealize.ShloMosaic.StableHlo

namespace Cert.Kernel3Ideal.Product

open Cert.Kernel3Ideal Cert.Kernel3Ideal.Gen Cert.Kernel3Ideal.Value

variable (m : (ℓ : Loc nD τ sig) → Buf (Elt Ideal) ℓ) (c : Dev nD)

/-- Argument 0 as a matrix. -/
def D : Mat 4096 5632 := fun r l => m ((c.tc : Thread nD τ).loc main_arg0) (ix2 r l)

/-- Argument 1 as a matrix. -/
def B : Mat 1024 5632 := fun r l => m ((c.tc : Thread nD τ).loc main_arg1) (ix2 r l)

theorem lt_N (t : Fin cfg0.N) : t.val < 16 := by
  have h : cfg0.N = 16 := N_0
  have := t.isLt
  omega

theorem V_D (r : Fin 4096) (l : Fin 5632) : V m c main_v3 (ix2 r l) = D m c r l := by
  unfold V
  after_reads_at
  rfl

theorem V_B (b : Fin 4) (r : Fin 1024) (l : Fin 1408) : V m c main_v2 (ix3 b r l) = B m c r ⟨b.val * 1408 + l.val, by omega⟩ := by
  unfold V
  after_reads_at
  refine congrArg (m ((c.tc : Thread nD τ).loc main_arg1)) (funext fun a => Fin.ext ?_)
  fin_cases a <;> simp

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 ∧ win0_1.index t 2 = 0 := by decide +kernel
theorem index2 : ∀ t : Fin grid0.N, win0_2.index t 0 = t.val / 4 ∧ win0_2.index t 1 = t.val % 4 := by decide +kernel
theorem sizes2 : ∀ t : Fin grid0.N, win0_2.xsize (grid0.coords t) 0 = 1024 ∧ win0_2.xsize (grid0.coords t) 1 = 256 := by decide +kernel

theorem iblk0 (t : Fin cfg0.N) (r : Fin 1024) (l : Fin 5632) : (iblk m c 0 t : Vec Ideal S1024x5632 .bf16) (ix2 r l) = V m c main_v3 (ix2 ⟨(t.val / 4) * 1024 + r.val, by have := lt_N t; omega⟩ l) := by
  unfold iblk
  rw [View.read_apply]
  refine congrArg (V m c main_v3) (funext fun a => Fin.ext ?_)
  match a with
  | ⟨0, _⟩ => show win0_0.index t 0 * 1024 + 1 * r.val = (t.val / 4) * 1024 + r.val; rw [(index0 t).1]; omega
  | ⟨1, _⟩ => show win0_0.index t 1 * 5632 + 1 * l.val = l.val; rw [(index0 t).2]; omega

theorem iblk1 (t : Fin cfg0.N) (r : Fin 4) (l : Fin 256) (q : Fin 1408) : (iblk m c 1 t : Vec Ideal S4x256x1408 .bf16) (ix3 r l q) = V m c main_v2 (ix3 r ⟨(t.val % 4) * 256 + l.val, by have := lt_N t; omega⟩ q) := by
  unfold iblk
  rw [View.read_apply]
  refine congrArg (V m c main_v2) (funext fun a => Fin.ext ?_)
  match a with
  | ⟨0, _⟩ => show win0_1.index t 0 * 4 + 1 * r.val = r.val; rw [(index1 t).1]; omega
  | ⟨1, _⟩ => show win0_1.index t 1 * 256 + 1 * l.val = (t.val % 4) * 256 + l.val; rw [(index1 t).2.1]; omega
  | ⟨2, _⟩ => show win0_1.index t 2 * 1408 + 1 * q.val = q.val; rw [(index1 t).2.2]; omega

/-- One of the four products that a grid point adds. -/
theorem part_at (x : Vec Ideal S1024x1408 .bf16) (y : Vec Ideal S1x256x1408 .bf16) (r : Fin 1024) (l : Fin 256) :
    matmul (F := Ideal) dot_S1024x1408_S256x1408_S1024x256_1_1_0_0_n_n none (shapeCast S1024x1408 x shapeCasts_S1024x1408_S1024x1408 : FVec Ideal S1024x1408 .bf16)
        (shapeCast S256x1408 y shapeCasts_S1x256x1408_S256x1408 : FVec Ideal S256x1408 .bf16) (constant S1024x256 .f32 0x00000000#32) (ix2 r l)
      = ∑ k : Fin 1408, x (ix2 r k) * y (ix3 0 l k) := by
  pointwise

theorem pay_at (x0 : Vec Ideal S1024x1408 .bf16) (y0 : Vec Ideal S1x256x1408 .bf16) (x1 : Vec Ideal S1024x1408 .bf16) (y1 : Vec Ideal S1x256x1408 .bf16)
    (x2 : Vec Ideal S1024x1408 .bf16) (y2 : Vec Ideal S1x256x1408 .bf16) (x3 : Vec Ideal S1024x1408 .bf16) (y3 : Vec Ideal S1x256x1408 .bf16) (r : Fin 1024) (l : Fin 256) :
    k0_pay1 x0 y0 x1 y1 x2 y2 x3 y3 (ix2 r l) = (∑ k : Fin 1408, x0 (ix2 r k) * y0 (ix3 0 l k)) + (∑ k : Fin 1408, x1 (ix2 r k) * y1 (ix3 0 l k))
      + (∑ k : Fin 1408, x2 (ix2 r k) * y2 (ix3 0 l k)) + ∑ k : Fin 1408, x3 (ix2 r k) * y3 (ix3 0 l k) :=
  congrArg₂ (· + ·) (congrArg₂ (· + ·) (congrArg₂ (· + ·) (part_at x0 y0 r l) (part_at x1 y1 r l)) (part_at x2 y2 r l)) (part_at x3 y3 r l)

theorem out_at (x : Vec Ideal S1024x5632 .bf16) (y : Vec Ideal S4x256x1408 .bf16) (r : Fin 1024) (l : Fin 256) :
    out0_2 x y (ix2 r l) = (∑ k : Fin 1408, x (ix2 r ⟨k.val, by omega⟩) * y (ix3 0 l k)) + (∑ k : Fin 1408, x (ix2 r ⟨1408 + k.val, by omega⟩) * y (ix3 1 l k))
      + (∑ k : Fin 1408, x (ix2 r ⟨2816 + k.val, by omega⟩) * y (ix3 2 l k)) + ∑ k : Fin 1408, x (ix2 r ⟨4224 + k.val, by omega⟩) * y (ix3 3 l k) := by
  unfold out0_2
  rw [View.canon_unit_zero (by funext a; fin_cases a <;> rfl), pay_at]
  refine congrArg₂ (· + ·) (congrArg₂ (· + ·) (congrArg₂ (· + ·) ?_ ?_) ?_) ?_
  all_goals
    refine Finset.sum_congr rfl fun k _ => congrArg₂ (· * ·) (congrArg x (funext fun a => Fin.ext ?_)) (congrArg y (funext fun a => Fin.ext ?_))
    · fin_cases a <;> simp [ix2]
    · fin_cases a <;> simp [ix3]

/-- The product that the call computes. -/
def res : Buf (Elt Ideal) ((c : Thread nD τ).loc main_v4) := fun i : S4096x1024.Idx => Mat.nt (D m c) (B m c) (i 0) (i 1)

theorem left (t : Fin cfg0.N) (r : Fin 1024) (l : Fin 256) :
    out0_2 (iblk m c 0 t) (iblk m c 1 t) (ix2 r l) = Mat.nt (D m c) (B m c) ⟨t.val / 4 * 1024 + r.val, by have := lt_N t; omega⟩ ⟨t.val % 4 * 256 + l.val, by have := lt_N t; omega⟩ := by
  rw [out_at]
  unfold Mat.nt
  rw [Mat.sum_four]
  refine congrArg₂ (· + ·) (congrArg₂ (· + ·) (congrArg₂ (· + ·) ?_ ?_) ?_) ?_
  all_goals
    refine Finset.sum_congr rfl fun k _ => ?_
    rw [iblk0, iblk1, V_D, V_B]
    refine congrArg₂ (· * ·) rfl (congrArg (B m c _) (Fin.ext ?_))
    simp

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 256), j = (ix2 r l : S1024x256.Idx) := ⟨j 0, j 1, (ix2_eta (j : S1024x256.Idx)).symm⟩
  rw [View.read_apply]
  refine (left m c t r l).trans ?_
  refine congrArg₂ (Mat.nt (D m c) (B m c)) (Fin.ext ?_) (Fin.ext ?_)
  · show (t.val / 4) * 1024 + r.val = win0_2.index t 0 * 1024 + 1 * r.val; rw [(index2 t).1]; omega
  · show (t.val % 4) * 256 + l.val = win0_2.index t 1 * 256 + 1 * l.val; rw [(index2 t).2]; omega

/-- The point that writes an index. -/
abbrev pointOf (i : S4096x1024.Idx) : Fin cfg0.N := ⟨(i 0 : Nat) / 1024 * 4 + (i 1 : Nat) / 256, by
  have h : cfg0.N = 16 := N_0
  have h0 : (i 0 : Nat) < 4096 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S4096x1024.Idx =>
    ⟨pointOf i, flush0_2 _, by
      show i ∈ ((View.whole main_v4).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024 * 4 + (i 1 : Nat) / 256) / 4 * 1024 ≤ (i 0 : Nat) ∧ (i 0 : Nat) < ((i 0 : Nat) / 1024 * 4 + (i 1 : Nat) / 256) / 4 * 1024 + 1024
        omega
      | ⟨1, _⟩ =>
        show win0_2.index (pointOf i) 1 * 256 ≤ (i 1 : Nat) ∧ (i 1 : Nat) < win0_2.index (pointOf i) 1 * 256 + win0_2.xsize (grid0.coords (pointOf i)) 1
        rw [(index2 _).2, (sizes2 _).2]
        show ((i 0 : Nat) / 1024 * 4 + (i 1 : Nat) / 256) % 4 * 256 ≤ (i 1 : Nat) ∧ (i 1 : Nat) < ((i 0 : Nat) / 1024 * 4 + (i 1 : Nat) / 256) % 4 * 256 + 256
        omega⟩

end Cert.Kernel3Ideal.Product

namespace Cert.Reference3Ideal.Product

open Cert.Reference3Ideal Cert.Reference3Ideal.Gen

/-- The reference's product at an index. -/
theorem value (x : FVec Ideal S4096x5632 .f32) (y : FVec Ideal S1024x5632 .f32) (i : S4096x1024.Idx) :
    Host.dotGeneral (F := Ideal) dot_S4096x5632_S1024x5632_S4096x1024_1_1_0_0_n_n none x y i
      = Mat.nt (fun r l => x (ix2 r l)) (fun r l => y (ix2 r l)) (i 0) (i 1) := by
  obtain ⟨r, l, rfl⟩ : ∃ (r : Fin 4096) (l : Fin 1024), i = (ix2 r l : S4096x1024.Idx) := ⟨i 0, i 1, (ix2_eta (i : S4096x1024.Idx)).symm⟩
  pointwise
  rfl

end Cert.Reference3Ideal.Product

namespace Cert.Proof

theorem frame_reference3 : Cert.quiescent_Reference3Ideal := fun m ρ _ =>
  (θ_run Reference3Ideal.defs _ _).mono
    (fun r h => ⟨fun c => (h c).2, sem_eq_zero_of_no_sems (by decide) r.2⟩)
    (Reference3Ideal.Value.run (F := Ideal) m ρ)

theorem algebraic3 : Cert.algebraic_Kernel3Ideal_Reference3Ideal := by
  intro m ρ m' ρ' _ hagree
  refine ⟨fun c => Kernel3Ideal.Product.res m c, ?_, ?_⟩
  · exact (θ_run _ _ _).mono (fun r h c => ⟨(h c).1.trans (Kernel3Ideal.Product.final m c), (h c).2⟩) (Kernel3Ideal.Value.run_blocks (F := Ideal) m ρ)
  · refine (θ_run _ _ _).mono (fun r h c => ⟨(h c).1.trans ?_, (h c).2⟩) (Reference3Ideal.Value.run (F := Ideal) m' ρ')
    rw [(hagree c).1, (hagree c).2]
    exact funext fun i => Reference3Ideal.Product.value _ _ i

end Cert.Proof

end
-- ==== Proof.FfnOutW.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel4.Frame
public import proofs.«01_k».proof.Proof.Gen.Kernel4Ideal.Value
public import proofs.«01_k».proof.Proof.Gen.Reference4Ideal.Run

/-! The gradient of the feed-forward layer's second matrix: the product of the transposed activations with the output's cotangent. -/

@[expose] public section

set_option maxRecDepth 16384

noncomputable section

open Idealize.ShloMosaic Idealize.ShloMosaic.TcCoe Idealize.SL.Sem Idealize.ShloMosaic.StableHlo

namespace Cert.Kernel4Ideal.Product

open Cert.Kernel4Ideal Cert.Kernel4Ideal.Gen Cert.Kernel4Ideal.Value

variable (m : (ℓ : Loc nD τ sig) → Buf (Elt Ideal) ℓ) (c : Dev nD)

/-- Argument 0 as a matrix. -/
def A : Mat 4096 2816 := fun r l => m ((c.tc : Thread nD τ).loc main_arg0) (ix2 r l)

/-- Argument 1 as a matrix. -/
def D : Mat 4096 1024 := fun r l => m ((c.tc : Thread nD τ).loc main_arg1) (ix2 r l)

theorem lt_N (t : Fin cfg0.N) : t.val < 11 := by
  have h : cfg0.N = 11 := N_0
  have := t.isLt
  omega

theorem V_A (r : Fin 4096) (l : Fin 2816) : V m c main_v0 (ix2 r l) = A m c r l := by
  unfold V
  after_reads_at
  rfl

theorem V_D (r : Fin 4096) (l : Fin 1024) : V m c main_v1 (ix2 r l) = D m c r l := by
  unfold V
  after_reads_at
  rfl

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem sizes2 : ∀ t : Fin grid0.N, win0_2.xsize (grid0.coords t) 0 = 256 ∧ win0_2.xsize (grid0.coords t) 1 = 1024 := by decide +kernel

theorem iblk0 (t : Fin cfg0.N) (r : Fin 4096) (l : Fin 256) : (iblk m c 0 t : Vec Ideal S4096x256 .bf16) (ix2 r l) = V m c main_v0 (ix2 r ⟨(t.val) * 256 + l.val, by have := lt_N t; omega⟩) := by
  unfold iblk
  rw [View.read_apply]
  refine congrArg (V m c main_v0) (funext fun a => Fin.ext ?_)
  match a with
  | ⟨0, _⟩ => show win0_0.index t 0 * 4096 + 1 * r.val = r.val; rw [(index0 t).1]; omega
  | ⟨1, _⟩ => show win0_0.index t 1 * 256 + 1 * l.val = (t.val) * 256 + l.val; rw [(index0 t).2]; omega

theorem iblk1 (t : Fin cfg0.N) (r : Fin 4096) (l : Fin 1024) : (iblk m c 1 t : Vec Ideal S4096x1024 .bf16) (ix2 r l) = V m c main_v1 (ix2 r l) := by
  unfold iblk
  rw [View.read_apply]
  refine congrArg (V m c main_v1) (funext fun a => Fin.ext ?_)
  match a with
  | ⟨0, _⟩ => show win0_1.index t 0 * 4096 + 1 * r.val = r.val; rw [(index1 t).1]; omega
  | ⟨1, _⟩ => show win0_1.index t 1 * 1024 + 1 * l.val = l.val; rw [(index1 t).2]; omega

theorem pay_at (x : Vec Ideal S4096x256 .bf16) (y : Vec Ideal S4096x1024 .bf16) (r : Fin 256) (l : Fin 1024) :
    k0_pay1 x y (ix2 r l) = ∑ q : Fin 4096, x (ix2 q r) * y (ix2 q l) := by
  unfold k0_pay1
  pointwise

theorem out_at (x : Vec Ideal S4096x256 .bf16) (y : Vec Ideal S4096x1024 .bf16) (r : Fin 256) (l : Fin 1024) :
    out0_2 x y (ix2 r l) = ∑ q : Fin 4096, x (ix2 q r) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S2816x1024.Idx => Mat.tn (A m c) (D m c) (i 0) (i 1)

theorem left (t : Fin cfg0.N) (r : Fin 256) (l : Fin 1024) :
    out0_2 (iblk m c 0 t) (iblk m c 1 t) (ix2 r l) = Mat.tn (A m c) (D m c) ⟨t.val * 256 + r.val, by have := lt_N t; omega⟩ l := by
  rw [out_at]
  refine Finset.sum_congr rfl fun q _ => ?_
  rw [iblk0, iblk1, V_A, V_D]

theorem flushed_eq (t : Fin cfg0.N) : (dats m 0 c).flushed 2 t = ((cfg0.win 2).blk t).view.read (Elt Ideal) (res m c) := by
  rw [flushed2]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left m c t r l).trans ?_
  refine congrArg₂ (Mat.tn (A m c) (D m c)) (Fin.ext ?_) (Fin.ext ?_)
  · show (t.val) * 256 + r.val = win0_2.index t 0 * 256 + 1 * r.val; rw [(index2 t).1]; omega
  · show l.val = win0_2.index t 1 * 1024 + 1 * l.val; rw [(index2 t).2]; omega

/-- The point that writes an index. -/
abbrev pointOf (i : S2816x1024.Idx) : Fin cfg0.N := ⟨(i 0 : Nat) / 256, by
  have h : cfg0.N = 11 := N_0
  have h0 : (i 0 : Nat) < 2816 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S2816x1024.Idx =>
    ⟨pointOf i, flush0_2 _, by
      show i ∈ ((View.whole main_v2).slice (win0_2.rect (pointOf i))).set
      rw [View.set_slice_whole, Rect.mem_set_unit]
      intro a
      have h0 : (i 0 : Nat) < 2816 := (i 0).isLt
      have h1 : (i 1 : Nat) < 1024 := (i 1).isLt
      match a with
      | ⟨0, _⟩ =>
        show win0_2.index (pointOf i) 0 * 256 ≤ (i 0 : Nat) ∧ (i 0 : Nat) < win0_2.index (pointOf i) 0 * 256 + win0_2.xsize (grid0.coords (pointOf i)) 0
        rw [(index2 _).1, (sizes2 _).1]
        show ((i 0 : Nat) / 256) * 256 ≤ (i 0 : Nat) ∧ (i 0 : Nat) < ((i 0 : Nat) / 256) * 256 + 256
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel4Ideal.Product

namespace Cert.Reference4Ideal.Product

open Cert.Reference4Ideal Cert.Reference4Ideal.Gen

/-- The reference's product at an index. -/
theorem value (x : FVec Ideal S4096x2816 .f32) (y : FVec Ideal S4096x1024 .f32) (i : S2816x1024.Idx) :
    truncf (F := Ideal) .bf16 (transpose S2816x1024 [1, 0] (Host.dotGeneral dot_S4096x1024_S4096x2816_S1024x2816_0_0_1_1_n_n none y x) transposes_S1024x2816_S2816x1024_1_0) bitsLt_bf16_f32 i
      = Mat.tn (fun r l => x (ix2 r l)) (fun r l => y (ix2 r l)) (i 0) (i 1) := by
  obtain ⟨r, l, rfl⟩ : ∃ (r : Fin 2816) (l : Fin 1024), i = (ix2 r l : S2816x1024.Idx) := ⟨i 0, i 1, (ix2_eta (i : S2816x1024.Idx)).symm⟩
  pointwise
  exact Finset.sum_congr rfl fun q _ => mul_comm _ _

end Cert.Reference4Ideal.Product

namespace Cert.Proof

theorem frame_reference4 : Cert.quiescent_Reference4Ideal := fun m ρ _ =>
  (θ_run Reference4Ideal.defs _ _).mono
    (fun r h => ⟨fun c => (h c).2, sem_eq_zero_of_no_sems (by decide) r.2⟩)
    (Reference4Ideal.Value.run (F := Ideal) m ρ)

theorem algebraic4 : Cert.algebraic_Kernel4Ideal_Reference4Ideal := by
  intro m ρ m' ρ' _ hagree
  refine ⟨fun c => Kernel4Ideal.Product.res m c, ?_, ?_⟩
  · exact (θ_run _ _ _).mono (fun r h c => ⟨(h c).1.trans (Kernel4Ideal.Product.final m c), (h c).2⟩) (Kernel4Ideal.Value.run_blocks (F := Ideal) m ρ)
  · refine (θ_run _ _ _).mono (fun r h c => ⟨(h c).1.trans ?_, (h c).2⟩) (Reference4Ideal.Value.run (F := Ideal) m' ρ')
    rw [(hagree c).1, (hagree c).2]
    exact funext fun i => Reference4Ideal.Product.value _ _ i

end Cert.Proof

end
-- ==== Proof.FfnOutX.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel5.Frame
public import proofs.«01_k».proof.Proof.Gen.Kernel5Ideal.Value
public import proofs.«01_k».proof.Proof.Gen.Reference5Ideal.Run

/-! The cotangent of the feed-forward layer's activations: the product of the output's cotangent with the transposed second matrix. -/

@[expose] public section

set_option maxRecDepth 16384

noncomputable section

open Idealize.ShloMosaic Idealize.ShloMosaic.TcCoe Idealize.SL.Sem Idealize.ShloMosaic.StableHlo

namespace Cert.Kernel5Ideal.Product

open Cert.Kernel5Ideal Cert.Kernel5Ideal.Gen Cert.Kernel5Ideal.Value

variable (m : (ℓ : Loc nD τ sig) → Buf (Elt Ideal) ℓ) (c : Dev nD)

/-- Argument 0 as a matrix. -/
def D : Mat 4096 1024 := fun r l => m ((c.tc : Thread nD τ).loc main_arg0) (ix2 r l)

/-- Argument 1 as a matrix. -/
def B : Mat 2816 1024 := fun r l => m ((c.tc : Thread nD τ).loc main_arg1) (ix2 r l)

theorem lt_N (t : Fin cfg0.N) : t.val < 44 := by
  have h : cfg0.N = 44 := N_0
  have := t.isLt
  omega

theorem V_D (r : Fin 4096) (l : Fin 1024) : V m c main_v0 (ix2 r l) = D m c r l := by
  unfold V
  after_reads_at
  rfl

theorem V_B (r : Fin 2816) (l : Fin 1024) : V m c main_v1 (ix2 r l) = B m c r l := by
  unfold V
  after_reads_at
  rfl

theorem index0 : ∀ t : Fin grid0.N, win0_0.index t 0 = t.val / 11 ∧ win0_0.index t 1 = 0 := by decide +kernel
theorem index1 : ∀ t : Fin grid0.N, win0_1.index t 0 = t.val % 11 ∧ win0_1.index t 1 = 0 := by decide +kernel
theorem index2 : ∀ t : Fin grid0.N, win0_2.index t 0 = t.val / 11 ∧ win0_2.index t 1 = t.val % 11 := by decide +kernel
theorem sizes2 : ∀ t : Fin grid0.N, win0_2.xsize (grid0.coords t) 0 = 1024 ∧ win0_2.xsize (grid0.coords t) 1 = 256 := by decide +kernel

theorem iblk0 (t : Fin cfg0.N) (r : Fin 1024) (l : Fin 1024) : (iblk m c 0 t : Vec Ideal S1024x1024 .bf16) (ix2 r l) = V m c main_v0 (ix2 ⟨(t.val / 11) * 1024 + r.val, by have := lt_N t; omega⟩ l) := by
  unfold iblk
  rw [View.read_apply]
  refine congrArg (V m c main_v0) (funext fun a => Fin.ext ?_)
  match a with
  | ⟨0, _⟩ => show win0_0.index t 0 * 1024 + 1 * r.val = (t.val / 11) * 1024 + r.val; rw [(index0 t).1]; omega
  | ⟨1, _⟩ => show win0_0.index t 1 * 1024 + 1 * l.val = l.val; rw [(index0 t).2]; omega

theorem iblk1 (t : Fin cfg0.N) (r : Fin 256) (l : Fin 1024) : (iblk m c 1 t : Vec Ideal S256x1024 .bf16) (ix2 r l) = V m c main_v1 (ix2 ⟨(t.val % 11) * 256 + r.val, by have := lt_N t; omega⟩ l) := by
  unfold iblk
  rw [View.read_apply]
  refine congrArg (V m c main_v1) (funext fun a => Fin.ext ?_)
  match a with
  | ⟨0, _⟩ => show win0_1.index t 0 * 256 + 1 * r.val = (t.val % 11) * 256 + r.val; rw [(index1 t).1]; omega
  | ⟨1, _⟩ => show win0_1.index t 1 * 1024 + 1 * l.val = l.val; rw [(index1 t).2]; omega

theorem pay_at (x : Vec Ideal S1024x1024 .bf16) (y : Vec Ideal S256x1024 .bf16) (r : Fin 1024) (l : Fin 256) :
    k0_pay1 x y (ix2 r l) = ∑ q : Fin 1024, x (ix2 r q) * y (ix2 l q) := by
  unfold k0_pay1
  pointwise

theorem out_at (x : Vec Ideal S1024x1024 .bf16) (y : Vec Ideal S256x1024 .bf16) (r : Fin 1024) (l : Fin 256) :
    out0_2 x y (ix2 r l) = ∑ q : Fin 1024, x (ix2 r q) * y (ix2 l q) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S4096x2816.Idx => Mat.nt (D m c) (B m c) (i 0) (i 1)

theorem left (t : Fin cfg0.N) (r : Fin 1024) (l : Fin 256) :
    out0_2 (iblk m c 0 t) (iblk m c 1 t) (ix2 r l) = Mat.nt (D m c) (B m c) ⟨t.val / 11 * 1024 + r.val, by have := lt_N t; omega⟩ ⟨t.val % 11 * 256 + l.val, by have := lt_N t; omega⟩ := by
  rw [out_at]
  refine Finset.sum_congr rfl fun q _ => ?_
  rw [iblk0, iblk1, V_D, V_B]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 256), j = (ix2 r l : S1024x256.Idx) := ⟨j 0, j 1, (ix2_eta (j : S1024x256.Idx)).symm⟩
  rw [View.read_apply]
  refine (left m c t r l).trans ?_
  refine congrArg₂ (Mat.nt (D m c) (B m c)) (Fin.ext ?_) (Fin.ext ?_)
  · show (t.val / 11) * 1024 + r.val = win0_2.index t 0 * 1024 + 1 * r.val; rw [(index2 t).1]; omega
  · show (t.val % 11) * 256 + l.val = win0_2.index t 1 * 256 + 1 * l.val; rw [(index2 t).2]; omega

/-- The point that writes an index. -/
abbrev pointOf (i : S4096x2816.Idx) : Fin cfg0.N := ⟨(i 0 : Nat) / 1024 * 11 + (i 1 : Nat) / 256, by
  have h : cfg0.N = 44 := N_0
  have h0 : (i 0 : Nat) < 4096 := (i 0).isLt
  have h1 : (i 1 : Nat) < 2816 := (i 1).isLt
  omega⟩

theorem final : (dats m 0 c).arrAt 2 cfg0.N = res m c :=
  (dats m 0 c).arrAt_eq_of_cover 2 (res m c) (fun t _ => flushed_eq m c t) fun i : S4096x2816.Idx =>
    ⟨pointOf i, flush0_2 _, by
      show i ∈ ((View.whole main_v2).slice (win0_2.rect (pointOf i))).set
      rw [View.set_slice_whole, Rect.mem_set_unit]
      intro a
      have h0 : (i 0 : Nat) < 4096 := (i 0).isLt
      have h1 : (i 1 : Nat) < 2816 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024 * 11 + (i 1 : Nat) / 256) / 11 * 1024 ≤ (i 0 : Nat) ∧ (i 0 : Nat) < ((i 0 : Nat) / 1024 * 11 + (i 1 : Nat) / 256) / 11 * 1024 + 1024
        omega
      | ⟨1, _⟩ =>
        show win0_2.index (pointOf i) 1 * 256 ≤ (i 1 : Nat) ∧ (i 1 : Nat) < win0_2.index (pointOf i) 1 * 256 + win0_2.xsize (grid0.coords (pointOf i)) 1
        rw [(index2 _).2, (sizes2 _).2]
        show ((i 0 : Nat) / 1024 * 11 + (i 1 : Nat) / 256) % 11 * 256 ≤ (i 1 : Nat) ∧ (i 1 : Nat) < ((i 0 : Nat) / 1024 * 11 + (i 1 : Nat) / 256) % 11 * 256 + 256
        omega⟩

end Cert.Kernel5Ideal.Product

namespace Cert.Reference5Ideal.Product

open Cert.Reference5Ideal Cert.Reference5Ideal.Gen

/-- The reference's product at an index. -/
theorem value (x : FVec Ideal S4096x1024 .f32) (y : FVec Ideal S2816x1024 .f32) (i : S4096x2816.Idx) :
    truncf (F := Ideal) .bf16 (Host.dotGeneral dot_S4096x1024_S2816x1024_S4096x2816_1_1_0_0_n_n none x y) bitsLt_bf16_f32 i
      = Mat.nt (fun r l => x (ix2 r l)) (fun r l => y (ix2 r l)) (i 0) (i 1) := by
  obtain ⟨r, l, rfl⟩ : ∃ (r : Fin 4096) (l : Fin 2816), i = (ix2 r l : S4096x2816.Idx) := ⟨i 0, i 1, (ix2_eta (i : S4096x2816.Idx)).symm⟩
  pointwise
  rfl

end Cert.Reference5Ideal.Product

namespace Cert.Proof

theorem frame_reference5 : Cert.quiescent_Reference5Ideal := fun m ρ _ =>
  (θ_run Reference5Ideal.defs _ _).mono
    (fun r h => ⟨fun c => (h c).2, sem_eq_zero_of_no_sems (by decide) r.2⟩)
    (Reference5Ideal.Value.run (F := Ideal) m ρ)

theorem algebraic5 : Cert.algebraic_Kernel5Ideal_Reference5Ideal := by
  intro m ρ m' ρ' _ hagree
  refine ⟨fun c => Kernel5Ideal.Product.res m c, ?_, ?_⟩
  · exact (θ_run _ _ _).mono (fun r h c => ⟨(h c).1.trans (Kernel5Ideal.Product.final m c), (h c).2⟩) (Kernel5Ideal.Value.run_blocks (F := Ideal) m ρ)
  · refine (θ_run _ _ _).mono (fun r h c => ⟨(h c).1.trans ?_, (h c).2⟩) (Reference5Ideal.Value.run (F := Ideal) m' ρ')
    rw [(hagree c).1, (hagree c).2]
    exact funext fun i => Reference5Ideal.Product.value _ _ i

end Cert.Proof

end
-- ==== Proof.MixOutW.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel6.Frame
public import proofs.«01_k».proof.Proof.Gen.Kernel6Ideal.Value
public import proofs.«01_k».proof.Proof.Gen.Reference6Ideal.Run

/-! The gradient of a square projection of the mixer: the product of the transposed input with the output's cotangent. -/

@[expose] public section

set_option maxRecDepth 16384

noncomputable section

open Idealize.ShloMosaic Idealize.ShloMosaic.TcCoe Idealize.SL.Sem Idealize.ShloMosaic.StableHlo

namespace Cert.Kernel6Ideal.Product

open Cert.Kernel6Ideal Cert.Kernel6Ideal.Gen Cert.Kernel6Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def D : Mat 4096 1024 := fun r l => m ((c.tc : Thread nD τ).loc main_arg1) (ix2 r l)

theorem lt_N (t : Fin cfg0.N) : t.val < 1 := by
  have h : cfg0.N = 1 := N_0
  have := t.isLt
  omega

theorem V_A (r : Fin 4096) (l : Fin 1024) : V m c main_v0 (ix2 r l) = A m c r l := by
  unfold V
  after_reads_at
  rfl

theorem V_D (r : Fin 4096) (l : Fin 1024) : V m c main_v1 (ix2 r l) = D m c r l := by
  unfold V
  after_reads_at
  rfl

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem sizes2 : ∀ t : Fin grid0.N, win0_2.xsize (grid0.coords t) 0 = 1024 ∧ win0_2.xsize (grid0.coords t) 1 = 1024 := by decide +kernel

theorem iblk0 (t : Fin cfg0.N) (r : Fin 4096) (l : Fin 1024) : (iblk m c 0 t : Vec Ideal S4096x1024 .bf16) (ix2 r l) = V m c main_v0 (ix2 r l) := by
  unfold iblk
  rw [View.read_apply]
  refine congrArg (V m c main_v0) (funext fun a => Fin.ext ?_)
  match a with
  | ⟨0, _⟩ => show win0_0.index t 0 * 4096 + 1 * r.val = r.val; rw [(index0 t).1]; omega
  | ⟨1, _⟩ => show win0_0.index t 1 * 1024 + 1 * l.val = l.val; rw [(index0 t).2]; omega

theorem iblk1 (t : Fin cfg0.N) (r : Fin 4096) (l : Fin 1024) : (iblk m c 1 t : Vec Ideal S4096x1024 .bf16) (ix2 r l) = V m c main_v1 (ix2 r l) := by
  unfold iblk
  rw [View.read_apply]
  refine congrArg (V m c main_v1) (funext fun a => Fin.ext ?_)
  match a with
  | ⟨0, _⟩ => show win0_1.index t 0 * 4096 + 1 * r.val = r.val; rw [(index1 t).1]; omega
  | ⟨1, _⟩ => show win0_1.index t 1 * 1024 + 1 * l.val = l.val; rw [(index1 t).2]; omega

theorem pay_at (x : Vec Ideal S4096x1024 .bf16) (y : Vec Ideal S4096x1024 .bf16) (r : Fin 1024) (l : Fin 1024) :
    k0_pay1 x y (ix2 r l) = ∑ q : Fin 4096, x (ix2 q r) * y (ix2 q l) := by
  unfold k0_pay1
  pointwise

theorem out_at (x : Vec Ideal S4096x1024 .bf16) (y : Vec Ideal S4096x1024 .bf16) (r : Fin 1024) (l : Fin 1024) :
    out0_2 x y (ix2 r l) = ∑ q : Fin 4096, x (ix2 q r) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S1024x1024.Idx => Mat.tn (A m c) (D m c) (i 0) (i 1)

theorem left (t : Fin cfg0.N) (r : Fin 1024) (l : Fin 1024) :
    out0_2 (iblk m c 0 t) (iblk m c 1 t) (ix2 r l) = Mat.tn (A m c) (D m c) r l := by
  rw [out_at]
  refine Finset.sum_congr rfl fun q _ => ?_
  rw [iblk0, iblk1, V_A, V_D]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1024), j = (ix2 r l : S1024x1024.Idx) := ⟨j 0, j 1, (ix2_eta (j : S1024x1024.Idx)).symm⟩
  rw [View.read_apply]
  refine (left m c t r l).trans ?_
  refine congrArg₂ (Mat.tn (A m c) (D m c)) (Fin.ext ?_) (Fin.ext ?_)
  · show r.val = win0_2.index t 0 * 1024 + 1 * r.val; rw [(index2 t).1]; omega
  · show l.val = win0_2.index t 1 * 1024 + 1 * l.val; rw [(index2 t).2]; omega

/-- The point that writes an index. -/
abbrev pointOf (i : S1024x1024.Idx) : Fin cfg0.N := ⟨0, by
  have h : cfg0.N = 1 := N_0
  have h0 : (i 0 : Nat) < 1024 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S1024x1024.Idx =>
    ⟨pointOf i, flush0_2 _, by
      show i ∈ ((View.whole main_v2).slice (win0_2.rect (pointOf i))).set
      rw [View.set_slice_whole, Rect.mem_set_unit]
      intro a
      have h0 : (i 0 : Nat) < 1024 := (i 0).isLt
      have h1 : (i 1 : Nat) < 1024 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel6Ideal.Product

namespace Cert.Reference6Ideal.Product

open Cert.Reference6Ideal Cert.Reference6Ideal.Gen

/-- The reference's product at an index. -/
theorem value (x : FVec Ideal S4096x1024 .f32) (y : FVec Ideal S4096x1024 .f32) (i : S1024x1024.Idx) :
    truncf (F := Ideal) .bf16 (transpose S1024x1024 [1, 0] (Host.dotGeneral dot_S4096x1024_S4096x1024_S1024x1024_0_0_1_1_n_n none y x) transposes_S1024x1024_S1024x1024_1_0) bitsLt_bf16_f32 i
      = Mat.tn (fun r l => x (ix2 r l)) (fun r l => y (ix2 r l)) (i 0) (i 1) := by
  obtain ⟨r, l, rfl⟩ : ∃ (r : Fin 1024) (l : Fin 1024), i = (ix2 r l : S1024x1024.Idx) := ⟨i 0, i 1, (ix2_eta (i : S1024x1024.Idx)).symm⟩
  pointwise
  exact Finset.sum_congr rfl fun q _ => mul_comm _ _

end Cert.Reference6Ideal.Product

namespace Cert.Proof

theorem frame_reference6 : Cert.quiescent_Reference6Ideal := fun m ρ _ =>
  (θ_run Reference6Ideal.defs _ _).mono
    (fun r h => ⟨fun c => (h c).2, sem_eq_zero_of_no_sems (by decide) r.2⟩)
    (Reference6Ideal.Value.run (F := Ideal) m ρ)

theorem algebraic6 : Cert.algebraic_Kernel6Ideal_Reference6Ideal := by
  intro m ρ m' ρ' _ hagree
  refine ⟨fun c => Kernel6Ideal.Product.res m c, ?_, ?_⟩
  · exact (θ_run _ _ _).mono (fun r h c => ⟨(h c).1.trans (Kernel6Ideal.Product.final m c), (h c).2⟩) (Kernel6Ideal.Value.run_blocks (F := Ideal) m ρ)
  · refine (θ_run _ _ _).mono (fun r h c => ⟨(h c).1.trans ?_, (h c).2⟩) (Reference6Ideal.Value.run (F := Ideal) m' ρ')
    rw [(hagree c).1, (hagree c).2]
    exact funext fun i => Reference6Ideal.Product.value _ _ i

end Cert.Proof

end
-- ==== Proof.MixInW.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel7.Frame
public import proofs.«01_k».proof.Proof.Gen.Kernel7Ideal.Value
public import proofs.«01_k».proof.Proof.Gen.Reference7Ideal.Run

/-! The gradient of the queries', keys' and values' columns of the mixer's first matrix: the product of the transposed input with their cotangent. -/

@[expose] public section

set_option maxRecDepth 16384

noncomputable section

open Idealize.ShloMosaic Idealize.ShloMosaic.TcCoe Idealize.SL.Sem Idealize.ShloMosaic.StableHlo

namespace Cert.Kernel7Ideal.Product

open Cert.Kernel7Ideal Cert.Kernel7Ideal.Gen Cert.Kernel7Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def D : Mat 4096 3072 := fun r l => m ((c.tc : Thread nD τ).loc main_arg1) (ix2 r l)

theorem lt_N (t : Fin cfg0.N) : t.val < 3 := by
  have h : cfg0.N = 3 := N_0
  have := t.isLt
  omega

theorem V_A (r : Fin 4096) (l : Fin 1024) : V m c main_v0 (ix2 r l) = A m c r l := by
  unfold V
  after_reads_at
  rfl

theorem V_D (r : Fin 4096) (l : Fin 3072) : V m c main_v1 (ix2 r l) = D m c r l := by
  unfold V
  after_reads_at
  rfl

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem sizes2 : ∀ t : Fin grid0.N, win0_2.xsize (grid0.coords t) 0 = 1024 ∧ win0_2.xsize (grid0.coords t) 1 = 1024 := by decide +kernel

theorem iblk0 (t : Fin cfg0.N) (r : Fin 4096) (l : Fin 1024) : (iblk m c 0 t : Vec Ideal S4096x1024 .bf16) (ix2 r l) = V m c main_v0 (ix2 r l) := by
  unfold iblk
  rw [View.read_apply]
  refine congrArg (V m c main_v0) (funext fun a => Fin.ext ?_)
  match a with
  | ⟨0, _⟩ => show win0_0.index t 0 * 4096 + 1 * r.val = r.val; rw [(index0 t).1]; omega
  | ⟨1, _⟩ => show win0_0.index t 1 * 1024 + 1 * l.val = l.val; rw [(index0 t).2]; omega

theorem iblk1 (t : Fin cfg0.N) (r : Fin 4096) (l : Fin 1024) : (iblk m c 1 t : Vec Ideal S4096x1024 .bf16) (ix2 r l) = V m c main_v1 (ix2 r ⟨(t.val) * 1024 + l.val, by have := lt_N t; omega⟩) := by
  unfold iblk
  rw [View.read_apply]
  refine congrArg (V m c main_v1) (funext fun a => Fin.ext ?_)
  match a with
  | ⟨0, _⟩ => show win0_1.index t 0 * 4096 + 1 * r.val = r.val; rw [(index1 t).1]; omega
  | ⟨1, _⟩ => show win0_1.index t 1 * 1024 + 1 * l.val = (t.val) * 1024 + l.val; rw [(index1 t).2]; omega

theorem pay_at (x : Vec Ideal S4096x1024 .bf16) (y : Vec Ideal S4096x1024 .bf16) (r : Fin 1024) (l : Fin 1024) :
    k0_pay1 x y (ix2 r l) = ∑ q : Fin 4096, x (ix2 q r) * y (ix2 q l) := by
  unfold k0_pay1
  pointwise

theorem out_at (x : Vec Ideal S4096x1024 .bf16) (y : Vec Ideal S4096x1024 .bf16) (r : Fin 1024) (l : Fin 1024) :
    out0_2 x y (ix2 r l) = ∑ q : Fin 4096, x (ix2 q r) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S1024x3072.Idx => Mat.tn (A m c) (D m c) (i 0) (i 1)

theorem left (t : Fin cfg0.N) (r : Fin 1024) (l : Fin 1024) :
    out0_2 (iblk m c 0 t) (iblk m c 1 t) (ix2 r l) = Mat.tn (A m c) (D m c) r ⟨t.val * 1024 + l.val, by have := lt_N t; omega⟩ := by
  rw [out_at]
  refine Finset.sum_congr rfl fun q _ => ?_
  rw [iblk0, iblk1, V_A, V_D]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1024), j = (ix2 r l : S1024x1024.Idx) := ⟨j 0, j 1, (ix2_eta (j : S1024x1024.Idx)).symm⟩
  rw [View.read_apply]
  refine (left m c t r l).trans ?_
  refine congrArg₂ (Mat.tn (A m c) (D m c)) (Fin.ext ?_) (Fin.ext ?_)
  · show r.val = win0_2.index t 0 * 1024 + 1 * r.val; rw [(index2 t).1]; omega
  · show (t.val) * 1024 + l.val = win0_2.index t 1 * 1024 + 1 * l.val; rw [(index2 t).2]; omega

/-- The point that writes an index. -/
abbrev pointOf (i : S1024x3072.Idx) : Fin cfg0.N := ⟨(i 1 : Nat) / 1024, by
  have h : cfg0.N = 3 := N_0
  have h0 : (i 0 : Nat) < 1024 := (i 0).isLt
  have h1 : (i 1 : Nat) < 3072 := (i 1).isLt
  omega⟩

theorem final : (dats m 0 c).arrAt 2 cfg0.N = res m c :=
  (dats m 0 c).arrAt_eq_of_cover 2 (res m c) (fun t _ => flushed_eq m c t) fun i : S1024x3072.Idx =>
    ⟨pointOf i, flush0_2 _, by
      show i ∈ ((View.whole main_v2).slice (win0_2.rect (pointOf i))).set
      rw [View.set_slice_whole, Rect.mem_set_unit]
      intro a
      have h0 : (i 0 : Nat) < 1024 := (i 0).isLt
      have h1 : (i 1 : Nat) < 3072 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        show ((i 1 : Nat) / 1024) * 1024 ≤ (i 1 : Nat) ∧ (i 1 : Nat) < ((i 1 : Nat) / 1024) * 1024 + 1024
        omega⟩

end Cert.Kernel7Ideal.Product

namespace Cert.Reference7Ideal.Product

open Cert.Reference7Ideal Cert.Reference7Ideal.Gen

/-- The reference's product at an index. -/
theorem value (x : FVec Ideal S4096x1024 .f32) (y : FVec Ideal S4096x3072 .f32) (i : S1024x3072.Idx) :
    truncf (F := Ideal) .bf16 (transpose S1024x3072 [1, 0] (Host.dotGeneral dot_S4096x3072_S4096x1024_S3072x1024_0_0_1_1_n_n none y x) transposes_S3072x1024_S1024x3072_1_0) bitsLt_bf16_f32 i
      = Mat.tn (fun r l => x (ix2 r l)) (fun r l => y (ix2 r l)) (i 0) (i 1) := by
  obtain ⟨r, l, rfl⟩ : ∃ (r : Fin 1024) (l : Fin 3072), i = (ix2 r l : S1024x3072.Idx) := ⟨i 0, i 1, (ix2_eta (i : S1024x3072.Idx)).symm⟩
  pointwise
  exact Finset.sum_congr rfl fun q _ => mul_comm _ _

end Cert.Reference7Ideal.Product

namespace Cert.Proof

theorem frame_reference7 : Cert.quiescent_Reference7Ideal := fun m ρ _ =>
  (θ_run Reference7Ideal.defs _ _).mono
    (fun r h => ⟨fun c => (h c).2, sem_eq_zero_of_no_sems (by decide) r.2⟩)
    (Reference7Ideal.Value.run (F := Ideal) m ρ)

theorem algebraic7 : Cert.algebraic_Kernel7Ideal_Reference7Ideal := by
  intro m ρ m' ρ' _ hagree
  refine ⟨fun c => Kernel7Ideal.Product.res m c, ?_, ?_⟩
  · exact (θ_run _ _ _).mono (fun r h c => ⟨(h c).1.trans (Kernel7Ideal.Product.final m c), (h c).2⟩) (Kernel7Ideal.Value.run_blocks (F := Ideal) m ρ)
  · refine (θ_run _ _ _).mono (fun r h c => ⟨(h c).1.trans ?_, (h c).2⟩) (Reference7Ideal.Value.run (F := Ideal) m' ρ')
    rw [(hagree c).1, (hagree c).2]
    exact funext fun i => Reference7Ideal.Product.value _ _ i

end Cert.Proof

end
-- ==== Proof.MixOutX.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel8.Frame
public import proofs.«01_k».proof.Proof.Gen.Kernel8Ideal.Value
public import proofs.«01_k».proof.Proof.Gen.Reference8Ideal.Run

/-! The cotangent of the input of a square projection of the mixer: the product of the output's cotangent with the transposed matrix. -/

@[expose] public section

set_option maxRecDepth 16384

noncomputable section

open Idealize.ShloMosaic Idealize.ShloMosaic.TcCoe Idealize.SL.Sem Idealize.ShloMosaic.StableHlo

namespace Cert.Kernel8Ideal.Product

open Cert.Kernel8Ideal Cert.Kernel8Ideal.Gen Cert.Kernel8Ideal.Value

variable (m : (ℓ : Loc nD τ sig) → Buf (Elt Ideal) ℓ) (c : Dev nD)

/-- Argument 0 as a matrix. -/
def D : Mat 4096 1024 := fun r l => m ((c.tc : Thread nD τ).loc main_arg0) (ix2 r l)

/-- Argument 1 as a matrix. -/
def B : Mat 1024 1024 := fun r l => m ((c.tc : Thread nD τ).loc main_arg1) (ix2 r l)

theorem lt_N (t : Fin cfg0.N) : t.val < 4 := by
  have h : cfg0.N = 4 := N_0
  have := t.isLt
  omega

theorem V_D (r : Fin 4096) (l : Fin 1024) : V m c main_v0 (ix2 r l) = D m c r l := by
  unfold V
  after_reads_at
  rfl

theorem V_B (r : Fin 1024) (l : Fin 1024) : V m c main_v1 (ix2 r l) = B m c r l := by
  unfold V
  after_reads_at
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem sizes2 : ∀ t : Fin grid0.N, win0_2.xsize (grid0.coords t) 0 = 1024 ∧ win0_2.xsize (grid0.coords t) 1 = 1024 := by decide +kernel

theorem iblk0 (t : Fin cfg0.N) (r : Fin 1024) (l : Fin 1024) : (iblk m c 0 t : Vec Ideal S1024x1024 .bf16) (ix2 r l) = V m c main_v0 (ix2 ⟨(t.val) * 1024 + r.val, by have := lt_N t; omega⟩ l) := by
  unfold iblk
  rw [View.read_apply]
  refine congrArg (V m c main_v0) (funext fun a => Fin.ext ?_)
  match a with
  | ⟨0, _⟩ => show win0_0.index t 0 * 1024 + 1 * r.val = (t.val) * 1024 + r.val; rw [(index0 t).1]; omega
  | ⟨1, _⟩ => show win0_0.index t 1 * 1024 + 1 * l.val = l.val; rw [(index0 t).2]; omega

theorem iblk1 (t : Fin cfg0.N) (r : Fin 1024) (l : Fin 1024) : (iblk m c 1 t : Vec Ideal S1024x1024 .bf16) (ix2 r l) = V m c main_v1 (ix2 r l) := by
  unfold iblk
  rw [View.read_apply]
  refine congrArg (V m c main_v1) (funext fun a => Fin.ext ?_)
  match a with
  | ⟨0, _⟩ => show win0_1.index t 0 * 1024 + 1 * r.val = r.val; rw [(index1 t).1]; omega
  | ⟨1, _⟩ => show win0_1.index t 1 * 1024 + 1 * l.val = l.val; rw [(index1 t).2]; omega

theorem pay_at (x : Vec Ideal S1024x1024 .bf16) (y : Vec Ideal S1024x1024 .bf16) (r : Fin 1024) (l : Fin 1024) :
    k0_pay1 x y (ix2 r l) = ∑ q : Fin 1024, x (ix2 r q) * y (ix2 l q) := by
  unfold k0_pay1
  pointwise

theorem out_at (x : Vec Ideal S1024x1024 .bf16) (y : Vec Ideal S1024x1024 .bf16) (r : Fin 1024) (l : Fin 1024) :
    out0_2 x y (ix2 r l) = ∑ q : Fin 1024, x (ix2 r q) * y (ix2 l q) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S4096x1024.Idx => Mat.nt (D m c) (B m c) (i 0) (i 1)

theorem left (t : Fin cfg0.N) (r : Fin 1024) (l : Fin 1024) :
    out0_2 (iblk m c 0 t) (iblk m c 1 t) (ix2 r l) = Mat.nt (D m c) (B m c) ⟨t.val * 1024 + r.val, by have := lt_N t; omega⟩ l := by
  rw [out_at]
  refine Finset.sum_congr rfl fun q _ => ?_
  rw [iblk0, iblk1, V_D, V_B]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1024), j = (ix2 r l : S1024x1024.Idx) := ⟨j 0, j 1, (ix2_eta (j : S1024x1024.Idx)).symm⟩
  rw [View.read_apply]
  refine (left m c t r l).trans ?_
  refine congrArg₂ (Mat.nt (D m c) (B m c)) (Fin.ext ?_) (Fin.ext ?_)
  · show (t.val) * 1024 + r.val = win0_2.index t 0 * 1024 + 1 * r.val; rw [(index2 t).1]; omega
  · show l.val = win0_2.index t 1 * 1024 + 1 * l.val; rw [(index2 t).2]; omega

/-- The point that writes an index. -/
abbrev pointOf (i : S4096x1024.Idx) : Fin cfg0.N := ⟨(i 0 : Nat) / 1024, by
  have h : cfg0.N = 4 := N_0
  have h0 : (i 0 : Nat) < 4096 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S4096x1024.Idx =>
    ⟨pointOf i, flush0_2 _, by
      show i ∈ ((View.whole main_v2).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024) * 1024 ≤ (i 0 : Nat) ∧ (i 0 : Nat) < ((i 0 : Nat) / 1024) * 1024 + 1024
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel8Ideal.Product

namespace Cert.Reference8Ideal.Product

open Cert.Reference8Ideal Cert.Reference8Ideal.Gen

/-- The reference's product at an index. -/
theorem value (x : FVec Ideal S4096x1024 .f32) (y : FVec Ideal S1024x1024 .f32) (i : S4096x1024.Idx) :
    Host.dotGeneral (F := Ideal) dot_S4096x1024_S1024x1024_S4096x1024_1_1_0_0_n_n none x y i
      = Mat.nt (fun r l => x (ix2 r l)) (fun r l => y (ix2 r l)) (i 0) (i 1) := by
  obtain ⟨r, l, rfl⟩ : ∃ (r : Fin 4096) (l : Fin 1024), i = (ix2 r l : S4096x1024.Idx) := ⟨i 0, i 1, (ix2_eta (i : S4096x1024.Idx)).symm⟩
  pointwise
  rfl

end Cert.Reference8Ideal.Product

namespace Cert.Proof

theorem frame_reference8 : Cert.quiescent_Reference8Ideal := fun m ρ _ =>
  (θ_run Reference8Ideal.defs _ _).mono
    (fun r h => ⟨fun c => (h c).2, sem_eq_zero_of_no_sems (by decide) r.2⟩)
    (Reference8Ideal.Value.run (F := Ideal) m ρ)

theorem algebraic8 : Cert.algebraic_Kernel8Ideal_Reference8Ideal := by
  intro m ρ m' ρ' _ hagree
  refine ⟨fun c => Kernel8Ideal.Product.res m c, ?_, ?_⟩
  · exact (θ_run _ _ _).mono (fun r h c => ⟨(h c).1.trans (Kernel8Ideal.Product.final m c), (h c).2⟩) (Kernel8Ideal.Value.run_blocks (F := Ideal) m ρ)
  · refine (θ_run _ _ _).mono (fun r h c => ⟨(h c).1.trans ?_, (h c).2⟩) (Reference8Ideal.Value.run (F := Ideal) m' ρ')
    rw [(hagree c).1, (hagree c).2]
    exact funext fun i => Reference8Ideal.Product.value _ _ i

end Cert.Proof

end
-- ==== Proof.MixInX.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel9.Frame
public import proofs.«01_k».proof.Proof.Gen.Kernel9Ideal.Value
public import proofs.«01_k».proof.Proof.Gen.Reference9Ideal.Run

/-! The cotangent of the mixer's input: seven products of the cotangent's pieces with pieces of the transposed matrix, added. -/

@[expose] public section

set_option maxRecDepth 16384

noncomputable section

open Idealize.ShloMosaic Idealize.ShloMosaic.TcCoe Idealize.SL.Sem Idealize.ShloMosaic.StableHlo

namespace Cert.Kernel9Ideal.Product

open Cert.Kernel9Ideal Cert.Kernel9Ideal.Gen Cert.Kernel9Ideal.Value

variable (m : (ℓ : Loc nD τ sig) → Buf (Elt Ideal) ℓ) (c : Dev nD)

/-- Argument 0 as a matrix. -/
def A : Mat 4096 8208 := fun r l => m ((c.tc : Thread nD τ).loc main_arg0) (ix2 r l)

/-- Argument 1 as a matrix. -/
def B : Mat 1024 8208 := fun r l => m ((c.tc : Thread nD τ).loc main_arg1) (ix2 r l)

theorem lt_N (t : Fin cfg0.N) : t.val < 16 := by
  have h : cfg0.N = 16 := N_0
  have := t.isLt
  omega

theorem V_0 (r : Fin 4096) (l : Fin 3072) : V m c main_v1 (ix2 r l) = A m c r ⟨0 + l.val, by omega⟩ := by
  unfold V
  after_reads_at
  refine congrArg (m ((c.tc : Thread nD τ).loc main_arg0)) (funext fun a => Fin.ext ?_)
  fin_cases a <;> simp [ix2]

theorem V_1 (r : Fin 4096) (l : Fin 1024) : V m c main_v2 (ix2 r l) = A m c r ⟨3072 + l.val, by omega⟩ := by
  unfold V
  after_reads_at
  refine congrArg (m ((c.tc : Thread nD τ).loc main_arg0)) (funext fun a => Fin.ext ?_)
  fin_cases a <;> simp [ix2]

theorem V_2 (r : Fin 4096) (l : Fin 1024) : V m c main_v4 (ix2 r l) = A m c r ⟨4112 + l.val, by omega⟩ := by
  unfold V
  after_reads_at
  refine congrArg (m ((c.tc : Thread nD τ).loc main_arg0)) (funext fun a => Fin.ext ?_)
  fin_cases a <;> simp [ix2]

theorem V_3 (r : Fin 4096) (l : Fin 1024) : V m c main_v5 (ix2 r l) = A m c r ⟨5136 + l.val, by omega⟩ := by
  unfold V
  after_reads_at
  refine congrArg (m ((c.tc : Thread nD τ).loc main_arg0)) (funext fun a => Fin.ext ?_)
  fin_cases a <;> simp [ix2]

theorem V_4 (r : Fin 4096) (l : Fin 1024) : V m c main_v6 (ix2 r l) = A m c r ⟨6160 + l.val, by omega⟩ := by
  unfold V
  after_reads_at
  refine congrArg (m ((c.tc : Thread nD τ).loc main_arg0)) (funext fun a => Fin.ext ?_)
  fin_cases a <;> simp [ix2]

theorem V_5 (r : Fin 4096) (l : Fin 1024) : V m c main_v7 (ix2 r l) = A m c r ⟨7184 + l.val, by omega⟩ := by
  unfold V
  after_reads_at
  refine congrArg (m ((c.tc : Thread nD τ).loc main_arg0)) (funext fun a => Fin.ext ?_)
  fin_cases a <;> simp [ix2]

theorem V_6 (r : Fin 4096) (l : Fin 128) : V m c main_v8 (ix2 r l) = if h : l.val < 16 then A m c r ⟨4096 + l.val, by omega⟩ else 0 := by
  unfold V
  after_reads_at
  by_cases h : l.val < 16
  · rw [dif_pos h, dif_pos h]
    rfl
  · rw [dif_neg h, dif_neg h]
    show (((0#32 : BitVec 32).toInt : ℝ) : EReal) = 0
    simp

/-- The matrix with its columns in the kernel's order. -/
def C : Mat 1024 8320 := Mat.columns (B m c)

theorem V_C (r : Fin 1024) (l : Fin 8320) : V m c main_v14 (ix2 r l) = C m c r l := by
  unfold V
  after_reads_at
  unfold C Mat.columns
  by_cases h1 : l.val < 4096
  · rw [dif_pos h1, dif_pos h1]
    after_reads_at
    refine congrArg (m ((c.tc : Thread nD τ).loc main_arg1)) (funext fun a => Fin.ext ?_)
    fin_cases a <;> simp [ix2]
  by_cases h2 : l.val < 8192
  · rw [dif_neg h1, dif_neg h1, dif_pos (by omega), dif_pos h2]
    after_reads_at
    refine congrArg (m ((c.tc : Thread nD τ).loc main_arg1)) (funext fun a => Fin.ext ?_)
    fin_cases a
    · simp [ix2]
    · show 4112 + (l.val - 4096) = l.val + 16
      omega
  by_cases h3 : l.val < 8208
  · rw [dif_neg h1, dif_neg h1, dif_neg (by omega), dif_neg h2, dif_pos (by omega), dif_pos h3]
    after_reads_at
    refine congrArg (m ((c.tc : Thread nD τ).loc main_arg1)) (funext fun a => Fin.ext ?_)
    fin_cases a
    · simp [ix2]
    · show 4096 + (l.val - 4096 - 4096) = l.val - 4096
      omega
  · rw [dif_neg h1, dif_neg h1, dif_neg (by omega), dif_neg h2, dif_neg (by omega), dif_neg h3]
    after_reads_at

theorem C_0 (r : Fin 1024) (l : Fin 3072) : C m c r ⟨0 + l.val, by omega⟩ = B m c r ⟨0 + l.val, by omega⟩ := by
  unfold C Mat.columns
  rw [dif_pos (show 0 + l.val < 4096 by omega)]

theorem C_1 (r : Fin 1024) (l : Fin 1024) : C m c r ⟨3072 + l.val, by omega⟩ = B m c r ⟨3072 + l.val, by omega⟩ := by
  unfold C Mat.columns
  rw [dif_pos (show 3072 + l.val < 4096 by omega)]

theorem C_2 (r : Fin 1024) (l : Fin 1024) : C m c r ⟨4096 + l.val, by omega⟩ = B m c r ⟨4112 + l.val, by omega⟩ := by
  unfold C Mat.columns
  rw [dif_neg (show ¬ 4096 + l.val < 4096 by omega), dif_pos (show 4096 + l.val < 8192 by omega)]
  exact congrArg (B m c r) (Fin.ext (by show 4096 + l.val + 16 = 4112 + l.val; omega))

theorem C_3 (r : Fin 1024) (l : Fin 1024) : C m c r ⟨5120 + l.val, by omega⟩ = B m c r ⟨5136 + l.val, by omega⟩ := by
  unfold C Mat.columns
  rw [dif_neg (show ¬ 5120 + l.val < 4096 by omega), dif_pos (show 5120 + l.val < 8192 by omega)]
  exact congrArg (B m c r) (Fin.ext (by show 5120 + l.val + 16 = 5136 + l.val; omega))

theorem C_4 (r : Fin 1024) (l : Fin 1024) : C m c r ⟨6144 + l.val, by omega⟩ = B m c r ⟨6160 + l.val, by omega⟩ := by
  unfold C Mat.columns
  rw [dif_neg (show ¬ 6144 + l.val < 4096 by omega), dif_pos (show 6144 + l.val < 8192 by omega)]
  exact congrArg (B m c r) (Fin.ext (by show 6144 + l.val + 16 = 6160 + l.val; omega))

theorem C_5 (r : Fin 1024) (l : Fin 1024) : C m c r ⟨7168 + l.val, by omega⟩ = B m c r ⟨7184 + l.val, by omega⟩ := by
  unfold C Mat.columns
  rw [dif_neg (show ¬ 7168 + l.val < 4096 by omega), dif_pos (show 7168 + l.val < 8192 by omega)]
  exact congrArg (B m c r) (Fin.ext (by show 7168 + l.val + 16 = 7184 + l.val; omega))

theorem C_6 (r : Fin 1024) (l : Fin 128) : C m c r ⟨8192 + l.val, by omega⟩ = if h : l.val < 16 then B m c r ⟨4096 + l.val, by omega⟩ else 0 := by
  unfold C Mat.columns
  rw [dif_neg (show ¬ 8192 + l.val < 4096 by omega), dif_neg (show ¬ 8192 + l.val < 8192 by omega)]
  by_cases h : l.val < 16
  · rw [dif_pos h, dif_pos (show 8192 + l.val < 8208 by omega)]
    exact congrArg (B m c r) (Fin.ext (by show 8192 + l.val - 4096 = 4096 + l.val; omega))
  · rw [dif_neg h, dif_neg (show ¬ 8192 + l.val < 8208 by omega)]

theorem index0 : ∀ t : Fin grid0.N, win0_0.index t 0 = t.val / 2 ∧ win0_0.index t 1 = 0 := by decide +kernel
theorem index1 : ∀ t : Fin grid0.N, win0_1.index t 0 = t.val / 2 ∧ win0_1.index t 1 = 0 := by decide +kernel
theorem index2 : ∀ t : Fin grid0.N, win0_2.index t 0 = t.val / 2 ∧ win0_2.index t 1 = 0 := by decide +kernel
theorem index3 : ∀ t : Fin grid0.N, win0_3.index t 0 = t.val / 2 ∧ win0_3.index t 1 = 0 := by decide +kernel
theorem index4 : ∀ t : Fin grid0.N, win0_4.index t 0 = t.val / 2 ∧ win0_4.index t 1 = 0 := by decide +kernel
theorem index5 : ∀ t : Fin grid0.N, win0_5.index t 0 = t.val / 2 ∧ win0_5.index t 1 = 0 := by decide +kernel
theorem index6 : ∀ t : Fin grid0.N, win0_6.index t 0 = t.val / 2 ∧ win0_6.index t 1 = 0 := by decide +kernel
theorem index7 : ∀ t : Fin grid0.N, win0_7.index t 0 = t.val % 2 ∧ win0_7.index t 1 = 0 := by decide +kernel
theorem index8 : ∀ t : Fin grid0.N, win0_8.index t 0 = t.val % 2 ∧ win0_8.index t 1 = 3 := by decide +kernel
theorem index9 : ∀ t : Fin grid0.N, win0_9.index t 0 = t.val % 2 ∧ win0_9.index t 1 = 4 := by decide +kernel
theorem index10 : ∀ t : Fin grid0.N, win0_10.index t 0 = t.val % 2 ∧ win0_10.index t 1 = 5 := by decide +kernel
theorem index11 : ∀ t : Fin grid0.N, win0_11.index t 0 = t.val % 2 ∧ win0_11.index t 1 = 6 := by decide +kernel
theorem index12 : ∀ t : Fin grid0.N, win0_12.index t 0 = t.val % 2 ∧ win0_12.index t 1 = 7 := by decide +kernel
theorem index13 : ∀ t : Fin grid0.N, win0_13.index t 0 = t.val % 2 ∧ win0_13.index t 1 = 64 := by decide +kernel
theorem index14 : ∀ t : Fin grid0.N, win0_14.index t 0 = t.val / 2 ∧ win0_14.index t 1 = t.val % 2 := by decide +kernel
theorem sizes14 : ∀ t : Fin grid0.N, win0_14.xsize (grid0.coords t) 0 = 512 ∧ win0_14.xsize (grid0.coords t) 1 = 512 := by decide +kernel

theorem iblk0 (t : Fin cfg0.N) (r : Fin 512) (l : Fin 3072) : (iblk m c 0 t : Vec Ideal S512x3072 .bf16) (ix2 r l) = V m c main_v1 (ix2 ⟨(t.val / 2) * 512 + r.val, by have := lt_N t; omega⟩ l) := by
  unfold iblk
  rw [View.read_apply]
  refine congrArg (V m c main_v1) (funext fun a => Fin.ext ?_)
  match a with
  | ⟨0, _⟩ => show win0_0.index t 0 * 512 + 1 * r.val = (t.val / 2) * 512 + r.val; rw [(index0 t).1]; omega
  | ⟨1, _⟩ => show win0_0.index t 1 * 3072 + 1 * l.val = l.val; rw [(index0 t).2]; omega

theorem iblk1 (t : Fin cfg0.N) (r : Fin 512) (l : Fin 1024) : (iblk m c 1 t : Vec Ideal S512x1024 .bf16) (ix2 r l) = V m c main_v2 (ix2 ⟨(t.val / 2) * 512 + r.val, by have := lt_N t; omega⟩ l) := by
  unfold iblk
  rw [View.read_apply]
  refine congrArg (V m c main_v2) (funext fun a => Fin.ext ?_)
  match a with
  | ⟨0, _⟩ => show win0_1.index t 0 * 512 + 1 * r.val = (t.val / 2) * 512 + r.val; rw [(index1 t).1]; omega
  | ⟨1, _⟩ => show win0_1.index t 1 * 1024 + 1 * l.val = l.val; rw [(index1 t).2]; omega

theorem iblk2 (t : Fin cfg0.N) (r : Fin 512) (l : Fin 1024) : (iblk m c 2 t : Vec Ideal S512x1024 .bf16) (ix2 r l) = V m c main_v4 (ix2 ⟨(t.val / 2) * 512 + r.val, by have := lt_N t; omega⟩ l) := by
  unfold iblk
  rw [View.read_apply]
  refine congrArg (V m c main_v4) (funext fun a => Fin.ext ?_)
  match a with
  | ⟨0, _⟩ => show win0_2.index t 0 * 512 + 1 * r.val = (t.val / 2) * 512 + r.val; rw [(index2 t).1]; omega
  | ⟨1, _⟩ => show win0_2.index t 1 * 1024 + 1 * l.val = l.val; rw [(index2 t).2]; omega

theorem iblk3 (t : Fin cfg0.N) (r : Fin 512) (l : Fin 1024) : (iblk m c 3 t : Vec Ideal S512x1024 .bf16) (ix2 r l) = V m c main_v5 (ix2 ⟨(t.val / 2) * 512 + r.val, by have := lt_N t; omega⟩ l) := by
  unfold iblk
  rw [View.read_apply]
  refine congrArg (V m c main_v5) (funext fun a => Fin.ext ?_)
  match a with
  | ⟨0, _⟩ => show win0_3.index t 0 * 512 + 1 * r.val = (t.val / 2) * 512 + r.val; rw [(index3 t).1]; omega
  | ⟨1, _⟩ => show win0_3.index t 1 * 1024 + 1 * l.val = l.val; rw [(index3 t).2]; omega

theorem iblk4 (t : Fin cfg0.N) (r : Fin 512) (l : Fin 1024) : (iblk m c 4 t : Vec Ideal S512x1024 .bf16) (ix2 r l) = V m c main_v6 (ix2 ⟨(t.val / 2) * 512 + r.val, by have := lt_N t; omega⟩ l) := by
  unfold iblk
  rw [View.read_apply]
  refine congrArg (V m c main_v6) (funext fun a => Fin.ext ?_)
  match a with
  | ⟨0, _⟩ => show win0_4.index t 0 * 512 + 1 * r.val = (t.val / 2) * 512 + r.val; rw [(index4 t).1]; omega
  | ⟨1, _⟩ => show win0_4.index t 1 * 1024 + 1 * l.val = l.val; rw [(index4 t).2]; omega

theorem iblk5 (t : Fin cfg0.N) (r : Fin 512) (l : Fin 1024) : (iblk m c 5 t : Vec Ideal S512x1024 .bf16) (ix2 r l) = V m c main_v7 (ix2 ⟨(t.val / 2) * 512 + r.val, by have := lt_N t; omega⟩ l) := by
  unfold iblk
  rw [View.read_apply]
  refine congrArg (V m c main_v7) (funext fun a => Fin.ext ?_)
  match a with
  | ⟨0, _⟩ => show win0_5.index t 0 * 512 + 1 * r.val = (t.val / 2) * 512 + r.val; rw [(index5 t).1]; omega
  | ⟨1, _⟩ => show win0_5.index t 1 * 1024 + 1 * l.val = l.val; rw [(index5 t).2]; omega

theorem iblk6 (t : Fin cfg0.N) (r : Fin 512) (l : Fin 128) : (iblk m c 6 t : Vec Ideal S512x128 .bf16) (ix2 r l) = V m c main_v8 (ix2 ⟨(t.val / 2) * 512 + r.val, by have := lt_N t; omega⟩ l) := by
  unfold iblk
  rw [View.read_apply]
  refine congrArg (V m c main_v8) (funext fun a => Fin.ext ?_)
  match a with
  | ⟨0, _⟩ => show win0_6.index t 0 * 512 + 1 * r.val = (t.val / 2) * 512 + r.val; rw [(index6 t).1]; omega
  | ⟨1, _⟩ => show win0_6.index t 1 * 128 + 1 * l.val = l.val; rw [(index6 t).2]; omega

theorem blk7 (t : Fin cfg0.N) (r : Fin 512) (l : Fin 3072) : (X0_7 m c t : Vec Ideal S512x3072 .bf16) (ix2 r l) = V m c main_v14 (ix2 ⟨t.val % 2 * 512 + r.val, by omega⟩ ⟨0 + l.val, by omega⟩) := by
  unfold X0_7 Pipeline.Window.fill
  rw [dif_pos (moved0_7 t _)]
  unfold iblk
  rw [View.read_apply]
  refine congrArg (V m c main_v14) (funext fun a => Fin.ext ?_)
  match a with
  | ⟨0, _⟩ => show win0_7.index t 0 * 512 + 1 * r.val = t.val % 2 * 512 + r.val; rw [(index7 t).1]; omega
  | ⟨1, _⟩ => show win0_7.index t 1 * 3072 + 1 * l.val = 0 + l.val; rw [(index7 t).2]; omega

theorem blk8 (t : Fin cfg0.N) (r : Fin 512) (l : Fin 1024) : (X0_8 m c t : Vec Ideal S512x1024 .bf16) (ix2 r l) = V m c main_v14 (ix2 ⟨t.val % 2 * 512 + r.val, by omega⟩ ⟨3072 + l.val, by omega⟩) := by
  unfold X0_8 Pipeline.Window.fill
  rw [dif_pos (moved0_8 t _)]
  unfold iblk
  rw [View.read_apply]
  refine congrArg (V m c main_v14) (funext fun a => Fin.ext ?_)
  match a with
  | ⟨0, _⟩ => show win0_8.index t 0 * 512 + 1 * r.val = t.val % 2 * 512 + r.val; rw [(index8 t).1]; omega
  | ⟨1, _⟩ => show win0_8.index t 1 * 1024 + 1 * l.val = 3072 + l.val; rw [(index8 t).2]; omega

theorem blk9 (t : Fin cfg0.N) (r : Fin 512) (l : Fin 1024) : (X0_9 m c t : Vec Ideal S512x1024 .bf16) (ix2 r l) = V m c main_v14 (ix2 ⟨t.val % 2 * 512 + r.val, by omega⟩ ⟨4096 + l.val, by omega⟩) := by
  unfold X0_9 Pipeline.Window.fill
  rw [dif_pos (moved0_9 t _)]
  unfold iblk
  rw [View.read_apply]
  refine congrArg (V m c main_v14) (funext fun a => Fin.ext ?_)
  match a with
  | ⟨0, _⟩ => show win0_9.index t 0 * 512 + 1 * r.val = t.val % 2 * 512 + r.val; rw [(index9 t).1]; omega
  | ⟨1, _⟩ => show win0_9.index t 1 * 1024 + 1 * l.val = 4096 + l.val; rw [(index9 t).2]; omega

theorem blk10 (t : Fin cfg0.N) (r : Fin 512) (l : Fin 1024) : (X0_10 m c t : Vec Ideal S512x1024 .bf16) (ix2 r l) = V m c main_v14 (ix2 ⟨t.val % 2 * 512 + r.val, by omega⟩ ⟨5120 + l.val, by omega⟩) := by
  unfold X0_10 Pipeline.Window.fill
  rw [dif_pos (moved0_10 t _)]
  unfold iblk
  rw [View.read_apply]
  refine congrArg (V m c main_v14) (funext fun a => Fin.ext ?_)
  match a with
  | ⟨0, _⟩ => show win0_10.index t 0 * 512 + 1 * r.val = t.val % 2 * 512 + r.val; rw [(index10 t).1]; omega
  | ⟨1, _⟩ => show win0_10.index t 1 * 1024 + 1 * l.val = 5120 + l.val; rw [(index10 t).2]; omega

theorem blk11 (t : Fin cfg0.N) (r : Fin 512) (l : Fin 1024) : (X0_11 m c t : Vec Ideal S512x1024 .bf16) (ix2 r l) = V m c main_v14 (ix2 ⟨t.val % 2 * 512 + r.val, by omega⟩ ⟨6144 + l.val, by omega⟩) := by
  unfold X0_11 Pipeline.Window.fill
  rw [dif_pos (moved0_11 t _)]
  unfold iblk
  rw [View.read_apply]
  refine congrArg (V m c main_v14) (funext fun a => Fin.ext ?_)
  match a with
  | ⟨0, _⟩ => show win0_11.index t 0 * 512 + 1 * r.val = t.val % 2 * 512 + r.val; rw [(index11 t).1]; omega
  | ⟨1, _⟩ => show win0_11.index t 1 * 1024 + 1 * l.val = 6144 + l.val; rw [(index11 t).2]; omega

theorem blk12 (t : Fin cfg0.N) (r : Fin 512) (l : Fin 1024) : (X0_12 m c t : Vec Ideal S512x1024 .bf16) (ix2 r l) = V m c main_v14 (ix2 ⟨t.val % 2 * 512 + r.val, by omega⟩ ⟨7168 + l.val, by omega⟩) := by
  unfold X0_12 Pipeline.Window.fill
  rw [dif_pos (moved0_12 t _)]
  unfold iblk
  rw [View.read_apply]
  refine congrArg (V m c main_v14) (funext fun a => Fin.ext ?_)
  match a with
  | ⟨0, _⟩ => show win0_12.index t 0 * 512 + 1 * r.val = t.val % 2 * 512 + r.val; rw [(index12 t).1]; omega
  | ⟨1, _⟩ => show win0_12.index t 1 * 1024 + 1 * l.val = 7168 + l.val; rw [(index12 t).2]; omega

theorem blk13 (t : Fin cfg0.N) (r : Fin 512) (l : Fin 128) : (iblk m c 13 t : Vec Ideal S512x128 .bf16) (ix2 r l) = V m c main_v14 (ix2 ⟨t.val % 2 * 512 + r.val, by omega⟩ ⟨8192 + l.val, by omega⟩) := by
  unfold iblk
  rw [View.read_apply]
  refine congrArg (V m c main_v14) (funext fun a => Fin.ext ?_)
  match a with
  | ⟨0, _⟩ => show win0_13.index t 0 * 512 + 1 * r.val = t.val % 2 * 512 + r.val; rw [(index13 t).1]; omega
  | ⟨1, _⟩ => show win0_13.index t 1 * 128 + 1 * l.val = 8192 + l.val; rw [(index13 t).2]; omega

section

variable (i : grid0.Coords) (arg2 : Memref sig .tc .vmem S512x3072 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x128 .bf16) (harg8 : arg8.IsWhole) (arg9 : Memref sig .tc .vmem S512x3072 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x128 .bf16) (harg15 : arg15.IsWhole) (arg16 : Memref sig .tc .vmem S512x512 .f32) (harg16 : arg16.IsWhole)
    (x0 : Vec Ideal S512x3072 .bf16) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S512x128 .bf16) (x7 : Vec Ideal S512x3072 .bf16) (x8 : Vec Ideal S512x1024 .bf16) (x9 : Vec Ideal S512x1024 .bf16) (x10 : Vec Ideal S512x1024 .bf16) (x11 : Vec Ideal S512x1024 .bf16) (x12 : Vec Ideal S512x1024 .bf16) (x13 : Vec Ideal S512x128 .bf16)

theorem pay_at (r l : Fin 512) :
    k0_pay1 (k0_pay2 x0 x7 x1 x8 x2 x9 x3 x10 x4 x11) (k0_pay3 x5) x12 x6 x13 (ix2 r l) =
      (∑ q : Fin 3072, x0 (ix2 r q) * x7 (ix2 l q))
      + (∑ q : Fin 1024, x1 (ix2 r q) * x8 (ix2 l q))
      + (∑ q : Fin 1024, x2 (ix2 r q) * x9 (ix2 l q))
      + (∑ q : Fin 1024, x3 (ix2 r q) * x10 (ix2 l q))
      + (∑ q : Fin 1024, x4 (ix2 r q) * x11 (ix2 l q))
      + (∑ q : Fin 1024, x5 (ix2 r q) * x12 (ix2 l q))
      + (∑ q : Fin 128, x6 (ix2 r q) * x13 (ix2 l q)) := by
  unfold k0_pay1 k0_pay2 k0_pay3
  pointwise

theorem out_at (r l : Fin 512) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix2 r l) =
      (∑ q : Fin 3072, x0 (ix2 r q) * x7 (ix2 l q))
      + (∑ q : Fin 1024, x1 (ix2 r q) * x8 (ix2 l q))
      + (∑ q : Fin 1024, x2 (ix2 r q) * x9 (ix2 l q))
      + (∑ q : Fin 1024, x3 (ix2 r q) * x10 (ix2 l q))
      + (∑ q : Fin 1024, x4 (ix2 r q) * x11 (ix2 l q))
      + (∑ q : Fin 1024, x5 (ix2 r q) * x12 (ix2 l q))
      + (∑ q : Fin 128, x6 (ix2 r q) * x13 (ix2 l q)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13)]
  unfold kernelRun0_A
  dsimp only
  sl_unfold_words
  simp only [View.readAt_eq_ld, Memref.IsWhole.read_unread]
  rw [View.canon_unit_zero (by funext a; fin_cases a <;> rfl)]
  repeat rw [View.ld_unit_zero (by funext a; fin_cases a <;> rfl)]
  exact pay_at x0 x1 x2 x3 x4 x5 x6 x7 x8 x9 x10 x11 x12 x13 r l

end

/-- The product that the call computes. -/
def res : Buf (Elt Ideal) ((c : Thread nD τ).loc main_v15) := fun i : S4096x1024.Idx => Mat.nt (A m c) (B m c) (i 0) (i 1)

theorem left (t : Fin cfg0.N) (r l : Fin 512) :
    outsAt0 m c t (ix2 r l) = Mat.nt (A m c) (B m c) ⟨t.val / 2 * 512 + r.val, by have := lt_N t; omega⟩ ⟨t.val % 2 * 512 + l.val, by omega⟩ := by
  unfold outsAt0
  rw [out_at]
  unfold Mat.nt
  rw [Mat.sum_mixer]
  exact congrArg₂ (· + ·)
    (congrArg₂ (· + ·)
    (congrArg₂ (· + ·)
    (congrArg₂ (· + ·)
    (congrArg₂ (· + ·)
    (congrArg₂ (· + ·)
    ((Finset.sum_congr rfl fun q _ => congrArg₂ (fun a b : EReal => a * b) ((iblk0 m c t r q).trans (V_0 m c _ q)) ((blk7 m c t l q).trans ((V_C m c _ _).trans (C_0 m c _ q)))))
    (Finset.sum_congr rfl fun q _ => congrArg₂ (fun a b : EReal => a * b) ((iblk1 m c t r q).trans (V_1 m c _ q)) ((blk8 m c t l q).trans ((V_C m c _ _).trans (C_1 m c _ q)))))
    (Finset.sum_congr rfl fun q _ => congrArg₂ (fun a b : EReal => a * b) ((iblk2 m c t r q).trans (V_2 m c _ q)) ((blk9 m c t l q).trans ((V_C m c _ _).trans (C_2 m c _ q)))))
    (Finset.sum_congr rfl fun q _ => congrArg₂ (fun a b : EReal => a * b) ((iblk3 m c t r q).trans (V_3 m c _ q)) ((blk10 m c t l q).trans ((V_C m c _ _).trans (C_3 m c _ q)))))
    (Finset.sum_congr rfl fun q _ => congrArg₂ (fun a b : EReal => a * b) ((iblk4 m c t r q).trans (V_4 m c _ q)) ((blk11 m c t l q).trans ((V_C m c _ _).trans (C_4 m c _ q)))))
    (Finset.sum_congr rfl fun q _ => congrArg₂ (fun a b : EReal => a * b) ((iblk5 m c t r q).trans (V_5 m c _ q)) ((blk12 m c t l q).trans ((V_C m c _ _).trans (C_5 m c _ q)))))
    (Finset.sum_congr rfl fun q _ => (congrArg₂ (fun a b : EReal => a * b) ((iblk6 m c t r q).trans (V_6 m c _ q)) ((blk13 m c t l q).trans ((V_C m c _ _).trans (C_6 m c _ q)))).trans (Mat.pad_mul _ _))

theorem flushed_eq (t : Fin cfg0.N) : (dats m 0 c).flushed 14 t = ((cfg0.win 14).blk t).view.read (Elt Ideal) (res m c) := by
  rw [flushed14]
  funext j
  obtain ⟨r, l, rfl⟩ : ∃ (r : Fin 512) (l : Fin 512), j = (ix2 r l : S512x512.Idx) := ⟨j 0, j 1, (ix2_eta (j : S512x512.Idx)).symm⟩
  rw [View.read_apply]
  refine (left m c t r l).trans ?_
  refine congrArg₂ (Mat.nt (A m c) (B m c)) (Fin.ext ?_) (Fin.ext ?_)
  · show (t.val / 2) * 512 + r.val = win0_14.index t 0 * 512 + 1 * r.val; rw [(index14 t).1]; omega
  · show (t.val % 2) * 512 + l.val = win0_14.index t 1 * 512 + 1 * l.val; rw [(index14 t).2]; omega

/-- The point that writes an index. -/
abbrev pointOf (i : S4096x1024.Idx) : Fin cfg0.N := ⟨(i 0 : Nat) / 512 * 2 + (i 1 : Nat) / 512, by
  have h : cfg0.N = 16 := N_0
  have h0 : (i 0 : Nat) < 4096 := (i 0).isLt
  have h1 : (i 1 : Nat) < 1024 := (i 1).isLt
  omega⟩

theorem final : (dats m 0 c).arrAt 14 cfg0.N = res m c :=
  (dats m 0 c).arrAt_eq_of_cover 14 (res m c) (fun t _ => flushed_eq m c t) fun i : S4096x1024.Idx =>
    ⟨pointOf i, flush0_14 _, by
      show i ∈ ((View.whole main_v15).slice (win0_14.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_14.index (pointOf i) 0 * 512 ≤ (i 0 : Nat) ∧ (i 0 : Nat) < win0_14.index (pointOf i) 0 * 512 + win0_14.xsize (grid0.coords (pointOf i)) 0
        rw [(index14 _).1, (sizes14 _).1]
        show ((i 0 : Nat) / 512 * 2 + (i 1 : Nat) / 512) / 2 * 512 ≤ (i 0 : Nat) ∧ (i 0 : Nat) < ((i 0 : Nat) / 512 * 2 + (i 1 : Nat) / 512) / 2 * 512 + 512
        omega
      | ⟨1, _⟩ =>
        show win0_14.index (pointOf i) 1 * 512 ≤ (i 1 : Nat) ∧ (i 1 : Nat) < win0_14.index (pointOf i) 1 * 512 + win0_14.xsize (grid0.coords (pointOf i)) 1
        rw [(index14 _).2, (sizes14 _).2]
        show ((i 0 : Nat) / 512 * 2 + (i 1 : Nat) / 512) % 2 * 512 ≤ (i 1 : Nat) ∧ (i 1 : Nat) < ((i 0 : Nat) / 512 * 2 + (i 1 : Nat) / 512) % 2 * 512 + 512
        omega⟩

end Cert.Kernel9Ideal.Product

namespace Cert.Reference9Ideal.Product

open Cert.Reference9Ideal Cert.Reference9Ideal.Gen

/-- The reference's product at an index. -/
theorem value (x : FVec Ideal S4096x8208 .f32) (y : FVec Ideal S1024x8208 .f32) (i : S4096x1024.Idx) :
    Host.dotGeneral (F := Ideal) dot_S4096x8208_S1024x8208_S4096x1024_1_1_0_0_n_n none x y i
      = Mat.nt (fun r l => x (ix2 r l)) (fun r l => y (ix2 r l)) (i 0) (i 1) := by
  obtain ⟨r, l, rfl⟩ : ∃ (r : Fin 4096) (l : Fin 1024), i = (ix2 r l : S4096x1024.Idx) := ⟨i 0, i 1, (ix2_eta (i : S4096x1024.Idx)).symm⟩
  pointwise
  rfl

end Cert.Reference9Ideal.Product

namespace Cert.Proof

theorem frame_reference9 : Cert.quiescent_Reference9Ideal := fun m ρ _ =>
  (θ_run Reference9Ideal.defs _ _).mono
    (fun r h => ⟨fun c => (h c).2, sem_eq_zero_of_no_sems (by decide) r.2⟩)
    (Reference9Ideal.Value.run (F := Ideal) m ρ)

theorem algebraic9 : Cert.algebraic_Kernel9Ideal_Reference9Ideal := by
  intro m ρ m' ρ' _ hagree
  refine ⟨fun c => Kernel9Ideal.Product.res m c, ?_, ?_⟩
  · exact (θ_run _ _ _).mono (fun r h c => ⟨(h c).1.trans (Kernel9Ideal.Product.final m c), (h c).2⟩) (Kernel9Ideal.Value.run_blocks (F := Ideal) m ρ)
  · refine (θ_run _ _ _).mono (fun r h c => ⟨(h c).1.trans ?_, (h c).2⟩) (Reference9Ideal.Value.run (F := Ideal) m' ρ')
    rw [(hagree c).1, (hagree c).2]
    exact funext fun i => Reference9Ideal.Product.value _ _ i

end Cert.Proof

end
-- ==== Proof.FfnIn.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel10.Frame
public import proofs.«01_k».proof.Proof.Gen.Kernel10Ideal.Value
public import proofs.«01_k».proof.Proof.Gen.Reference10Ideal.Run

/-! The feed-forward layer's first product, against the matrix in four blocks of columns. -/

@[expose] public section

set_option maxRecDepth 16384

noncomputable section

open Idealize.ShloMosaic Idealize.ShloMosaic.TcCoe Idealize.SL.Sem Idealize.ShloMosaic.StableHlo

namespace Cert.Kernel10Ideal.Product

open Cert.Kernel10Ideal Cert.Kernel10Ideal.Gen Cert.Kernel10Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def B : Mat 1024 5632 := fun r l => m ((c.tc : Thread nD τ).loc main_arg1) (ix2 r l)

theorem lt_N (t : Fin cfg0.N) : t.val < 16 := by
  have h : cfg0.N = 16 := N_0
  have := t.isLt
  omega

theorem V_A (r : Fin 4096) (l : Fin 1024) : V m c main_v3 (ix2 r l) = A m c r l := by
  unfold V
  after_reads_at
  rfl

theorem V_B (b : Fin 4) (r : Fin 1024) (l : Fin 1408) : V m c main_v2 (ix3 b r l) = B m c r ⟨b.val * 1408 + l.val, by omega⟩ := by
  unfold V
  after_reads_at
  refine congrArg (m ((c.tc : Thread nD τ).loc main_arg1)) (funext fun a => Fin.ext ?_)
  fin_cases a <;> simp

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = t.val % 4 := by decide +kernel
theorem sizes2 : ∀ t : Fin grid0.N, win0_2.xsize (grid0.coords t) 0 = 1024 ∧ win0_2.xsize (grid0.coords t) 1 = 1408 := by decide +kernel

theorem iblk0 (t : Fin cfg0.N) (r : Fin 1024) (l : Fin 1024) : (iblk m c 0 t : Vec Ideal S1024x1024 .bf16) (ix2 r l) = V m c main_v3 (ix2 ⟨(t.val / 4) * 1024 + r.val, by have := lt_N t; omega⟩ l) := by
  unfold iblk
  rw [View.read_apply]
  refine congrArg (V m c main_v3) (funext fun a => Fin.ext ?_)
  match a with
  | ⟨0, _⟩ => show win0_0.index t 0 * 1024 + 1 * r.val = (t.val / 4) * 1024 + r.val; rw [(index0 t).1]; omega
  | ⟨1, _⟩ => show win0_0.index t 1 * 1024 + 1 * l.val = l.val; rw [(index0 t).2]; omega

theorem iblk1 (t : Fin cfg0.N) (r : Fin 1) (l : Fin 1024) (q : Fin 1408) : (iblk m c 1 t : Vec Ideal S1x1024x1408 .bf16) (ix3 r l q) = V m c main_v2 (ix3 ⟨(t.val % 4) * 1 + r.val, by have := lt_N t; omega⟩ l q) := by
  unfold iblk
  rw [View.read_apply]
  refine congrArg (V m c main_v2) (funext fun a => Fin.ext ?_)
  match a with
  | ⟨0, _⟩ => show win0_1.index t 0 * 1 + 1 * r.val = (t.val % 4) * 1 + r.val; rw [(index1 t).1]; omega
  | ⟨1, _⟩ => show win0_1.index t 1 * 1024 + 1 * l.val = l.val; rw [(index1 t).2.1]; omega
  | ⟨2, _⟩ => show win0_1.index t 2 * 1408 + 1 * q.val = q.val; rw [(index1 t).2.2]; omega

theorem pay_at (x : Vec Ideal S1024x1024 .bf16) (y : Vec Ideal S1x1024x1408 .bf16) (r : Fin 1024) (l : Fin 1408) :
    k0_pay1 x y (ix2 r l) = ∑ q : Fin 1024, x (ix2 r q) * y (ix3 0 q l) := by
  unfold k0_pay1
  pointwise

theorem out_at (x : Vec Ideal S1024x1024 .bf16) (y : Vec Ideal S1x1024x1408 .bf16) (r : Fin 1024) (l : Fin 1408) :
    out0_2 x y (ix2 r l) = ∑ q : Fin 1024, x (ix2 r q) * y (ix3 0 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v4) := fun i : S4096x5632.Idx => Mat.nn (A m c) (B m c) (i 0) (i 1)

theorem left (t : Fin cfg0.N) (r : Fin 1024) (l : Fin 1408) :
    out0_2 (iblk m c 0 t) (iblk m c 1 t) (ix2 r l) = Mat.nn (A m c) (B m c) ⟨t.val / 4 * 1024 + r.val, by have := lt_N t; omega⟩ ⟨t.val % 4 * 1408 + l.val, by have := lt_N t; omega⟩ := by
  rw [out_at]
  refine Finset.sum_congr rfl fun q _ => ?_
  rw [iblk0, iblk1, V_A, V_B]
  refine congrArg₂ (· * ·) rfl (congrArg (B m c _) (Fin.ext ?_))
  simp

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1408), j = (ix2 r l : S1024x1408.Idx) := ⟨j 0, j 1, (ix2_eta (j : S1024x1408.Idx)).symm⟩
  rw [View.read_apply]
  refine (left m c t r l).trans ?_
  refine congrArg₂ (Mat.nn (A m c) (B m c)) (Fin.ext ?_) (Fin.ext ?_)
  · show (t.val / 4) * 1024 + r.val = win0_2.index t 0 * 1024 + 1 * r.val; rw [(index2 t).1]; omega
  · show (t.val % 4) * 1408 + l.val = win0_2.index t 1 * 1408 + 1 * l.val; rw [(index2 t).2]; omega

/-- The point that writes an index. -/
abbrev pointOf (i : S4096x5632.Idx) : Fin cfg0.N := ⟨(i 0 : Nat) / 1024 * 4 + (i 1 : Nat) / 1408, by
  have h : cfg0.N = 16 := N_0
  have h0 : (i 0 : Nat) < 4096 := (i 0).isLt
  have h1 : (i 1 : Nat) < 5632 := (i 1).isLt
  omega⟩

theorem final : (dats m 0 c).arrAt 2 cfg0.N = res m c :=
  (dats m 0 c).arrAt_eq_of_cover 2 (res m c) (fun t _ => flushed_eq m c t) fun i : S4096x5632.Idx =>
    ⟨pointOf i, flush0_2 _, by
      show i ∈ ((View.whole main_v4).slice (win0_2.rect (pointOf i))).set
      rw [View.set_slice_whole, Rect.mem_set_unit]
      intro a
      have h0 : (i 0 : Nat) < 4096 := (i 0).isLt
      have h1 : (i 1 : Nat) < 5632 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024 * 4 + (i 1 : Nat) / 1408) / 4 * 1024 ≤ (i 0 : Nat) ∧ (i 0 : Nat) < ((i 0 : Nat) / 1024 * 4 + (i 1 : Nat) / 1408) / 4 * 1024 + 1024
        omega
      | ⟨1, _⟩ =>
        show win0_2.index (pointOf i) 1 * 1408 ≤ (i 1 : Nat) ∧ (i 1 : Nat) < win0_2.index (pointOf i) 1 * 1408 + win0_2.xsize (grid0.coords (pointOf i)) 1
        rw [(index2 _).2, (sizes2 _).2]
        show ((i 0 : Nat) / 1024 * 4 + (i 1 : Nat) / 1408) % 4 * 1408 ≤ (i 1 : Nat) ∧ (i 1 : Nat) < ((i 0 : Nat) / 1024 * 4 + (i 1 : Nat) / 1408) % 4 * 1408 + 1408
        omega⟩

end Cert.Kernel10Ideal.Product

namespace Cert.Reference10Ideal.Product

open Cert.Reference10Ideal Cert.Reference10Ideal.Gen

/-- The reference's product at an index. -/
theorem value (x : FVec Ideal S4096x1024 .f32) (y : FVec Ideal S1024x5632 .f32) (i : S4096x5632.Idx) :
    truncf (F := Ideal) .bf16 (Host.dotGeneral dot_S4096x1024_S1024x5632_S4096x5632_1_0_0_1_n_n none x y) bitsLt_bf16_f32 i
      = Mat.nn (fun r l => x (ix2 r l)) (fun r l => y (ix2 r l)) (i 0) (i 1) := by
  obtain ⟨r, l, rfl⟩ : ∃ (r : Fin 4096) (l : Fin 5632), i = (ix2 r l : S4096x5632.Idx) := ⟨i 0, i 1, (ix2_eta (i : S4096x5632.Idx)).symm⟩
  pointwise
  rfl

end Cert.Reference10Ideal.Product

namespace Cert.Proof

theorem frame_reference10 : Cert.quiescent_Reference10Ideal := fun m ρ _ =>
  (θ_run Reference10Ideal.defs _ _).mono
    (fun r h => ⟨fun c => (h c).2, sem_eq_zero_of_no_sems (by decide) r.2⟩)
    (Reference10Ideal.Value.run (F := Ideal) m ρ)

theorem algebraic10 : Cert.algebraic_Kernel10Ideal_Reference10Ideal := by
  intro m ρ m' ρ' _ hagree
  refine ⟨fun c => Kernel10Ideal.Product.res m c, ?_, ?_⟩
  · exact (θ_run _ _ _).mono (fun r h c => ⟨(h c).1.trans (Kernel10Ideal.Product.final m c), (h c).2⟩) (Kernel10Ideal.Value.run_blocks (F := Ideal) m ρ)
  · refine (θ_run _ _ _).mono (fun r h c => ⟨(h c).1.trans ?_, (h c).2⟩) (Reference10Ideal.Value.run (F := Ideal) m' ρ')
    rw [(hagree c).1, (hagree c).2]
    exact funext fun i => Reference10Ideal.Product.value _ _ i

end Cert.Proof

end
-- ==== Proof.FfnOut.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel11.Frame
public import proofs.«01_k».proof.Proof.Gen.Kernel11Ideal.Value
public import proofs.«01_k».proof.Proof.Gen.Reference11Ideal.Run

/-! The feed-forward layer's second product. -/

@[expose] public section

set_option maxRecDepth 16384

noncomputable section

open Idealize.ShloMosaic Idealize.ShloMosaic.TcCoe Idealize.SL.Sem Idealize.ShloMosaic.StableHlo

namespace Cert.Kernel11Ideal.Product

open Cert.Kernel11Ideal Cert.Kernel11Ideal.Gen Cert.Kernel11Ideal.Value

variable (m : (ℓ : Loc nD τ sig) → Buf (Elt Ideal) ℓ) (c : Dev nD)

/-- Argument 0 as a matrix. -/
def A : Mat 4096 2816 := fun r l => m ((c.tc : Thread nD τ).loc main_arg0) (ix2 r l)

/-- Argument 1 as a matrix. -/
def B : Mat 2816 1024 := fun r l => m ((c.tc : Thread nD τ).loc main_arg1) (ix2 r l)

theorem lt_N (t : Fin cfg0.N) : t.val < 4 := by
  have h : cfg0.N = 4 := N_0
  have := t.isLt
  omega

theorem V_A (r : Fin 4096) (l : Fin 2816) : V m c main_v0 (ix2 r l) = A m c r l := by
  unfold V
  after_reads_at
  rfl

theorem V_B (r : Fin 2816) (l : Fin 1024) : V m c main_v1 (ix2 r l) = B m c r l := by
  unfold V
  after_reads_at
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem sizes2 : ∀ t : Fin grid0.N, win0_2.xsize (grid0.coords t) 0 = 1024 ∧ win0_2.xsize (grid0.coords t) 1 = 1024 := by decide +kernel

theorem iblk0 (t : Fin cfg0.N) (r : Fin 1024) (l : Fin 2816) : (iblk m c 0 t : Vec Ideal S1024x2816 .bf16) (ix2 r l) = V m c main_v0 (ix2 ⟨(t.val) * 1024 + r.val, by have := lt_N t; omega⟩ l) := by
  unfold iblk
  rw [View.read_apply]
  refine congrArg (V m c main_v0) (funext fun a => Fin.ext ?_)
  match a with
  | ⟨0, _⟩ => show win0_0.index t 0 * 1024 + 1 * r.val = (t.val) * 1024 + r.val; rw [(index0 t).1]; omega
  | ⟨1, _⟩ => show win0_0.index t 1 * 2816 + 1 * l.val = l.val; rw [(index0 t).2]; omega

theorem iblk1 (t : Fin cfg0.N) (r : Fin 2816) (l : Fin 1024) : (iblk m c 1 t : Vec Ideal S2816x1024 .bf16) (ix2 r l) = V m c main_v1 (ix2 r l) := by
  unfold iblk
  rw [View.read_apply]
  refine congrArg (V m c main_v1) (funext fun a => Fin.ext ?_)
  match a with
  | ⟨0, _⟩ => show win0_1.index t 0 * 2816 + 1 * r.val = r.val; rw [(index1 t).1]; omega
  | ⟨1, _⟩ => show win0_1.index t 1 * 1024 + 1 * l.val = l.val; rw [(index1 t).2]; omega

theorem pay_at (x : Vec Ideal S1024x2816 .bf16) (y : Vec Ideal S2816x1024 .bf16) (r : Fin 1024) (l : Fin 1024) :
    k0_pay1 x y (ix2 r l) = ∑ q : Fin 2816, x (ix2 r q) * y (ix2 q l) := by
  unfold k0_pay1
  pointwise

theorem out_at (x : Vec Ideal S1024x2816 .bf16) (y : Vec Ideal S2816x1024 .bf16) (r : Fin 1024) (l : Fin 1024) :
    out0_2 x y (ix2 r l) = ∑ q : Fin 2816, x (ix2 r q) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S4096x1024.Idx => Mat.nn (A m c) (B m c) (i 0) (i 1)

theorem left (t : Fin cfg0.N) (r : Fin 1024) (l : Fin 1024) :
    out0_2 (iblk m c 0 t) (iblk m c 1 t) (ix2 r l) = Mat.nn (A m c) (B m c) ⟨t.val * 1024 + r.val, by have := lt_N t; omega⟩ l := by
  rw [out_at]
  refine Finset.sum_congr rfl fun q _ => ?_
  rw [iblk0, iblk1, V_A, V_B]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1024), j = (ix2 r l : S1024x1024.Idx) := ⟨j 0, j 1, (ix2_eta (j : S1024x1024.Idx)).symm⟩
  rw [View.read_apply]
  refine (left m c t r l).trans ?_
  refine congrArg₂ (Mat.nn (A m c) (B m c)) (Fin.ext ?_) (Fin.ext ?_)
  · show (t.val) * 1024 + r.val = win0_2.index t 0 * 1024 + 1 * r.val; rw [(index2 t).1]; omega
  · show l.val = win0_2.index t 1 * 1024 + 1 * l.val; rw [(index2 t).2]; omega

/-- The point that writes an index. -/
abbrev pointOf (i : S4096x1024.Idx) : Fin cfg0.N := ⟨(i 0 : Nat) / 1024, by
  have h : cfg0.N = 4 := N_0
  have h0 : (i 0 : Nat) < 4096 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S4096x1024.Idx =>
    ⟨pointOf i, flush0_2 _, by
      show i ∈ ((View.whole main_v2).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024) * 1024 ≤ (i 0 : Nat) ∧ (i 0 : Nat) < ((i 0 : Nat) / 1024) * 1024 + 1024
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel11Ideal.Product

namespace Cert.Reference11Ideal.Product

open Cert.Reference11Ideal Cert.Reference11Ideal.Gen

/-- The reference's product at an index. -/
theorem value (x : FVec Ideal S4096x2816 .f32) (y : FVec Ideal S2816x1024 .f32) (i : S4096x1024.Idx) :
    Host.dotGeneral (F := Ideal) dot_S4096x2816_S2816x1024_S4096x1024_1_0_0_1_n_n none x y i
      = Mat.nn (fun r l => x (ix2 r l)) (fun r l => y (ix2 r l)) (i 0) (i 1) := by
  obtain ⟨r, l, rfl⟩ : ∃ (r : Fin 4096) (l : Fin 1024), i = (ix2 r l : S4096x1024.Idx) := ⟨i 0, i 1, (ix2_eta (i : S4096x1024.Idx)).symm⟩
  pointwise
  rfl

end Cert.Reference11Ideal.Product

namespace Cert.Proof

theorem frame_reference11 : Cert.quiescent_Reference11Ideal := fun m ρ _ =>
  (θ_run Reference11Ideal.defs _ _).mono
    (fun r h => ⟨fun c => (h c).2, sem_eq_zero_of_no_sems (by decide) r.2⟩)
    (Reference11Ideal.Value.run (F := Ideal) m ρ)

theorem algebraic11 : Cert.algebraic_Kernel11Ideal_Reference11Ideal := by
  intro m ρ m' ρ' _ hagree
  refine ⟨fun c => Kernel11Ideal.Product.res m c, ?_, ?_⟩
  · exact (θ_run _ _ _).mono (fun r h c => ⟨(h c).1.trans (Kernel11Ideal.Product.final m c), (h c).2⟩) (Kernel11Ideal.Value.run_blocks (F := Ideal) m ρ)
  · refine (θ_run _ _ _).mono (fun r h c => ⟨(h c).1.trans ?_, (h c).2⟩) (Reference11Ideal.Value.run (F := Ideal) m' ρ')
    rw [(hagree c).1, (hagree c).2]
    exact funext fun i => Reference11Ideal.Product.value _ _ i

end Cert.Proof

end
-- ==== Proof.MixIn.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel12.Frame
public import proofs.«01_k».proof.Proof.Gen.Kernel12Ideal.Value
public import proofs.«01_k».proof.Proof.Gen.Reference12Ideal.Run

/-! The mixer's first product, its columns put in the kernel's order. -/

@[expose] public section

set_option maxRecDepth 16384

noncomputable section

open Idealize.ShloMosaic Idealize.ShloMosaic.TcCoe Idealize.SL.Sem Idealize.ShloMosaic.StableHlo

namespace Cert.Kernel12Ideal.Product

open Cert.Kernel12Ideal Cert.Kernel12Ideal.Gen Cert.Kernel12Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def B : Mat 1024 8208 := fun r l => m ((c.tc : Thread nD τ).loc main_arg1) (ix2 r l)

theorem lt_N (t : Fin cfg0.N) : t.val < 52 := by
  have h : cfg0.N = 52 := N_0
  have := t.isLt
  omega

theorem V_A (r : Fin 4096) (l : Fin 1024) : V m c main_v0 (ix2 r l) = A m c r l := by
  unfold V
  after_reads_at
  rfl

/-- The matrix with its columns in the kernel's order. -/
def C : Mat 1024 8320 := Mat.columns (B m c)

theorem V_C (r : Fin 1024) (l : Fin 8320) : V m c main_v6 (ix2 r l) = C m c r l := by
  unfold V
  after_reads_at
  unfold C Mat.columns
  by_cases h1 : l.val < 4096
  · rw [dif_pos h1, dif_pos h1]
    after_reads_at
    refine congrArg (m ((c.tc : Thread nD τ).loc main_arg1)) (funext fun a => Fin.ext ?_)
    fin_cases a <;> simp [ix2]
  by_cases h2 : l.val < 8192
  · rw [dif_neg h1, dif_neg h1, dif_pos (by omega), dif_pos h2]
    after_reads_at
    refine congrArg (m ((c.tc : Thread nD τ).loc main_arg1)) (funext fun a => Fin.ext ?_)
    fin_cases a
    · simp [ix2]
    · show 4112 + (l.val - 4096) = l.val + 16
      omega
  by_cases h3 : l.val < 8208
  · rw [dif_neg h1, dif_neg h1, dif_neg (by omega), dif_neg h2, dif_pos (by omega), dif_pos h3]
    after_reads_at
    refine congrArg (m ((c.tc : Thread nD τ).loc main_arg1)) (funext fun a => Fin.ext ?_)
    fin_cases a
    · simp [ix2]
    · show 4096 + (l.val - 4096 - 4096) = l.val - 4096
      omega
  · rw [dif_neg h1, dif_neg h1, dif_neg (by omega), dif_neg h2, dif_neg (by omega), dif_neg h3]
    after_reads_at

theorem index0 : ∀ t : Fin grid0.N, win0_0.index t 0 = t.val / 13 ∧ win0_0.index t 1 = 0 := by decide +kernel
theorem index1 : ∀ t : Fin grid0.N, win0_1.index t 0 = 0 ∧ win0_1.index t 1 = t.val % 13 := by decide +kernel
theorem index2 : ∀ t : Fin grid0.N, win0_2.index t 0 = t.val / 13 ∧ win0_2.index t 1 = t.val % 13 := by decide +kernel
theorem sizes2 : ∀ t : Fin grid0.N, win0_2.xsize (grid0.coords t) 0 = 1024 ∧ win0_2.xsize (grid0.coords t) 1 = 640 := by decide +kernel

theorem iblk0 (t : Fin cfg0.N) (r : Fin 1024) (l : Fin 1024) : (iblk m c 0 t : Vec Ideal S1024x1024 .bf16) (ix2 r l) = V m c main_v0 (ix2 ⟨(t.val / 13) * 1024 + r.val, by have := lt_N t; omega⟩ l) := by
  unfold iblk
  rw [View.read_apply]
  refine congrArg (V m c main_v0) (funext fun a => Fin.ext ?_)
  match a with
  | ⟨0, _⟩ => show win0_0.index t 0 * 1024 + 1 * r.val = (t.val / 13) * 1024 + r.val; rw [(index0 t).1]; omega
  | ⟨1, _⟩ => show win0_0.index t 1 * 1024 + 1 * l.val = l.val; rw [(index0 t).2]; omega

theorem iblk1 (t : Fin cfg0.N) (r : Fin 1024) (l : Fin 640) : (iblk m c 1 t : Vec Ideal S1024x640 .bf16) (ix2 r l) = V m c main_v6 (ix2 r ⟨(t.val % 13) * 640 + l.val, by have := lt_N t; omega⟩) := by
  unfold iblk
  rw [View.read_apply]
  refine congrArg (V m c main_v6) (funext fun a => Fin.ext ?_)
  match a with
  | ⟨0, _⟩ => show win0_1.index t 0 * 1024 + 1 * r.val = r.val; rw [(index1 t).1]; omega
  | ⟨1, _⟩ => show win0_1.index t 1 * 640 + 1 * l.val = (t.val % 13) * 640 + l.val; rw [(index1 t).2]; omega

theorem pay_at (x : Vec Ideal S1024x1024 .bf16) (y : Vec Ideal S1024x640 .bf16) (r : Fin 1024) (l : Fin 640) :
    k0_pay1 x y (ix2 r l) = ∑ q : Fin 1024, x (ix2 r q) * y (ix2 q l) := by
  unfold k0_pay1
  pointwise

theorem out_at (x : Vec Ideal S1024x1024 .bf16) (y : Vec Ideal S1024x640 .bf16) (r : Fin 1024) (l : Fin 640) :
    out0_2 x y (ix2 r l) = ∑ q : Fin 1024, x (ix2 r q) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v7) := fun i : S4096x8320.Idx => Mat.nn (A m c) (C m c) (i 0) (i 1)

theorem left (t : Fin cfg0.N) (r : Fin 1024) (l : Fin 640) :
    out0_2 (iblk m c 0 t) (iblk m c 1 t) (ix2 r l) = Mat.nn (A m c) (C m c) ⟨t.val / 13 * 1024 + r.val, by have := lt_N t; omega⟩ ⟨t.val % 13 * 640 + l.val, by have := lt_N t; omega⟩ := by
  rw [out_at]
  refine Finset.sum_congr rfl fun q _ => ?_
  rw [iblk0, iblk1, V_A, V_C]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 640), j = (ix2 r l : S1024x640.Idx) := ⟨j 0, j 1, (ix2_eta (j : S1024x640.Idx)).symm⟩
  rw [View.read_apply]
  refine (left m c t r l).trans ?_
  refine congrArg₂ (Mat.nn (A m c) (C m c)) (Fin.ext ?_) (Fin.ext ?_)
  · show (t.val / 13) * 1024 + r.val = win0_2.index t 0 * 1024 + 1 * r.val; rw [(index2 t).1]; omega
  · show (t.val % 13) * 640 + l.val = win0_2.index t 1 * 640 + 1 * l.val; rw [(index2 t).2]; omega

/-- The point that writes an index. -/
abbrev pointOf (i : S4096x8320.Idx) : Fin cfg0.N := ⟨(i 0 : Nat) / 1024 * 13 + (i 1 : Nat) / 640, by
  have h : cfg0.N = 52 := N_0
  have h0 : (i 0 : Nat) < 4096 := (i 0).isLt
  have h1 : (i 1 : Nat) < 8320 := (i 1).isLt
  omega⟩

theorem final : (dats m 0 c).arrAt 2 cfg0.N = res m c :=
  (dats m 0 c).arrAt_eq_of_cover 2 (res m c) (fun t _ => flushed_eq m c t) fun i : S4096x8320.Idx =>
    ⟨pointOf i, flush0_2 _, by
      show i ∈ ((View.whole main_v7).slice (win0_2.rect (pointOf i))).set
      rw [View.set_slice_whole, Rect.mem_set_unit]
      intro a
      have h0 : (i 0 : Nat) < 4096 := (i 0).isLt
      have h1 : (i 1 : Nat) < 8320 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024 * 13 + (i 1 : Nat) / 640) / 13 * 1024 ≤ (i 0 : Nat) ∧ (i 0 : Nat) < ((i 0 : Nat) / 1024 * 13 + (i 1 : Nat) / 640) / 13 * 1024 + 1024
        omega
      | ⟨1, _⟩ =>
        show win0_2.index (pointOf i) 1 * 640 ≤ (i 1 : Nat) ∧ (i 1 : Nat) < win0_2.index (pointOf i) 1 * 640 + win0_2.xsize (grid0.coords (pointOf i)) 1
        rw [(index2 _).2, (sizes2 _).2]
        show ((i 0 : Nat) / 1024 * 13 + (i 1 : Nat) / 640) % 13 * 640 ≤ (i 1 : Nat) ∧ (i 1 : Nat) < ((i 0 : Nat) / 1024 * 13 + (i 1 : Nat) / 640) % 13 * 640 + 640
        omega⟩

end Cert.Kernel12Ideal.Product

namespace Cert.Reference12Ideal.Product

open Cert.Reference12Ideal Cert.Reference12Ideal.Gen

/-- The reference's product at an index. -/
theorem value (x : FVec Ideal S4096x1024 .f32) (y : FVec Ideal S1024x8208 .f32) (i : S4096x8320.Idx) :
    truncf (F := Ideal) .bf16 ((concatenate S4096x8320 1 [⟨S4096x4096, ((extractStridedSlice S4096x4096 ![0, 0] (Host.dotGeneral dot_S4096x1024_S1024x8208_S4096x8208_1_0_0_1_n_n none x y) slices_S4096x8208_S4096x4096_0_0) : (⟨S4096x4096, .f32⟩ : BufTy).Contents (Elt Ideal))⟩, ⟨S4096x4096, ((extractStridedSlice S4096x4096 ![0, 4112] (Host.dotGeneral dot_S4096x1024_S1024x8208_S4096x8208_1_0_0_1_n_n none x y) slices_S4096x8208_S4096x4096_0_4112) : (⟨S4096x4096, .f32⟩ : BufTy).Contents (Elt Ideal))⟩, ⟨S4096x16, ((extractStridedSlice S4096x16 ![0, 4096] (Host.dotGeneral dot_S4096x1024_S1024x8208_S4096x8208_1_0_0_1_n_n none x y) slices_S4096x8208_S4096x16_0_4096) : (⟨S4096x16, .f32⟩ : BufTy).Contents (Elt Ideal))⟩, ⟨S4096x112, ((broadcastInDim S4096x112 ![] bcast_S_S4096x112 (constant (F := Ideal) S_ .f32 0x00000000#32)) : (⟨S4096x112, .f32⟩ : BufTy).Contents (Elt Ideal))⟩] concatenates_S4096x4096_S4096x4096_S4096x16_S4096x112_S4096x8320_d1 : (⟨S4096x8320, .f32⟩ : BufTy).Contents (Elt Ideal))) bitsLt_bf16_f32 i
      = Mat.nn (fun r l => x (ix2 r l)) (Mat.columns fun r l => y (ix2 r l)) (i 0) (i 1) := by
  obtain ⟨r, l, rfl⟩ : ∃ (r : Fin 4096) (l : Fin 8320), i = (ix2 r l : S4096x8320.Idx) := ⟨i 0, i 1, (ix2_eta (i : S4096x8320.Idx)).symm⟩
  pointwise
  show _ = ∑ q : Fin 1024, x (ix2 r q) * Mat.columns (fun r l => y (ix2 r l)) q l
  unfold Mat.columns
  by_cases h1 : l.val < 4096
  · rw [dif_pos h1]
    refine Finset.sum_congr rfl fun q _ => ?_
    rw [dif_pos h1]
  by_cases h2 : l.val < 8192
  · rw [dif_neg h1, dif_pos (by omega)]
    refine Finset.sum_congr rfl fun q _ => ?_
    rw [dif_neg h1, dif_pos h2]
    refine congrArg₂ (· * ·) rfl (congrArg y (congrArg (ix2 q) (Fin.ext ?_)))
    show 4112 + (l.val - 4096) = l.val + 16
    omega
  by_cases h3 : l.val < 8208
  · rw [dif_neg h1, dif_neg (by omega), dif_pos (by omega)]
    refine Finset.sum_congr rfl fun q _ => ?_
    rw [dif_neg h1, dif_neg h2, dif_pos h3]
    refine congrArg₂ (· * ·) rfl (congrArg y (congrArg (ix2 q) (Fin.ext ?_)))
    show 4096 + (l.val - 4096 - 4096) = l.val - 4096
    omega
  · rw [dif_neg h1, dif_neg (by omega), dif_neg (by omega)]
    refine (Finset.sum_eq_zero fun q _ => ?_).symm
    rw [dif_neg h1, dif_neg h2, dif_neg h3, mul_zero]

end Cert.Reference12Ideal.Product

namespace Cert.Proof

theorem frame_reference12 : Cert.quiescent_Reference12Ideal := fun m ρ _ =>
  (θ_run Reference12Ideal.defs _ _).mono
    (fun r h => ⟨fun c => (h c).2, sem_eq_zero_of_no_sems (by decide) r.2⟩)
    (Reference12Ideal.Value.run (F := Ideal) m ρ)

theorem algebraic12 : Cert.algebraic_Kernel12Ideal_Reference12Ideal := by
  intro m ρ m' ρ' _ hagree
  refine ⟨fun c => Kernel12Ideal.Product.res m c, ?_, ?_⟩
  · exact (θ_run _ _ _).mono (fun r h c => ⟨(h c).1.trans (Kernel12Ideal.Product.final m c), (h c).2⟩) (Kernel12Ideal.Value.run_blocks (F := Ideal) m ρ)
  · refine (θ_run _ _ _).mono (fun r h c => ⟨(h c).1.trans ?_, (h c).2⟩) (Reference12Ideal.Value.run (F := Ideal) m' ρ')
    rw [(hagree c).1, (hagree c).2]
    exact funext fun i => Reference12Ideal.Product.value _ _ i

end Cert.Proof

end
-- ==== Proof.MixOut.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel13.Frame
public import proofs.«01_k».proof.Proof.Gen.Kernel13Ideal.Value
public import proofs.«01_k».proof.Proof.Gen.Reference13Ideal.Run

/-! A square projection of the mixer: the product of two matrices. -/

@[expose] public section

set_option maxRecDepth 16384

noncomputable section

open Idealize.ShloMosaic Idealize.ShloMosaic.TcCoe Idealize.SL.Sem Idealize.ShloMosaic.StableHlo

namespace Cert.Kernel13Ideal.Product

open Cert.Kernel13Ideal Cert.Kernel13Ideal.Gen Cert.Kernel13Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def B : Mat 1024 1024 := fun r l => m ((c.tc : Thread nD τ).loc main_arg1) (ix2 r l)

theorem lt_N (t : Fin cfg0.N) : t.val < 4 := by
  have h : cfg0.N = 4 := N_0
  have := t.isLt
  omega

theorem V_A (r : Fin 4096) (l : Fin 1024) : V m c main_v0 (ix2 r l) = A m c r l := by
  unfold V
  after_reads_at
  rfl

theorem V_B (r : Fin 1024) (l : Fin 1024) : V m c main_v1 (ix2 r l) = B m c r l := by
  unfold V
  after_reads_at
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem sizes2 : ∀ t : Fin grid0.N, win0_2.xsize (grid0.coords t) 0 = 1024 ∧ win0_2.xsize (grid0.coords t) 1 = 1024 := by decide +kernel

theorem iblk0 (t : Fin cfg0.N) (r : Fin 1024) (l : Fin 1024) : (iblk m c 0 t : Vec Ideal S1024x1024 .bf16) (ix2 r l) = V m c main_v0 (ix2 ⟨(t.val) * 1024 + r.val, by have := lt_N t; omega⟩ l) := by
  unfold iblk
  rw [View.read_apply]
  refine congrArg (V m c main_v0) (funext fun a => Fin.ext ?_)
  match a with
  | ⟨0, _⟩ => show win0_0.index t 0 * 1024 + 1 * r.val = (t.val) * 1024 + r.val; rw [(index0 t).1]; omega
  | ⟨1, _⟩ => show win0_0.index t 1 * 1024 + 1 * l.val = l.val; rw [(index0 t).2]; omega

theorem iblk1 (t : Fin cfg0.N) (r : Fin 1024) (l : Fin 1024) : (iblk m c 1 t : Vec Ideal S1024x1024 .bf16) (ix2 r l) = V m c main_v1 (ix2 r l) := by
  unfold iblk
  rw [View.read_apply]
  refine congrArg (V m c main_v1) (funext fun a => Fin.ext ?_)
  match a with
  | ⟨0, _⟩ => show win0_1.index t 0 * 1024 + 1 * r.val = r.val; rw [(index1 t).1]; omega
  | ⟨1, _⟩ => show win0_1.index t 1 * 1024 + 1 * l.val = l.val; rw [(index1 t).2]; omega

theorem pay_at (x : Vec Ideal S1024x1024 .bf16) (y : Vec Ideal S1024x1024 .bf16) (r : Fin 1024) (l : Fin 1024) :
    k0_pay1 x y (ix2 r l) = ∑ q : Fin 1024, x (ix2 r q) * y (ix2 q l) := by
  unfold k0_pay1
  pointwise

theorem out_at (x : Vec Ideal S1024x1024 .bf16) (y : Vec Ideal S1024x1024 .bf16) (r : Fin 1024) (l : Fin 1024) :
    out0_2 x y (ix2 r l) = ∑ q : Fin 1024, x (ix2 r q) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S4096x1024.Idx => Mat.nn (A m c) (B m c) (i 0) (i 1)

theorem left (t : Fin cfg0.N) (r : Fin 1024) (l : Fin 1024) :
    out0_2 (iblk m c 0 t) (iblk m c 1 t) (ix2 r l) = Mat.nn (A m c) (B m c) ⟨t.val * 1024 + r.val, by have := lt_N t; omega⟩ l := by
  rw [out_at]
  refine Finset.sum_congr rfl fun q _ => ?_
  rw [iblk0, iblk1, V_A, V_B]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 1024), j = (ix2 r l : S1024x1024.Idx) := ⟨j 0, j 1, (ix2_eta (j : S1024x1024.Idx)).symm⟩
  rw [View.read_apply]
  refine (left m c t r l).trans ?_
  refine congrArg₂ (Mat.nn (A m c) (B m c)) (Fin.ext ?_) (Fin.ext ?_)
  · show (t.val) * 1024 + r.val = win0_2.index t 0 * 1024 + 1 * r.val; rw [(index2 t).1]; omega
  · show l.val = win0_2.index t 1 * 1024 + 1 * l.val; rw [(index2 t).2]; omega

/-- The point that writes an index. -/
abbrev pointOf (i : S4096x1024.Idx) : Fin cfg0.N := ⟨(i 0 : Nat) / 1024, by
  have h : cfg0.N = 4 := N_0
  have h0 : (i 0 : Nat) < 4096 := (i 0).isLt
  have h1 : (i 1 : Nat) < 1024 := (i 1).isLt
  omega⟩

theorem final : (dats m 0 c).arrAt 2 cfg0.N = res m c :=
  (dats m 0 c).arrAt_eq_of_cover 2 (res m c) (fun t _ => flushed_eq m c t) fun i : S4096x1024.Idx =>
    ⟨pointOf i, flush0_2 _, by
      show i ∈ ((View.whole main_v2).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        show ((i 0 : Nat) / 1024) * 1024 ≤ (i 0 : Nat) ∧ (i 0 : Nat) < ((i 0 : Nat) / 1024) * 1024 + 1024
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel13Ideal.Product

namespace Cert.Reference13Ideal.Product

open Cert.Reference13Ideal Cert.Reference13Ideal.Gen

/-- The reference's product at an index. -/
theorem value (x : FVec Ideal S4096x1024 .f32) (y : FVec Ideal S1024x1024 .f32) (i : S4096x1024.Idx) :
    Host.dotGeneral (F := Ideal) dot_S4096x1024_S1024x1024_S4096x1024_1_0_0_1_n_n none x y i
      = Mat.nn (fun r l => x (ix2 r l)) (fun r l => y (ix2 r l)) (i 0) (i 1) := by
  obtain ⟨r, l, rfl⟩ : ∃ (r : Fin 4096) (l : Fin 1024), i = (ix2 r l : S4096x1024.Idx) := ⟨i 0, i 1, (ix2_eta (i : S4096x1024.Idx)).symm⟩
  pointwise
  rfl

end Cert.Reference13Ideal.Product

namespace Cert.Proof

theorem frame_reference13 : Cert.quiescent_Reference13Ideal := fun m ρ _ =>
  (θ_run Reference13Ideal.defs _ _).mono
    (fun r h => ⟨fun c => (h c).2, sem_eq_zero_of_no_sems (by decide) r.2⟩)
    (Reference13Ideal.Value.run (F := Ideal) m ρ)

theorem algebraic13 : Cert.algebraic_Kernel13Ideal_Reference13Ideal := by
  intro m ρ m' ρ' _ hagree
  refine ⟨fun c => Kernel13Ideal.Product.res m c, ?_, ?_⟩
  · exact (θ_run _ _ _).mono (fun r h c => ⟨(h c).1.trans (Kernel13Ideal.Product.final m c), (h c).2⟩) (Kernel13Ideal.Value.run_blocks (F := Ideal) m ρ)
  · refine (θ_run _ _ _).mono (fun r h c => ⟨(h c).1.trans ?_, (h c).2⟩) (Reference13Ideal.Value.run (F := Ideal) m' ρ')
    rw [(hagree c).1, (hagree c).2]
    exact funext fun i => Reference13Ideal.Product.value _ _ i

end Cert.Proof

end
-- ==== Proof.Adam.lean ====
module

public import Idealize.ShloMosaic.Lib.Pointwise
public import proofs.«01_k».proof.Proof.Matrix

/-! One step of the optimiser on one number: the two moving averages and the change of the weight. -/

@[expose] public section

noncomputable section

open Idealize.ShloMosaic

namespace Cert

namespace Adam

/-- The moving average of the gradient. -/
def mean (m g : Ideal .f32) : Ideal .f32 :=
  FloatOps.addf (FloatOps.mulf (Scalar.ofBits (F := Ideal) .f32 0x3F666666#32) m) (FloatOps.mulf (Scalar.ofBits (F := Ideal) .f32 0x3DCCCCCD#32) g)

/-- The moving average of the gradient's square. -/
def square (v g : Ideal .f32) : Ideal .f32 :=
  FloatOps.addf (FloatOps.mulf (Scalar.ofBits (F := Ideal) .f32 0x3F7FBE77#32) v)
    (FloatOps.mulf (Scalar.ofBits (F := Ideal) .f32 0x3A83126F#32) (FloatOps.mulf g g))

/-- The change of the weight. -/
def delta (w m v g : Ideal .f32) : Ideal .f32 :=
  FloatOps.mulf (Scalar.ofBits (F := Ideal) .f32 0xBA83126F#32)
    (FloatOps.addf
      (FloatOps.divf (FloatOps.divf (mean m g) (Scalar.ofBits (F := Ideal) .f32 0x3F26BD02#32))
        (FloatOps.addf (FloatOps.sqrt (FloatOps.divf (square v g) (Scalar.ofBits (F := Ideal) .f32 0x3C231ACC#32)))
          (Scalar.ofBits (F := Ideal) .f32 0x322BCC77#32)))
      (FloatOps.mulf (Scalar.ofBits (F := Ideal) .f32 0x3C23D70A#32) w))

/-- The rows of two matrices, those of the second below those of the first. -/
def both {n h k : ℕ} (e : n = h + h) (x y : Mat h k) : Mat n k := fun r l =>
  if q : r.val < h then x ⟨r.val, q⟩ l else y ⟨r.val - h, by omega⟩ l

end Adam

end Cert

end
-- ==== Proof.AdamFfnIn.lean ====
module

public import Idealize.ShloMosaic.Lib.StableHlo.ReadAt
public import Idealize.ShloMosaic.Lib.Quiescent
public import proofs.«01_k».proof.Defs
public import proofs.«01_k».proof.Proof.Adam
public import proofs.«01_k».proof.Proof.Gen.Kernel14.Frame
public import proofs.«01_k».proof.Proof.Gen.Kernel14Ideal.Value
public import proofs.«01_k».proof.Proof.Gen.Reference14Ideal.Run

/-! The optimiser's step on the feed-forward layer's first matrix. -/

@[expose] public section

set_option maxRecDepth 16384

noncomputable section

open Idealize.ShloMosaic Idealize.ShloMosaic.TcCoe Idealize.SL.Sem Idealize.ShloMosaic.StableHlo

namespace Cert.Kernel14Ideal.Optimiser

open Cert.Kernel14Ideal Cert.Kernel14Ideal.Gen Cert.Kernel14Ideal.Value

variable (m : (ℓ : Loc nD τ sig) → Buf (Elt Ideal) ℓ) (c : Dev nD)

/-- The weights. -/
def W : Mat 2048 1408 := fun r l => m ((c.tc : Thread nD τ).loc main_arg0) (ix2 r l)

/-- The average of the gradient. -/
def M : Mat 2048 1408 := fun r l => m ((c.tc : Thread nD τ).loc main_arg1) (ix2 r l)

/-- The average of the square. -/
def Q : Mat 2048 1408 := fun r l => m ((c.tc : Thread nD τ).loc main_arg2) (ix2 r l)

/-- The first layer's gradient. -/
def G0 : Mat 1024 1408 := fun r l => m ((c.tc : Thread nD τ).loc main_arg3) (ix2 r l)

/-- The second layer's gradient. -/
def G1 : Mat 1024 1408 := fun r l => m ((c.tc : Thread nD τ).loc main_arg4) (ix2 r l)

/-- The gradient of both layers. -/
def G : Mat 2048 1408 := Adam.both rfl (G0 m c) (G1 m c)

theorem lt_N (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index3 : ∀ t : Fin grid0.N, win0_3.index t 0 = min t.val 3 ∧ win0_3.index t 1 = 0 := by decide +kernel
theorem index4 : ∀ t : Fin grid0.N, win0_4.index t 0 = t.val - 4 ∧ win0_4.index t 1 = 0 := by decide +kernel
theorem sizes5 : ∀ t : Fin grid0.N, win0_5.xsize (grid0.coords t) 0 = 256 ∧ win0_5.xsize (grid0.coords t) 1 = 1408 := by decide +kernel
theorem sizes6 : ∀ t : Fin grid0.N, win0_6.xsize (grid0.coords t) 0 = 256 ∧ win0_6.xsize (grid0.coords t) 1 = 1408 := by decide +kernel
theorem sizes7 : ∀ t : Fin grid0.N, win0_7.xsize (grid0.coords t) 0 = 256 ∧ win0_7.xsize (grid0.coords t) 1 = 1408 := by decide +kernel
theorem sizes8 : ∀ t : Fin grid0.N, win0_8.xsize (grid0.coords t) 0 = 256 ∧ win0_8.xsize (grid0.coords t) 1 = 1408 := by decide +kernel

/-- The first layer's points choose the first gradient, the others the second. -/
theorem pick : ∀ t : Fin grid0.N, Scalar.cmpi .slt (BitVec.ofNat 32 (grid0.coords t 0).val) 4#32 = if t.val < 4 then 1#1 else 0#1 := by
  decide +kernel

theorem iblk0 (t : Fin cfg0.N) (r : Fin 256) (l : Fin 1408) : (iblk m c 0 t : Vec Ideal S256x1408 .f32) (ix2 r l) = W m c ⟨t.val * 256 + r.val, by have := lt_N t; omega⟩ l := by
  unfold iblk
  rw [View.read_apply]
  refine congrArg (m ((c.tc : Thread nD τ).loc main_arg0)) (funext fun a => Fin.ext ?_)
  match a with
  | ⟨0, _⟩ => show win0_0.index t 0 * 256 + 1 * r.val = t.val * 256 + r.val; rw [(index0 t).1]; omega
  | ⟨1, _⟩ => show win0_0.index t 1 * 1408 + 1 * l.val = l.val; rw [(index0 t).2]; omega

theorem iblk1 (t : Fin cfg0.N) (r : Fin 256) (l : Fin 1408) : (iblk m c 1 t : Vec Ideal S256x1408 .f32) (ix2 r l) = M m c ⟨t.val * 256 + r.val, by have := lt_N t; omega⟩ l := by
  unfold iblk
  rw [View.read_apply]
  refine congrArg (m ((c.tc : Thread nD τ).loc main_arg1)) (funext fun a => Fin.ext ?_)
  match a with
  | ⟨0, _⟩ => show win0_1.index t 0 * 256 + 1 * r.val = t.val * 256 + r.val; rw [(index1 t).1]; omega
  | ⟨1, _⟩ => show win0_1.index t 1 * 1408 + 1 * l.val = l.val; rw [(index1 t).2]; omega

theorem iblk2 (t : Fin cfg0.N) (r : Fin 256) (l : Fin 1408) : (iblk m c 2 t : Vec Ideal S256x1408 .f32) (ix2 r l) = Q m c ⟨t.val * 256 + r.val, by have := lt_N t; omega⟩ l := by
  unfold iblk
  rw [View.read_apply]
  refine congrArg (m ((c.tc : Thread nD τ).loc main_arg2)) (funext fun a => Fin.ext ?_)
  match a with
  | ⟨0, _⟩ => show win0_2.index t 0 * 256 + 1 * r.val = t.val * 256 + r.val; rw [(index2 t).1]; omega
  | ⟨1, _⟩ => show win0_2.index t 1 * 1408 + 1 * l.val = l.val; rw [(index2 t).2]; omega

theorem iblk3 (t : Fin cfg0.N) (r : Fin 256) (l : Fin 1408) : (iblk m c 3 t : Vec Ideal S256x1408 .f32) (ix2 r l) = G0 m c ⟨(min t.val 3) * 256 + r.val, by have := lt_N t; omega⟩ l := by
  unfold iblk
  rw [View.read_apply]
  refine congrArg (m ((c.tc : Thread nD τ).loc main_arg3)) (funext fun a => Fin.ext ?_)
  match a with
  | ⟨0, _⟩ => show win0_3.index t 0 * 256 + 1 * r.val = (min t.val 3) * 256 + r.val; rw [(index3 t).1]; omega
  | ⟨1, _⟩ => show win0_3.index t 1 * 1408 + 1 * l.val = l.val; rw [(index3 t).2]; omega

theorem iblk4 (t : Fin cfg0.N) (r : Fin 256) (l : Fin 1408) : (iblk m c 4 t : Vec Ideal S256x1408 .f32) (ix2 r l) = G1 m c ⟨(t.val - 4) * 256 + r.val, by have := lt_N t; omega⟩ l := by
  unfold iblk
  rw [View.read_apply]
  refine congrArg (m ((c.tc : Thread nD τ).loc main_arg4)) (funext fun a => Fin.ext ?_)
  match a with
  | ⟨0, _⟩ => show win0_4.index t 0 * 256 + 1 * r.val = (t.val - 4) * 256 + r.val; rw [(index4 t).1]; omega
  | ⟨1, _⟩ => show win0_4.index t 1 * 1408 + 1 * l.val = l.val; rw [(index4 t).2]; omega

/-- The place of a point's row. -/
abbrev row (t : Fin cfg0.N) (r : Fin 256) : Fin 2048 := ⟨t.val * 256 + r.val, by have := lt_N t; omega⟩

/-- The gradient that a point reads. -/
theorem grad_at (t : Fin cfg0.N) (r : Fin 256) (l : Fin 1408) :
    k0_pay1 (F := Ideal) (grid0.coords t) (iblk m c 3 t) (iblk m c 4 t) (ix2 r l) = G m c (row t r) l := by
  have hN := lt_N t
  unfold k0_pay1
  dsimp only
  rw [pick t]
  unfold G Adam.both
  by_cases h : t.val < 4
  · rw [if_pos h, dif_pos (show (row t r).val < 1024 by show t.val * 256 + r.val < 1024; omega)]
    refine (iblk3 m c t r l).trans (congrArg₂ (G0 m c) (Fin.ext ?_) rfl)
    show min t.val 3 * 256 + r.val = t.val * 256 + r.val
    rw [Nat.min_eq_left (by omega)]
  · rw [if_neg h, dif_neg (show ¬ (row t r).val < 1024 by show ¬ t.val * 256 + r.val < 1024; omega)]
    refine (iblk4 m c t r l).trans (congrArg₂ (G1 m c) (Fin.ext ?_) rfl)
    show (t.val - 4) * 256 + r.val = t.val * 256 + r.val - 1024
    omega

/-- The point that writes an index. -/
abbrev pointOf (i : S2048x1408.Idx) : Fin cfg0.N := ⟨(i 0 : Nat) / 256, by
  have h : cfg0.N = 8 := N_0
  have h0 : (i 0 : Nat) < 2048 := (i 0).isLt
  omega⟩

/-- The gradient. -/
def res_grad : Buf (Elt Ideal) ((c : Thread nD τ).loc main_v0_0) := fun i : S2048x1408.Idx => G m c (i 0) (i 1)

theorem left_grad (t : Fin cfg0.N) (r : Fin 256) (l : Fin 1408) :
    out0_5 (F := Ideal) (grid0.coords t) (iblk m c 0 t) (iblk m c 1 t) (iblk m c 2 t) (iblk m c 3 t) (iblk m c 4 t) (ix2 r l) = G m c (row t r) l := by
  unfold out0_5
  rw [View.canon_unit_zero (by funext a; fin_cases a <;> rfl)]
  repeat rw [View.ld_unit_zero (by funext a; fin_cases a <;> rfl)]
  exact grad_at m c t r l

theorem flushed_grad (t : Fin cfg0.N) : (dats m 0 c).flushed 5 t = ((cfg0.win 5).blk t).view.read (Elt Ideal) (res_grad m c) := by
  rw [flushed5]
  funext j
  obtain ⟨r, l, rfl⟩ : ∃ (r : Fin 256) (l : Fin 1408), j = (ix2 r l : S256x1408.Idx) := ⟨j 0, j 1, (ix2_eta (j : S256x1408.Idx)).symm⟩
  rw [View.read_apply]
  refine (left_grad m c t r l).trans (congrArg (res_grad m c) (funext fun a => Fin.ext ?_) : res_grad m c (ix2 (row t r) l) = _)
  match a with
  | ⟨0, _⟩ => show t.val * 256 + r.val = win0_5.index t 0 * 256 + 1 * r.val; rw [(index5 t).1]; omega
  | ⟨1, _⟩ => show l.val = win0_5.index t 1 * 1408 + 1 * l.val; rw [(index5 t).2]; omega

theorem final_grad : (dats m 0 c).arrAt 5 cfg0.N = res_grad m c :=
  (dats m 0 c).arrAt_eq_of_cover 5 (res_grad m c) (fun t _ => flushed_grad m c t) fun i : S2048x1408.Idx =>
    ⟨pointOf i, flush0_5 _, by
      show i ∈ ((View.whole main_v0_0).slice (win0_5.rect (pointOf i))).set
      rw [View.set_slice_whole, Rect.mem_set_unit]
      intro a
      have h0 : (i 0 : Nat) < 2048 := (i 0).isLt
      have h1 : (i 1 : Nat) < 1408 := (i 1).isLt
      match a with
      | ⟨0, _⟩ =>
        show win0_5.index (pointOf i) 0 * 256 ≤ (i 0 : Nat) ∧ (i 0 : Nat) < win0_5.index (pointOf i) 0 * 256 + win0_5.xsize (grid0.coords (pointOf i)) 0
        rw [(index5 _).1, (sizes5 _).1]
        show (i 0 : Nat) / 256 * 256 ≤ (i 0 : Nat) ∧ (i 0 : Nat) < (i 0 : Nat) / 256 * 256 + 256
        omega
      | ⟨1, _⟩ =>
        show win0_5.index (pointOf i) 1 * 1408 ≤ (i 1 : Nat) ∧ (i 1 : Nat) < win0_5.index (pointOf i) 1 * 1408 + win0_5.xsize (grid0.coords (pointOf i)) 1
        rw [(index5 _).2, (sizes5 _).2]
        omega⟩

/-- The change of the weights. -/
def res_delta : Buf (Elt Ideal) ((c : Thread nD τ).loc main_v0_1) := fun i : S2048x1408.Idx => Adam.delta (W m c (i 0) (i 1)) (M m c (i 0) (i 1)) (Q m c (i 0) (i 1)) (G m c (i 0) (i 1))

theorem left_delta (t : Fin cfg0.N) (r : Fin 256) (l : Fin 1408) :
    out0_6 (F := Ideal) (grid0.coords t) (iblk m c 0 t) (iblk m c 1 t) (iblk m c 2 t) (iblk m c 3 t) (iblk m c 4 t) (ix2 r l) = Adam.delta (W m c (row t r) l) (M m c (row t r) l) (Q m c (row t r) l) (G m c (row t r) l) := by
  unfold out0_6
  rw [View.canon_unit_zero (by funext a; fin_cases a <;> rfl)]
  repeat rw [View.ld_unit_zero (by funext a; fin_cases a <;> rfl)]
  show Adam.delta ((iblk m c 0 t : Vec Ideal S256x1408 .f32) (ix2 r l)) ((iblk m c 1 t : Vec Ideal S256x1408 .f32) (ix2 r l)) ((iblk m c 2 t : Vec Ideal S256x1408 .f32) (ix2 r l)) (k0_pay1 (F := Ideal) (grid0.coords t) (iblk m c 3 t) (iblk m c 4 t) (ix2 r l)) = _
  rw [iblk0, iblk1, iblk2, grad_at]

theorem flushed_delta (t : Fin cfg0.N) : (dats m 0 c).flushed 6 t = ((cfg0.win 6).blk t).view.read (Elt Ideal) (res_delta m c) := by
  rw [flushed6]
  funext j
  obtain ⟨r, l, rfl⟩ : ∃ (r : Fin 256) (l : Fin 1408), j = (ix2 r l : S256x1408.Idx) := ⟨j 0, j 1, (ix2_eta (j : S256x1408.Idx)).symm⟩
  rw [View.read_apply]
  refine (left_delta m c t r l).trans (congrArg (res_delta m c) (funext fun a => Fin.ext ?_) : res_delta m c (ix2 (row t r) l) = _)
  match a with
  | ⟨0, _⟩ => show t.val * 256 + r.val = win0_6.index t 0 * 256 + 1 * r.val; rw [(index6 t).1]; omega
  | ⟨1, _⟩ => show l.val = win0_6.index t 1 * 1408 + 1 * l.val; rw [(index6 t).2]; omega

theorem final_delta : (dats m 0 c).arrAt 6 cfg0.N = res_delta m c :=
  (dats m 0 c).arrAt_eq_of_cover 6 (res_delta m c) (fun t _ => flushed_delta m c t) fun i : S2048x1408.Idx =>
    ⟨pointOf i, flush0_6 _, by
      show i ∈ ((View.whole main_v0_1).slice (win0_6.rect (pointOf i))).set
      rw [View.set_slice_whole, Rect.mem_set_unit]
      intro a
      have h0 : (i 0 : Nat) < 2048 := (i 0).isLt
      have h1 : (i 1 : Nat) < 1408 := (i 1).isLt
      match a with
      | ⟨0, _⟩ =>
        show win0_6.index (pointOf i) 0 * 256 ≤ (i 0 : Nat) ∧ (i 0 : Nat) < win0_6.index (pointOf i) 0 * 256 + win0_6.xsize (grid0.coords (pointOf i)) 0
        rw [(index6 _).1, (sizes6 _).1]
        show (i 0 : Nat) / 256 * 256 ≤ (i 0 : Nat) ∧ (i 0 : Nat) < (i 0 : Nat) / 256 * 256 + 256
        omega
      | ⟨1, _⟩ =>
        show win0_6.index (pointOf i) 1 * 1408 ≤ (i 1 : Nat) ∧ (i 1 : Nat) < win0_6.index (pointOf i) 1 * 1408 + win0_6.xsize (grid0.coords (pointOf i)) 1
        rw [(index6 _).2, (sizes6 _).2]
        omega⟩

/-- The new average of the gradient. -/
def res_mean : Buf (Elt Ideal) ((c : Thread nD τ).loc main_v0_2) := fun i : S2048x1408.Idx => Adam.mean (M m c (i 0) (i 1)) (G m c (i 0) (i 1))

theorem left_mean (t : Fin cfg0.N) (r : Fin 256) (l : Fin 1408) :
    out0_7 (F := Ideal) (grid0.coords t) (iblk m c 0 t) (iblk m c 1 t) (iblk m c 2 t) (iblk m c 3 t) (iblk m c 4 t) (ix2 r l) = Adam.mean (M m c (row t r) l) (G m c (row t r) l) := by
  unfold out0_7
  rw [View.canon_unit_zero (by funext a; fin_cases a <;> rfl)]
  repeat rw [View.ld_unit_zero (by funext a; fin_cases a <;> rfl)]
  show Adam.mean ((iblk m c 1 t : Vec Ideal S256x1408 .f32) (ix2 r l)) (k0_pay1 (F := Ideal) (grid0.coords t) (iblk m c 3 t) (iblk m c 4 t) (ix2 r l)) = _
  rw [iblk1, grad_at]

theorem flushed_mean (t : Fin cfg0.N) : (dats m 0 c).flushed 7 t = ((cfg0.win 7).blk t).view.read (Elt Ideal) (res_mean m c) := by
  rw [flushed7]
  funext j
  obtain ⟨r, l, rfl⟩ : ∃ (r : Fin 256) (l : Fin 1408), j = (ix2 r l : S256x1408.Idx) := ⟨j 0, j 1, (ix2_eta (j : S256x1408.Idx)).symm⟩
  rw [View.read_apply]
  refine (left_mean m c t r l).trans (congrArg (res_mean m c) (funext fun a => Fin.ext ?_) : res_mean m c (ix2 (row t r) l) = _)
  match a with
  | ⟨0, _⟩ => show t.val * 256 + r.val = win0_7.index t 0 * 256 + 1 * r.val; rw [(index7 t).1]; omega
  | ⟨1, _⟩ => show l.val = win0_7.index t 1 * 1408 + 1 * l.val; rw [(index7 t).2]; omega

theorem final_mean : (dats m 0 c).arrAt 7 cfg0.N = res_mean m c :=
  (dats m 0 c).arrAt_eq_of_cover 7 (res_mean m c) (fun t _ => flushed_mean m c t) fun i : S2048x1408.Idx =>
    ⟨pointOf i, flush0_7 _, by
      show i ∈ ((View.whole main_v0_2).slice (win0_7.rect (pointOf i))).set
      rw [View.set_slice_whole, Rect.mem_set_unit]
      intro a
      have h0 : (i 0 : Nat) < 2048 := (i 0).isLt
      have h1 : (i 1 : Nat) < 1408 := (i 1).isLt
      match a with
      | ⟨0, _⟩ =>
        show win0_7.index (pointOf i) 0 * 256 ≤ (i 0 : Nat) ∧ (i 0 : Nat) < win0_7.index (pointOf i) 0 * 256 + win0_7.xsize (grid0.coords (pointOf i)) 0
        rw [(index7 _).1, (sizes7 _).1]
        show (i 0 : Nat) / 256 * 256 ≤ (i 0 : Nat) ∧ (i 0 : Nat) < (i 0 : Nat) / 256 * 256 + 256
        omega
      | ⟨1, _⟩ =>
        show win0_7.index (pointOf i) 1 * 1408 ≤ (i 1 : Nat) ∧ (i 1 : Nat) < win0_7.index (pointOf i) 1 * 1408 + win0_7.xsize (grid0.coords (pointOf i)) 1
        rw [(index7 _).2, (sizes7 _).2]
        omega⟩

/-- The new average of the square. -/
def res_square : Buf (Elt Ideal) ((c : Thread nD τ).loc main_v0_3) := fun i : S2048x1408.Idx => Adam.square (Q m c (i 0) (i 1)) (G m c (i 0) (i 1))

theorem left_square (t : Fin cfg0.N) (r : Fin 256) (l : Fin 1408) :
    out0_8 (F := Ideal) (grid0.coords t) (iblk m c 0 t) (iblk m c 1 t) (iblk m c 2 t) (iblk m c 3 t) (iblk m c 4 t) (ix2 r l) = Adam.square (Q m c (row t r) l) (G m c (row t r) l) := by
  unfold out0_8
  rw [View.canon_unit_zero (by funext a; fin_cases a <;> rfl)]
  repeat rw [View.ld_unit_zero (by funext a; fin_cases a <;> rfl)]
  show Adam.square ((iblk m c 2 t : Vec Ideal S256x1408 .f32) (ix2 r l)) (k0_pay1 (F := Ideal) (grid0.coords t) (iblk m c 3 t) (iblk m c 4 t) (ix2 r l)) = _
  rw [iblk2, grad_at]

theorem flushed_square (t : Fin cfg0.N) : (dats m 0 c).flushed 8 t = ((cfg0.win 8).blk t).view.read (Elt Ideal) (res_square m c) := by
  rw [flushed8]
  funext j
  obtain ⟨r, l, rfl⟩ : ∃ (r : Fin 256) (l : Fin 1408), j = (ix2 r l : S256x1408.Idx) := ⟨j 0, j 1, (ix2_eta (j : S256x1408.Idx)).symm⟩
  rw [View.read_apply]
  refine (left_square m c t r l).trans (congrArg (res_square m c) (funext fun a => Fin.ext ?_) : res_square m c (ix2 (row t r) l) = _)
  match a with
  | ⟨0, _⟩ => show t.val * 256 + r.val = win0_8.index t 0 * 256 + 1 * r.val; rw [(index8 t).1]; omega
  | ⟨1, _⟩ => show l.val = win0_8.index t 1 * 1408 + 1 * l.val; rw [(index8 t).2]; omega

theorem final_square : (dats m 0 c).arrAt 8 cfg0.N = res_square m c :=
  (dats m 0 c).arrAt_eq_of_cover 8 (res_square m c) (fun t _ => flushed_square m c t) fun i : S2048x1408.Idx =>
    ⟨pointOf i, flush0_8 _, by
      show i ∈ ((View.whole main_v0_3).slice (win0_8.rect (pointOf i))).set
      rw [View.set_slice_whole, Rect.mem_set_unit]
      intro a
      have h0 : (i 0 : Nat) < 2048 := (i 0).isLt
      have h1 : (i 1 : Nat) < 1408 := (i 1).isLt
      match a with
      | ⟨0, _⟩ =>
        show win0_8.index (pointOf i) 0 * 256 ≤ (i 0 : Nat) ∧ (i 0 : Nat) < win0_8.index (pointOf i) 0 * 256 + win0_8.xsize (grid0.coords (pointOf i)) 0
        rw [(index8 _).1, (sizes8 _).1]
        show (i 0 : Nat) / 256 * 256 ≤ (i 0 : Nat) ∧ (i 0 : Nat) < (i 0 : Nat) / 256 * 256 + 256
        omega
      | ⟨1, _⟩ =>
        show win0_8.index (pointOf i) 1 * 1408 ≤ (i 1 : Nat) ∧ (i 1 : Nat) < win0_8.index (pointOf i) 1 * 1408 + win0_8.xsize (grid0.coords (pointOf i)) 1
        rw [(index8 _).2, (sizes8 _).2]
        omega⟩

end Cert.Kernel14Ideal.Optimiser

namespace Cert.Reference14Ideal.Optimiser

open Cert.Reference14Ideal Cert.Reference14Ideal.Gen

/-- The reference's gradient at an index. -/
theorem value (x y : FVec Ideal S1024x1408 .f32) (r : Fin 2048) (l : Fin 1408) :
    concatenate S2048x1408 0 [⟨S1024x1408, x⟩, ⟨S1024x1408, y⟩] concatenates_S1024x1408_S1024x1408_S2048x1408_d0 (ix2 r l)
      = Adam.both rfl (fun r l => x (ix2 r l) : Mat 1024 1408) (fun r l => y (ix2 r l)) r l := by
  unfold Adam.both
  pointwise <;> rfl

end Cert.Reference14Ideal.Optimiser

namespace Cert.Proof

theorem frame_reference14 : Cert.quiescent_Reference14Ideal := fun m ρ _ =>
  (θ_run Reference14Ideal.defs _ _).mono
    (fun r h => ⟨fun c => (h c).2.2.2.2, sem_eq_zero_of_no_sems (by decide) r.2⟩)
    (Reference14Ideal.Value.run (F := Ideal) m ρ)

theorem algebraic14 : Cert.algebraic_Kernel14Ideal_Reference14Ideal := by
  intro m ρ m' ρ' _ hagree
  refine ⟨fun c => Kernel14Ideal.Optimiser.res_grad m c, fun c => Kernel14Ideal.Optimiser.res_delta m c, fun c => Kernel14Ideal.Optimiser.res_mean m c, fun c => Kernel14Ideal.Optimiser.res_square m c, ?_, ?_⟩
  · exact (θ_run _ _ _).mono (fun r h c => ⟨(h c).1.trans (Kernel14Ideal.Optimiser.final_grad m c), (h c).2.1.trans (Kernel14Ideal.Optimiser.final_delta m c), (h c).2.2.1.trans (Kernel14Ideal.Optimiser.final_mean m c), (h c).2.2.2.1.trans (Kernel14Ideal.Optimiser.final_square m c), (h c).2.2.2.2⟩) (Kernel14Ideal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩) (Reference14Ideal.Value.run (F := Ideal) m' ρ')
    all_goals
      rw [(hagree c).2.2.2.1, (hagree c).2.2.2.2]
      try rw [(hagree c).1]
      try rw [(hagree c).2.1]
      try rw [(hagree c).2.2.1]
      funext i
      obtain ⟨r, l, rfl⟩ : ∃ (r : Fin 2048) (l : Fin 1408), i = (ix2 r l : Kernel14Ideal.S2048x1408.Idx) := ⟨i 0, i 1, (ix2_eta (i : Kernel14Ideal.S2048x1408.Idx)).symm⟩
    · exact Reference14Ideal.Optimiser.value _ _ r l
    · exact congrArg (Adam.delta _ _ _) (Reference14Ideal.Optimiser.value _ _ r l)
    · exact congrArg (Adam.mean _) (Reference14Ideal.Optimiser.value _ _ r l)
    · exact congrArg (Adam.square _) (Reference14Ideal.Optimiser.value _ _ r l)

end Cert.Proof

end
-- ==== Proof.AdamMixIn.lean ====
module

public import Idealize.ShloMosaic.Lib.StableHlo.ReadAt
public import Idealize.ShloMosaic.Lib.Quiescent
public import proofs.«01_k».proof.Defs
public import proofs.«01_k».proof.Proof.Adam
public import proofs.«01_k».proof.Proof.Gen.Kernel15.Frame
public import proofs.«01_k».proof.Proof.Gen.Kernel15Ideal.Value
public import proofs.«01_k».proof.Proof.Gen.Reference15Ideal.Run

/-! The optimiser's step on the mixer's input matrix. -/

@[expose] public section

set_option maxRecDepth 16384

noncomputable section

open Idealize.ShloMosaic Idealize.ShloMosaic.TcCoe Idealize.SL.Sem Idealize.ShloMosaic.StableHlo

namespace Cert.Kernel15Ideal.Optimiser

open Cert.Kernel15Ideal Cert.Kernel15Ideal.Gen Cert.Kernel15Ideal.Value

variable (m : (ℓ : Loc nD τ sig) → Buf (Elt Ideal) ℓ) (c : Dev nD)

/-- The weights. -/
def W : Mat 2048 2052 := fun r l => m ((c.tc : Thread nD τ).loc main_arg0) (ix2 r l)

/-- The average of the gradient. -/
def M : Mat 2048 2052 := fun r l => m ((c.tc : Thread nD τ).loc main_arg1) (ix2 r l)

/-- The average of the square. -/
def Q : Mat 2048 2052 := fun r l => m ((c.tc : Thread nD τ).loc main_arg2) (ix2 r l)

/-- The first layer's gradient. -/
def G0 : Mat 1024 2052 := fun r l => m ((c.tc : Thread nD τ).loc main_arg3) (ix2 r l)

/-- The second layer's gradient. -/
def G1 : Mat 1024 2052 := fun r l => m ((c.tc : Thread nD τ).loc main_arg4) (ix2 r l)

/-- The gradient of both layers. -/
def G : Mat 2048 2052 := Adam.both rfl (G0 m c) (G1 m c)

theorem lt_N (t : Fin cfg0.N) : t.val < 16 := by
  have h : cfg0.N = 16 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index3 : ∀ t : Fin grid0.N, win0_3.index t 0 = min t.val 7 ∧ win0_3.index t 1 = 0 := by decide +kernel
theorem index4 : ∀ t : Fin grid0.N, win0_4.index t 0 = t.val - 8 ∧ win0_4.index t 1 = 0 := by decide +kernel
theorem sizes5 : ∀ t : Fin grid0.N, win0_5.xsize (grid0.coords t) 0 = 128 ∧ win0_5.xsize (grid0.coords t) 1 = 2052 := by decide +kernel
theorem sizes6 : ∀ t : Fin grid0.N, win0_6.xsize (grid0.coords t) 0 = 128 ∧ win0_6.xsize (grid0.coords t) 1 = 2052 := by decide +kernel
theorem sizes7 : ∀ t : Fin grid0.N, win0_7.xsize (grid0.coords t) 0 = 128 ∧ win0_7.xsize (grid0.coords t) 1 = 2052 := by decide +kernel
theorem sizes8 : ∀ t : Fin grid0.N, win0_8.xsize (grid0.coords t) 0 = 128 ∧ win0_8.xsize (grid0.coords t) 1 = 2052 := by decide +kernel

/-- The first layer's points choose the first gradient, the others the second. -/
theorem pick : ∀ t : Fin grid0.N, Scalar.cmpi .slt (BitVec.ofNat 32 (grid0.coords t 0).val) 8#32 = if t.val < 8 then 1#1 else 0#1 := by
  decide +kernel

theorem iblk0 (t : Fin cfg0.N) (r : Fin 128) (l : Fin 2052) : (iblk m c 0 t : Vec Ideal S128x2052 .f32) (ix2 r l) = W m c ⟨t.val * 128 + r.val, by have := lt_N t; omega⟩ l := by
  unfold iblk
  rw [View.read_apply]
  refine congrArg (m ((c.tc : Thread nD τ).loc main_arg0)) (funext fun a => Fin.ext ?_)
  match a with
  | ⟨0, _⟩ => show win0_0.index t 0 * 128 + 1 * r.val = t.val * 128 + r.val; rw [(index0 t).1]; omega
  | ⟨1, _⟩ => show win0_0.index t 1 * 2052 + 1 * l.val = l.val; rw [(index0 t).2]; omega

theorem iblk1 (t : Fin cfg0.N) (r : Fin 128) (l : Fin 2052) : (iblk m c 1 t : Vec Ideal S128x2052 .f32) (ix2 r l) = M m c ⟨t.val * 128 + r.val, by have := lt_N t; omega⟩ l := by
  unfold iblk
  rw [View.read_apply]
  refine congrArg (m ((c.tc : Thread nD τ).loc main_arg1)) (funext fun a => Fin.ext ?_)
  match a with
  | ⟨0, _⟩ => show win0_1.index t 0 * 128 + 1 * r.val = t.val * 128 + r.val; rw [(index1 t).1]; omega
  | ⟨1, _⟩ => show win0_1.index t 1 * 2052 + 1 * l.val = l.val; rw [(index1 t).2]; omega

theorem iblk2 (t : Fin cfg0.N) (r : Fin 128) (l : Fin 2052) : (iblk m c 2 t : Vec Ideal S128x2052 .f32) (ix2 r l) = Q m c ⟨t.val * 128 + r.val, by have := lt_N t; omega⟩ l := by
  unfold iblk
  rw [View.read_apply]
  refine congrArg (m ((c.tc : Thread nD τ).loc main_arg2)) (funext fun a => Fin.ext ?_)
  match a with
  | ⟨0, _⟩ => show win0_2.index t 0 * 128 + 1 * r.val = t.val * 128 + r.val; rw [(index2 t).1]; omega
  | ⟨1, _⟩ => show win0_2.index t 1 * 2052 + 1 * l.val = l.val; rw [(index2 t).2]; omega

theorem iblk3 (t : Fin cfg0.N) (r : Fin 128) (l : Fin 2052) : (iblk m c 3 t : Vec Ideal S128x2052 .f32) (ix2 r l) = G0 m c ⟨(min t.val 7) * 128 + r.val, by have := lt_N t; omega⟩ l := by
  unfold iblk
  rw [View.read_apply]
  refine congrArg (m ((c.tc : Thread nD τ).loc main_arg3)) (funext fun a => Fin.ext ?_)
  match a with
  | ⟨0, _⟩ => show win0_3.index t 0 * 128 + 1 * r.val = (min t.val 7) * 128 + r.val; rw [(index3 t).1]; omega
  | ⟨1, _⟩ => show win0_3.index t 1 * 2052 + 1 * l.val = l.val; rw [(index3 t).2]; omega

theorem iblk4 (t : Fin cfg0.N) (r : Fin 128) (l : Fin 2052) : (iblk m c 4 t : Vec Ideal S128x2052 .f32) (ix2 r l) = G1 m c ⟨(t.val - 8) * 128 + r.val, by have := lt_N t; omega⟩ l := by
  unfold iblk
  rw [View.read_apply]
  refine congrArg (m ((c.tc : Thread nD τ).loc main_arg4)) (funext fun a => Fin.ext ?_)
  match a with
  | ⟨0, _⟩ => show win0_4.index t 0 * 128 + 1 * r.val = (t.val - 8) * 128 + r.val; rw [(index4 t).1]; omega
  | ⟨1, _⟩ => show win0_4.index t 1 * 2052 + 1 * l.val = l.val; rw [(index4 t).2]; omega

/-- The place of a point's row. -/
abbrev row (t : Fin cfg0.N) (r : Fin 128) : Fin 2048 := ⟨t.val * 128 + r.val, by have := lt_N t; omega⟩

/-- The gradient that a point reads. -/
theorem grad_at (t : Fin cfg0.N) (r : Fin 128) (l : Fin 2052) :
    k0_pay1 (F := Ideal) (grid0.coords t) (iblk m c 3 t) (iblk m c 4 t) (ix2 r l) = G m c (row t r) l := by
  have hN := lt_N t
  unfold k0_pay1
  dsimp only
  rw [pick t]
  unfold G Adam.both
  by_cases h : t.val < 8
  · rw [if_pos h, dif_pos (show (row t r).val < 1024 by show t.val * 128 + r.val < 1024; omega)]
    refine (iblk3 m c t r l).trans (congrArg₂ (G0 m c) (Fin.ext ?_) rfl)
    show min t.val 7 * 128 + r.val = t.val * 128 + r.val
    rw [Nat.min_eq_left (by omega)]
  · rw [if_neg h, dif_neg (show ¬ (row t r).val < 1024 by show ¬ t.val * 128 + r.val < 1024; omega)]
    refine (iblk4 m c t r l).trans (congrArg₂ (G1 m c) (Fin.ext ?_) rfl)
    show (t.val - 8) * 128 + r.val = t.val * 128 + r.val - 1024
    omega

/-- The point that writes an index. -/
abbrev pointOf (i : S2048x2052.Idx) : Fin cfg0.N := ⟨(i 0 : Nat) / 128, by
  have h : cfg0.N = 16 := N_0
  have h0 : (i 0 : Nat) < 2048 := (i 0).isLt
  omega⟩

/-- The gradient. -/
def res_grad : Buf (Elt Ideal) ((c : Thread nD τ).loc main_v0_0) := fun i : S2048x2052.Idx => G m c (i 0) (i 1)

theorem left_grad (t : Fin cfg0.N) (r : Fin 128) (l : Fin 2052) :
    out0_5 (F := Ideal) (grid0.coords t) (iblk m c 0 t) (iblk m c 1 t) (iblk m c 2 t) (iblk m c 3 t) (iblk m c 4 t) (ix2 r l) = G m c (row t r) l := by
  unfold out0_5
  rw [View.canon_unit_zero (by funext a; fin_cases a <;> rfl)]
  repeat rw [View.ld_unit_zero (by funext a; fin_cases a <;> rfl)]
  exact grad_at m c t r l

theorem flushed_grad (t : Fin cfg0.N) : (dats m 0 c).flushed 5 t = ((cfg0.win 5).blk t).view.read (Elt Ideal) (res_grad m c) := by
  rw [flushed5]
  funext j
  obtain ⟨r, l, rfl⟩ : ∃ (r : Fin 128) (l : Fin 2052), j = (ix2 r l : S128x2052.Idx) := ⟨j 0, j 1, (ix2_eta (j : S128x2052.Idx)).symm⟩
  rw [View.read_apply]
  refine (left_grad m c t r l).trans (congrArg (res_grad m c) (funext fun a => Fin.ext ?_) : res_grad m c (ix2 (row t r) l) = _)
  match a with
  | ⟨0, _⟩ => show t.val * 128 + r.val = win0_5.index t 0 * 128 + 1 * r.val; rw [(index5 t).1]; omega
  | ⟨1, _⟩ => show l.val = win0_5.index t 1 * 2052 + 1 * l.val; rw [(index5 t).2]; omega

theorem final_grad : (dats m 0 c).arrAt 5 cfg0.N = res_grad m c :=
  (dats m 0 c).arrAt_eq_of_cover 5 (res_grad m c) (fun t _ => flushed_grad m c t) fun i : S2048x2052.Idx =>
    ⟨pointOf i, flush0_5 _, by
      show i ∈ ((View.whole main_v0_0).slice (win0_5.rect (pointOf i))).set
      rw [View.set_slice_whole, Rect.mem_set_unit]
      intro a
      have h0 : (i 0 : Nat) < 2048 := (i 0).isLt
      have h1 : (i 1 : Nat) < 2052 := (i 1).isLt
      match a with
      | ⟨0, _⟩ =>
        show win0_5.index (pointOf i) 0 * 128 ≤ (i 0 : Nat) ∧ (i 0 : Nat) < win0_5.index (pointOf i) 0 * 128 + win0_5.xsize (grid0.coords (pointOf i)) 0
        rw [(index5 _).1, (sizes5 _).1]
        show (i 0 : Nat) / 128 * 128 ≤ (i 0 : Nat) ∧ (i 0 : Nat) < (i 0 : Nat) / 128 * 128 + 128
        omega
      | ⟨1, _⟩ =>
        show win0_5.index (pointOf i) 1 * 2052 ≤ (i 1 : Nat) ∧ (i 1 : Nat) < win0_5.index (pointOf i) 1 * 2052 + win0_5.xsize (grid0.coords (pointOf i)) 1
        rw [(index5 _).2, (sizes5 _).2]
        omega⟩

/-- The change of the weights. -/
def res_delta : Buf (Elt Ideal) ((c : Thread nD τ).loc main_v0_1) := fun i : S2048x2052.Idx => Adam.delta (W m c (i 0) (i 1)) (M m c (i 0) (i 1)) (Q m c (i 0) (i 1)) (G m c (i 0) (i 1))

theorem left_delta (t : Fin cfg0.N) (r : Fin 128) (l : Fin 2052) :
    out0_6 (F := Ideal) (grid0.coords t) (iblk m c 0 t) (iblk m c 1 t) (iblk m c 2 t) (iblk m c 3 t) (iblk m c 4 t) (ix2 r l) = Adam.delta (W m c (row t r) l) (M m c (row t r) l) (Q m c (row t r) l) (G m c (row t r) l) := by
  unfold out0_6
  rw [View.canon_unit_zero (by funext a; fin_cases a <;> rfl)]
  repeat rw [View.ld_unit_zero (by funext a; fin_cases a <;> rfl)]
  show Adam.delta ((iblk m c 0 t : Vec Ideal S128x2052 .f32) (ix2 r l)) ((iblk m c 1 t : Vec Ideal S128x2052 .f32) (ix2 r l)) ((iblk m c 2 t : Vec Ideal S128x2052 .f32) (ix2 r l)) (k0_pay1 (F := Ideal) (grid0.coords t) (iblk m c 3 t) (iblk m c 4 t) (ix2 r l)) = _
  rw [iblk0, iblk1, iblk2, grad_at]

theorem flushed_delta (t : Fin cfg0.N) : (dats m 0 c).flushed 6 t = ((cfg0.win 6).blk t).view.read (Elt Ideal) (res_delta m c) := by
  rw [flushed6]
  funext j
  obtain ⟨r, l, rfl⟩ : ∃ (r : Fin 128) (l : Fin 2052), j = (ix2 r l : S128x2052.Idx) := ⟨j 0, j 1, (ix2_eta (j : S128x2052.Idx)).symm⟩
  rw [View.read_apply]
  refine (left_delta m c t r l).trans (congrArg (res_delta m c) (funext fun a => Fin.ext ?_) : res_delta m c (ix2 (row t r) l) = _)
  match a with
  | ⟨0, _⟩ => show t.val * 128 + r.val = win0_6.index t 0 * 128 + 1 * r.val; rw [(index6 t).1]; omega
  | ⟨1, _⟩ => show l.val = win0_6.index t 1 * 2052 + 1 * l.val; rw [(index6 t).2]; omega

theorem final_delta : (dats m 0 c).arrAt 6 cfg0.N = res_delta m c :=
  (dats m 0 c).arrAt_eq_of_cover 6 (res_delta m c) (fun t _ => flushed_delta m c t) fun i : S2048x2052.Idx =>
    ⟨pointOf i, flush0_6 _, by
      show i ∈ ((View.whole main_v0_1).slice (win0_6.rect (pointOf i))).set
      rw [View.set_slice_whole, Rect.mem_set_unit]
      intro a
      have h0 : (i 0 : Nat) < 2048 := (i 0).isLt
      have h1 : (i 1 : Nat) < 2052 := (i 1).isLt
      match a with
      | ⟨0, _⟩ =>
        show win0_6.index (pointOf i) 0 * 128 ≤ (i 0 : Nat) ∧ (i 0 : Nat) < win0_6.index (pointOf i) 0 * 128 + win0_6.xsize (grid0.coords (pointOf i)) 0
        rw [(index6 _).1, (sizes6 _).1]
        show (i 0 : Nat) / 128 * 128 ≤ (i 0 : Nat) ∧ (i 0 : Nat) < (i 0 : Nat) / 128 * 128 + 128
        omega
      | ⟨1, _⟩ =>
        show win0_6.index (pointOf i) 1 * 2052 ≤ (i 1 : Nat) ∧ (i 1 : Nat) < win0_6.index (pointOf i) 1 * 2052 + win0_6.xsize (grid0.coords (pointOf i)) 1
        rw [(index6 _).2, (sizes6 _).2]
        omega⟩

/-- The new average of the gradient. -/
def res_mean : Buf (Elt Ideal) ((c : Thread nD τ).loc main_v0_2) := fun i : S2048x2052.Idx => Adam.mean (M m c (i 0) (i 1)) (G m c (i 0) (i 1))

theorem left_mean (t : Fin cfg0.N) (r : Fin 128) (l : Fin 2052) :
    out0_7 (F := Ideal) (grid0.coords t) (iblk m c 0 t) (iblk m c 1 t) (iblk m c 2 t) (iblk m c 3 t) (iblk m c 4 t) (ix2 r l) = Adam.mean (M m c (row t r) l) (G m c (row t r) l) := by
  unfold out0_7
  rw [View.canon_unit_zero (by funext a; fin_cases a <;> rfl)]
  repeat rw [View.ld_unit_zero (by funext a; fin_cases a <;> rfl)]
  show Adam.mean ((iblk m c 1 t : Vec Ideal S128x2052 .f32) (ix2 r l)) (k0_pay1 (F := Ideal) (grid0.coords t) (iblk m c 3 t) (iblk m c 4 t) (ix2 r l)) = _
  rw [iblk1, grad_at]

theorem flushed_mean (t : Fin cfg0.N) : (dats m 0 c).flushed 7 t = ((cfg0.win 7).blk t).view.read (Elt Ideal) (res_mean m c) := by
  rw [flushed7]
  funext j
  obtain ⟨r, l, rfl⟩ : ∃ (r : Fin 128) (l : Fin 2052), j = (ix2 r l : S128x2052.Idx) := ⟨j 0, j 1, (ix2_eta (j : S128x2052.Idx)).symm⟩
  rw [View.read_apply]
  refine (left_mean m c t r l).trans (congrArg (res_mean m c) (funext fun a => Fin.ext ?_) : res_mean m c (ix2 (row t r) l) = _)
  match a with
  | ⟨0, _⟩ => show t.val * 128 + r.val = win0_7.index t 0 * 128 + 1 * r.val; rw [(index7 t).1]; omega
  | ⟨1, _⟩ => show l.val = win0_7.index t 1 * 2052 + 1 * l.val; rw [(index7 t).2]; omega

theorem final_mean : (dats m 0 c).arrAt 7 cfg0.N = res_mean m c :=
  (dats m 0 c).arrAt_eq_of_cover 7 (res_mean m c) (fun t _ => flushed_mean m c t) fun i : S2048x2052.Idx =>
    ⟨pointOf i, flush0_7 _, by
      show i ∈ ((View.whole main_v0_2).slice (win0_7.rect (pointOf i))).set
      rw [View.set_slice_whole, Rect.mem_set_unit]
      intro a
      have h0 : (i 0 : Nat) < 2048 := (i 0).isLt
      have h1 : (i 1 : Nat) < 2052 := (i 1).isLt
      match a with
      | ⟨0, _⟩ =>
        show win0_7.index (pointOf i) 0 * 128 ≤ (i 0 : Nat) ∧ (i 0 : Nat) < win0_7.index (pointOf i) 0 * 128 + win0_7.xsize (grid0.coords (pointOf i)) 0
        rw [(index7 _).1, (sizes7 _).1]
        show (i 0 : Nat) / 128 * 128 ≤ (i 0 : Nat) ∧ (i 0 : Nat) < (i 0 : Nat) / 128 * 128 + 128
        omega
      | ⟨1, _⟩ =>
        show win0_7.index (pointOf i) 1 * 2052 ≤ (i 1 : Nat) ∧ (i 1 : Nat) < win0_7.index (pointOf i) 1 * 2052 + win0_7.xsize (grid0.coords (pointOf i)) 1
        rw [(index7 _).2, (sizes7 _).2]
        omega⟩

/-- The new average of the square. -/
def res_square : Buf (Elt Ideal) ((c : Thread nD τ).loc main_v0_3) := fun i : S2048x2052.Idx => Adam.square (Q m c (i 0) (i 1)) (G m c (i 0) (i 1))

theorem left_square (t : Fin cfg0.N) (r : Fin 128) (l : Fin 2052) :
    out0_8 (F := Ideal) (grid0.coords t) (iblk m c 0 t) (iblk m c 1 t) (iblk m c 2 t) (iblk m c 3 t) (iblk m c 4 t) (ix2 r l) = Adam.square (Q m c (row t r) l) (G m c (row t r) l) := by
  unfold out0_8
  rw [View.canon_unit_zero (by funext a; fin_cases a <;> rfl)]
  repeat rw [View.ld_unit_zero (by funext a; fin_cases a <;> rfl)]
  show Adam.square ((iblk m c 2 t : Vec Ideal S128x2052 .f32) (ix2 r l)) (k0_pay1 (F := Ideal) (grid0.coords t) (iblk m c 3 t) (iblk m c 4 t) (ix2 r l)) = _
  rw [iblk2, grad_at]

theorem flushed_square (t : Fin cfg0.N) : (dats m 0 c).flushed 8 t = ((cfg0.win 8).blk t).view.read (Elt Ideal) (res_square m c) := by
  rw [flushed8]
  funext j
  obtain ⟨r, l, rfl⟩ : ∃ (r : Fin 128) (l : Fin 2052), j = (ix2 r l : S128x2052.Idx) := ⟨j 0, j 1, (ix2_eta (j : S128x2052.Idx)).symm⟩
  rw [View.read_apply]
  refine (left_square m c t r l).trans (congrArg (res_square m c) (funext fun a => Fin.ext ?_) : res_square m c (ix2 (row t r) l) = _)
  match a with
  | ⟨0, _⟩ => show t.val * 128 + r.val = win0_8.index t 0 * 128 + 1 * r.val; rw [(index8 t).1]; omega
  | ⟨1, _⟩ => show l.val = win0_8.index t 1 * 2052 + 1 * l.val; rw [(index8 t).2]; omega

theorem final_square : (dats m 0 c).arrAt 8 cfg0.N = res_square m c :=
  (dats m 0 c).arrAt_eq_of_cover 8 (res_square m c) (fun t _ => flushed_square m c t) fun i : S2048x2052.Idx =>
    ⟨pointOf i, flush0_8 _, by
      show i ∈ ((View.whole main_v0_3).slice (win0_8.rect (pointOf i))).set
      rw [View.set_slice_whole, Rect.mem_set_unit]
      intro a
      have h0 : (i 0 : Nat) < 2048 := (i 0).isLt
      have h1 : (i 1 : Nat) < 2052 := (i 1).isLt
      match a with
      | ⟨0, _⟩ =>
        show win0_8.index (pointOf i) 0 * 128 ≤ (i 0 : Nat) ∧ (i 0 : Nat) < win0_8.index (pointOf i) 0 * 128 + win0_8.xsize (grid0.coords (pointOf i)) 0
        rw [(index8 _).1, (sizes8 _).1]
        show (i 0 : Nat) / 128 * 128 ≤ (i 0 : Nat) ∧ (i 0 : Nat) < (i 0 : Nat) / 128 * 128 + 128
        omega
      | ⟨1, _⟩ =>
        show win0_8.index (pointOf i) 1 * 2052 ≤ (i 1 : Nat) ∧ (i 1 : Nat) < win0_8.index (pointOf i) 1 * 2052 + win0_8.xsize (grid0.coords (pointOf i)) 1
        rw [(index8 _).2, (sizes8 _).2]
        omega⟩

end Cert.Kernel15Ideal.Optimiser

namespace Cert.Reference15Ideal.Optimiser

open Cert.Reference15Ideal Cert.Reference15Ideal.Gen

/-- The reference's gradient at an index. -/
theorem value (x y : FVec Ideal S1024x2052 .f32) (r : Fin 2048) (l : Fin 2052) :
    concatenate S2048x2052 0 [⟨S1024x2052, x⟩, ⟨S1024x2052, y⟩] concatenates_S1024x2052_S1024x2052_S2048x2052_d0 (ix2 r l)
      = Adam.both rfl (fun r l => x (ix2 r l) : Mat 1024 2052) (fun r l => y (ix2 r l)) r l := by
  unfold Adam.both
  pointwise <;> rfl

end Cert.Reference15Ideal.Optimiser

namespace Cert.Proof

theorem frame_reference15 : Cert.quiescent_Reference15Ideal := fun m ρ _ =>
  (θ_run Reference15Ideal.defs _ _).mono
    (fun r h => ⟨fun c => (h c).2.2.2.2, sem_eq_zero_of_no_sems (by decide) r.2⟩)
    (Reference15Ideal.Value.run (F := Ideal) m ρ)

theorem algebraic15 : Cert.algebraic_Kernel15Ideal_Reference15Ideal := by
  intro m ρ m' ρ' _ hagree
  refine ⟨fun c => Kernel15Ideal.Optimiser.res_grad m c, fun c => Kernel15Ideal.Optimiser.res_delta m c, fun c => Kernel15Ideal.Optimiser.res_mean m c, fun c => Kernel15Ideal.Optimiser.res_square m c, ?_, ?_⟩
  · exact (θ_run _ _ _).mono (fun r h c => ⟨(h c).1.trans (Kernel15Ideal.Optimiser.final_grad m c), (h c).2.1.trans (Kernel15Ideal.Optimiser.final_delta m c), (h c).2.2.1.trans (Kernel15Ideal.Optimiser.final_mean m c), (h c).2.2.2.1.trans (Kernel15Ideal.Optimiser.final_square m c), (h c).2.2.2.2⟩) (Kernel15Ideal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩) (Reference15Ideal.Value.run (F := Ideal) m' ρ')
    all_goals
      rw [(hagree c).2.2.2.1, (hagree c).2.2.2.2]
      try rw [(hagree c).1]
      try rw [(hagree c).2.1]
      try rw [(hagree c).2.2.1]
      funext i
      obtain ⟨r, l, rfl⟩ : ∃ (r : Fin 2048) (l : Fin 2052), i = (ix2 r l : Kernel15Ideal.S2048x2052.Idx) := ⟨i 0, i 1, (ix2_eta (i : Kernel15Ideal.S2048x2052.Idx)).symm⟩
    · exact Reference15Ideal.Optimiser.value _ _ r l
    · exact congrArg (Adam.delta _ _ _) (Reference15Ideal.Optimiser.value _ _ r l)
    · exact congrArg (Adam.mean _) (Reference15Ideal.Optimiser.value _ _ r l)
    · exact congrArg (Adam.square _) (Reference15Ideal.Optimiser.value _ _ r l)

end Cert.Proof

end
-- ==== Proof.AdamFfnOut.lean ====
module

public import Idealize.ShloMosaic.Lib.StableHlo.ReadAt
public import Idealize.ShloMosaic.Lib.Quiescent
public import proofs.«01_k».proof.Defs
public import proofs.«01_k».proof.Proof.Adam
public import proofs.«01_k».proof.Proof.Gen.Kernel16.Frame
public import proofs.«01_k».proof.Proof.Gen.Kernel16Ideal.Value
public import proofs.«01_k».proof.Proof.Gen.Reference16Ideal.Run

/-! The optimiser's step on the feed-forward layer's second matrix. -/

@[expose] public section

set_option maxRecDepth 16384

noncomputable section

open Idealize.ShloMosaic Idealize.ShloMosaic.TcCoe Idealize.SL.Sem Idealize.ShloMosaic.StableHlo

namespace Cert.Kernel16Ideal.Optimiser

open Cert.Kernel16Ideal Cert.Kernel16Ideal.Gen Cert.Kernel16Ideal.Value

variable (m : (ℓ : Loc nD τ sig) → Buf (Elt Ideal) ℓ) (c : Dev nD)

/-- The weights. -/
def W : Mat 1408 1024 := fun r l => m ((c.tc : Thread nD τ).loc main_arg0) (ix2 r l)

/-- The average of the gradient. -/
def M : Mat 1408 1024 := fun r l => m ((c.tc : Thread nD τ).loc main_arg1) (ix2 r l)

/-- The average of the square. -/
def Q : Mat 1408 1024 := fun r l => m ((c.tc : Thread nD τ).loc main_arg2) (ix2 r l)

/-- The first layer's gradient. -/
def G0 : Mat 704 1024 := fun r l => m ((c.tc : Thread nD τ).loc main_arg3) (ix2 r l)

/-- The second layer's gradient. -/
def G1 : Mat 704 1024 := fun r l => m ((c.tc : Thread nD τ).loc main_arg4) (ix2 r l)

/-- The gradient of both layers. -/
def G : Mat 1408 1024 := Adam.both rfl (G0 m c) (G1 m c)

theorem lt_N (t : Fin cfg0.N) : t.val < 4 := by
  have h : cfg0.N = 4 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index3 : ∀ t : Fin grid0.N, win0_3.index t 0 = min t.val 1 ∧ win0_3.index t 1 = 0 := by decide +kernel
theorem index4 : ∀ t : Fin grid0.N, win0_4.index t 0 = t.val - 2 ∧ win0_4.index t 1 = 0 := by decide +kernel
theorem sizes5 : ∀ t : Fin grid0.N, win0_5.xsize (grid0.coords t) 0 = 352 ∧ win0_5.xsize (grid0.coords t) 1 = 1024 := by decide +kernel
theorem sizes6 : ∀ t : Fin grid0.N, win0_6.xsize (grid0.coords t) 0 = 352 ∧ win0_6.xsize (grid0.coords t) 1 = 1024 := by decide +kernel
theorem sizes7 : ∀ t : Fin grid0.N, win0_7.xsize (grid0.coords t) 0 = 352 ∧ win0_7.xsize (grid0.coords t) 1 = 1024 := by decide +kernel
theorem sizes8 : ∀ t : Fin grid0.N, win0_8.xsize (grid0.coords t) 0 = 352 ∧ win0_8.xsize (grid0.coords t) 1 = 1024 := by decide +kernel

/-- The first layer's points choose the first gradient, the others the second. -/
theorem pick : ∀ t : Fin grid0.N, Scalar.cmpi .slt (BitVec.ofNat 32 (grid0.coords t 0).val) 2#32 = if t.val < 2 then 1#1 else 0#1 := by
  decide +kernel

theorem iblk0 (t : Fin cfg0.N) (r : Fin 352) (l : Fin 1024) : (iblk m c 0 t : Vec Ideal S352x1024 .f32) (ix2 r l) = W m c ⟨t.val * 352 + r.val, by have := lt_N t; omega⟩ l := by
  unfold iblk
  rw [View.read_apply]
  refine congrArg (m ((c.tc : Thread nD τ).loc main_arg0)) (funext fun a => Fin.ext ?_)
  match a with
  | ⟨0, _⟩ => show win0_0.index t 0 * 352 + 1 * r.val = t.val * 352 + r.val; rw [(index0 t).1]; omega
  | ⟨1, _⟩ => show win0_0.index t 1 * 1024 + 1 * l.val = l.val; rw [(index0 t).2]; omega

theorem iblk1 (t : Fin cfg0.N) (r : Fin 352) (l : Fin 1024) : (iblk m c 1 t : Vec Ideal S352x1024 .f32) (ix2 r l) = M m c ⟨t.val * 352 + r.val, by have := lt_N t; omega⟩ l := by
  unfold iblk
  rw [View.read_apply]
  refine congrArg (m ((c.tc : Thread nD τ).loc main_arg1)) (funext fun a => Fin.ext ?_)
  match a with
  | ⟨0, _⟩ => show win0_1.index t 0 * 352 + 1 * r.val = t.val * 352 + r.val; rw [(index1 t).1]; omega
  | ⟨1, _⟩ => show win0_1.index t 1 * 1024 + 1 * l.val = l.val; rw [(index1 t).2]; omega

theorem iblk2 (t : Fin cfg0.N) (r : Fin 352) (l : Fin 1024) : (iblk m c 2 t : Vec Ideal S352x1024 .f32) (ix2 r l) = Q m c ⟨t.val * 352 + r.val, by have := lt_N t; omega⟩ l := by
  unfold iblk
  rw [View.read_apply]
  refine congrArg (m ((c.tc : Thread nD τ).loc main_arg2)) (funext fun a => Fin.ext ?_)
  match a with
  | ⟨0, _⟩ => show win0_2.index t 0 * 352 + 1 * r.val = t.val * 352 + r.val; rw [(index2 t).1]; omega
  | ⟨1, _⟩ => show win0_2.index t 1 * 1024 + 1 * l.val = l.val; rw [(index2 t).2]; omega

theorem iblk3 (t : Fin cfg0.N) (r : Fin 352) (l : Fin 1024) : (iblk m c 3 t : Vec Ideal S352x1024 .f32) (ix2 r l) = G0 m c ⟨(min t.val 1) * 352 + r.val, by have := lt_N t; omega⟩ l := by
  unfold iblk
  rw [View.read_apply]
  refine congrArg (m ((c.tc : Thread nD τ).loc main_arg3)) (funext fun a => Fin.ext ?_)
  match a with
  | ⟨0, _⟩ => show win0_3.index t 0 * 352 + 1 * r.val = (min t.val 1) * 352 + r.val; rw [(index3 t).1]; omega
  | ⟨1, _⟩ => show win0_3.index t 1 * 1024 + 1 * l.val = l.val; rw [(index3 t).2]; omega

theorem iblk4 (t : Fin cfg0.N) (r : Fin 352) (l : Fin 1024) : (iblk m c 4 t : Vec Ideal S352x1024 .f32) (ix2 r l) = G1 m c ⟨(t.val - 2) * 352 + r.val, by have := lt_N t; omega⟩ l := by
  unfold iblk
  rw [View.read_apply]
  refine congrArg (m ((c.tc : Thread nD τ).loc main_arg4)) (funext fun a => Fin.ext ?_)
  match a with
  | ⟨0, _⟩ => show win0_4.index t 0 * 352 + 1 * r.val = (t.val - 2) * 352 + r.val; rw [(index4 t).1]; omega
  | ⟨1, _⟩ => show win0_4.index t 1 * 1024 + 1 * l.val = l.val; rw [(index4 t).2]; omega

/-- The place of a point's row. -/
abbrev row (t : Fin cfg0.N) (r : Fin 352) : Fin 1408 := ⟨t.val * 352 + r.val, by have := lt_N t; omega⟩

/-- The gradient that a point reads. -/
theorem grad_at (t : Fin cfg0.N) (r : Fin 352) (l : Fin 1024) :
    k0_pay1 (F := Ideal) (grid0.coords t) (iblk m c 3 t) (iblk m c 4 t) (ix2 r l) = G m c (row t r) l := by
  have hN := lt_N t
  unfold k0_pay1
  dsimp only
  rw [pick t]
  unfold G Adam.both
  by_cases h : t.val < 2
  · rw [if_pos h, dif_pos (show (row t r).val < 704 by show t.val * 352 + r.val < 704; omega)]
    refine (iblk3 m c t r l).trans (congrArg₂ (G0 m c) (Fin.ext ?_) rfl)
    show min t.val 1 * 352 + r.val = t.val * 352 + r.val
    rw [Nat.min_eq_left (by omega)]
  · rw [if_neg h, dif_neg (show ¬ (row t r).val < 704 by show ¬ t.val * 352 + r.val < 704; omega)]
    refine (iblk4 m c t r l).trans (congrArg₂ (G1 m c) (Fin.ext ?_) rfl)
    show (t.val - 2) * 352 + r.val = t.val * 352 + r.val - 704
    omega

/-- The point that writes an index. -/
abbrev pointOf (i : S1408x1024.Idx) : Fin cfg0.N := ⟨(i 0 : Nat) / 352, by
  have h : cfg0.N = 4 := N_0
  have h0 : (i 0 : Nat) < 1408 := (i 0).isLt
  omega⟩

/-- The gradient. -/
def res_grad : Buf (Elt Ideal) ((c : Thread nD τ).loc main_v0_0) := fun i : S1408x1024.Idx => G m c (i 0) (i 1)

theorem left_grad (t : Fin cfg0.N) (r : Fin 352) (l : Fin 1024) :
    out0_5 (F := Ideal) (grid0.coords t) (iblk m c 0 t) (iblk m c 1 t) (iblk m c 2 t) (iblk m c 3 t) (iblk m c 4 t) (ix2 r l) = G m c (row t r) l := by
  unfold out0_5
  rw [View.canon_unit_zero (by funext a; fin_cases a <;> rfl)]
  repeat rw [View.ld_unit_zero (by funext a; fin_cases a <;> rfl)]
  exact grad_at m c t r l

theorem flushed_grad (t : Fin cfg0.N) : (dats m 0 c).flushed 5 t = ((cfg0.win 5).blk t).view.read (Elt Ideal) (res_grad m c) := by
  rw [flushed5]
  funext j
  obtain ⟨r, l, rfl⟩ : ∃ (r : Fin 352) (l : Fin 1024), j = (ix2 r l : S352x1024.Idx) := ⟨j 0, j 1, (ix2_eta (j : S352x1024.Idx)).symm⟩
  rw [View.read_apply]
  refine (left_grad m c t r l).trans (congrArg (res_grad m c) (funext fun a => Fin.ext ?_) : res_grad m c (ix2 (row t r) l) = _)
  match a with
  | ⟨0, _⟩ => show t.val * 352 + r.val = win0_5.index t 0 * 352 + 1 * r.val; rw [(index5 t).1]; omega
  | ⟨1, _⟩ => show l.val = win0_5.index t 1 * 1024 + 1 * l.val; rw [(index5 t).2]; omega

theorem final_grad : (dats m 0 c).arrAt 5 cfg0.N = res_grad m c :=
  (dats m 0 c).arrAt_eq_of_cover 5 (res_grad m c) (fun t _ => flushed_grad m c t) fun i : S1408x1024.Idx =>
    ⟨pointOf i, flush0_5 _, by
      show i ∈ ((View.whole main_v0_0).slice (win0_5.rect (pointOf i))).set
      rw [View.set_slice_whole, Rect.mem_set_unit]
      intro a
      have h0 : (i 0 : Nat) < 1408 := (i 0).isLt
      have h1 : (i 1 : Nat) < 1024 := (i 1).isLt
      match a with
      | ⟨0, _⟩ =>
        show win0_5.index (pointOf i) 0 * 352 ≤ (i 0 : Nat) ∧ (i 0 : Nat) < win0_5.index (pointOf i) 0 * 352 + win0_5.xsize (grid0.coords (pointOf i)) 0
        rw [(index5 _).1, (sizes5 _).1]
        show (i 0 : Nat) / 352 * 352 ≤ (i 0 : Nat) ∧ (i 0 : Nat) < (i 0 : Nat) / 352 * 352 + 352
        omega
      | ⟨1, _⟩ =>
        show win0_5.index (pointOf i) 1 * 1024 ≤ (i 1 : Nat) ∧ (i 1 : Nat) < win0_5.index (pointOf i) 1 * 1024 + win0_5.xsize (grid0.coords (pointOf i)) 1
        rw [(index5 _).2, (sizes5 _).2]
        omega⟩

/-- The change of the weights. -/
def res_delta : Buf (Elt Ideal) ((c : Thread nD τ).loc main_v0_1) := fun i : S1408x1024.Idx => Adam.delta (W m c (i 0) (i 1)) (M m c (i 0) (i 1)) (Q m c (i 0) (i 1)) (G m c (i 0) (i 1))

theorem left_delta (t : Fin cfg0.N) (r : Fin 352) (l : Fin 1024) :
    out0_6 (F := Ideal) (grid0.coords t) (iblk m c 0 t) (iblk m c 1 t) (iblk m c 2 t) (iblk m c 3 t) (iblk m c 4 t) (ix2 r l) = Adam.delta (W m c (row t r) l) (M m c (row t r) l) (Q m c (row t r) l) (G m c (row t r) l) := by
  unfold out0_6
  rw [View.canon_unit_zero (by funext a; fin_cases a <;> rfl)]
  repeat rw [View.ld_unit_zero (by funext a; fin_cases a <;> rfl)]
  show Adam.delta ((iblk m c 0 t : Vec Ideal S352x1024 .f32) (ix2 r l)) ((iblk m c 1 t : Vec Ideal S352x1024 .f32) (ix2 r l)) ((iblk m c 2 t : Vec Ideal S352x1024 .f32) (ix2 r l)) (k0_pay1 (F := Ideal) (grid0.coords t) (iblk m c 3 t) (iblk m c 4 t) (ix2 r l)) = _
  rw [iblk0, iblk1, iblk2, grad_at]

theorem flushed_delta (t : Fin cfg0.N) : (dats m 0 c).flushed 6 t = ((cfg0.win 6).blk t).view.read (Elt Ideal) (res_delta m c) := by
  rw [flushed6]
  funext j
  obtain ⟨r, l, rfl⟩ : ∃ (r : Fin 352) (l : Fin 1024), j = (ix2 r l : S352x1024.Idx) := ⟨j 0, j 1, (ix2_eta (j : S352x1024.Idx)).symm⟩
  rw [View.read_apply]
  refine (left_delta m c t r l).trans (congrArg (res_delta m c) (funext fun a => Fin.ext ?_) : res_delta m c (ix2 (row t r) l) = _)
  match a with
  | ⟨0, _⟩ => show t.val * 352 + r.val = win0_6.index t 0 * 352 + 1 * r.val; rw [(index6 t).1]; omega
  | ⟨1, _⟩ => show l.val = win0_6.index t 1 * 1024 + 1 * l.val; rw [(index6 t).2]; omega

theorem final_delta : (dats m 0 c).arrAt 6 cfg0.N = res_delta m c :=
  (dats m 0 c).arrAt_eq_of_cover 6 (res_delta m c) (fun t _ => flushed_delta m c t) fun i : S1408x1024.Idx =>
    ⟨pointOf i, flush0_6 _, by
      show i ∈ ((View.whole main_v0_1).slice (win0_6.rect (pointOf i))).set
      rw [View.set_slice_whole, Rect.mem_set_unit]
      intro a
      have h0 : (i 0 : Nat) < 1408 := (i 0).isLt
      have h1 : (i 1 : Nat) < 1024 := (i 1).isLt
      match a with
      | ⟨0, _⟩ =>
        show win0_6.index (pointOf i) 0 * 352 ≤ (i 0 : Nat) ∧ (i 0 : Nat) < win0_6.index (pointOf i) 0 * 352 + win0_6.xsize (grid0.coords (pointOf i)) 0
        rw [(index6 _).1, (sizes6 _).1]
        show (i 0 : Nat) / 352 * 352 ≤ (i 0 : Nat) ∧ (i 0 : Nat) < (i 0 : Nat) / 352 * 352 + 352
        omega
      | ⟨1, _⟩ =>
        show win0_6.index (pointOf i) 1 * 1024 ≤ (i 1 : Nat) ∧ (i 1 : Nat) < win0_6.index (pointOf i) 1 * 1024 + win0_6.xsize (grid0.coords (pointOf i)) 1
        rw [(index6 _).2, (sizes6 _).2]
        omega⟩

/-- The new average of the gradient. -/
def res_mean : Buf (Elt Ideal) ((c : Thread nD τ).loc main_v0_2) := fun i : S1408x1024.Idx => Adam.mean (M m c (i 0) (i 1)) (G m c (i 0) (i 1))

theorem left_mean (t : Fin cfg0.N) (r : Fin 352) (l : Fin 1024) :
    out0_7 (F := Ideal) (grid0.coords t) (iblk m c 0 t) (iblk m c 1 t) (iblk m c 2 t) (iblk m c 3 t) (iblk m c 4 t) (ix2 r l) = Adam.mean (M m c (row t r) l) (G m c (row t r) l) := by
  unfold out0_7
  rw [View.canon_unit_zero (by funext a; fin_cases a <;> rfl)]
  repeat rw [View.ld_unit_zero (by funext a; fin_cases a <;> rfl)]
  show Adam.mean ((iblk m c 1 t : Vec Ideal S352x1024 .f32) (ix2 r l)) (k0_pay1 (F := Ideal) (grid0.coords t) (iblk m c 3 t) (iblk m c 4 t) (ix2 r l)) = _
  rw [iblk1, grad_at]

theorem flushed_mean (t : Fin cfg0.N) : (dats m 0 c).flushed 7 t = ((cfg0.win 7).blk t).view.read (Elt Ideal) (res_mean m c) := by
  rw [flushed7]
  funext j
  obtain ⟨r, l, rfl⟩ : ∃ (r : Fin 352) (l : Fin 1024), j = (ix2 r l : S352x1024.Idx) := ⟨j 0, j 1, (ix2_eta (j : S352x1024.Idx)).symm⟩
  rw [View.read_apply]
  refine (left_mean m c t r l).trans (congrArg (res_mean m c) (funext fun a => Fin.ext ?_) : res_mean m c (ix2 (row t r) l) = _)
  match a with
  | ⟨0, _⟩ => show t.val * 352 + r.val = win0_7.index t 0 * 352 + 1 * r.val; rw [(index7 t).1]; omega
  | ⟨1, _⟩ => show l.val = win0_7.index t 1 * 1024 + 1 * l.val; rw [(index7 t).2]; omega

theorem final_mean : (dats m 0 c).arrAt 7 cfg0.N = res_mean m c :=
  (dats m 0 c).arrAt_eq_of_cover 7 (res_mean m c) (fun t _ => flushed_mean m c t) fun i : S1408x1024.Idx =>
    ⟨pointOf i, flush0_7 _, by
      show i ∈ ((View.whole main_v0_2).slice (win0_7.rect (pointOf i))).set
      rw [View.set_slice_whole, Rect.mem_set_unit]
      intro a
      have h0 : (i 0 : Nat) < 1408 := (i 0).isLt
      have h1 : (i 1 : Nat) < 1024 := (i 1).isLt
      match a with
      | ⟨0, _⟩ =>
        show win0_7.index (pointOf i) 0 * 352 ≤ (i 0 : Nat) ∧ (i 0 : Nat) < win0_7.index (pointOf i) 0 * 352 + win0_7.xsize (grid0.coords (pointOf i)) 0
        rw [(index7 _).1, (sizes7 _).1]
        show (i 0 : Nat) / 352 * 352 ≤ (i 0 : Nat) ∧ (i 0 : Nat) < (i 0 : Nat) / 352 * 352 + 352
        omega
      | ⟨1, _⟩ =>
        show win0_7.index (pointOf i) 1 * 1024 ≤ (i 1 : Nat) ∧ (i 1 : Nat) < win0_7.index (pointOf i) 1 * 1024 + win0_7.xsize (grid0.coords (pointOf i)) 1
        rw [(index7 _).2, (sizes7 _).2]
        omega⟩

/-- The new average of the square. -/
def res_square : Buf (Elt Ideal) ((c : Thread nD τ).loc main_v0_3) := fun i : S1408x1024.Idx => Adam.square (Q m c (i 0) (i 1)) (G m c (i 0) (i 1))

theorem left_square (t : Fin cfg0.N) (r : Fin 352) (l : Fin 1024) :
    out0_8 (F := Ideal) (grid0.coords t) (iblk m c 0 t) (iblk m c 1 t) (iblk m c 2 t) (iblk m c 3 t) (iblk m c 4 t) (ix2 r l) = Adam.square (Q m c (row t r) l) (G m c (row t r) l) := by
  unfold out0_8
  rw [View.canon_unit_zero (by funext a; fin_cases a <;> rfl)]
  repeat rw [View.ld_unit_zero (by funext a; fin_cases a <;> rfl)]
  show Adam.square ((iblk m c 2 t : Vec Ideal S352x1024 .f32) (ix2 r l)) (k0_pay1 (F := Ideal) (grid0.coords t) (iblk m c 3 t) (iblk m c 4 t) (ix2 r l)) = _
  rw [iblk2, grad_at]

theorem flushed_square (t : Fin cfg0.N) : (dats m 0 c).flushed 8 t = ((cfg0.win 8).blk t).view.read (Elt Ideal) (res_square m c) := by
  rw [flushed8]
  funext j
  obtain ⟨r, l, rfl⟩ : ∃ (r : Fin 352) (l : Fin 1024), j = (ix2 r l : S352x1024.Idx) := ⟨j 0, j 1, (ix2_eta (j : S352x1024.Idx)).symm⟩
  rw [View.read_apply]
  refine (left_square m c t r l).trans (congrArg (res_square m c) (funext fun a => Fin.ext ?_) : res_square m c (ix2 (row t r) l) = _)
  match a with
  | ⟨0, _⟩ => show t.val * 352 + r.val = win0_8.index t 0 * 352 + 1 * r.val; rw [(index8 t).1]; omega
  | ⟨1, _⟩ => show l.val = win0_8.index t 1 * 1024 + 1 * l.val; rw [(index8 t).2]; omega

theorem final_square : (dats m 0 c).arrAt 8 cfg0.N = res_square m c :=
  (dats m 0 c).arrAt_eq_of_cover 8 (res_square m c) (fun t _ => flushed_square m c t) fun i : S1408x1024.Idx =>
    ⟨pointOf i, flush0_8 _, by
      show i ∈ ((View.whole main_v0_3).slice (win0_8.rect (pointOf i))).set
      rw [View.set_slice_whole, Rect.mem_set_unit]
      intro a
      have h0 : (i 0 : Nat) < 1408 := (i 0).isLt
      have h1 : (i 1 : Nat) < 1024 := (i 1).isLt
      match a with
      | ⟨0, _⟩ =>
        show win0_8.index (pointOf i) 0 * 352 ≤ (i 0 : Nat) ∧ (i 0 : Nat) < win0_8.index (pointOf i) 0 * 352 + win0_8.xsize (grid0.coords (pointOf i)) 0
        rw [(index8 _).1, (sizes8 _).1]
        show (i 0 : Nat) / 352 * 352 ≤ (i 0 : Nat) ∧ (i 0 : Nat) < (i 0 : Nat) / 352 * 352 + 352
        omega
      | ⟨1, _⟩ =>
        show win0_8.index (pointOf i) 1 * 1024 ≤ (i 1 : Nat) ∧ (i 1 : Nat) < win0_8.index (pointOf i) 1 * 1024 + win0_8.xsize (grid0.coords (pointOf i)) 1
        rw [(index8 _).2, (sizes8 _).2]
        omega⟩

end Cert.Kernel16Ideal.Optimiser

namespace Cert.Reference16Ideal.Optimiser

open Cert.Reference16Ideal Cert.Reference16Ideal.Gen

/-- The reference's gradient at an index. -/
theorem value (x y : FVec Ideal S704x1024 .f32) (r : Fin 1408) (l : Fin 1024) :
    concatenate S1408x1024 0 [⟨S704x1024, x⟩, ⟨S704x1024, y⟩] concatenates_S704x1024_S704x1024_S1408x1024_d0 (ix2 r l)
      = Adam.both rfl (fun r l => x (ix2 r l) : Mat 704 1024) (fun r l => y (ix2 r l)) r l := by
  unfold Adam.both
  pointwise <;> rfl

end Cert.Reference16Ideal.Optimiser

namespace Cert.Proof

theorem frame_reference16 : Cert.quiescent_Reference16Ideal := fun m ρ _ =>
  (θ_run Reference16Ideal.defs _ _).mono
    (fun r h => ⟨fun c => (h c).2.2.2.2, sem_eq_zero_of_no_sems (by decide) r.2⟩)
    (Reference16Ideal.Value.run (F := Ideal) m ρ)

theorem algebraic16 : Cert.algebraic_Kernel16Ideal_Reference16Ideal := by
  intro m ρ m' ρ' _ hagree
  refine ⟨fun c => Kernel16Ideal.Optimiser.res_grad m c, fun c => Kernel16Ideal.Optimiser.res_delta m c, fun c => Kernel16Ideal.Optimiser.res_mean m c, fun c => Kernel16Ideal.Optimiser.res_square m c, ?_, ?_⟩
  · exact (θ_run _ _ _).mono (fun r h c => ⟨(h c).1.trans (Kernel16Ideal.Optimiser.final_grad m c), (h c).2.1.trans (Kernel16Ideal.Optimiser.final_delta m c), (h c).2.2.1.trans (Kernel16Ideal.Optimiser.final_mean m c), (h c).2.2.2.1.trans (Kernel16Ideal.Optimiser.final_square m c), (h c).2.2.2.2⟩) (Kernel16Ideal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩) (Reference16Ideal.Value.run (F := Ideal) m' ρ')
    all_goals
      rw [(hagree c).2.2.2.1, (hagree c).2.2.2.2]
      try rw [(hagree c).1]
      try rw [(hagree c).2.1]
      try rw [(hagree c).2.2.1]
      funext i
      obtain ⟨r, l, rfl⟩ : ∃ (r : Fin 1408) (l : Fin 1024), i = (ix2 r l : Kernel16Ideal.S1408x1024.Idx) := ⟨i 0, i 1, (ix2_eta (i : Kernel16Ideal.S1408x1024.Idx)).symm⟩
    · exact Reference16Ideal.Optimiser.value _ _ r l
    · exact congrArg (Adam.delta _ _ _) (Reference16Ideal.Optimiser.value _ _ r l)
    · exact congrArg (Adam.mean _) (Reference16Ideal.Optimiser.value _ _ r l)
    · exact congrArg (Adam.square _) (Reference16Ideal.Optimiser.value _ _ r l)

end Cert.Proof

end
-- ==== Proof.AdamMixOut.lean ====
module

public import Idealize.ShloMosaic.Lib.StableHlo.ReadAt
public import Idealize.ShloMosaic.Lib.Quiescent
public import proofs.«01_k».proof.Defs
public import proofs.«01_k».proof.Proof.Adam
public import proofs.«01_k».proof.Proof.Gen.Kernel17.Frame
public import proofs.«01_k».proof.Proof.Gen.Kernel17Ideal.Value
public import proofs.«01_k».proof.Proof.Gen.Reference17Ideal.Run

/-! The optimiser's step on a matrix of the mixer with 1024 columns. -/

@[expose] public section

set_option maxRecDepth 16384

noncomputable section

open Idealize.ShloMosaic Idealize.ShloMosaic.TcCoe Idealize.SL.Sem Idealize.ShloMosaic.StableHlo

namespace Cert.Kernel17Ideal.Optimiser

open Cert.Kernel17Ideal Cert.Kernel17Ideal.Gen Cert.Kernel17Ideal.Value

variable (m : (ℓ : Loc nD τ sig) → Buf (Elt Ideal) ℓ) (c : Dev nD)

/-- The weights. -/
def W : Mat 512 1024 := fun r l => m ((c.tc : Thread nD τ).loc main_arg0) (ix2 r l)

/-- The average of the gradient. -/
def M : Mat 512 1024 := fun r l => m ((c.tc : Thread nD τ).loc main_arg1) (ix2 r l)

/-- The average of the square. -/
def Q : Mat 512 1024 := fun r l => m ((c.tc : Thread nD τ).loc main_arg2) (ix2 r l)

/-- The first layer's gradient. -/
def G0 : Mat 256 1024 := fun r l => m ((c.tc : Thread nD τ).loc main_arg3) (ix2 r l)

/-- The second layer's gradient. -/
def G1 : Mat 256 1024 := fun r l => m ((c.tc : Thread nD τ).loc main_arg4) (ix2 r l)

/-- The gradient of both layers. -/
def G : Mat 512 1024 := Adam.both rfl (G0 m c) (G1 m c)

theorem lt_N (t : Fin cfg0.N) : t.val < 2 := by
  have h : cfg0.N = 2 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index3 : ∀ t : Fin grid0.N, win0_3.index t 0 = min t.val 0 ∧ win0_3.index t 1 = 0 := by decide +kernel
theorem index4 : ∀ t : Fin grid0.N, win0_4.index t 0 = t.val - 1 ∧ win0_4.index t 1 = 0 := by decide +kernel
theorem sizes5 : ∀ t : Fin grid0.N, win0_5.xsize (grid0.coords t) 0 = 256 ∧ win0_5.xsize (grid0.coords t) 1 = 1024 := by decide +kernel
theorem sizes6 : ∀ t : Fin grid0.N, win0_6.xsize (grid0.coords t) 0 = 256 ∧ win0_6.xsize (grid0.coords t) 1 = 1024 := by decide +kernel
theorem sizes7 : ∀ t : Fin grid0.N, win0_7.xsize (grid0.coords t) 0 = 256 ∧ win0_7.xsize (grid0.coords t) 1 = 1024 := by decide +kernel
theorem sizes8 : ∀ t : Fin grid0.N, win0_8.xsize (grid0.coords t) 0 = 256 ∧ win0_8.xsize (grid0.coords t) 1 = 1024 := by decide +kernel

/-- The first layer's points choose the first gradient, the others the second. -/
theorem pick : ∀ t : Fin grid0.N, Scalar.cmpi .slt (BitVec.ofNat 32 (grid0.coords t 0).val) 1#32 = if t.val < 1 then 1#1 else 0#1 := by
  decide +kernel

theorem iblk0 (t : Fin cfg0.N) (r : Fin 256) (l : Fin 1024) : (iblk m c 0 t : Vec Ideal S256x1024 .f32) (ix2 r l) = W m c ⟨t.val * 256 + r.val, by have := lt_N t; omega⟩ l := by
  unfold iblk
  rw [View.read_apply]
  refine congrArg (m ((c.tc : Thread nD τ).loc main_arg0)) (funext fun a => Fin.ext ?_)
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1 (t : Fin cfg0.N) (r : Fin 256) (l : Fin 1024) : (iblk m c 1 t : Vec Ideal S256x1024 .f32) (ix2 r l) = M m c ⟨t.val * 256 + r.val, by have := lt_N t; omega⟩ l := by
  unfold iblk
  rw [View.read_apply]
  refine congrArg (m ((c.tc : Thread nD τ).loc main_arg1)) (funext fun a => Fin.ext ?_)
  match a with
  | ⟨0, _⟩ => show win0_1.index t 0 * 256 + 1 * r.val = t.val * 256 + r.val; rw [(index1 t).1]; omega
  | ⟨1, _⟩ => show win0_1.index t 1 * 1024 + 1 * l.val = l.val; rw [(index1 t).2]; omega

theorem iblk2 (t : Fin cfg0.N) (r : Fin 256) (l : Fin 1024) : (iblk m c 2 t : Vec Ideal S256x1024 .f32) (ix2 r l) = Q m c ⟨t.val * 256 + r.val, by have := lt_N t; omega⟩ l := by
  unfold iblk
  rw [View.read_apply]
  refine congrArg (m ((c.tc : Thread nD τ).loc main_arg2)) (funext fun a => Fin.ext ?_)
  match a with
  | ⟨0, _⟩ => show win0_2.index t 0 * 256 + 1 * r.val = t.val * 256 + r.val; rw [(index2 t).1]; omega
  | ⟨1, _⟩ => show win0_2.index t 1 * 1024 + 1 * l.val = l.val; rw [(index2 t).2]; omega

theorem iblk3 (t : Fin cfg0.N) (r : Fin 256) (l : Fin 1024) : (iblk m c 3 t : Vec Ideal S256x1024 .f32) (ix2 r l) = G0 m c ⟨(min t.val 0) * 256 + r.val, by have := lt_N t; omega⟩ l := by
  unfold iblk
  rw [View.read_apply]
  refine congrArg (m ((c.tc : Thread nD τ).loc main_arg3)) (funext fun a => Fin.ext ?_)
  match a with
  | ⟨0, _⟩ => show win0_3.index t 0 * 256 + 1 * r.val = (min t.val 0) * 256 + r.val; rw [(index3 t).1]; omega
  | ⟨1, _⟩ => show win0_3.index t 1 * 1024 + 1 * l.val = l.val; rw [(index3 t).2]; omega

theorem iblk4 (t : Fin cfg0.N) (r : Fin 256) (l : Fin 1024) : (iblk m c 4 t : Vec Ideal S256x1024 .f32) (ix2 r l) = G1 m c ⟨(t.val - 1) * 256 + r.val, by have := lt_N t; omega⟩ l := by
  unfold iblk
  rw [View.read_apply]
  refine congrArg (m ((c.tc : Thread nD τ).loc main_arg4)) (funext fun a => Fin.ext ?_)
  match a with
  | ⟨0, _⟩ => show win0_4.index t 0 * 256 + 1 * r.val = (t.val - 1) * 256 + r.val; rw [(index4 t).1]; omega
  | ⟨1, _⟩ => show win0_4.index t 1 * 1024 + 1 * l.val = l.val; rw [(index4 t).2]; omega

/-- The place of a point's row. -/
abbrev row (t : Fin cfg0.N) (r : Fin 256) : Fin 512 := ⟨t.val * 256 + r.val, by have := lt_N t; omega⟩

/-- The gradient that a point reads. -/
theorem grad_at (t : Fin cfg0.N) (r : Fin 256) (l : Fin 1024) :
    k0_pay1 (F := Ideal) (grid0.coords t) (iblk m c 3 t) (iblk m c 4 t) (ix2 r l) = G m c (row t r) l := by
  have hN := lt_N t
  unfold k0_pay1
  dsimp only
  rw [pick t]
  unfold G Adam.both
  by_cases h : t.val < 1
  · rw [if_pos h, dif_pos (show (row t r).val < 256 by show t.val * 256 + r.val < 256; omega)]
    refine (iblk3 m c t r l).trans (congrArg₂ (G0 m c) (Fin.ext ?_) rfl)
    show min t.val 0 * 256 + r.val = t.val * 256 + r.val
    rw [Nat.min_eq_left (by omega)]
  · rw [if_neg h, dif_neg (show ¬ (row t r).val < 256 by show ¬ t.val * 256 + r.val < 256; omega)]
    refine (iblk4 m c t r l).trans (congrArg₂ (G1 m c) (Fin.ext ?_) rfl)
    show (t.val - 1) * 256 + r.val = t.val * 256 + r.val - 256
    omega

/-- The point that writes an index. -/
abbrev pointOf (i : S512x1024.Idx) : Fin cfg0.N := ⟨(i 0 : Nat) / 256, by
  have h : cfg0.N = 2 := N_0
  have h0 : (i 0 : Nat) < 512 := (i 0).isLt
  omega⟩

/-- The gradient. -/
def res_grad : Buf (Elt Ideal) ((c : Thread nD τ).loc main_v0_0) := fun i : S512x1024.Idx => G m c (i 0) (i 1)

theorem left_grad (t : Fin cfg0.N) (r : Fin 256) (l : Fin 1024) :
    out0_5 (F := Ideal) (grid0.coords t) (iblk m c 0 t) (iblk m c 1 t) (iblk m c 2 t) (iblk m c 3 t) (iblk m c 4 t) (ix2 r l) = G m c (row t r) l := by
  unfold out0_5
  rw [View.canon_unit_zero (by funext a; fin_cases a <;> rfl)]
  repeat rw [View.ld_unit_zero (by funext a; fin_cases a <;> rfl)]
  exact grad_at m c t r l

theorem flushed_grad (t : Fin cfg0.N) : (dats m 0 c).flushed 5 t = ((cfg0.win 5).blk t).view.read (Elt Ideal) (res_grad m c) := by
  rw [flushed5]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_grad m c t r l).trans (congrArg (res_grad m c) (funext fun a => Fin.ext ?_) : res_grad m c (ix2 (row t r) l) = _)
  match a with
  | ⟨0, _⟩ => show t.val * 256 + r.val = win0_5.index t 0 * 256 + 1 * r.val; rw [(index5 t).1]; omega
  | ⟨1, _⟩ => show l.val = win0_5.index t 1 * 1024 + 1 * l.val; rw [(index5 t).2]; omega

theorem final_grad : (dats m 0 c).arrAt 5 cfg0.N = res_grad m c :=
  (dats m 0 c).arrAt_eq_of_cover 5 (res_grad m c) (fun t _ => flushed_grad m c t) fun i : S512x1024.Idx =>
    ⟨pointOf i, flush0_5 _, by
      show i ∈ ((View.whole main_v0_0).slice (win0_5.rect (pointOf i))).set
      rw [View.set_slice_whole, Rect.mem_set_unit]
      intro a
      have h0 : (i 0 : Nat) < 512 := (i 0).isLt
      have h1 : (i 1 : Nat) < 1024 := (i 1).isLt
      match a with
      | ⟨0, _⟩ =>
        show win0_5.index (pointOf i) 0 * 256 ≤ (i 0 : Nat) ∧ (i 0 : Nat) < win0_5.index (pointOf i) 0 * 256 + win0_5.xsize (grid0.coords (pointOf i)) 0
        rw [(index5 _).1, (sizes5 _).1]
        show (i 0 : Nat) / 256 * 256 ≤ (i 0 : Nat) ∧ (i 0 : Nat) < (i 0 : Nat) / 256 * 256 + 256
        omega
      | ⟨1, _⟩ =>
        show win0_5.index (pointOf i) 1 * 1024 ≤ (i 1 : Nat) ∧ (i 1 : Nat) < win0_5.index (pointOf i) 1 * 1024 + win0_5.xsize (grid0.coords (pointOf i)) 1
        rw [(index5 _).2, (sizes5 _).2]
        omega⟩

/-- The change of the weights. -/
def res_delta : Buf (Elt Ideal) ((c : Thread nD τ).loc main_v0_1) := fun i : S512x1024.Idx => Adam.delta (W m c (i 0) (i 1)) (M m c (i 0) (i 1)) (Q m c (i 0) (i 1)) (G m c (i 0) (i 1))

theorem left_delta (t : Fin cfg0.N) (r : Fin 256) (l : Fin 1024) :
    out0_6 (F := Ideal) (grid0.coords t) (iblk m c 0 t) (iblk m c 1 t) (iblk m c 2 t) (iblk m c 3 t) (iblk m c 4 t) (ix2 r l) = Adam.delta (W m c (row t r) l) (M m c (row t r) l) (Q m c (row t r) l) (G m c (row t r) l) := by
  unfold out0_6
  rw [View.canon_unit_zero (by funext a; fin_cases a <;> rfl)]
  repeat rw [View.ld_unit_zero (by funext a; fin_cases a <;> rfl)]
  show Adam.delta ((iblk m c 0 t : Vec Ideal S256x1024 .f32) (ix2 r l)) ((iblk m c 1 t : Vec Ideal S256x1024 .f32) (ix2 r l)) ((iblk m c 2 t : Vec Ideal S256x1024 .f32) (ix2 r l)) (k0_pay1 (F := Ideal) (grid0.coords t) (iblk m c 3 t) (iblk m c 4 t) (ix2 r l)) = _
  rw [iblk0, iblk1, iblk2, grad_at]

theorem flushed_delta (t : Fin cfg0.N) : (dats m 0 c).flushed 6 t = ((cfg0.win 6).blk t).view.read (Elt Ideal) (res_delta m c) := by
  rw [flushed6]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_delta m c t r l).trans (congrArg (res_delta m c) (funext fun a => Fin.ext ?_) : res_delta m c (ix2 (row t r) l) = _)
  match a with
  | ⟨0, _⟩ => show t.val * 256 + r.val = win0_6.index t 0 * 256 + 1 * r.val; rw [(index6 t).1]; omega
  | ⟨1, _⟩ => show l.val = win0_6.index t 1 * 1024 + 1 * l.val; rw [(index6 t).2]; omega

theorem final_delta : (dats m 0 c).arrAt 6 cfg0.N = res_delta m c :=
  (dats m 0 c).arrAt_eq_of_cover 6 (res_delta m c) (fun t _ => flushed_delta m c t) fun i : S512x1024.Idx =>
    ⟨pointOf i, flush0_6 _, by
      show i ∈ ((View.whole main_v0_1).slice (win0_6.rect (pointOf i))).set
      rw [View.set_slice_whole, Rect.mem_set_unit]
      intro a
      have h0 : (i 0 : Nat) < 512 := (i 0).isLt
      have h1 : (i 1 : Nat) < 1024 := (i 1).isLt
      match a with
      | ⟨0, _⟩ =>
        show win0_6.index (pointOf i) 0 * 256 ≤ (i 0 : Nat) ∧ (i 0 : Nat) < win0_6.index (pointOf i) 0 * 256 + win0_6.xsize (grid0.coords (pointOf i)) 0
        rw [(index6 _).1, (sizes6 _).1]
        show (i 0 : Nat) / 256 * 256 ≤ (i 0 : Nat) ∧ (i 0 : Nat) < (i 0 : Nat) / 256 * 256 + 256
        omega
      | ⟨1, _⟩ =>
        show win0_6.index (pointOf i) 1 * 1024 ≤ (i 1 : Nat) ∧ (i 1 : Nat) < win0_6.index (pointOf i) 1 * 1024 + win0_6.xsize (grid0.coords (pointOf i)) 1
        rw [(index6 _).2, (sizes6 _).2]
        omega⟩

/-- The new average of the gradient. -/
def res_mean : Buf (Elt Ideal) ((c : Thread nD τ).loc main_v0_2) := fun i : S512x1024.Idx => Adam.mean (M m c (i 0) (i 1)) (G m c (i 0) (i 1))

theorem left_mean (t : Fin cfg0.N) (r : Fin 256) (l : Fin 1024) :
    out0_7 (F := Ideal) (grid0.coords t) (iblk m c 0 t) (iblk m c 1 t) (iblk m c 2 t) (iblk m c 3 t) (iblk m c 4 t) (ix2 r l) = Adam.mean (M m c (row t r) l) (G m c (row t r) l) := by
  unfold out0_7
  rw [View.canon_unit_zero (by funext a; fin_cases a <;> rfl)]
  repeat rw [View.ld_unit_zero (by funext a; fin_cases a <;> rfl)]
  show Adam.mean ((iblk m c 1 t : Vec Ideal S256x1024 .f32) (ix2 r l)) (k0_pay1 (F := Ideal) (grid0.coords t) (iblk m c 3 t) (iblk m c 4 t) (ix2 r l)) = _
  rw [iblk1, grad_at]

theorem flushed_mean (t : Fin cfg0.N) : (dats m 0 c).flushed 7 t = ((cfg0.win 7).blk t).view.read (Elt Ideal) (res_mean m c) := by
  rw [flushed7]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_mean m c t r l).trans (congrArg (res_mean m c) (funext fun a => Fin.ext ?_) : res_mean m c (ix2 (row t r) l) = _)
  match a with
  | ⟨0, _⟩ => show t.val * 256 + r.val = win0_7.index t 0 * 256 + 1 * r.val; rw [(index7 t).1]; omega
  | ⟨1, _⟩ => show l.val = win0_7.index t 1 * 1024 + 1 * l.val; rw [(index7 t).2]; omega

theorem final_mean : (dats m 0 c).arrAt 7 cfg0.N = res_mean m c :=
  (dats m 0 c).arrAt_eq_of_cover 7 (res_mean m c) (fun t _ => flushed_mean m c t) fun i : S512x1024.Idx =>
    ⟨pointOf i, flush0_7 _, by
      show i ∈ ((View.whole main_v0_2).slice (win0_7.rect (pointOf i))).set
      rw [View.set_slice_whole, Rect.mem_set_unit]
      intro a
      have h0 : (i 0 : Nat) < 512 := (i 0).isLt
      have h1 : (i 1 : Nat) < 1024 := (i 1).isLt
      match a with
      | ⟨0, _⟩ =>
        show win0_7.index (pointOf i) 0 * 256 ≤ (i 0 : Nat) ∧ (i 0 : Nat) < win0_7.index (pointOf i) 0 * 256 + win0_7.xsize (grid0.coords (pointOf i)) 0
        rw [(index7 _).1, (sizes7 _).1]
        show (i 0 : Nat) / 256 * 256 ≤ (i 0 : Nat) ∧ (i 0 : Nat) < (i 0 : Nat) / 256 * 256 + 256
        omega
      | ⟨1, _⟩ =>
        show win0_7.index (pointOf i) 1 * 1024 ≤ (i 1 : Nat) ∧ (i 1 : Nat) < win0_7.index (pointOf i) 1 * 1024 + win0_7.xsize (grid0.coords (pointOf i)) 1
        rw [(index7 _).2, (sizes7 _).2]
        omega⟩

/-- The new average of the square. -/
def res_square : Buf (Elt Ideal) ((c : Thread nD τ).loc main_v0_3) := fun i : S512x1024.Idx => Adam.square (Q m c (i 0) (i 1)) (G m c (i 0) (i 1))

theorem left_square (t : Fin cfg0.N) (r : Fin 256) (l : Fin 1024) :
    out0_8 (F := Ideal) (grid0.coords t) (iblk m c 0 t) (iblk m c 1 t) (iblk m c 2 t) (iblk m c 3 t) (iblk m c 4 t) (ix2 r l) = Adam.square (Q m c (row t r) l) (G m c (row t r) l) := by
  unfold out0_8
  rw [View.canon_unit_zero (by funext a; fin_cases a <;> rfl)]
  repeat rw [View.ld_unit_zero (by funext a; fin_cases a <;> rfl)]
  show Adam.square ((iblk m c 2 t : Vec Ideal S256x1024 .f32) (ix2 r l)) (k0_pay1 (F := Ideal) (grid0.coords t) (iblk m c 3 t) (iblk m c 4 t) (ix2 r l)) = _
  rw [iblk2, grad_at]

theorem flushed_square (t : Fin cfg0.N) : (dats m 0 c).flushed 8 t = ((cfg0.win 8).blk t).view.read (Elt Ideal) (res_square m c) := by
  rw [flushed8]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_square m c t r l).trans (congrArg (res_square m c) (funext fun a => Fin.ext ?_) : res_square m c (ix2 (row t r) l) = _)
  match a with
  | ⟨0, _⟩ => show t.val * 256 + r.val = win0_8.index t 0 * 256 + 1 * r.val; rw [(index8 t).1]; omega
  | ⟨1, _⟩ => show l.val = win0_8.index t 1 * 1024 + 1 * l.val; rw [(index8 t).2]; omega

theorem final_square : (dats m 0 c).arrAt 8 cfg0.N = res_square m c :=
  (dats m 0 c).arrAt_eq_of_cover 8 (res_square m c) (fun t _ => flushed_square m c t) fun i : S512x1024.Idx =>
    ⟨pointOf i, flush0_8 _, by
      show i ∈ ((View.whole main_v0_3).slice (win0_8.rect (pointOf i))).set
      rw [View.set_slice_whole, Rect.mem_set_unit]
      intro a
      have h0 : (i 0 : Nat) < 512 := (i 0).isLt
      have h1 : (i 1 : Nat) < 1024 := (i 1).isLt
      match a with
      | ⟨0, _⟩ =>
        show win0_8.index (pointOf i) 0 * 256 ≤ (i 0 : Nat) ∧ (i 0 : Nat) < win0_8.index (pointOf i) 0 * 256 + win0_8.xsize (grid0.coords (pointOf i)) 0
        rw [(index8 _).1, (sizes8 _).1]
        show (i 0 : Nat) / 256 * 256 ≤ (i 0 : Nat) ∧ (i 0 : Nat) < (i 0 : Nat) / 256 * 256 + 256
        omega
      | ⟨1, _⟩ =>
        show win0_8.index (pointOf i) 1 * 1024 ≤ (i 1 : Nat) ∧ (i 1 : Nat) < win0_8.index (pointOf i) 1 * 1024 + win0_8.xsize (grid0.coords (pointOf i)) 1
        rw [(index8 _).2, (sizes8 _).2]
        omega⟩

end Cert.Kernel17Ideal.Optimiser

namespace Cert.Reference17Ideal.Optimiser

open Cert.Reference17Ideal Cert.Reference17Ideal.Gen

/-- The reference's gradient at an index. -/
theorem value (x y : FVec Ideal S256x1024 .f32) (r : Fin 512) (l : Fin 1024) :
    concatenate S512x1024 0 [⟨S256x1024, x⟩, ⟨S256x1024, y⟩] concatenates_S256x1024_S256x1024_S512x1024_d0 (ix2 r l)
      = Adam.both rfl (fun r l => x (ix2 r l) : Mat 256 1024) (fun r l => y (ix2 r l)) r l := by
  unfold Adam.both
  pointwise <;> rfl

end Cert.Reference17Ideal.Optimiser

namespace Cert.Proof

theorem frame_reference17 : Cert.quiescent_Reference17Ideal := fun m ρ _ =>
  (θ_run Reference17Ideal.defs _ _).mono
    (fun r h => ⟨fun c => (h c).2.2.2.2, sem_eq_zero_of_no_sems (by decide) r.2⟩)
    (Reference17Ideal.Value.run (F := Ideal) m ρ)

theorem algebraic17 : Cert.algebraic_Kernel17Ideal_Reference17Ideal := by
  intro m ρ m' ρ' _ hagree
  refine ⟨fun c => Kernel17Ideal.Optimiser.res_grad m c, fun c => Kernel17Ideal.Optimiser.res_delta m c, fun c => Kernel17Ideal.Optimiser.res_mean m c, fun c => Kernel17Ideal.Optimiser.res_square m c, ?_, ?_⟩
  · exact (θ_run _ _ _).mono (fun r h c => ⟨(h c).1.trans (Kernel17Ideal.Optimiser.final_grad m c), (h c).2.1.trans (Kernel17Ideal.Optimiser.final_delta m c), (h c).2.2.1.trans (Kernel17Ideal.Optimiser.final_mean m c), (h c).2.2.2.1.trans (Kernel17Ideal.Optimiser.final_square m c), (h c).2.2.2.2⟩) (Kernel17Ideal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩) (Reference17Ideal.Value.run (F := Ideal) m' ρ')
    all_goals
      rw [(hagree c).2.2.2.1, (hagree c).2.2.2.2]
      try rw [(hagree c).1]
      try rw [(hagree c).2.1]
      try rw [(hagree c).2.2.1]
      funext i
      obtain ⟨r, l, rfl⟩ : ∃ (r : Fin 512) (l : Fin 1024), i = (ix2 r l : Kernel17Ideal.S512x1024.Idx) := ⟨i 0, i 1, (ix2_eta (i : Kernel17Ideal.S512x1024.Idx)).symm⟩
    · exact Reference17Ideal.Optimiser.value _ _ r l
    · exact congrArg (Adam.delta _ _ _) (Reference17Ideal.Optimiser.value _ _ r l)
    · exact congrArg (Adam.mean _) (Reference17Ideal.Optimiser.value _ _ r l)
    · exact congrArg (Adam.square _) (Reference17Ideal.Optimiser.value _ _ r l)

end Cert.Proof

end
-- ==== Proof.AdamConv.lean ====
module

public import Idealize.ShloMosaic.Lib.Quiescent
public import proofs.«01_k».proof.Defs
public import proofs.«01_k».proof.Proof.Gen.Kernel18.Frame
public import proofs.«01_k».proof.Proof.Gen.Kernel18Ideal.Value
public import proofs.«01_k».proof.Proof.Gen.Reference18Ideal.Run

/-! The optimiser's step on the short convolution's weights. -/

@[expose] public section

noncomputable section

open Idealize.ShloMosaic Idealize.ShloMosaic.TcCoe Idealize.SL.Sem

namespace Cert.Proof

theorem frame_reference18 : Cert.quiescent_Reference18Ideal := fun m ρ _ =>
  (θ_run Reference18Ideal.defs _ _).mono
    (fun r h => ⟨fun c => (h c).2.2.2.2, sem_eq_zero_of_no_sems (by decide) r.2⟩)
    (Reference18Ideal.Value.run (F := Ideal) m ρ)

theorem algebraic18 : Cert.algebraic_Kernel18Ideal_Reference18Ideal := by
  intro m ρ m' ρ' _ hagree
  refine ⟨_, _, _, _, Kernel18Ideal.Value.run (F := Ideal) m ρ, ?_⟩
  refine (θ_run _ _ _).mono (fun r h c => ⟨(h c).1.trans ?_, (h c).2.1.trans ?_, (h c).2.2.1.trans ?_, (h c).2.2.2.1.trans ?_, (h c).2.2.2.2⟩) (Reference18Ideal.Value.run (F := Ideal) m' ρ')
  all_goals
    try rw [(hagree c).2.2.2]
    try rw [(hagree c).1]
    try rw [(hagree c).2.1]
    try rw [(hagree c).2.2.1]
    try rfl

end Cert.Proof

end
-- ==== Proof.AdamDepth.lean ====
module

public import Idealize.ShloMosaic.Lib.Quiescent
public import proofs.«01_k».proof.Defs
public import proofs.«01_k».proof.Proof.Gen.Kernel19.Frame
public import proofs.«01_k».proof.Proof.Gen.Kernel19Ideal.Value
public import proofs.«01_k».proof.Proof.Gen.Reference19Ideal.Run

/-! The optimiser's step on the long convolution's weights. -/

@[expose] public section

noncomputable section

open Idealize.ShloMosaic Idealize.ShloMosaic.TcCoe Idealize.SL.Sem

namespace Cert.Proof

theorem frame_reference19 : Cert.quiescent_Reference19Ideal := fun m ρ _ =>
  (θ_run Reference19Ideal.defs _ _).mono
    (fun r h => ⟨fun c => (h c).2.2.2.2, sem_eq_zero_of_no_sems (by decide) r.2⟩)
    (Reference19Ideal.Value.run (F := Ideal) m ρ)

theorem algebraic19 : Cert.algebraic_Kernel19Ideal_Reference19Ideal := by
  intro m ρ m' ρ' _ hagree
  refine ⟨_, _, _, _, Kernel19Ideal.Value.run (F := Ideal) m ρ, ?_⟩
  refine (θ_run _ _ _).mono (fun r h c => ⟨(h c).1.trans ?_, (h c).2.1.trans ?_, (h c).2.2.1.trans ?_, (h c).2.2.2.1.trans ?_, (h c).2.2.2.2⟩) (Reference19Ideal.Value.run (F := Ideal) m' ρ')
  all_goals
    try rw [(hagree c).2.2.2]
    try rw [(hagree c).1]
    try rw [(hagree c).2.1]
    try rw [(hagree c).2.2.1]
    try rfl

end Cert.Proof

end
-- ==== Proof.AdamSmall.lean ====
module

public import Idealize.ShloMosaic.Lib.Quiescent
public import proofs.«01_k».proof.Defs
public import proofs.«01_k».proof.Proof.Gen.Kernel20.Frame
public import proofs.«01_k».proof.Proof.Gen.Kernel20Ideal.Value
public import proofs.«01_k».proof.Proof.Gen.Reference20Ideal.Run

/-! The optimiser's step on the small weights, packed. -/

@[expose] public section

noncomputable section

open Idealize.ShloMosaic Idealize.ShloMosaic.TcCoe Idealize.SL.Sem

namespace Cert.Proof

theorem frame_reference20 : Cert.quiescent_Reference20Ideal := fun m ρ _ =>
  (θ_run Reference20Ideal.defs _ _).mono
    (fun r h => ⟨fun c => (h c).2.2.2.2, sem_eq_zero_of_no_sems (by decide) r.2⟩)
    (Reference20Ideal.Value.run (F := Ideal) m ρ)

theorem algebraic20 : Cert.algebraic_Kernel20Ideal_Reference20Ideal := by
  intro m ρ m' ρ' _ hagree
  refine ⟨_, _, _, _, Kernel20Ideal.Value.run (F := Ideal) m ρ, ?_⟩
  refine (θ_run _ _ _).mono (fun r h c => ⟨(h c).1.trans ?_, (h c).2.1.trans ?_, (h c).2.2.1.trans ?_, (h c).2.2.2.1.trans ?_, (h c).2.2.2.2⟩) (Reference20Ideal.Value.run (F := Ideal) m' ρ')
  all_goals
    try rw [(hagree c).2.2.2]
    try rw [(hagree c).1]
    try rw [(hagree c).2.1]
    try rw [(hagree c).2.2.1]
    try rfl

end Cert.Proof

end
-- ==== Proof.FwdSpec.lean ====
module

public import proofs.«01_k».proof.Proof.Spec

/-! The gated delta rule's recurrence over chunks itself, as plain formulas over the extended reals. -/

@[expose] public section

noncomputable section

namespace Cert.Gdn

/-- One head of one chunk, its operands alone. -/
structure Link where
  U : Mat 64 128
  W : Mat 64 128
  Q : Mat 64 128
  K : Mat 64 128
  QK : Mat 64 64
  D : EReal

namespace Link

variable (x : Link) (St : Mat 128 128)

/-- The corrected values, `u - w·state`. -/
def vn : Mat 64 128 := fun c v => x.U c v - ∑ k, x.W c k * St k v

/-- The chunk's output. -/
def out : Mat 64 128 := fun c v => (∑ k, x.Q c k * St k v) + ∑ s, x.QK c s * x.vn St s v

/-- The state the chunk hands on. -/
def next : Mat 128 128 := fun k v => St k v * x.D + ∑ c, x.K c k * x.vn St c v

end Link

/-- The state of one head before chunk `j`, from a state of zeros; `x n` is chunk `n`. -/
def fore (x : ℕ → Link) : ℕ → Mat 128 128
  | 0 => fun _ _ => 0
  | j + 1 => (x j).next (fore x j)

/-- The operands of the recurrence. -/
@[ext] structure FArgs where
  U : Mat 4096 1024
  W : Mat 4096 1024
  Q : Mat 4096 1024
  K : Mat 4096 1024
  QK : Fin 8 → Fin 64 → Mat 64 64
  D : Mat 8 64

namespace FArgs

variable (a : FArgs)

/-- Head `h` of chunk `n`. -/
def link (n : Fin 64) (h : Fin 8) : Link where
  U c v := a.U (row n c) (col h v)
  W c v := a.W (row n c) (col h v)
  Q c v := a.Q (row n c) (col h v)
  K c v := a.K (row n c) (col h v)
  QK := a.QK h n
  D := a.D h n

/-- The chunks of head `h`, numbered by naturals. -/
def links (h : Fin 8) : ℕ → Link := fun n => a.link (Fin.ofNat 64 n) h

/-- The state head `h` of chunk `n` starts from. -/
def start (n : Fin 64) (h : Fin 8) : Mat 128 128 := fore (a.links h) n.val

/-- The recurrence's output. -/
def o : Mat 4096 1024 := fun r l =>
  (a.link (Args.rowChunk r) (Args.colHead l)).out (a.start (Args.rowChunk r) (Args.colHead l)) (Args.rowTok r) (Args.colLane l)

/-- The states the chunks start from, the heads one below the other. -/
def st : Fin 64 → Mat 1024 128 := fun n r v => a.start n (Args.colHead r) (Args.colLane r) v

end FArgs

end Cert.Gdn

end

end
-- ==== Proof.FwdBody.lean ====
module

public import Idealize.ShloMosaic.Lib.Pointwise
public import proofs.«01_k».proof.Proof.FwdSpec
public import proofs.«01_k».proof.Proof.Gen.Kernel21Ideal.Skeleton

/-! The forward body at one head of one chunk, the blocks one grid point reads, and the sub-blocks it stores. -/

@[expose] public section

noncomputable section

namespace Cert.Kernel21Ideal.Body

open Idealize.ShloMosaic Cert.Kernel21Ideal Cert.Kernel21Ideal.Gen Cert.Gdn

set_option maxRecDepth 16384

/-- The operands of one head of one chunk, as the body hands them to its matrix products. -/
structure VLink where
  u : FVec Ideal S64x128 .f32
  w : FVec Ideal S64x128 .bf16
  q : FVec Ideal S64x128 .bf16
  k : FVec Ideal S64x128 .bf16
  qk : FVec Ideal S64x64 .bf16
  d : FVec Ideal S1x1 .f32

namespace VLink

variable (x : VLink) (St : FVec Ideal S128x128 .f32)

/-- The operands as matrices. -/
def toLink : Link where
  U c v := x.u (ix2 c v)
  W c v := x.w (ix2 c v)
  Q c v := x.q (ix2 c v)
  K c v := x.k (ix2 c v)
  QK c v := x.qk (ix2 c v)
  D := x.d (ix2 0 0)

/-- A vector as a matrix. -/
abbrev mat (St : FVec Ideal S128x128 .f32) : Mat 128 128 := fun k v => St (ix2 k v)

def stB : FVec Ideal S128x128 .bf16 := truncf .bf16 St bitsLt_bf16_f32

def vn : FVec Ideal S64x128 .f32 :=
  subf x.u (matmul dot_S64x128_S128x128_S64x128_1_0_0_1_n_n none x.w (stB St) (constant S64x128 .f32 0x00000000#32))

def vnB : FVec Ideal S64x128 .bf16 := truncf .bf16 (x.vn St) bitsLt_bf16_f32

def out : FVec Ideal S64x128 .f32 :=
  addf (matmul dot_S64x128_S128x128_S64x128_1_0_0_1_n_n none x.q (stB St) (constant S64x128 .f32 0x00000000#32))
    (matmul dot_S64x64_S64x128_S64x128_1_0_0_1_n_n none x.qk (x.vnB St) (constant S64x128 .f32 0x00000000#32))

def next : FVec Ideal S128x128 .f32 :=
  addf (mulf St (broadcastTo S128x128 x.d broadcasts_S1x1_S128x128))
    (matmul dot_S64x128_S64x128_S128x128_0_0_1_1_n_n none x.k (x.vnB St) (constant S128x128 .f32 0x00000000#32))

theorem vn_at (c : Fin 64) (v : Fin 128) : x.vn St (ix2 c v) = x.toLink.vn (mat St) c v := by
  unfold vn stB
  pointwise
  rfl

theorem out_at (c : Fin 64) (v : Fin 128) : x.out St (ix2 c v) = x.toLink.out (mat St) c v := by
  unfold out vnB stB
  pointwise
  simp only [vn_at]
  rfl

theorem next_at (k v : Fin 128) : x.next St (ix2 k v) = x.toLink.next (mat St) k v := by
  unfold next vnB
  pointwise
  simp only [vn_at]
  rfl

end VLink

/-- The blocks a grid point reads. -/
structure Blocks where
  u : Vec Ideal S256x1024 .f32
  w : Vec Ideal S256x1024 .bf16
  q : Vec Ideal S256x1024 .bf16
  k : Vec Ideal S256x1024 .bf16
  qk : Vec Ideal S256x1024 .bf16
  d : Vec Ideal S32x128 .f32

theorem inRow (g : Fin 4) (h : Fin 8) : ∀ a, (![64 * g.val, 128 * h.val] : Fin 2 → Nat) a + S64x128.size a ≤ S256x1024.size a := by
  intro a; fin_cases a <;> simp [S64x128, S256x1024] <;> omega

theorem inSq (g : Fin 4) (h : Fin 8) : ∀ a, (![64 * g.val, 128 * h.val] : Fin 2 → Nat) a + S64x64.size a ≤ S256x1024.size a := by
  intro a; fin_cases a <;> simp [S64x64, S256x1024] <;> omega

theorem inDec (g : Fin 4) (h : Fin 8) : ∀ a, (![8 * g.val + h.val, 0] : Fin 2 → Nat) a + S1x1.size a ≤ S32x128.size a := by
  intro a; fin_cases a <;> simp [S1x1, S32x128] <;> omega

theorem inSt (g : Fin 4) (h : Fin 8) : ∀ a, (![g.val, 128 * h.val, 0] : Fin 3 → Nat) a + S1x128x128.size a ≤ S4x1024x128.size a := by
  intro a; fin_cases a <;> simp [S1x128x128, S4x1024x128] <;> omega

theorem inScr (h : Fin 8) : ∀ a, (![128 * h.val, 0] : Fin 2 → Nat) a + S128x128.size a ≤ S1024x128.size a := by
  intro a; fin_cases a <;> simp [S128x128, S1024x128] <;> omega

namespace Blocks

variable (B : Blocks) (S0 : Vec Ideal S1024x128 .f32)

/-- The operands of head `h` of the block's chunk `g`, as the body loads and casts them. -/
def vlink (g : Fin 4) (h : Fin 8) : VLink where
  u := View.ld B.u (Rect.unit ![64 * g.val, 128 * h.val] S64x128.size (inRow g h))
  w := truncf .bf16 (extf .f32 (shapeCast S64x128 (View.ld B.w (Rect.unit ![64 * g.val, 128 * h.val] S64x128.size (inRow g h))) shapeCasts_S64x128_S64x128) bitsLt_bf16_f32) bitsLt_bf16_f32
  q := truncf .bf16 (extf .f32 (shapeCast S64x128 (View.ld B.q (Rect.unit ![64 * g.val, 128 * h.val] S64x128.size (inRow g h))) shapeCasts_S64x128_S64x128) bitsLt_bf16_f32) bitsLt_bf16_f32
  k := truncf .bf16 (extf .f32 (shapeCast S64x128 (View.ld B.k (Rect.unit ![64 * g.val, 128 * h.val] S64x128.size (inRow g h))) shapeCasts_S64x128_S64x128) bitsLt_bf16_f32) bitsLt_bf16_f32
  qk := truncf .bf16 (extf .f32 (shapeCast S64x64 (View.ld B.qk (Rect.unit ![64 * g.val, 128 * h.val] S64x64.size (inSq g h))) shapeCasts_S64x64_S64x64) bitsLt_bf16_f32) bitsLt_bf16_f32
  d := shapeCast S1x1 (View.ld B.d (Rect.unit ![8 * g.val + h.val, 0] S1x1.size (inDec g h))) shapeCasts_S1x1_S1x1

abbrev brow (g : Fin 4) (c : Fin 64) : Fin 256 := ⟨64 * g.val + c.val, by omega⟩
abbrev bcol (h : Fin 8) (v : Fin 128) : Fin 1024 := ⟨128 * h.val + v.val, by omega⟩

/-- The same operands as matrices. -/
def link (g : Fin 4) (h : Fin 8) : Link where
  U c v := B.u (ix2 (brow g c) (bcol h v))
  W c v := B.w (ix2 (brow g c) (bcol h v))
  Q c v := B.q (ix2 (brow g c) (bcol h v))
  K c v := B.k (ix2 (brow g c) (bcol h v))
  QK c v := B.qk (ix2 (brow g c) ⟨128 * h.val + v.val, by omega⟩)
  D := B.d (ix2 ⟨8 * g.val + h.val, by omega⟩ 0)

theorem toLink_vlink (g : Fin 4) (h : Fin 8) : (B.vlink g h).toLink = B.link g h := by
  unfold vlink VLink.toLink link
  congr 1
  · funext c v; pointwise
  · funext c v; pointwise
  · funext c v; pointwise
  · funext c v; pointwise
  · funext c v; pointwise
  · pointwise

/-- The state the block starts from, of head `h`. -/
def vst0 (h : Fin 8) : FVec Ideal S128x128 .f32 :=
  View.ld S0 (Rect.unit ![128 * h.val, 0] S128x128.size (inScr h))

def vst1 (h : Fin 8) : FVec Ideal S128x128 .f32 := (B.vlink 0 h).next (vst0 S0 h)
def vst2 (h : Fin 8) : FVec Ideal S128x128 .f32 := (B.vlink 1 h).next (B.vst1 S0 h)
def vst3 (h : Fin 8) : FVec Ideal S128x128 .f32 := (B.vlink 2 h).next (B.vst2 S0 h)
def vst4 (h : Fin 8) : FVec Ideal S128x128 .f32 := (B.vlink 3 h).next (B.vst3 S0 h)

/-- The state chunk `g` of the block starts from. -/
def vstAt (g : Fin 4) (h : Fin 8) : FVec Ideal S128x128 .f32 :=
  match g with
  | 0 => vst0 S0 h
  | 1 => B.vst1 S0 h
  | 2 => B.vst2 S0 h
  | 3 => B.vst3 S0 h

/-- The same as matrices: after the block's first `n` chunks. -/
def st (h : Fin 8) : ℕ → Mat 128 128
  | 0 => fun k v => S0 (ix2 (bcol h k) v)
  | n + 1 => (B.link (Fin.ofNat 4 n) h).next (st h n)

theorem vst0_mat (h : Fin 8) : VLink.mat (vst0 S0 h) = B.st S0 h 0 := by
  funext k v
  show vst0 S0 h (ix2 k v) = S0 (ix2 (bcol h k) v)
  unfold vst0
  pointwise

theorem next_mat (g : Fin 4) (h : Fin 8) (St : FVec Ideal S128x128 .f32) :
    VLink.mat ((B.vlink g h).next St) = (B.link g h).next (VLink.mat St) := by
  funext k v
  show (B.vlink g h).next St (ix2 k v) = _
  rw [VLink.next_at, toLink_vlink]

theorem vst1_mat (h : Fin 8) : VLink.mat (B.vst1 S0 h) = B.st S0 h 1 := by
  unfold vst1; rw [next_mat, B.vst0_mat]; rfl

theorem vst2_mat (h : Fin 8) : VLink.mat (B.vst2 S0 h) = B.st S0 h 2 := by
  unfold vst2; rw [next_mat, vst1_mat]; rfl

theorem vst3_mat (h : Fin 8) : VLink.mat (B.vst3 S0 h) = B.st S0 h 3 := by
  unfold vst3; rw [next_mat, vst2_mat]; rfl

theorem vst4_mat (h : Fin 8) : VLink.mat (B.vst4 S0 h) = B.st S0 h 4 := by
  unfold vst4; rw [next_mat, vst3_mat]; rfl

theorem vstAt_mat (g : Fin 4) (h : Fin 8) : VLink.mat (B.vstAt S0 g h) = B.st S0 h g.val := by
  fin_cases g
  · exact B.vst0_mat S0 h
  · exact B.vst1_mat S0 h
  · exact B.vst2_mat S0 h
  · exact B.vst3_mat S0 h

abbrev rowChunk (r : Fin 256) : Fin 4 := ⟨r.val / 64, by omega⟩
abbrev rowTok (r : Fin 256) : Fin 64 := ⟨r.val % 64, by omega⟩
abbrev colHead (l : Fin 1024) : Fin 8 := ⟨l.val / 128, by omega⟩
abbrev colLane (l : Fin 1024) : Fin 128 := ⟨l.val % 128, by omega⟩

/-- The blocks the point writes: the outputs, the states its chunks start from, and the scratch. -/
def o : Vec Ideal S256x1024 .f32 := fun j =>
  (B.link (rowChunk (j 0)) (colHead (j 1))).out (B.st S0 (colHead (j 1)) (rowChunk (j 0)).val) (rowTok (j 0)) (colLane (j 1))

def sts : Vec Ideal S4x1024x128 .bf16 := fun j => B.st S0 (colHead (j 1)) (j 0).val (colLane (j 1)) (j 2)

def scr : Vec Ideal S1024x128 .f32 := fun j => B.st S0 (colHead (j 0)) 4 (colLane (j 0)) (j 1)

/-- The rectangle of head `h` of chunk `g`. -/
abbrev rect (g : Fin 4) (h : Fin 8) : Rect S256x1024 := Rect.unit (s := S256x1024) ![64 * g.val, 128 * h.val] S64x128.size (inRow g h)

variable (g : Fin 4) (h : Fin 8)

theorem rect_chunk (c : Fin 64) (v : Fin 128) : rowChunk ((rect g h).emb (ix2 c v) 0) = g :=
  Fin.ext (by show (64 * g.val + 1 * c.val) / 64 = g.val; omega)
theorem rect_tok (c : Fin 64) (v : Fin 128) : rowTok ((rect g h).emb (ix2 c v) 0) = c :=
  Fin.ext (by show (64 * g.val + 1 * c.val) % 64 = c.val; omega)
theorem rect_head (c : Fin 64) (v : Fin 128) : colHead ((rect g h).emb (ix2 c v) 1) = h :=
  Fin.ext (by show (128 * h.val + 1 * v.val) / 128 = h.val; omega)
theorem rect_lane (c : Fin 64) (v : Fin 128) : colLane ((rect g h).emb (ix2 c v) 1) = v :=
  Fin.ext (by show (128 * h.val + 1 * v.val) % 128 = v.val; omega)

theorem piece_o (x : S64x128.Idx) : (B.vlink g h).out (B.vstAt S0 g h) x = B.o S0 ((rect g h).emb x) := by
  idx_vars x
  rw [VLink.out_at, toLink_vlink, vstAt_mat]
  unfold o
  rw [rect_chunk, rect_tok, rect_head, rect_lane]

/-- A vector with a leading axis of one. -/
theorem add_one (y : S128x128.Idx → EReal) (k v : Fin 128) :
    shapeCast S1x128x128 y shapeCasts_S128x128_S1x128x128 (ix3 0 k v) = y (ix2 k v) := by
  pointwise

abbrev rectSt : Rect S4x1024x128 := Rect.unit (s := S4x1024x128) ![g.val, 128 * h.val, 0] S1x128x128.size (inSt g h)

theorem piece_sts (x : S1x128x128.Idx) :
    shapeCast S1x128x128 (truncf .bf16 (B.vstAt S0 g h) bitsLt_bf16_f32) shapeCasts_S128x128_S1x128x128 x = B.sts S0 ((rectSt g h).emb x) := by
  obtain ⟨z, k, v, rfl⟩ : ∃ z k v, x = ix3 z k v := ⟨x 0, x 1, x 2, (ix3_eta x).symm⟩
  obtain rfl : z = 0 := Subsingleton.elim _ _
  refine (add_one _ k v).trans ?_
  refine (congrFun (congrFun (B.vstAt_mat S0 g h) k) v).trans ?_
  unfold sts
  have e0 : colHead ((rectSt g h).emb (ix3 0 k v) 1) = h := Fin.ext (by show (128 * h.val + 1 * k.val) / 128 = h.val; omega)
  have e1 : colLane ((rectSt g h).emb (ix3 0 k v) 1) = k := Fin.ext (by show (128 * h.val + 1 * k.val) % 128 = k.val; omega)
  have e2 : (rectSt g h).emb (ix3 0 k v) 2 = v := Fin.ext (by show 0 + 1 * v.val = v.val; omega)
  have e3 : ((rectSt g h).emb (ix3 0 k v) 0).val = g.val := by show g.val + 1 * 0 = g.val; omega
  rw [e0, e1, e2, e3]

theorem piece_scr (x : S128x128.Idx) : shapeCast S128x128 (B.vst4 S0 h) shapeCasts_S128x128_S128x128 x =
    B.scr S0 ((Rect.unit (s := S1024x128) ![128 * h.val, 0] S128x128.size (inScr h)).emb x) := by
  obtain ⟨k, v, rfl⟩ : ∃ c v, x = ix2 c v := ⟨x 0, x 1, (ix2_eta x).symm⟩
  have e : shapeCast S128x128 (B.vst4 S0 h) shapeCasts_S128x128_S128x128 (ix2 k v) = B.vst4 S0 h (ix2 k v) := by pointwise
  rw [e]
  have := congrFun (congrFun (B.vst4_mat S0 h) k) v
  refine Eq.trans this ?_
  unfold scr
  have e0 : colHead ((Rect.unit (s := S1024x128) ![128 * h.val, 0] S128x128.size (inScr h)).emb (ix2 k v) 0) = h :=
    Fin.ext (by show (128 * h.val + 1 * k.val) / 128 = h.val; omega)
  have e1 : colLane ((Rect.unit (s := S1024x128) ![128 * h.val, 0] S128x128.size (inScr h)).emb (ix2 k v) 0) = k :=
    Fin.ext (by show (128 * h.val + 1 * k.val) % 128 = k.val; omega)
  have e2 : (Rect.unit (s := S1024x128) ![128 * h.val, 0] S128x128.size (inScr h)).emb (ix2 k v) 1 = v :=
    Fin.ext (by show 0 + 1 * v.val = v.val; omega)
  rw [e0, e1, e2]

end Blocks

end Cert.Kernel21Ideal.Body

end

end
-- ==== Proof.FwdOuts.lean ====
module

public import Idealize.ShloMosaic.Lib.Pipeline.CanonAppend
public import proofs.«01_k».proof.Proof.FwdBody
public import proofs.«01_k».proof.Proof.Gen.Kernel21Ideal.Frame

/-! What the forward body leaves in the blocks it writes, at the first point and at a later one. -/

@[expose] public section

noncomputable section

namespace Cert.Kernel21Ideal.Body

open Idealize.ShloMosaic Cert.Kernel21Ideal Cert.Kernel21Ideal.Gen Cert.Gdn Idealize.SL.Sem

set_option maxRecDepth 16384
set_option maxHeartbeats 4000000

/-- An index of the scratch lies in its head's rectangle. -/
theorem in_head (h : Fin 8) (r : Fin 1024) (v : Fin 128) (e : r.val / 128 = h.val) :
    (ix2 r v : S1024x128.Idx) ∈ (Rect.unit (s := S1024x128) ![128 * h.val, 0] S128x128.size (inScr h)).set := by
  refine Rect.mem_set_unit.2 fun a => ?_
  fin_cases a
  · show 128 * h.val ≤ r.val ∧ r.val < 128 * h.val + 128; omega
  · show 0 ≤ v.val ∧ v.val < 0 + 128; omega

/-- A load of what one store through the whole shape left reads that store's payload. -/
theorem readCov_whole (v : View sig .tc .vmem S1024x128 .f32) (inb) (w : Vec Ideal S1024x128 .f32) (R : Rect S1024x128) :
    v.readCov [(⟨Rect.unit (s := S1024x128) ![0, 0] (no_index ![1024, 128]) inb, w⟩ : View.Piece (Elt Ideal) S1024x128 .f32)] R.toLoadRect =
      View.ld w R := by
  have e := View.canon_unit_zero (Val := Elt Ideal) (S := S1024x128) (e := .f32) (off := ![0, 0]) (by funext a; fin_cases a <;> rfl) inb w
  rw [View.readCov_eq_canon']
  exact congrArg (fun X => View.ld X R) e

/-- Where one of the last `n` stores went, they decide what is left. -/
theorem canon_of_take (n : ℕ) (G : Vec Ideal S1024x128 .f32) (L : List (View.Piece (Elt Ideal) S1024x128 .f32)) (y : S1024x128.Idx)
    (h : ∀ p ∈ L.take n, ∀ x : p.1.shape.Idx, p.2 x = G (p.1.emb x)) (hy : ∃ p ∈ L.take n, y ∈ p.1.set) :
    View.canon L y = G y := by
  have e := View.canon_append_of_pieces G (L.drop n) (L.take n) h y hy
  rwa [List.take_append_drop] at e

namespace CaseA

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S32x128 .f32) (harg6 : arg6.IsWhole) (arg7 : Memref sig .tc .vmem S256x1024 .f32) (harg7 : arg7.IsWhole) (arg8 : Memref sig .tc .vmem S4x1024x128 .bf16) (harg8 : arg8.IsWhole) (arg9 : Memref sig .tc .vmem S1024x128 .f32) (harg9 : arg9.IsWhole) (hc0 : cond0_0 i)
  (x0 : Vec Ideal S256x1024 .f32) (x1 : Vec Ideal S256x1024 .bf16) (x2 : Vec Ideal S256x1024 .bf16) (x3 : Vec Ideal S256x1024 .bf16) (x4 : Vec Ideal S256x1024 .bf16) (x5 : Vec Ideal S32x128 .f32)

theorem o_block : out0_A_6 (F := Ideal) c i arg1 harg1 arg2 harg2 arg3 harg3 arg4 harg4 arg5 harg5 arg6 harg6 arg7 harg7 arg8 harg8 arg9 harg9 hc0 x0 x1 x2 x3 x4 x5 = (Blocks.mk x0 x1 x2 x3 x4 x5).o (k0_pay4 (F := Ideal)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  funext y
  refine View.canon_apply_of_pieces _ _ ?_ y (cover0_A_6 c i arg1 harg1 arg2 harg2 arg3 harg3 arg4 harg4 arg5 harg5 arg6 harg6 arg7 harg7 arg8 harg8 arg9 harg9 hc0 x0 x1 x2 x3 x4 x5 y)
  unfold kernelRun0_A
  dsimp only
  sl_unfold_words
  simp only [View.readAt_eq_ld, Memref.IsWhole.read_unread, readCov_whole]
  let B : Blocks := Blocks.mk x0 x1 x2 x3 x4 x5
  generalize (k0_pay4 (F := Ideal)) = S0
  refine List.forall_mem_cons.2 ⟨fun x => B.piece_o S0 3 7 x, ?_⟩
  refine List.forall_mem_cons.2 ⟨fun x => B.piece_o S0 3 6 x, ?_⟩
  refine List.forall_mem_cons.2 ⟨fun x => B.piece_o S0 3 5 x, ?_⟩
  refine List.forall_mem_cons.2 ⟨fun x => B.piece_o S0 3 4 x, ?_⟩
  refine List.forall_mem_cons.2 ⟨fun x => B.piece_o S0 3 3 x, ?_⟩
  refine List.forall_mem_cons.2 ⟨fun x => B.piece_o S0 3 2 x, ?_⟩
  refine List.forall_mem_cons.2 ⟨fun x => B.piece_o S0 3 1 x, ?_⟩
  refine List.forall_mem_cons.2 ⟨fun x => B.piece_o S0 3 0 x, ?_⟩
  refine List.forall_mem_cons.2 ⟨fun x => B.piece_o S0 2 7 x, ?_⟩
  refine List.forall_mem_cons.2 ⟨fun x => B.piece_o S0 2 6 x, ?_⟩
  refine List.forall_mem_cons.2 ⟨fun x => B.piece_o S0 2 5 x, ?_⟩
  refine List.forall_mem_cons.2 ⟨fun x => B.piece_o S0 2 4 x, ?_⟩
  refine List.forall_mem_cons.2 ⟨fun x => B.piece_o S0 2 3 x, ?_⟩
  refine List.forall_mem_cons.2 ⟨fun x => B.piece_o S0 2 2 x, ?_⟩
  refine List.forall_mem_cons.2 ⟨fun x => B.piece_o S0 2 1 x, ?_⟩
  refine List.forall_mem_cons.2 ⟨fun x => B.piece_o S0 2 0 x, ?_⟩
  refine List.forall_mem_cons.2 ⟨fun x => B.piece_o S0 1 7 x, ?_⟩
  refine List.forall_mem_cons.2 ⟨fun x => B.piece_o S0 1 6 x, ?_⟩
  refine List.forall_mem_cons.2 ⟨fun x => B.piece_o S0 1 5 x, ?_⟩
  refine List.forall_mem_cons.2 ⟨fun x => B.piece_o S0 1 4 x, ?_⟩
  refine List.forall_mem_cons.2 ⟨fun x => B.piece_o S0 1 3 x, ?_⟩
  refine List.forall_mem_cons.2 ⟨fun x => B.piece_o S0 1 2 x, ?_⟩
  refine List.forall_mem_cons.2 ⟨fun x => B.piece_o S0 1 1 x, ?_⟩
  refine List.forall_mem_cons.2 ⟨fun x => B.piece_o S0 1 0 x, ?_⟩
  refine List.forall_mem_cons.2 ⟨fun x => B.piece_o S0 0 7 x, ?_⟩
  refine List.forall_mem_cons.2 ⟨fun x => B.piece_o S0 0 6 x, ?_⟩
  refine List.forall_mem_cons.2 ⟨fun x => B.piece_o S0 0 5 x, ?_⟩
  refine List.forall_mem_cons.2 ⟨fun x => B.piece_o S0 0 4 x, ?_⟩
  refine List.forall_mem_cons.2 ⟨fun x => B.piece_o S0 0 3 x, ?_⟩
  refine List.forall_mem_cons.2 ⟨fun x => B.piece_o S0 0 2 x, ?_⟩
  refine List.forall_mem_cons.2 ⟨fun x => B.piece_o S0 0 1 x, ?_⟩
  refine List.forall_mem_cons.2 ⟨fun x => B.piece_o S0 0 0 x, ?_⟩
  exact List.forall_mem_nil _

theorem sts_block : out0_A_7 (F := Ideal) c i arg1 harg1 arg2 harg2 arg3 harg3 arg4 harg4 arg5 harg5 arg6 harg6 arg7 harg7 arg8 harg8 arg9 harg9 hc0 x0 x1 x2 x3 x4 x5 = (Blocks.mk x0 x1 x2 x3 x4 x5).sts (k0_pay4 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  funext y
  refine View.canon_apply_of_pieces _ _ ?_ y (cover0_A_7 c i arg1 harg1 arg2 harg2 arg3 harg3 arg4 harg4 arg5 harg5 arg6 harg6 arg7 harg7 arg8 harg8 arg9 harg9 hc0 x0 x1 x2 x3 x4 x5 y)
  unfold kernelRun0_A
  dsimp only
  sl_unfold_words
  simp only [View.readAt_eq_ld, Memref.IsWhole.read_unread, readCov_whole]
  let B : Blocks := Blocks.mk x0 x1 x2 x3 x4 x5
  generalize (k0_pay4 (F := Ideal)) = S0
  refine List.forall_mem_cons.2 ⟨fun x => B.piece_sts S0 3 7 x, ?_⟩
  refine List.forall_mem_cons.2 ⟨fun x => B.piece_sts S0 3 6 x, ?_⟩
  refine List.forall_mem_cons.2 ⟨fun x => B.piece_sts S0 3 5 x, ?_⟩
  refine List.forall_mem_cons.2 ⟨fun x => B.piece_sts S0 3 4 x, ?_⟩
  refine List.forall_mem_cons.2 ⟨fun x => B.piece_sts S0 3 3 x, ?_⟩
  refine List.forall_mem_cons.2 ⟨fun x => B.piece_sts S0 3 2 x, ?_⟩
  refine List.forall_mem_cons.2 ⟨fun x => B.piece_sts S0 3 1 x, ?_⟩
  refine List.forall_mem_cons.2 ⟨fun x => B.piece_sts S0 3 0 x, ?_⟩
  refine List.forall_mem_cons.2 ⟨fun x => B.piece_sts S0 2 7 x, ?_⟩
  refine List.forall_mem_cons.2 ⟨fun x => B.piece_sts S0 2 6 x, ?_⟩
  refine List.forall_mem_cons.2 ⟨fun x => B.piece_sts S0 2 5 x, ?_⟩
  refine List.forall_mem_cons.2 ⟨fun x => B.piece_sts S0 2 4 x, ?_⟩
  refine List.forall_mem_cons.2 ⟨fun x => B.piece_sts S0 2 3 x, ?_⟩
  refine List.forall_mem_cons.2 ⟨fun x => B.piece_sts S0 2 2 x, ?_⟩
  refine List.forall_mem_cons.2 ⟨fun x => B.piece_sts S0 2 1 x, ?_⟩
  refine List.forall_mem_cons.2 ⟨fun x => B.piece_sts S0 2 0 x, ?_⟩
  refine List.forall_mem_cons.2 ⟨fun x => B.piece_sts S0 1 7 x, ?_⟩
  refine List.forall_mem_cons.2 ⟨fun x => B.piece_sts S0 1 6 x, ?_⟩
  refine List.forall_mem_cons.2 ⟨fun x => B.piece_sts S0 1 5 x, ?_⟩
  refine List.forall_mem_cons.2 ⟨fun x => B.piece_sts S0 1 4 x, ?_⟩
  refine List.forall_mem_cons.2 ⟨fun x => B.piece_sts S0 1 3 x, ?_⟩
  refine List.forall_mem_cons.2 ⟨fun x => B.piece_sts S0 1 2 x, ?_⟩
  refine List.forall_mem_cons.2 ⟨fun x => B.piece_sts S0 1 1 x, ?_⟩
  refine List.forall_mem_cons.2 ⟨fun x => B.piece_sts S0 1 0 x, ?_⟩
  refine List.forall_mem_cons.2 ⟨fun x => B.piece_sts S0 0 7 x, ?_⟩
  refine List.forall_mem_cons.2 ⟨fun x => B.piece_sts S0 0 6 x, ?_⟩
  refine List.forall_mem_cons.2 ⟨fun x => B.piece_sts S0 0 5 x, ?_⟩
  refine List.forall_mem_cons.2 ⟨fun x => B.piece_sts S0 0 4 x, ?_⟩
  refine List.forall_mem_cons.2 ⟨fun x => B.piece_sts S0 0 3 x, ?_⟩
  refine List.forall_mem_cons.2 ⟨fun x => B.piece_sts S0 0 2 x, ?_⟩
  refine List.forall_mem_cons.2 ⟨fun x => B.piece_sts S0 0 1 x, ?_⟩
  refine List.forall_mem_cons.2 ⟨fun x => B.piece_sts S0 0 0 x, ?_⟩
  exact List.forall_mem_nil _

theorem scr_block : sout0_A_0 (F := Ideal) c i arg1 harg1 arg2 harg2 arg3 harg3 arg4 harg4 arg5 harg5 arg6 harg6 arg7 harg7 arg8 harg8 arg9 harg9 hc0 x0 x1 x2 x3 x4 x5 = (Blocks.mk x0 x1 x2 x3 x4 x5).scr (k0_pay4 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  funext y
  obtain ⟨r, v, rfl⟩ : ∃ r v, y = ix2 r v := ⟨y 0, y 1, (ix2_eta y).symm⟩
  unfold kernelRun0_A
  dsimp only
  sl_unfold_words
  simp only [View.readAt_eq_ld, Memref.IsWhole.read_unread, readCov_whole]
  let B : Blocks := Blocks.mk x0 x1 x2 x3 x4 x5
  generalize (k0_pay4 (F := Ideal)) = S0
  refine canon_of_take 8 _ _ _ ?_ ?_
  · dsimp only [List.take]
    refine List.forall_mem_cons.2 ⟨fun x => B.piece_scr S0 7 x, ?_⟩
    refine List.forall_mem_cons.2 ⟨fun x => B.piece_scr S0 6 x, ?_⟩
    refine List.forall_mem_cons.2 ⟨fun x => B.piece_scr S0 5 x, ?_⟩
    refine List.forall_mem_cons.2 ⟨fun x => B.piece_scr S0 4 x, ?_⟩
    refine List.forall_mem_cons.2 ⟨fun x => B.piece_scr S0 3 x, ?_⟩
    refine List.forall_mem_cons.2 ⟨fun x => B.piece_scr S0 2 x, ?_⟩
    refine List.forall_mem_cons.2 ⟨fun x => B.piece_scr S0 1 x, ?_⟩
    refine List.forall_mem_cons.2 ⟨fun x => B.piece_scr S0 0 x, ?_⟩
    exact List.forall_mem_nil _
  · dsimp only [List.take]
    have hr := r.isLt
    have hd : r.val / 128 = 7 ∨ r.val / 128 = 6 ∨ r.val / 128 = 5 ∨ r.val / 128 = 4 ∨ r.val / 128 = 3 ∨ r.val / 128 = 2 ∨ r.val / 128 = 1 ∨ r.val / 128 = 0 := by omega
    rcases hd with hd | hd | hd | hd | hd | hd | hd | hd
    · exact ⟨_, List.mem_cons_self, in_head 7 r v hd⟩
    · exact ⟨_, List.mem_cons_of_mem _ (List.mem_cons_self), in_head 6 r v hd⟩
    · exact ⟨_, List.mem_cons_of_mem _ (List.mem_cons_of_mem _ (List.mem_cons_self)), in_head 5 r v hd⟩
    · exact ⟨_, List.mem_cons_of_mem _ (List.mem_cons_of_mem _ (List.mem_cons_of_mem _ (List.mem_cons_self))), in_head 4 r v hd⟩
    · exact ⟨_, List.mem_cons_of_mem _ (List.mem_cons_of_mem _ (List.mem_cons_of_mem _ (List.mem_cons_of_mem _ (List.mem_cons_self)))), in_head 3 r v hd⟩
    · exact ⟨_, List.mem_cons_of_mem _ (List.mem_cons_of_mem _ (List.mem_cons_of_mem _ (List.mem_cons_of_mem _ (List.mem_cons_of_mem _ (List.mem_cons_self))))), in_head 2 r v hd⟩
    · exact ⟨_, List.mem_cons_of_mem _ (List.mem_cons_of_mem _ (List.mem_cons_of_mem _ (List.mem_cons_of_mem _ (List.mem_cons_of_mem _ (List.mem_cons_of_mem _ (List.mem_cons_self)))))), in_head 1 r v hd⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_head 0 r v hd⟩

end CaseA

namespace CaseB

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S32x128 .f32) (harg6 : arg6.IsWhole) (arg7 : Memref sig .tc .vmem S256x1024 .f32) (harg7 : arg7.IsWhole) (arg8 : Memref sig .tc .vmem S4x1024x128 .bf16) (harg8 : arg8.IsWhole) (arg9 : Memref sig .tc .vmem S1024x128 .f32) (harg9 : arg9.IsWhole) (hc0 : ¬cond0_0 i)
  (x0 : Vec Ideal S256x1024 .f32) (x1 : Vec Ideal S256x1024 .bf16) (x2 : Vec Ideal S256x1024 .bf16) (x3 : Vec Ideal S256x1024 .bf16) (x4 : Vec Ideal S256x1024 .bf16) (x5 : Vec Ideal S32x128 .f32) (xs0 : Vec Ideal S1024x128 .f32)

theorem o_block : out0_B_6 (F := Ideal) c i arg1 harg1 arg2 harg2 arg3 harg3 arg4 harg4 arg5 harg5 arg6 harg6 arg7 harg7 arg8 harg8 arg9 harg9 hc0 x0 x1 x2 x3 x4 x5 xs0 = (Blocks.mk x0 x1 x2 x3 x4 x5).o xs0 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0)]
  funext y
  refine View.canon_apply_of_pieces _ _ ?_ y (cover0_B_6 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, Memref.IsWhole.read_unread]
  let B : Blocks := Blocks.mk x0 x1 x2 x3 x4 x5
  refine List.forall_mem_cons.2 ⟨fun x => B.piece_o xs0 3 7 x, ?_⟩
  refine List.forall_mem_cons.2 ⟨fun x => B.piece_o xs0 3 6 x, ?_⟩
  refine List.forall_mem_cons.2 ⟨fun x => B.piece_o xs0 3 5 x, ?_⟩
  refine List.forall_mem_cons.2 ⟨fun x => B.piece_o xs0 3 4 x, ?_⟩
  refine List.forall_mem_cons.2 ⟨fun x => B.piece_o xs0 3 3 x, ?_⟩
  refine List.forall_mem_cons.2 ⟨fun x => B.piece_o xs0 3 2 x, ?_⟩
  refine List.forall_mem_cons.2 ⟨fun x => B.piece_o xs0 3 1 x, ?_⟩
  refine List.forall_mem_cons.2 ⟨fun x => B.piece_o xs0 3 0 x, ?_⟩
  refine List.forall_mem_cons.2 ⟨fun x => B.piece_o xs0 2 7 x, ?_⟩
  refine List.forall_mem_cons.2 ⟨fun x => B.piece_o xs0 2 6 x, ?_⟩
  refine List.forall_mem_cons.2 ⟨fun x => B.piece_o xs0 2 5 x, ?_⟩
  refine List.forall_mem_cons.2 ⟨fun x => B.piece_o xs0 2 4 x, ?_⟩
  refine List.forall_mem_cons.2 ⟨fun x => B.piece_o xs0 2 3 x, ?_⟩
  refine List.forall_mem_cons.2 ⟨fun x => B.piece_o xs0 2 2 x, ?_⟩
  refine List.forall_mem_cons.2 ⟨fun x => B.piece_o xs0 2 1 x, ?_⟩
  refine List.forall_mem_cons.2 ⟨fun x => B.piece_o xs0 2 0 x, ?_⟩
  refine List.forall_mem_cons.2 ⟨fun x => B.piece_o xs0 1 7 x, ?_⟩
  refine List.forall_mem_cons.2 ⟨fun x => B.piece_o xs0 1 6 x, ?_⟩
  refine List.forall_mem_cons.2 ⟨fun x => B.piece_o xs0 1 5 x, ?_⟩
  refine List.forall_mem_cons.2 ⟨fun x => B.piece_o xs0 1 4 x, ?_⟩
  refine List.forall_mem_cons.2 ⟨fun x => B.piece_o xs0 1 3 x, ?_⟩
  refine List.forall_mem_cons.2 ⟨fun x => B.piece_o xs0 1 2 x, ?_⟩
  refine List.forall_mem_cons.2 ⟨fun x => B.piece_o xs0 1 1 x, ?_⟩
  refine List.forall_mem_cons.2 ⟨fun x => B.piece_o xs0 1 0 x, ?_⟩
  refine List.forall_mem_cons.2 ⟨fun x => B.piece_o xs0 0 7 x, ?_⟩
  refine List.forall_mem_cons.2 ⟨fun x => B.piece_o xs0 0 6 x, ?_⟩
  refine List.forall_mem_cons.2 ⟨fun x => B.piece_o xs0 0 5 x, ?_⟩
  refine List.forall_mem_cons.2 ⟨fun x => B.piece_o xs0 0 4 x, ?_⟩
  refine List.forall_mem_cons.2 ⟨fun x => B.piece_o xs0 0 3 x, ?_⟩
  refine List.forall_mem_cons.2 ⟨fun x => B.piece_o xs0 0 2 x, ?_⟩
  refine List.forall_mem_cons.2 ⟨fun x => B.piece_o xs0 0 1 x, ?_⟩
  refine List.forall_mem_cons.2 ⟨fun x => B.piece_o xs0 0 0 x, ?_⟩
  exact List.forall_mem_nil _

theorem sts_block : out0_B_7 (F := Ideal) c i arg1 harg1 arg2 harg2 arg3 harg3 arg4 harg4 arg5 harg5 arg6 harg6 arg7 harg7 arg8 harg8 arg9 harg9 hc0 x0 x1 x2 x3 x4 x5 xs0 = (Blocks.mk x0 x1 x2 x3 x4 x5).sts xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xs0)]
  funext y
  refine View.canon_apply_of_pieces _ _ ?_ y (cover0_B_7 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, Memref.IsWhole.read_unread]
  let B : Blocks := Blocks.mk x0 x1 x2 x3 x4 x5
  refine List.forall_mem_cons.2 ⟨fun x => B.piece_sts xs0 3 7 x, ?_⟩
  refine List.forall_mem_cons.2 ⟨fun x => B.piece_sts xs0 3 6 x, ?_⟩
  refine List.forall_mem_cons.2 ⟨fun x => B.piece_sts xs0 3 5 x, ?_⟩
  refine List.forall_mem_cons.2 ⟨fun x => B.piece_sts xs0 3 4 x, ?_⟩
  refine List.forall_mem_cons.2 ⟨fun x => B.piece_sts xs0 3 3 x, ?_⟩
  refine List.forall_mem_cons.2 ⟨fun x => B.piece_sts xs0 3 2 x, ?_⟩
  refine List.forall_mem_cons.2 ⟨fun x => B.piece_sts xs0 3 1 x, ?_⟩
  refine List.forall_mem_cons.2 ⟨fun x => B.piece_sts xs0 3 0 x, ?_⟩
  refine List.forall_mem_cons.2 ⟨fun x => B.piece_sts xs0 2 7 x, ?_⟩
  refine List.forall_mem_cons.2 ⟨fun x => B.piece_sts xs0 2 6 x, ?_⟩
  refine List.forall_mem_cons.2 ⟨fun x => B.piece_sts xs0 2 5 x, ?_⟩
  refine List.forall_mem_cons.2 ⟨fun x => B.piece_sts xs0 2 4 x, ?_⟩
  refine List.forall_mem_cons.2 ⟨fun x => B.piece_sts xs0 2 3 x, ?_⟩
  refine List.forall_mem_cons.2 ⟨fun x => B.piece_sts xs0 2 2 x, ?_⟩
  refine List.forall_mem_cons.2 ⟨fun x => B.piece_sts xs0 2 1 x, ?_⟩
  refine List.forall_mem_cons.2 ⟨fun x => B.piece_sts xs0 2 0 x, ?_⟩
  refine List.forall_mem_cons.2 ⟨fun x => B.piece_sts xs0 1 7 x, ?_⟩
  refine List.forall_mem_cons.2 ⟨fun x => B.piece_sts xs0 1 6 x, ?_⟩
  refine List.forall_mem_cons.2 ⟨fun x => B.piece_sts xs0 1 5 x, ?_⟩
  refine List.forall_mem_cons.2 ⟨fun x => B.piece_sts xs0 1 4 x, ?_⟩
  refine List.forall_mem_cons.2 ⟨fun x => B.piece_sts xs0 1 3 x, ?_⟩
  refine List.forall_mem_cons.2 ⟨fun x => B.piece_sts xs0 1 2 x, ?_⟩
  refine List.forall_mem_cons.2 ⟨fun x => B.piece_sts xs0 1 1 x, ?_⟩
  refine List.forall_mem_cons.2 ⟨fun x => B.piece_sts xs0 1 0 x, ?_⟩
  refine List.forall_mem_cons.2 ⟨fun x => B.piece_sts xs0 0 7 x, ?_⟩
  refine List.forall_mem_cons.2 ⟨fun x => B.piece_sts xs0 0 6 x, ?_⟩
  refine List.forall_mem_cons.2 ⟨fun x => B.piece_sts xs0 0 5 x, ?_⟩
  refine List.forall_mem_cons.2 ⟨fun x => B.piece_sts xs0 0 4 x, ?_⟩
  refine List.forall_mem_cons.2 ⟨fun x => B.piece_sts xs0 0 3 x, ?_⟩
  refine List.forall_mem_cons.2 ⟨fun x => B.piece_sts xs0 0 2 x, ?_⟩
  refine List.forall_mem_cons.2 ⟨fun x => B.piece_sts xs0 0 1 x, ?_⟩
  refine List.forall_mem_cons.2 ⟨fun x => B.piece_sts xs0 0 0 x, ?_⟩
  exact List.forall_mem_nil _

theorem scr_block : sout0_B_0 (F := Ideal) c i arg1 harg1 arg2 harg2 arg3 harg3 arg4 harg4 arg5 harg5 arg6 harg6 arg7 harg7 arg8 harg8 arg9 harg9 hc0 x0 x1 x2 x3 x4 x5 xs0 = (Blocks.mk x0 x1 x2 x3 x4 x5).scr xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 xs0)]
  funext y
  refine View.canon_apply_of_pieces _ _ ?_ y (scover0_B_0 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, Memref.IsWhole.read_unread]
  let B : Blocks := Blocks.mk x0 x1 x2 x3 x4 x5
  refine List.forall_mem_cons.2 ⟨fun x => B.piece_scr xs0 7 x, ?_⟩
  refine List.forall_mem_cons.2 ⟨fun x => B.piece_scr xs0 6 x, ?_⟩
  refine List.forall_mem_cons.2 ⟨fun x => B.piece_scr xs0 5 x, ?_⟩
  refine List.forall_mem_cons.2 ⟨fun x => B.piece_scr xs0 4 x, ?_⟩
  refine List.forall_mem_cons.2 ⟨fun x => B.piece_scr xs0 3 x, ?_⟩
  refine List.forall_mem_cons.2 ⟨fun x => B.piece_scr xs0 2 x, ?_⟩
  refine List.forall_mem_cons.2 ⟨fun x => B.piece_scr xs0 1 x, ?_⟩
  refine List.forall_mem_cons.2 ⟨fun x => B.piece_scr xs0 0 x, ?_⟩
  exact List.forall_mem_nil _

end CaseB

end Cert.Kernel21Ideal.Body

end

end
-- ==== Proof.FwdSweep.lean ====
module

public import Idealize.ShloMosaic.Lib.StableHlo.ReadAt
public import proofs.«01_k».proof.Proof.FwdOuts
public import proofs.«01_k».proof.Proof.Gen.Kernel21Ideal.Value

/-! The forward recurrence's result arrays, over the whole sweep of the grid. -/

@[expose] public section

noncomputable section

namespace Cert.Kernel21Ideal.Body

open Idealize.ShloMosaic Idealize.ShloMosaic.TcCoe Idealize.SL.Sem Idealize.ShloMosaic.StableHlo
open Cert.Kernel21Ideal Cert.Kernel21Ideal.Gen Cert.Kernel21Ideal.Value Cert.Gdn

set_option maxRecDepth 16384

variable (m : (ℓ : Loc nD τ sig) → Buf (Elt Ideal) ℓ) (c : Dev nD)

/-- The kernel's arguments. -/
def args : FArgs where
  U r l := m ((c.tc : Thread nD τ).loc main_arg0) (ix2 r l)
  W r l := m ((c.tc : Thread nD τ).loc main_arg1) (ix2 r l)
  Q r l := m ((c.tc : Thread nD τ).loc main_arg2) (ix2 r l)
  K r l := m ((c.tc : Thread nD τ).loc main_arg3) (ix2 r l)
  QK h n c' s := m ((c.tc : Thread nD τ).loc main_arg4) (ix4 h n c' s)
  D h n := m ((c.tc : Thread nD τ).loc main_arg5) (ix2 h n)

theorem V_w (r : Fin 4096) (l : Fin 1024) : V m c main_v0 (ix2 r l) = (args m c).W r l := by
  unfold V
  after_reads_at
  rfl

theorem V_q (r : Fin 4096) (l : Fin 1024) : V m c main_v1 (ix2 r l) = (args m c).Q r l := by
  unfold V
  after_reads_at
  rfl

theorem V_k (r : Fin 4096) (l : Fin 1024) : V m c main_v2 (ix2 r l) = (args m c).K r l := by
  unfold V
  after_reads_at
  rfl

theorem V_d (r : Fin 512) (l : Fin 128) : V m c main_v8 (ix2 r l) = (args m c).D ⟨r.val % 8, Nat.mod_lt _ (by decide)⟩ ⟨r.val / 8, by omega⟩ := by
  unfold V
  after_reads_at
  rfl

theorem V_qk (r : Fin 4096) (h : Fin 8) (s : Fin 64) :
    V m c main_v9 (ix2 r ⟨128 * h.val + s.val, by omega⟩) = (args m c).QK h ⟨r.val / 64, by omega⟩ ⟨r.val % 64, Nat.mod_lt _ (by decide)⟩ s := by
  unfold V
  after_reads_at
  rw [dif_pos (by omega)]
  show (args m c).QK _ _ _ _ = _
  congr 1
  · exact Fin.ext (by show (128 * h.val + s.val) / 128 = h.val; omega)
  · exact Fin.ext (by show (128 * h.val + s.val) % 128 = s.val; omega)

theorem points (t : Fin cfg0.N) : t.val < 16 := by have : cfg0.N = 16 := N_0; omega

/-- Row `r` of the block that point `t` reads. -/
abbrev prow (t : Fin cfg0.N) (r : Fin 256) : Fin 4096 := ⟨t.val * 256 + r.val, by have := points t; omega⟩

/-- Chunk `g` of the block that point `t` reads. -/
abbrev pchunk (t : Fin cfg0.N) (g : Fin 4) : Fin 64 := ⟨t.val * 4 + g.val, by have := points t; omega⟩

theorem index0 : ∀ t : Fin grid0.N, win0_0.index t 0 = t.val ∧ win0_0.index t 1 = 0 := by decide +kernel

theorem iblk0 (t : Fin cfg0.N) (r : Fin 256) (l : Fin 1024) : (iblk m c 0 t : Vec Ideal S256x1024 .f32) (ix2 r l) = V m c main_arg0 (ix2 (prow t r) l) := by
  unfold iblk
  rw [View.read_apply]
  refine congrArg (V m c main_arg0) (funext fun a => Fin.ext ?_)
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem index1 : ∀ t : Fin grid0.N, win0_1.index t 0 = t.val ∧ win0_1.index t 1 = 0 := by decide +kernel

theorem iblk1 (t : Fin cfg0.N) (r : Fin 256) (l : Fin 1024) : (iblk m c 1 t : Vec Ideal S256x1024 .bf16) (ix2 r l) = V m c main_v0 (ix2 (prow t r) l) := by
  unfold iblk
  rw [View.read_apply]
  refine congrArg (V m c main_v0) (funext fun a => Fin.ext ?_)
  match a with
  | ⟨0, _⟩ => show win0_1.index t 0 * 256 + 1 * r.val = t.val * 256 + r.val; rw [(index1 t).1]; omega
  | ⟨1, _⟩ => show win0_1.index t 1 * 1024 + 1 * l.val = l.val; rw [(index1 t).2]; omega

theorem index2 : ∀ t : Fin grid0.N, win0_2.index t 0 = t.val ∧ win0_2.index t 1 = 0 := by decide +kernel

theorem iblk2 (t : Fin cfg0.N) (r : Fin 256) (l : Fin 1024) : (iblk m c 2 t : Vec Ideal S256x1024 .bf16) (ix2 r l) = V m c main_v1 (ix2 (prow t r) l) := by
  unfold iblk
  rw [View.read_apply]
  refine congrArg (V m c main_v1) (funext fun a => Fin.ext ?_)
  match a with
  | ⟨0, _⟩ => show win0_2.index t 0 * 256 + 1 * r.val = t.val * 256 + r.val; rw [(index2 t).1]; omega
  | ⟨1, _⟩ => show win0_2.index t 1 * 1024 + 1 * l.val = l.val; rw [(index2 t).2]; omega

theorem index3 : ∀ t : Fin grid0.N, win0_3.index t 0 = t.val ∧ win0_3.index t 1 = 0 := by decide +kernel

theorem iblk3 (t : Fin cfg0.N) (r : Fin 256) (l : Fin 1024) : (iblk m c 3 t : Vec Ideal S256x1024 .bf16) (ix2 r l) = V m c main_v2 (ix2 (prow t r) l) := by
  unfold iblk
  rw [View.read_apply]
  refine congrArg (V m c main_v2) (funext fun a => Fin.ext ?_)
  match a with
  | ⟨0, _⟩ => show win0_3.index t 0 * 256 + 1 * r.val = t.val * 256 + r.val; rw [(index3 t).1]; omega
  | ⟨1, _⟩ => show win0_3.index t 1 * 1024 + 1 * l.val = l.val; rw [(index3 t).2]; omega

theorem index4 : ∀ t : Fin grid0.N, win0_4.index t 0 = t.val ∧ win0_4.index t 1 = 0 := by decide +kernel

theorem iblk4 (t : Fin cfg0.N) (r : Fin 256) (l : Fin 1024) : (iblk m c 4 t : Vec Ideal S256x1024 .bf16) (ix2 r l) = V m c main_v9 (ix2 (prow t r) l) := by
  unfold iblk
  rw [View.read_apply]
  refine congrArg (V m c main_v9) (funext fun a => Fin.ext ?_)
  match a with
  | ⟨0, _⟩ => show win0_4.index t 0 * 256 + 1 * r.val = t.val * 256 + r.val; rw [(index4 t).1]; omega
  | ⟨1, _⟩ => show win0_4.index t 1 * 1024 + 1 * l.val = l.val; rw [(index4 t).2]; omega

theorem index5 : ∀ t : Fin grid0.N, win0_5.index t 0 = t.val ∧ win0_5.index t 1 = 0 := by decide +kernel

theorem iblk5 (t : Fin cfg0.N) (r : Fin 32) (l : Fin 128) :
    (iblk m c 5 t : Vec Ideal S32x128 .f32) (ix2 r l) = V m c main_v8 (ix2 ⟨t.val * 32 + r.val, by have := points t; omega⟩ l) := by
  unfold iblk
  rw [View.read_apply]
  refine congrArg (V m c main_v8) (funext fun a => Fin.ext ?_)
  match a with
  | ⟨0, _⟩ => show win0_5.index t 0 * 32 + 1 * r.val = t.val * 32 + r.val; rw [(index5 t).1]; omega
  | ⟨1, _⟩ => show win0_5.index t 1 * 128 + 1 * l.val = l.val; rw [(index5 t).2]; omega

/-- The blocks point `t` reads. -/
def blocks (t : Fin cfg0.N) : Blocks :=
  Blocks.mk (iblk m c 0 t) (iblk m c 1 t) (iblk m c 2 t) (iblk m c 3 t) (iblk m c 4 t) (iblk m c 5 t)

theorem link_eq (t : Fin cfg0.N) (g : Fin 4) (h : Fin 8) : (blocks m c t).link g h = (args m c).link (pchunk t g) h := by
  have hr (k : Fin 64) : prow t (Blocks.brow g k) = row (pchunk t g) k := Fin.ext (by show t.val * 256 + (64 * g.val + k.val) = (t.val * 4 + g.val) * 64 + k.val; omega)
  have hc (v : Fin 128) : Blocks.bcol h v = col h v := Fin.ext (by show 128 * h.val + v.val = h.val * 128 + v.val; omega)
  have hN := points t
  unfold blocks Blocks.link FArgs.link
  congr 1
  · funext a b; refine (iblk0 m c t _ _).trans ?_; rw [hr, hc, V_main_arg0]; rfl
  · funext a b; refine (iblk1 m c t _ _).trans ?_; rw [hr, hc, V_w]
  · funext a b; refine (iblk2 m c t _ _).trans ?_; rw [hr, hc, V_q]
  · funext a b; refine (iblk3 m c t _ _).trans ?_; rw [hr, hc, V_k]
  · funext a b; refine (iblk4 m c t _ _).trans ?_; rw [hr, V_qk]
    congr 1
    · exact Fin.ext (by show ((t.val * 4 + g.val) * 64 + a.val) / 64 = t.val * 4 + g.val; omega)
    · exact Fin.ext (by show ((t.val * 4 + g.val) * 64 + a.val) % 64 = a.val; omega)
  · refine (iblk5 m c t _ _).trans ?_; rw [V_d]
    congr 1
    · exact Fin.ext (by show (t.val * 32 + (8 * g.val + h.val)) % 8 = h.val; omega)
    · exact Fin.ext (by show (t.val * 32 + (8 * g.val + h.val)) / 8 = t.val * 4 + g.val; omega)

/-- Everything a point leaves, over the scratch it starts from. -/
def leaves (t : Fin cfg0.N) (S0 : Vec Ideal S1024x128 .f32) :=
  ((blocks m c t).o S0, (blocks m c t).sts S0, (blocks m c t).scr S0)

theorem outs_first (t : Fin cfg0.N) (h0 : t.val % 16 = 0) : outsAt0 m c t.val t.isLt = leaves m c t (k0_pay4 (F := Ideal)) := by
  rw [outsAt0_A m c t h0]
  rw [CaseA.o_block, CaseA.sts_block, CaseA.scr_block]
  rfl

theorem outs_later (n : ℕ) (hn : n + 1 < cfg0.N) (h0 : ¬(n + 1) % 16 = 0) :
    outsAt0 m c (n + 1) hn = leaves m c ⟨n + 1, hn⟩ (outsAt0 m c n (Nat.lt_of_succ_lt hn)).2.2 := by
  rw [outsAt0_B m c ⟨n + 1, hn⟩ h0]
  rw [CaseB.o_block, CaseB.sts_block, CaseB.scr_block]
  rfl

theorem reset_at (j : S1024x128.Idx) : k0_pay4 (F := Ideal) j = (0 : EReal) := by
  idx_vars j
  unfold k0_pay4
  pointwise

/-- The scratch a point starts from holds the state its first chunk starts from. -/
def Starts (t : Fin cfg0.N) (S0 : Vec Ideal S1024x128 .f32) : Prop :=
  ∀ (h : Fin 8) (k v : Fin 128), S0 (ix2 (Blocks.bcol h k) v) = fore ((args m c).links h) (4 * t.val) k v

theorem st_eq (t : Fin cfg0.N) (S0 : Vec Ideal S1024x128 .f32) (hS : Starts m c t S0) (h : Fin 8) :
    ∀ n ≤ 4, (blocks m c t).st S0 h n = fore ((args m c).links h) (4 * t.val + n)
  | 0, _ => funext fun k => funext fun v => hS h k v
  | n + 1, hn => by
    have ht := points t
    show ((blocks m c t).link (Fin.ofNat 4 n) h).next ((blocks m c t).st S0 h n) =
      ((args m c).link (Fin.ofNat 64 (4 * t.val + n)) h).next (fore ((args m c).links h) (4 * t.val + n))
    rw [st_eq t S0 hS h n (by omega), link_eq]
    have e : pchunk t (Fin.ofNat 4 n) = Fin.ofNat 64 (4 * t.val + n) :=
      Fin.ext (by show t.val * 4 + n % 4 = (4 * t.val + n) % 64; omega)
    rw [e]

theorem scr_starts (t : Fin cfg0.N) (S0 : Vec Ideal S1024x128 .f32) (hS : Starts m c t S0) (h : Fin 8) (k v : Fin 128) :
    (blocks m c t).scr S0 (ix2 (Blocks.bcol h k) v) = fore ((args m c).links h) (4 * (t.val + 1)) k v := by
  have e0 : Blocks.colHead (Blocks.bcol h k) = h := Fin.ext (by show (128 * h.val + k.val) / 128 = h.val; omega)
  have e1 : Blocks.colLane (Blocks.bcol h k) = k := Fin.ext (by show (128 * h.val + k.val) % 128 = k.val; omega)
  show (blocks m c t).st S0 (Blocks.colHead (Blocks.bcol h k)) 4 (Blocks.colLane (Blocks.bcol h k)) v = _
  rw [e0, e1, st_eq m c t S0 hS h 4 le_rfl]
  rfl

/-- Every point starts from such a scratch. -/
theorem outs_eq : ∀ (n : ℕ) (hn : n < cfg0.N), ∃ S0, Starts m c ⟨n, hn⟩ S0 ∧ outsAt0 m c n hn = leaves m c ⟨n, hn⟩ S0
  | 0, hn => ⟨k0_pay4 (F := Ideal), fun h k v => reset_at _, outs_first m c ⟨0, hn⟩ rfl⟩
  | n + 1, hn => by
    have hN : cfg0.N = 16 := N_0
    refine ⟨_, fun h k v => ?_, outs_later m c n hn (by omega)⟩
    obtain ⟨S0, hS, e⟩ := outs_eq n (Nat.lt_of_succ_lt hn)
    rw [e]
    exact scr_starts m c ⟨n, _⟩ S0 hS h k v

theorem st_at (t : Fin cfg0.N) (S0 : Vec Ideal S1024x128 .f32) (hS : Starts m c t S0) (g : Fin 4) (h : Fin 8) :
    (blocks m c t).st S0 h g.val = (args m c).start (pchunk t g) h := by
  rw [st_eq m c t S0 hS h _ (by omega)]
  show _ = fore _ (t.val * 4 + g.val)
  congr 1
  omega

variable (t : Fin cfg0.N) (S0 : Vec Ideal S1024x128 .f32) (hS : Starts m c t S0)
include hS

theorem o_at (r : Fin 256) (l : Fin 1024) : (blocks m c t).o S0 (ix2 r l) = (args m c).o (prow t r) l := by
  have e0 : Args.rowChunk (prow t r) = pchunk t (Blocks.rowChunk r) :=
    Fin.ext (by show (t.val * 256 + r.val) / 64 = t.val * 4 + r.val / 64; omega)
  have e1 : Args.rowTok (prow t r) = Blocks.rowTok r :=
    Fin.ext (by show (t.val * 256 + r.val) % 64 = r.val % 64; omega)
  show ((blocks m c t).link (Blocks.rowChunk r) (Blocks.colHead l)).out ((blocks m c t).st S0 (Blocks.colHead l) (Blocks.rowChunk r).val) (Blocks.rowTok r) (Blocks.colLane l) = _
  unfold FArgs.o
  rw [e0, e1, link_eq, st_at m c t S0 hS]

theorem sts_at (g : Fin 4) (r : Fin 1024) (v : Fin 128) : (blocks m c t).sts S0 (ix3 g r v) = (args m c).st (pchunk t g) r v := by
  show (blocks m c t).st S0 (Blocks.colHead r) g.val (Blocks.colLane r) v = _
  unfold FArgs.st
  rw [st_at m c t S0 hS]

omit hS

/-- The point that writes row `r` of the output. -/
abbrev pointOf (r : Fin 4096) : Fin cfg0.N := ⟨r.val / 256, by have : cfg0.N = 16 := N_0; omega⟩

/-- The point that writes the state of chunk `n`. -/
abbrev pointOf' (n : Fin 64) : Fin cfg0.N := ⟨n.val / 4, by have : cfg0.N = 16 := N_0; omega⟩

theorem index6 : ∀ t : Fin grid0.N, win0_6.index t 0 = t.val ∧ win0_6.index t 1 = 0 := by decide +kernel
theorem sizes6 : ∀ t : Fin grid0.N, win0_6.xsize (grid0.coords t) 0 = 256 ∧ win0_6.xsize (grid0.coords t) 1 = 1024 := by decide +kernel

/-- The array of outputs. -/
def res_o : Buf (Elt Ideal) ((c : Thread nD τ).loc main_v10_0) := fun i : S4096x1024.Idx => (args m c).o (i 0) (i 1)

theorem left_o (r : Fin 256) (l : Fin 1024) : (outsAt0 m c t.val t.isLt).1 (ix2 r l) = (args m c).o (prow t r) l := by
  obtain ⟨S0, hS, e⟩ := outs_eq m c t.val t.isLt
  rw [e]
  exact o_at m c t S0 hS r l

theorem flushed_o : (dats m 0 c).flushed 6 t = ((cfg0.win 6).blk t).view.read (Elt Ideal) (res_o m c) := by
  rw [flushed6]
  funext j
  obtain ⟨r, l, rfl⟩ : ∃ (r : Fin 256) (l : Fin 1024), j = (ix2 r l : S256x1024.Idx) := ⟨j 0, j 1, (ix2_eta (j : S256x1024.Idx)).symm⟩
  rw [View.read_apply]
  refine (left_o m c t r l).trans ?_
  refine congrArg₂ (args m c).o (Fin.ext ?_) (Fin.ext ?_)
  · show t.val * 256 + r.val = win0_6.index t 0 * 256 + 1 * r.val; rw [(index6 t).1]; omega
  · show l.val = win0_6.index t 1 * 1024 + 1 * l.val; rw [(index6 t).2]; omega

theorem final_o : (dats m 0 c).arrAt 6 cfg0.N = res_o m c :=
  (dats m 0 c).arrAt_eq_of_cover 6 (res_o m c) (fun t _ => flushed_o m c t) fun i =>
    ⟨pointOf (i 0), flush0_6 _, by
      show i ∈ ((View.whole main_v10_0).slice (win0_6.rect (pointOf (i 0)))).set
      rw [View.set_slice_whole, Rect.mem_set_unit]
      intro a
      have h0 : (i 0 : Nat) < 4096 := (i 0).isLt
      have h1 : (i 1 : Nat) < 1024 := (i 1).isLt
      match a with
      | ⟨0, _⟩ =>
        show win0_6.index (pointOf (i 0)) 0 * 256 ≤ (i 0 : Nat) ∧ (i 0 : Nat) < win0_6.index (pointOf (i 0)) 0 * 256 + win0_6.xsize (grid0.coords (pointOf (i 0))) 0
        rw [(index6 _).1, (sizes6 _).1]
        show ((i 0 : Nat) / 256) * 256 ≤ (i 0 : Nat) ∧ (i 0 : Nat) < ((i 0 : Nat) / 256) * 256 + 256
        omega
      | ⟨1, _⟩ =>
        show win0_6.index (pointOf (i 0)) 1 * 1024 ≤ (i 1 : Nat) ∧ (i 1 : Nat) < win0_6.index (pointOf (i 0)) 1 * 1024 + win0_6.xsize (grid0.coords (pointOf (i 0))) 1
        rw [(index6 _).2, (sizes6 _).2]
        omega⟩

theorem index7 : ∀ t : Fin grid0.N, win0_7.index t 0 = t.val ∧ win0_7.index t 1 = 0 ∧ win0_7.index t 2 = 0 := by decide +kernel
theorem sizes7 : ∀ t : Fin grid0.N, win0_7.xsize (grid0.coords t) 0 = 4 ∧ win0_7.xsize (grid0.coords t) 1 = 1024 ∧ win0_7.xsize (grid0.coords t) 2 = 128 := by decide +kernel

/-- The array of states. -/
def res_st : Buf (Elt Ideal) ((c : Thread nD τ).loc main_v10_1) := fun i : S64x1024x128.Idx => (args m c).st (i 0) (i 1) (i 2)

theorem left_st (g : Fin 4) (r : Fin 1024) (v : Fin 128) : (outsAt0 m c t.val t.isLt).2.1 (ix3 g r v) = (args m c).st (pchunk t g) r v := by
  obtain ⟨S0, hS, e⟩ := outs_eq m c t.val t.isLt
  rw [e]
  exact sts_at m c t S0 hS g r v

theorem flushed_st : (dats m 0 c).flushed 7 t = ((cfg0.win 7).blk t).view.read (Elt Ideal) (res_st m c) := by
  rw [flushed7]
  funext j
  obtain ⟨g, r, v, rfl⟩ : ∃ (g : Fin 4) (r : Fin 1024) (v : Fin 128), j = (ix3 g r v : S4x1024x128.Idx) :=
    ⟨j 0, j 1, j 2, (ix3_eta (j : S4x1024x128.Idx)).symm⟩
  rw [View.read_apply]
  refine (left_st m c t g r v).trans ?_
  have e0 : pchunk t g = (⟨win0_7.index t 0 * 4 + 1 * g.val, by rw [(index7 t).1]; have := points t; omega⟩ : Fin 64) :=
    Fin.ext (by show t.val * 4 + g.val = win0_7.index t 0 * 4 + 1 * g.val; rw [(index7 t).1]; omega)
  have e1 : r = (⟨win0_7.index t 1 * 1024 + 1 * r.val, by rw [(index7 t).2.1]; omega⟩ : Fin 1024) :=
    Fin.ext (by show r.val = win0_7.index t 1 * 1024 + 1 * r.val; rw [(index7 t).2.1]; omega)
  have e2 : v = (⟨win0_7.index t 2 * 128 + 1 * v.val, by rw [(index7 t).2.2]; omega⟩ : Fin 128) :=
    Fin.ext (by show v.val = win0_7.index t 2 * 128 + 1 * v.val; rw [(index7 t).2.2]; omega)
  exact (congrArg₂ (fun a b => (args m c).st a b v) e0 e1).trans (congrArg ((args m c).st _ _) e2)

theorem final_st : (dats m 0 c).arrAt 7 cfg0.N = res_st m c :=
  (dats m 0 c).arrAt_eq_of_cover 7 (res_st m c) (fun t _ => flushed_st m c t) fun i =>
    ⟨pointOf' (i 0), flush0_7 _, by
      show i ∈ ((View.whole main_v10_1).slice (win0_7.rect (pointOf' (i 0)))).set
      rw [View.set_slice_whole, Rect.mem_set_unit]
      intro a
      have h0 : (i 0 : Nat) < 64 := (i 0).isLt
      have h1 : (i 1 : Nat) < 1024 := (i 1).isLt
      have h2 : (i 2 : Nat) < 128 := (i 2).isLt
      match a with
      | ⟨0, _⟩ =>
        show win0_7.index (pointOf' (i 0)) 0 * 4 ≤ (i 0 : Nat) ∧ (i 0 : Nat) < win0_7.index (pointOf' (i 0)) 0 * 4 + win0_7.xsize (grid0.coords (pointOf' (i 0))) 0
        rw [(index7 _).1, (sizes7 _).1]
        show ((i 0 : Nat) / 4) * 4 ≤ (i 0 : Nat) ∧ (i 0 : Nat) < ((i 0 : Nat) / 4) * 4 + 4
        omega
      | ⟨1, _⟩ =>
        show win0_7.index (pointOf' (i 0)) 1 * 1024 ≤ (i 1 : Nat) ∧ (i 1 : Nat) < win0_7.index (pointOf' (i 0)) 1 * 1024 + win0_7.xsize (grid0.coords (pointOf' (i 0))) 1
        rw [(index7 _).2.1, (sizes7 _).2.1]
        omega
      | ⟨2, _⟩ =>
        show win0_7.index (pointOf' (i 0)) 2 * 128 ≤ (i 2 : Nat) ∧ (i 2 : Nat) < win0_7.index (pointOf' (i 0)) 2 * 128 + win0_7.xsize (grid0.coords (pointOf' (i 0))) 2
        rw [(index7 _).2.2, (sizes7 _).2.2]
        omega⟩

end Cert.Kernel21Ideal.Body

end

end
-- ==== Proof.FwdLoop.lean ====
module

public import Idealize.ShloMosaic.Lib.Pointwise
public import Idealize.ShloMosaic.Lib.DynamicIndex
public import proofs.«01_k».proof.Proof.FwdSpec
public import proofs.«01_k».proof.Proof.Gen.Reference21Ideal.Step

/-! The reference's forward scan: one trip read at an index is `Cert.Gdn.Link` at chunk `j`, and what all trips leave. -/

@[expose] public section

noncomputable section

namespace Cert.Reference21Ideal.Step

open Idealize.ShloMosaic Cert.Reference21Ideal Cert.Reference21Ideal.Gen Cert.Gdn

set_option maxRecDepth 16384

/-- The chunk the `j`-th trip works on. -/
abbrev chunkOf (j : ℕ) : Fin 64 := Fin.ofNat 64 j

theorem chunkOf_val (j : ℕ) (hj : j < 64) : (chunkOf j).val = j := Nat.mod_eq_of_lt hj

theorem chunkOf_lt (j : ℕ) (hj : j < 64) : chunkOf j = ⟨j, hj⟩ := Fin.ext (Nat.mod_eq_of_lt hj)

theorem start_of (j : ℕ) (hj : j < 64) (i : S_.Idx) : (constantI S_ 32 (BitVec.ofNat 32 j) i).toInt = (j : ℕ) := by
  have : ∀ j : Fin 64, (BitVec.ofNat 32 j.val).toInt = (j.val : ℕ) := by decide +kernel
  exact this ⟨j, hj⟩

/-- Head `h` of chunk `n`, of the loop's constants. -/
def linkS (s : State Ideal) (n : Fin 64) (h : Fin 8) : Link where
  U c v := s.main_v13_0 (ix4 n h c v)
  W c v := s.main_v13_1 (ix4 n h c v)
  Q c v := s.main_v13_2 (ix4 n h c v)
  K c v := s.main_v13_3 (ix4 n h c v)
  QK c v := s.main_v13_4 (ix4 n h c v)
  D := s.main_v13_5 (ix2 n h)

theorem read_st (x : S64x8x128x128.Idx → EReal) (j : ℕ) (hj : j < 64) (start : Fin 4 → Int) (hs : ∀ a, start a = ((![j, 0, 0, 0] : Fin 4 → ℕ) a : Int))
    (hf : S64x8x128x128.Slices (fun _ => 0) S1x8x128x128) (h : Fin 8) (k : Fin 128) (v : Fin 128) :
    shapeCast S8x128x128 (Host.dynamicSlice S1x8x128x128 x start hf) shapeCasts_S1x8x128x128_S8x128x128 (ix3 h k v) = x (ix4 (chunkOf j) h k v) := by
  rw [Host.dynamicSlice_eq_extractStridedSlice (s := S64x8x128x128) S1x8x128x128 x start ![j, 0, 0, 0] hf
    ⟨rfl, fun a => by fin_cases a <;> simp [S64x8x128x128, S1x8x128x128] <;> omega⟩ hs]
  rw [chunkOf_lt j hj]
  pointwise

theorem read_row (x : S64x8x64x128.Idx → EReal) (j : ℕ) (hj : j < 64) (start : Fin 4 → Int) (hs : ∀ a, start a = ((![j, 0, 0, 0] : Fin 4 → ℕ) a : Int))
    (hf : S64x8x64x128.Slices (fun _ => 0) S1x8x64x128) (h : Fin 8) (k : Fin 64) (v : Fin 128) :
    shapeCast S8x64x128 (Host.dynamicSlice S1x8x64x128 x start hf) shapeCasts_S1x8x64x128_S8x64x128 (ix3 h k v) = x (ix4 (chunkOf j) h k v) := by
  rw [Host.dynamicSlice_eq_extractStridedSlice (s := S64x8x64x128) S1x8x64x128 x start ![j, 0, 0, 0] hf
    ⟨rfl, fun a => by fin_cases a <;> simp [S64x8x64x128, S1x8x64x128] <;> omega⟩ hs]
  rw [chunkOf_lt j hj]
  pointwise

theorem read_sq (x : S64x8x64x64.Idx → EReal) (j : ℕ) (hj : j < 64) (start : Fin 4 → Int) (hs : ∀ a, start a = ((![j, 0, 0, 0] : Fin 4 → ℕ) a : Int))
    (hf : S64x8x64x64.Slices (fun _ => 0) S1x8x64x64) (h : Fin 8) (k : Fin 64) (v : Fin 64) :
    shapeCast S8x64x64 (Host.dynamicSlice S1x8x64x64 x start hf) shapeCasts_S1x8x64x64_S8x64x64 (ix3 h k v) = x (ix4 (chunkOf j) h k v) := by
  rw [Host.dynamicSlice_eq_extractStridedSlice (s := S64x8x64x64) S1x8x64x64 x start ![j, 0, 0, 0] hf
    ⟨rfl, fun a => by fin_cases a <;> simp [S64x8x64x64, S1x8x64x64] <;> omega⟩ hs]
  rw [chunkOf_lt j hj]
  pointwise

theorem read_dec (x : S64x8.Idx → EReal) (j : ℕ) (hj : j < 64) (start : Fin 2 → Int) (hs : ∀ a, start a = ((![j, 0] : Fin 2 → ℕ) a : Int))
    (hf : S64x8.Slices (fun _ => 0) S1x8) (h : Fin 8) :
    shapeCast S8 (Host.dynamicSlice S1x8 x start hf) shapeCasts_S1x8_S8 (ix1 h) = x (ix2 (chunkOf j) h) := by
  rw [Host.dynamicSlice_eq_extractStridedSlice (s := S64x8) S1x8 x start ![j, 0] hf
    ⟨rfl, fun a => by fin_cases a <;> simp [S64x8, S1x8] <;> omega⟩ hs]
  rw [chunkOf_lt j hj]
  pointwise

theorem write_row (x : S64x8x64x128.Idx → EReal) (y : S1x8x64x128.Idx → EReal) (j : ℕ) (hj : j < 64) (start : Fin 4 → Int)
    (hs : ∀ a, start a = ((![j, 0, 0, 0] : Fin 4 → ℕ) a : Int))
    (hf : S64x8x64x128.Slices (fun _ => 0) S1x8x64x128) (n : Fin 64) (h : Fin 8) (k : Fin 64) (v : Fin 128) :
    Host.dynamicUpdateSlice x y start hf (ix4 n h k v) = if n = chunkOf j then y (ix4 0 h k v) else x (ix4 n h k v) := by
  rw [Host.dynamicUpdateSlice_eq_updateSlice (s := S64x8x64x128) x y start hf ![j, 0, 0, 0]
    (fun a => by rw [hs a]; fin_cases a <;> simp [S64x8x64x128, S1x8x64x128] <;> omega)
    ⟨rfl, fun a => by fin_cases a <;> simp [S64x8x64x128, S1x8x64x128] <;> omega⟩]
  rw [chunkOf_lt j hj]
  pointwise
  by_cases e : n = ⟨j, hj⟩
  · subst e
    rw [if_pos rfl, dif_pos (by simp)]
    congr 2
    exact Fin.ext (by simp)
  · rw [if_neg e, dif_neg (fun h => e (Fin.ext (by simp; omega)))]

theorem write_st (x : S64x8x128x128.Idx → EReal) (y : S1x8x128x128.Idx → EReal) (j : ℕ) (hj : j < 64) (start : Fin 4 → Int)
    (hs : ∀ a, start a = ((![j, 0, 0, 0] : Fin 4 → ℕ) a : Int))
    (hf : S64x8x128x128.Slices (fun _ => 0) S1x8x128x128) (n : Fin 64) (h : Fin 8) (k : Fin 128) (v : Fin 128) :
    Host.dynamicUpdateSlice x y start hf (ix4 n h k v) = if n = chunkOf j then y (ix4 0 h k v) else x (ix4 n h k v) := by
  rw [Host.dynamicUpdateSlice_eq_updateSlice (s := S64x8x128x128) x y start hf ![j, 0, 0, 0]
    (fun a => by rw [hs a]; fin_cases a <;> simp [S64x8x128x128, S1x8x128x128] <;> omega)
    ⟨rfl, fun a => by fin_cases a <;> simp [S64x8x128x128, S1x8x128x128] <;> omega⟩]
  rw [chunkOf_lt j hj]
  pointwise
  by_cases e : n = ⟨j, hj⟩
  · subst e
    rw [if_pos rfl, dif_pos (by simp)]
    congr 2
    exact Fin.ext (by simp)
  · rw [if_neg e, dif_neg (fun h => e (Fin.ext (by simp; omega)))]

variable (s : State Ideal) (h : Fin 8) (j : ℕ) (hj : j < 64)

/-- The state the trip meets, of head `h`. -/
abbrev stS (s : State Ideal) (h : Fin 8) : Mat 128 128 := fun k v => s.main_v13_7 (ix3 h k v)

include hj

theorem b4_at (c : Fin 64) (v : Fin 128) : b4 j s (ix3 h c v) = (linkS s (chunkOf j) h).U c v :=
  read_row _ j hj _ (fun a => by fin_cases a; exacts [start_of j hj (Shape.Idx.first h_S_), rfl, rfl, rfl]) _ h c v

theorem b9_at (c : Fin 64) (v : Fin 128) : b9 j s (ix3 h c v) = (linkS s (chunkOf j) h).W c v :=
  read_row _ j hj _ (fun a => by fin_cases a; exacts [start_of j hj (Shape.Idx.first h_S_), rfl, rfl, rfl]) _ h c v

theorem b14_at (c : Fin 64) (v : Fin 128) : b14 j s (ix3 h c v) = (linkS s (chunkOf j) h).Q c v :=
  read_row _ j hj _ (fun a => by fin_cases a; exacts [start_of j hj (Shape.Idx.first h_S_), rfl, rfl, rfl]) _ h c v

theorem b19_at (c : Fin 64) (v : Fin 128) : b19 j s (ix3 h c v) = (linkS s (chunkOf j) h).K c v :=
  read_row _ j hj _ (fun a => by fin_cases a; exacts [start_of j hj (Shape.Idx.first h_S_), rfl, rfl, rfl]) _ h c v

theorem b24_at (c : Fin 64) (v : Fin 64) : b24 j s (ix3 h c v) = (linkS s (chunkOf j) h).QK c v :=
  read_sq _ j hj _ (fun a => by fin_cases a; exacts [start_of j hj (Shape.Idx.first h_S_), rfl, rfl, rfl]) _ h c v

theorem b27_at : b27 j s (ix1 h) = (linkS s (chunkOf j) h).D :=
  read_dec _ j hj _ (fun a => by fin_cases a; exacts [start_of j hj (Shape.Idx.first h_S_), rfl]) _ h

theorem b29_at (c : Fin 64) (v : Fin 128) : b29 j s (ix3 h c v) = (linkS s (chunkOf j) h).vn (stS s h) c v := by
  unfold b29 b28
  pointwise
  simp only [b4_at s _ j hj, b9_at s _ j hj]
  rfl

theorem b32_at (c : Fin 64) (v : Fin 128) : b32 j s (ix3 h c v) = (linkS s (chunkOf j) h).out (stS s h) c v := by
  unfold b32 b30 b31
  pointwise
  simp only [b14_at s _ j hj, b24_at s _ j hj, b29_at s _ j hj]
  rfl

theorem b37_at (k v : Fin 128) : b37 j s (ix3 h k v) = (linkS s (chunkOf j) h).next (stS s h) k v := by
  unfold b37 b35 b34 b33 b36
  pointwise
  simp only [b19_at s _ j hj, b27_at s _ j hj, b29_at s _ j hj]
  rfl

omit hj

/-- An entry that trip `n` alone writes, after all trips. -/
theorem last_write {α : Type} (O : ℕ → α) (g : ℕ → α) (n : Fin 64)
    (h : ∀ j, j < 64 → O (j + 1) = if n = chunkOf j then g j else O j) : O 64 = g n.val := by
  have hn := n.isLt
  have key : ∀ d, n.val + 1 + d ≤ 64 → O (n.val + 1 + d) = g n.val := by
    intro d
    induction d with
    | zero => intro hd; rw [Nat.add_zero, h _ (by omega), if_pos (Fin.ext (chunkOf_val _ hn).symm)]
    | succ d ih =>
      intro hd
      rw [← Nat.add_assoc, h _ (by omega), if_neg (fun e => by have := congrArg Fin.val e; rw [chunkOf_val _ (by omega)] at this; omega), ih (by omega)]
  have := key (63 - n.val) (by omega)
  rwa [show n.val + 1 + (63 - n.val) = 64 by omega] at this

/-- The chunks of head `h`, numbered by naturals. -/
def linksS (s : State Ideal) (h : Fin 8) : ℕ → Link := fun n => linkS s (Fin.ofNat 64 n) h

theorem linkS_step (j : ℕ) (s : State Ideal) : linkS (step j s) = linkS s := by
  unfold step linkS
  rfl

theorem ofNat_val (n : Fin 64) : chunkOf n.val = n := Fin.ext (Nat.mod_eq_of_lt n.isLt)

variable (it : ℕ → State Ideal) (hs : ∀ n, it (n + 1) = step n (it n))
include hs

theorem linkS_it (j : ℕ) : linkS (it j) = linkS (it 0) := by
  induction j with
  | zero => rfl
  | succ j ih => rw [hs, linkS_step, ih]

theorem stS_it (h0 : ∀ i, (it 0).main_v13_7 i = 0) (h : Fin 8) (j : ℕ) (hj : j ≤ 64) : stS (it j) h = fore (linksS (it 0) h) j := by
  induction j with
  | zero => funext k v; exact h0 _
  | succ j ih =>
    funext k v
    show (it (j + 1)).main_v13_7 (ix3 h k v) = _
    rw [hs, step_main_v13_7, b37_at _ _ _ (by omega), ih (by omega), linkS_it it hs]
    rfl

variable (h0 : ∀ i, (it 0).main_v13_7 i = 0)
include h0

theorem o_it (n : Fin 64) (h : Fin 8) (c : Fin 64) (v : Fin 128) :
    (it 64).main_v13_9 (ix4 n h c v) = (linkS (it 0) n h).out (fore (linksS (it 0) h) n.val) c v := by
  rw [last_write (fun j => (it j).main_v13_9 (ix4 n h c v)) (fun j => (linkS (it 0) (chunkOf j) h).out (fore (linksS (it 0) h) j) c v) n ?_]
  · rw [ofNat_val]
  · intro j hj
    rw [hs, step_main_v13_9]
    unfold b47
    rw [write_row _ _ j hj _ (fun a => by fin_cases a; exacts [start_of j hj (Shape.Idx.first h_S_), rfl, rfl, rfl])]
    congr 1
    unfold b43
    pointwise
    rw [b32_at _ _ _ hj, linkS_it it hs, stS_it it hs h0 h j (by omega)]

theorem st_it (n : Fin 64) (h : Fin 8) (k v : Fin 128) :
    (it 64).main_v13_8 (ix4 n h k v) = fore (linksS (it 0) h) n.val k v := by
  rw [last_write (fun j => (it j).main_v13_8 (ix4 n h k v)) (fun j => fore (linksS (it 0) h) j k v) n ?_]
  intro j hj
  rw [hs, step_main_v13_8]
  unfold b42
  rw [write_st _ _ j hj _ (fun a => by fin_cases a; exacts [start_of j hj (Shape.Idx.first h_S_), rfl, rfl, rfl])]
  congr 1
  unfold b38
  pointwise
  exact congrFun (congrFun (stS_it it hs h0 h j (by omega)) k) v

end Cert.Reference21Ideal.Step

end

end
-- ==== Proof.FwdRef.lean ====
module

public import proofs.«01_k».proof.Proof.FwdLoop
public import proofs.«01_k».proof.Proof.Gen.Reference21Ideal.Run

/-! The reference's run: its results are those of the last state of the forward scan. -/

@[expose] public section

noncomputable section

namespace Cert.Reference21Ideal.Step

open Idealize.ShloMosaic Idealize.ShloMosaic.TcCoe Idealize.SL.Sem Idealize.ShloMosaic.StableHlo
open Cert.Reference21Ideal Cert.Reference21Ideal.Gen Cert.Reference21Ideal.Value Cert.Gdn

set_option maxRecDepth 65536

section State

variable {F : FTy → Type} [FloatOps F]

/-- The loop's state, read off a valuation. -/
def stateOf (V : Valuation τ sig (Elt F)) : State F where
  main_v13_7 := V (Proc.devRef .tc main_v13_7)
  main_v13_8 := V (Proc.devRef .tc main_v13_8)
  main_v13_9 := V (Proc.devRef .tc main_v13_9)
  main_v13_0 := V (Proc.devRef .tc main_v13_0)
  main_v13_1 := V (Proc.devRef .tc main_v13_1)
  main_v13_2 := V (Proc.devRef .tc main_v13_2)
  main_v13_3 := V (Proc.devRef .tc main_v13_3)
  main_v13_4 := V (Proc.devRef .tc main_v13_4)
  main_v13_5 := V (Proc.devRef .tc main_v13_5)

section Trip

variable {V : Valuation τ sig (Elt F)} {j : ℕ} (hc : V (Proc.devRef .tc main_v13_6) = constantI S_ 32 (BitVec.ofNat 32 j))
include hc

theorem named_25 : res_main_while0b_v25 V = b29 j (stateOf V) := by
  unfold res_main_while0b_v25
  rw [hc]
  rfl

theorem trip_7 : STEP V (Proc.devRef .tc main_v13_7) = (step j (stateOf V)).main_v13_7 := by
  rw [STEP_main_v13_7, step_main_v13_7, Value.step_main_v13_7]
  rw [named_25 hc, hc]
  rfl

theorem trip_8 : STEP V (Proc.devRef .tc main_v13_8) = (step j (stateOf V)).main_v13_8 := by
  rw [STEP_main_v13_8, step_main_v13_8, Value.step_main_v13_8]
  rw [hc]
  rfl

theorem trip_9 : STEP V (Proc.devRef .tc main_v13_9) = (step j (stateOf V)).main_v13_9 := by
  rw [STEP_main_v13_9, step_main_v13_9, Value.step_main_v13_9]
  rw [named_25 hc, hc]
  rfl

theorem trip_number : STEP V (Proc.devRef .tc main_v13_6) = constantI S_ 32 (BitVec.ofNat 32 (j + 1)) := by
  rw [STEP_main_v13_6]
  unfold Value.step_main_v13_6
  rw [hc]
  funext i
  show BitVec.ofNat 32 j + 1#32 = BitVec.ofNat 32 (j + 1)
  simp only [BitVec.ofNat_add]

theorem stateOf_trip : stateOf (STEP V) = step j (stateOf V) := by
  unfold stateOf
  rw [trip_7 hc, trip_8 hc, trip_9 hc, STEP_main_v13_0, STEP_main_v13_1, STEP_main_v13_2, STEP_main_v13_3, STEP_main_v13_4, STEP_main_v13_5]
  rfl

end Trip

variable (m : (ℓ : Loc nD τ sig) → Buf (Elt F) ℓ) (c : Dev nD)

/-- The valuation before trip `k`. -/
def valAt (k : ℕ) : Valuation τ sig (Elt F) := STEP^[k] (entryContents preI m c)

/-- The state before trip `k`. -/
def stateAt (k : ℕ) : State F := stateOf (valAt m c k)

theorem valAt_number (k : ℕ) : valAt m c k (Proc.devRef .tc main_v13_6) = constantI S_ 32 (BitVec.ofNat 32 k) := by
  induction k with
  | zero => exact ctr_entry m c
  | succ k ih =>
    unfold valAt
    rw [Function.iterate_succ_apply']
    exact trip_number ih

theorem stateAt_succ (k : ℕ) : stateAt m c (k + 1) = step k (stateAt m c k) := by
  unfold stateAt
  rw [← stateOf_trip (valAt_number m c k)]
  unfold valAt
  rw [Function.iterate_succ_apply']

theorem stateAt_zero : stateAt m c 0 = init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold stateAt valAt stateOf init
  congr 1 <;> (simp only [Function.iterate_zero, id_eq, entryContents, afterL_cons, afterL_nil]; after_reads_simp) <;> rfl

end State

variable (m : (ℓ : Loc nD τ sig) → Buf (Elt Ideal) ℓ) (c : Dev nD)

/-- The reference's arguments. -/
def args : FArgs where
  U r l := m ((c.tc : Thread nD τ).loc main_arg0) (ix2 r l)
  W r l := m ((c.tc : Thread nD τ).loc main_arg1) (ix2 r l)
  Q r l := m ((c.tc : Thread nD τ).loc main_arg2) (ix2 r l)
  K r l := m ((c.tc : Thread nD τ).loc main_arg3) (ix2 r l)
  QK h n c' s := m ((c.tc : Thread nD τ).loc main_arg4) (ix4 h n c' s)
  D h n := m ((c.tc : Thread nD τ).loc main_arg5) (ix2 h n)

theorem linkS_zero (n : Fin 64) (h : Fin 8) : linkS (stateAt m c 0) n h = (args m c).link n h := by
  rw [stateAt_zero]
  unfold linkS args FArgs.link init
  congr 1
  · funext a b; unfold A_main_v1 A_main_v0; pointwise
  · funext a b; unfold A_main_v3 A_main_v2; pointwise
  · funext a b; unfold A_main_v5 A_main_v4; pointwise
  · funext a b; unfold A_main_v7 A_main_v6; pointwise
  · funext a b; unfold A_main_v8; pointwise
  · unfold A_main_v9; pointwise

theorem linksS_zero (h : Fin 8) : linksS (stateAt m c 0) h = (args m c).links h := by
  unfold linksS FArgs.links
  funext n
  exact linkS_zero m c _ h

theorem state_zero (i : S8x128x128.Idx) : (stateAt m c 0).main_v13_7 i = (0 : EReal) := by
  rw [stateAt_zero]
  unfold init K_main_v10 K_main_cst
  pointwise

theorem result_o (r : Fin 4096) (l : Fin 1024) : R_main_v15 (stateAt m c 64) (ix2 r l) = (args m c).o r l := by
  unfold R_main_v15
  pointwise
  rw [o_it (stateAt m c) (stateAt_succ m c) (state_zero m c), linkS_zero, linksS_zero]
  rfl

theorem result_st (n : Fin 64) (r : Fin 1024) (v : Fin 128) : R_main_v17 (stateAt m c 64) (ix3 n r v) = (args m c).st n r v := by
  unfold R_main_v17
  pointwise
  rw [st_it (stateAt m c) (stateAt_succ m c) (state_zero m c), linksS_zero]
  rfl

theorem last_o (V : Valuation τ sig (Elt Ideal)) : out_main_v15 V = R_main_v15 (stateOf V) := rfl
theorem last_st (V : Valuation τ sig (Elt Ideal)) : out_main_v17 V = R_main_v17 (stateOf V) := rfl

/-- The reference's outputs. -/
def res_o : S4096x1024.Idx → EReal := fun i => (args m c).o (i 0) (i 1)

/-- The reference's states. -/
def res_st : S64x1024x128.Idx → EReal := fun i => (args m c).st (i 0) (i 1) (i 2)

theorem out_o (V : Valuation τ sig (Elt Ideal)) (hV : V = valAt m c 64) : out_main_v15 V = res_o m c := by
  rw [last_o]
  have e : stateOf V = stateAt m c 64 := congrArg stateOf hV
  rw [e]
  funext i
  obtain ⟨r, l, rfl⟩ : ∃ r l, i = ix2 r l := ⟨i 0, i 1, (ix2_eta i).symm⟩
  exact result_o m c r l

theorem out_st (V : Valuation τ sig (Elt Ideal)) (hV : V = valAt m c 64) : out_main_v17 V = res_st m c := by
  rw [last_st]
  have e : stateOf V = stateAt m c 64 := congrArg stateOf hV
  rw [e]
  funext i
  obtain ⟨n, r, v, rfl⟩ : ∃ n r v, i = ix3 n r v := ⟨i 0, i 1, i 2, (ix3_eta i).symm⟩
  exact result_st m c n r v

end Cert.Reference21Ideal.Step

end

end
-- ==== Proof.GdnFwd.lean ====
module

public import proofs.«01_k».proof.Defs
public import Idealize.ShloMosaic.Lib.Quiescent
public import proofs.«01_k».proof.Proof.FwdSweep
public import proofs.«01_k».proof.Proof.FwdRef

/-! The forward recurrence: the kernel's outputs and saved states are the reference's. -/

@[expose] public section

set_option maxRecDepth 16384

noncomputable section

open Idealize.ShloMosaic Idealize.ShloMosaic.TcCoe Idealize.SL.Sem

namespace Cert.Proof

theorem frame_reference21 : Cert.quiescent_Reference21Ideal := fun m ρ _ =>
  (θ_run Reference21Ideal.defs _ _).mono
    (fun r h => ⟨fun c => (h c).2.2, sem_eq_zero_of_no_sems (by decide) r.2⟩)
    (Reference21Ideal.Value.run (F := Ideal) m ρ)

theorem algebraic21 : Cert.algebraic_Kernel21Ideal_Reference21Ideal := by
  intro m ρ m' ρ' _ hagree
  have hargs (c : Dev Kernel21Ideal.nD) : Reference21Ideal.Step.args m' c = Kernel21Ideal.Body.args m c := by
    obtain ⟨h0, h1, h2, h3, h4, h5⟩ := hagree c
    unfold Reference21Ideal.Step.args Kernel21Ideal.Body.args
    congr 1
    · funext r l; exact congrFun h0 _
    · funext r l; exact congrFun h1 _
    · funext r l; exact congrFun h2 _
    · funext r l; exact congrFun h3 _
    · funext h n a b; exact congrFun h4 _
    · funext h n; exact congrFun h5 _
  have e_o (c : Dev Kernel21Ideal.nD) : Reference21Ideal.Step.res_o m' c = Kernel21Ideal.Body.res_o m c :=
    funext fun i => congrArg (fun a : Gdn.FArgs => a.o (i 0) (i 1)) (hargs c)
  have e_st (c : Dev Kernel21Ideal.nD) : Reference21Ideal.Step.res_st m' c = Kernel21Ideal.Body.res_st m c :=
    funext fun i => congrArg (fun a : Gdn.FArgs => a.st (i 0) (i 1) (i 2)) (hargs c)
  refine ⟨fun c => Kernel21Ideal.Body.res_o m c, fun c => Kernel21Ideal.Body.res_st m c, ?_, ?_⟩
  · exact (θ_run _ _ _).mono
      (fun r h c => ⟨(h c).1.trans (Kernel21Ideal.Body.final_o m c), (h c).2.1.trans (Kernel21Ideal.Body.final_st m c), (h c).2.2⟩)
      (Kernel21Ideal.Value.run_blocks (F := Ideal) m ρ)
  · exact (θ_run _ _ _).mono
      (fun r h c => ⟨(h c).1.trans ((Reference21Ideal.Step.out_o m' c _ rfl).trans (e_o c)),
        (h c).2.1.trans ((Reference21Ideal.Step.out_st m' c _ rfl).trans (e_st c)), (h c).2.2⟩)
      (Reference21Ideal.Value.run (F := Ideal) m' ρ')

end Cert.Proof

end
-- ==== Proof.MixInBa.lean ====
module

public import Idealize.ShloMosaic.Lib.StableHlo.ReadAt
public import Idealize.ShloMosaic.Lib.Quiescent
public import proofs.«01_k».proof.Defs
public import proofs.«01_k».proof.Proof.Matrix
public import proofs.«01_k».proof.Proof.Gen.Kernel22.Frame
public import proofs.«01_k».proof.Proof.Gen.Kernel22Ideal.Value
public import proofs.«01_k».proof.Proof.Gen.Reference22Ideal.Run

/-! The gradient of the columns of beta and of the decay of the mixer's first matrix: the product of the transposed input with their cotangent. -/

@[expose] public section

set_option maxRecDepth 16384

noncomputable section

open Idealize.ShloMosaic Idealize.ShloMosaic.TcCoe Idealize.SL.Sem Idealize.ShloMosaic.StableHlo

namespace Cert.Kernel22Ideal.Product

open Cert.Kernel22Ideal Cert.Kernel22Ideal.Gen Cert.Kernel22Ideal.Value

variable (m : (ℓ : Loc nD τ sig) → Buf (Elt Ideal) ℓ) (c : Dev nD)

/-- Argument 0 as a matrix. -/
def A : Mat 4096 1024 := fun r l => m ((c.tc : Thread nD τ).loc main_arg0) (ix2 r l)

/-- Argument 1 as a matrix. -/
def D : Mat 4096 128 := fun r l => m ((c.tc : Thread nD τ).loc main_arg1) (ix2 r l)

theorem V_A (r : Fin 4096) (l : Fin 1024) : V m c main_v0 (ix2 r l) = A m c r l := by
  unfold V
  after_reads_at
  rfl

theorem V_D (r : Fin 4096) (l : Fin 128) : V m c main_v1 (ix2 r l) = D m c r l := by
  unfold V
  after_reads_at
  rfl

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem sizes2 : ∀ t : Fin grid0.N, win0_2.xsize (grid0.coords t) 0 = 1024 ∧ win0_2.xsize (grid0.coords t) 1 = 128 := by decide +kernel

theorem iblk0 (t : Fin cfg0.N) (r : Fin 4096) (l : Fin 1024) : (iblk m c 0 t : Vec Ideal S4096x1024 .bf16) (ix2 r l) = V m c main_v0 (ix2 r l) := by
  unfold iblk
  rw [View.read_apply]
  refine congrArg (V m c main_v0) (funext fun a => Fin.ext ?_)
  match a with
  | ⟨0, _⟩ => show win0_0.index t 0 * 4096 + 1 * r.val = r.val; rw [(index0 t).1]; omega
  | ⟨1, _⟩ => show win0_0.index t 1 * 1024 + 1 * l.val = l.val; rw [(index0 t).2]; omega

theorem iblk1 (t : Fin cfg0.N) (r : Fin 4096) (l : Fin 128) : (iblk m c 1 t : Vec Ideal S4096x128 .bf16) (ix2 r l) = V m c main_v1 (ix2 r l) := by
  unfold iblk
  rw [View.read_apply]
  refine congrArg (V m c main_v1) (funext fun a => Fin.ext ?_)
  match a with
  | ⟨0, _⟩ => show win0_1.index t 0 * 4096 + 1 * r.val = r.val; rw [(index1 t).1]; omega
  | ⟨1, _⟩ => show win0_1.index t 1 * 128 + 1 * l.val = l.val; rw [(index1 t).2]; omega

theorem pay_at (x : Vec Ideal S4096x1024 .bf16) (y : Vec Ideal S4096x128 .bf16) (r : Fin 1024) (l : Fin 128) :
    k0_pay1 x y (ix2 r l) = ∑ q : Fin 4096, x (ix2 q r) * y (ix2 q l) := by
  unfold k0_pay1
  pointwise

theorem out_at (x : Vec Ideal S4096x1024 .bf16) (y : Vec Ideal S4096x128 .bf16) (r : Fin 1024) (l : Fin 128) :
    out0_2 x y (ix2 r l) = ∑ q : Fin 4096, x (ix2 q r) * y (ix2 q l) := by
  unfold out0_2
  rw [View.canon_unit_zero (by funext a; fin_cases a <;> rfl), View.ld_unit_zero (by funext a; fin_cases a <;> rfl),
    View.ld_unit_zero (by funext a; fin_cases a <;> rfl), pay_at]

/-- The product that the call computes. -/
def res : Buf (Elt Ideal) ((c : Thread nD τ).loc main_v2) := fun i : S1024x128.Idx => Mat.tn (A m c) (D m c) (i 0) (i 1)

theorem left (t : Fin cfg0.N) (r : Fin 1024) (l : Fin 128) :
    out0_2 (iblk m c 0 t) (iblk m c 1 t) (ix2 r l) = Mat.tn (A m c) (D m c) r l := by
  rw [out_at]
  refine Finset.sum_congr rfl fun q _ => ?_
  rw [iblk0, iblk1, V_A, V_D]

theorem flushed_eq (t : Fin cfg0.N) : (dats m 0 c).flushed 2 t = ((cfg0.win 2).blk t).view.read (Elt Ideal) (res m c) := by
  rw [flushed2]
  funext j
  obtain ⟨r, l, rfl⟩ : ∃ (r : Fin 1024) (l : Fin 128), j = (ix2 r l : S1024x128.Idx) := ⟨j 0, j 1, (ix2_eta (j : S1024x128.Idx)).symm⟩
  rw [View.read_apply]
  refine (left m c t r l).trans ?_
  refine congrArg₂ (Mat.tn (A m c) (D m c)) (Fin.ext ?_) (Fin.ext ?_)
  · show r.val = win0_2.index t 0 * 1024 + 1 * r.val; rw [(index2 t).1]; omega
  · show l.val = win0_2.index t 1 * 128 + 1 * l.val; rw [(index2 t).2]; omega

/-- The point that writes an index. -/
abbrev pointOf (_ : S1024x128.Idx) : Fin cfg0.N := ⟨0, by
  have h : cfg0.N = 1 := N_0
  omega⟩

theorem final : (dats m 0 c).arrAt 2 cfg0.N = res m c :=
  (dats m 0 c).arrAt_eq_of_cover 2 (res m c) (fun t _ => flushed_eq m c t) fun i : S1024x128.Idx =>
    ⟨pointOf i, flush0_2 _, by
      show i ∈ ((View.whole main_v2).slice (win0_2.rect (pointOf i))).set
      rw [View.set_slice_whole, Rect.mem_set_unit]
      intro a
      have h0 : (i 0 : Nat) < 1024 := (i 0).isLt
      have h1 : (i 1 : Nat) < 128 := (i 1).isLt
      match a with
      | ⟨0, _⟩ =>
        show win0_2.index (pointOf i) 0 * 1024 ≤ (i 0 : Nat) ∧ (i 0 : Nat) < win0_2.index (pointOf i) 0 * 1024 + win0_2.xsize (grid0.coords (pointOf i)) 0
        rw [(index2 _).1, (sizes2 _).1]
        omega
      | ⟨1, _⟩ =>
        show win0_2.index (pointOf i) 1 * 128 ≤ (i 1 : Nat) ∧ (i 1 : Nat) < win0_2.index (pointOf i) 1 * 128 + win0_2.xsize (grid0.coords (pointOf i)) 1
        rw [(index2 _).2, (sizes2 _).2]
        omega⟩

end Cert.Kernel22Ideal.Product

namespace Cert.Reference22Ideal.Product

open Cert.Reference22Ideal Cert.Reference22Ideal.Gen

/-- The reference's product at an index. -/
theorem value (x : FVec Ideal S4096x1024 .f32) (y : FVec Ideal S4096x128 .f32) (i : S1024x128.Idx) :
    truncf (F := Ideal) .bf16 (transpose S1024x128 [1, 0] (Host.dotGeneral dot_S4096x128_S4096x1024_S128x1024_0_0_1_1_n_n none y x) transposes_S128x1024_S1024x128_1_0) bitsLt_bf16_f32 i
      = Mat.tn (fun r l => x (ix2 r l)) (fun r l => y (ix2 r l)) (i 0) (i 1) := by
  obtain ⟨r, l, rfl⟩ : ∃ (r : Fin 1024) (l : Fin 128), i = (ix2 r l : S1024x128.Idx) := ⟨i 0, i 1, (ix2_eta (i : S1024x128.Idx)).symm⟩
  pointwise
  exact Finset.sum_congr rfl fun q _ => mul_comm _ _

end Cert.Reference22Ideal.Product

namespace Cert.Proof

theorem frame_reference22 : Cert.quiescent_Reference22Ideal := fun m ρ _ =>
  (θ_run Reference22Ideal.defs _ _).mono
    (fun r h => ⟨fun c => (h c).2, sem_eq_zero_of_no_sems (by decide) r.2⟩)
    (Reference22Ideal.Value.run (F := Ideal) m ρ)

theorem algebraic22 : Cert.algebraic_Kernel22Ideal_Reference22Ideal := by
  intro m ρ m' ρ' _ hagree
  refine ⟨fun c => Kernel22Ideal.Product.res m c, ?_, ?_⟩
  · exact (θ_run _ _ _).mono (fun r h c => ⟨(h c).1.trans (Kernel22Ideal.Product.final m c), (h c).2⟩) (Kernel22Ideal.Value.run_blocks (F := Ideal) m ρ)
  · refine (θ_run _ _ _).mono (fun r h c => ⟨(h c).1.trans ?_, (h c).2⟩) (Reference22Ideal.Value.run (F := Ideal) m' ρ')
    rw [(hagree c).1, (hagree c).2]
    exact funext fun i => Reference22Ideal.Product.value _ _ i

end Cert.Proof

end
-- ==== Proof.LossSum.lean ====
module

public import proofs.«01_k».proof.Proof.Matrix

/-! The loss as a sum: eight partial sums, each scaled, make half of the sum of the rows' means. -/

@[expose] public section

noncomputable section

open Idealize.ShloMosaic

namespace Cert.Loss

theorem half_eq : Ideal.ofBits .f32 0x3F000000#32 = (((1 : ℝ) / 2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem share_eq : Ideal.ofBits .f32 0x3A800000#32 = (((1 : ℝ) / 1024 : ℝ) : EReal) := by
  simp [Ideal.ofBits, Ideal.ieee, -EReal.coe_mul]; norm_num

theorem halfShare_eq : Ideal.ofBits .f32 0x3A000000#32 = (((1 : ℝ) / 2048 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- Division by the width is a product with its inverse. -/
theorem div_width (x : EReal) : Ideal.div x (Ideal.ofBits .f32 0x44800000#32) = x * (((1 : ℝ) / 1024 : ℝ) : EReal) := by
  rw [width_eq]
  unfold Ideal.div
  rw [if_neg (by norm_num [← EReal.coe_zero]), ← EReal.coe_inv]
  norm_num

theorem square_nonneg (x : EReal) : 0 ≤ x * x := by
  rcases le_total 0 x with h | h
  · exact EReal.mul_nonneg h h
  · exact EReal.mul_nonneg_iff.2 (Or.inr ⟨h, h⟩)

/-- A factor comes out of a sum of numbers that are not negative. -/
theorem sum_mul {ι : Type} (s : Finset ι) (f : ι → EReal) (hf : ∀ i, 0 ≤ f i) (k : EReal) : (∑ i ∈ s, f i) * k = ∑ i ∈ s, f i * k := by
  classical
  induction s using Finset.induction_on with
  | empty => simp
  | insert a s ha ih => rw [Finset.sum_insert ha, Finset.sum_insert ha, EReal.right_distrib_of_nonneg (hf a) (Finset.sum_nonneg fun i _ => hf i), ih]

/-- The sum of a row's squares. -/
def row (e : Mat 4096 1024) (r : Fin 4096) : EReal := ∑ q, e r q * e r q

theorem row_nonneg (e : Mat 4096 1024) (r : Fin 4096) : 0 ≤ row e r := Finset.sum_nonneg fun _ _ => square_nonneg _

/-- The sum of the squares of point `t`'s rows. -/
def part (e : Mat 4096 1024) (t : ℕ) : EReal := ∑ r : Fin 512, row e (Fin.ofNat 4096 (t * 512 + r.val))

/-- What is accumulated up to point `n`. -/
def upto (e : Mat 4096 1024) : ℕ → EReal
  | 0 => 0 + part e 0 * Ideal.ofBits .f32 0x3A000000#32
  | n + 1 => upto e n + part e (n + 1) * Ideal.ofBits .f32 0x3A000000#32

/-- The sum over all rows in eight parts. -/
theorem sum_rows (f : Fin 4096 → EReal) : ∑ r, f r = ∑ t : Fin 8, ∑ r : Fin 512, f (Fin.ofNat 4096 (t.val * 512 + r.val)) := by
  rw [← (finProdFinEquiv (m := 8) (n := 512)).sum_comp f, Fintype.sum_prod_type]
  refine Finset.sum_congr rfl fun t _ => Finset.sum_congr rfl fun r _ => congrArg f (Fin.ext ?_)
  show r.val + 512 * t.val = (t.val * 512 + r.val) % 4096
  omega

/-- The loss: half of the sum of the rows' mean squares. -/
def loss (e : Mat 4096 1024) : EReal :=
  Ideal.ofBits .f32 0x3F000000#32 * ∑ r, Ideal.div (row e r) (Ideal.ofBits .f32 0x44800000#32)

theorem upto_eq (e : Mat 4096 1024) : upto e 7 = loss e := by
  have hk : (((1 : ℝ) / 1024 : ℝ) : EReal) * (((1 : ℝ) / 2 : ℝ) : EReal) = (((1 : ℝ) / 2048 : ℝ) : EReal) := by
    rw [← EReal.coe_mul]; norm_num
  have hp (t : ℕ) : part e t * (((1 : ℝ) / 2048 : ℝ) : EReal) = ∑ r : Fin 512, row e (Fin.ofNat 4096 (t * 512 + r.val)) * (((1 : ℝ) / 2048 : ℝ) : EReal) :=
    sum_mul _ _ (fun r => row_nonneg e _) _
  have hl : loss e = ∑ r, row e r * (((1 : ℝ) / 2048 : ℝ) : EReal) := by
    unfold loss
    simp only [div_width]
    rw [← sum_mul _ _ (row_nonneg e), half_eq, mul_comm, mul_assoc, hk, sum_mul _ _ (row_nonneg e)]
  rw [hl, sum_rows, Fin.sum_univ_eight]
  simp only [upto, halfShare_eq, hp, zero_add]
  rfl

end Cert.Loss

end
-- ==== Proof.LossBody.lean ====
module

public import Idealize.ShloMosaic.Lib.Pipeline.CanonAppend
public import proofs.«01_k».proof.Proof.LossSum
public import proofs.«01_k».proof.Proof.Gen.Kernel23Ideal.Value

/-! What the loss kernel computes at one point. -/

@[expose] public section

set_option maxRecDepth 16384

noncomputable section

open Idealize.ShloMosaic Idealize.ShloMosaic.TcCoe Idealize.SL.Sem Idealize.ShloMosaic.StableHlo

namespace Cert.Kernel23Ideal.Head

open Cert.Kernel23Ideal Cert.Kernel23Ideal.Gen Cert.Kernel23Ideal.Value

/-- The one index of the loss. -/
theorem one (i j : S1x1.Idx) : i = j := funext fun a =>
  match a with
  | ⟨0, _⟩ => Subsingleton.elim (α := Fin 1) _ _
  | ⟨1, _⟩ => Subsingleton.elim (α := Fin 1) _ _

/-- A store through the whole shape leaves its payload, whatever was stored before. -/
theorem canon_last (inb) (w : Vec Ideal S1x1 .f32) (L : List (View.Piece (Elt Ideal) S1x1 .f32)) :
    View.canon ((⟨Rect.unit (s := S1x1) ![0, 0] (no_index ![1, 1]) inb, w⟩ : View.Piece (Elt Ideal) S1x1 .f32) :: L) = w := by
  funext y
  refine View.canon_append_of_pieces w L [⟨Rect.unit (s := S1x1) ![0, 0] ![1, 1] inb, w⟩] (fun p hp x => ?_) y ⟨_, List.mem_singleton.2 rfl, ?_⟩
  · obtain rfl := List.mem_singleton.1 hp
    exact congrArg w (one _ _)
  · show y ∈ (Rect.unit (s := S1x1) ![0, 0] ![1, 1] inb).set
    rw [Rect.mem_set_unit]
    intro a
    have h0 : (y 0 : Nat) < 1 := (y 0).isLt
    have h1 : (y 1 : Nat) < 1 := (y 1).isLt
    match a with
    | ⟨0, _⟩ => show 0 ≤ (y 0 : Nat) ∧ (y 0 : Nat) < 0 + 1; omega
    | ⟨1, _⟩ => show 0 ≤ (y 1 : Nat) ∧ (y 1 : Nat) < 0 + 1; omega

/-- A load of what one store through the whole shape left reads that store's payload. -/
theorem readCov_one (v : View sig .tc .vmem S1x1 .f32) (inb) (w : Vec Ideal S1x1 .f32) (R : Rect S1x1) :
    v.readCov [(⟨Rect.unit (s := S1x1) ![0, 0] (no_index ![1, 1]) inb, w⟩ : View.Piece (Elt Ideal) S1x1 .f32)] R.toLoadRect = View.ld w R := by
  rw [View.readCov_eq_canon']
  exact congrArg (fun X => View.ld X R) (canon_last inb w [])

section outs

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1 .f32) (harg4 : arg4.IsWhole)
  (x0 : Vec Ideal S512x1024 .f32) (x1 : Vec Ideal S512x1024 .f32) (z : Vec Ideal S1x1 .f32)

theorem slopeA (hc0 : cond0_0 i) : out0_A_2 (F := Ideal) c i arg1 harg1 arg2 harg2 arg3 harg3 arg4 harg4 hc0 x0 x1 = k0_pay3 (F := Ideal) x0 x1 := by
  unfold out0_A_2
  rw [View.read_writes_eq_canon _ _ _ (cover0_A_2 c i arg1 harg1 arg2 harg2 arg3 harg3 arg4 harg4 hc0 x0 x1)]
  unfold kernelRun0_A
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumA (hc0 : cond0_0 i) : out0_A_3 (F := Ideal) c i arg1 harg1 arg2 harg2 arg3 harg3 arg4 harg4 hc0 x0 x1 = k0_pay4 (F := Ideal) x0 x1 (k0_pay1 (F := Ideal)) := by
  unfold out0_A_3
  rw [View.read_writes_eq_canon _ _ _ (cover0_A_3 c i arg1 harg1 arg2 harg2 arg3 harg3 arg4 harg4 hc0 x0 x1)]
  unfold kernelRun0_A
  dsimp only
  sl_unfold_words
  simp only [View.readAt_eq_ld, Memref.IsWhole.read_unread, readCov_one]
  rw [canon_last]
  repeat rw [View.ld_unit_zero (by funext a; fin_cases a <;> rfl)]

theorem slopeB (hc0 : ¬cond0_0 i) : out0_B_2 (F := Ideal) c i arg1 harg1 arg2 harg2 arg3 harg3 arg4 harg4 hc0 x0 x1 z = k0_pay3 (F := Ideal) x0 x1 := by
  unfold out0_B_2
  rw [View.read_writes_eq_canon _ _ _ (cover0_B_2 c i arg1 harg1 arg2 harg2 arg3 harg3 arg4 harg4 hc0 x0 x1 z)]
  unfold kernelRun0_B
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumB (hc0 : ¬cond0_0 i) : out0_B_3 (F := Ideal) c i arg1 harg1 arg2 harg2 arg3 harg3 arg4 harg4 hc0 x0 x1 z = k0_pay4 (F := Ideal) x0 x1 (z) := by
  unfold out0_B_3
  rw [View.read_writes_eq_canon _ _ _ (cover0_B_3 c i arg1 harg1 arg2 harg2 arg3 harg3 arg4 harg4 hc0 x0 x1 z)]
  unfold kernelRun0_B
  dsimp only
  sl_unfold_words
  simp only [View.readAt_eq_ld, Memref.IsWhole.read_unread, readCov_one]
  rw [canon_last]
  repeat rw [View.ld_unit_zero (by funext a; fin_cases a <;> rfl)]

end outs

/-- The error of one block at an index. -/
abbrev err (x0 x1 : Vec Ideal S512x1024 .f32) (r : Fin 512) (q : Fin 1024) : EReal := x0 (ix2 r q) - x1 (ix2 r q)

theorem slope_at (x0 x1 : Vec Ideal S512x1024 .f32) (r : Fin 512) (q : Fin 1024) :
    k0_pay3 (F := Ideal) x0 x1 (ix2 r q) = err x0 x1 r q * Ideal.ofBits .f32 0x3A800000#32 := rfl

theorem squares (x0 x1 : Vec Ideal S512x1024 .f32) (j : S1.Idx) :
    (multiReduction .add [1, 2] S1 (shapeCast S1x512x1024 (mulf (k0_pay2 (F := Ideal) x0 x1) (k0_pay2 (F := Ideal) x0 x1)) shapeCasts_S512x1024_S1x512x1024) 0x00000000#32 reduces_S1x512x1024_S1 (.inl rfl) rfl : FVec Ideal S1 .f32) j =
      ∑ r : Fin 512, ∑ q : Fin 1024, err x0 x1 r q * err x0 x1 r q := by
  refine (Ideal.multiReduction_add_total _ _ _ (by decide) _ _ _).trans ?_
  refine (Equiv.sum_comp (Shape.reshapeEquiv _) (fun i : S512x1024.Idx => (mulf (k0_pay2 (F := Ideal) x0 x1) (k0_pay2 (F := Ideal) x0 x1) i : EReal))).trans ?_
  exact ValueIdx.sum_idx2 _

theorem sum_shape (z : Vec Ideal S1x1 .f32) (s : FVec Ideal S1 .f32) :
    (addf (shapeCast S1x1 z shapeCasts_S1x1_S1x1) (mulf (broadcast S1x1 (extractAt ![0, 0, 0] (shapeCast S1x1x1 s shapeCasts_S1_S1x1x1) inpos_S1x1x1_p0_0_0)) (broadcast S1x1 (Scalar.ofBits .f32 0x3A000000#32))) : FVec Ideal S1x1 .f32) (ix2 0 0) =
      (z (ix2 0 0) + s (ix1 0) * Ideal.ofBits .f32 0x3A000000#32 : EReal) := by
  pointwise
  try rfl

theorem sum_at (x0 x1 : Vec Ideal S512x1024 .f32) (z : Vec Ideal S1x1 .f32) :
    k0_pay4 (F := Ideal) x0 x1 z (ix2 0 0) =
      (z (ix2 0 0) + (∑ r : Fin 512, ∑ q : Fin 1024, err x0 x1 r q * err x0 x1 r q) * Ideal.ofBits .f32 0x3A000000#32 : EReal) := by
  unfold k0_pay4
  refine (sum_shape z _).trans ?_
  rw [squares]

theorem reset_at : k0_pay1 (F := Ideal) (ix2 0 0) = (0 : EReal) := by
  unfold k0_pay1
  pointwise

end Cert.Kernel23Ideal.Head

end
-- ==== Proof.LossRef.lean ====
module

public import proofs.«01_k».proof.Proof.LossSum
public import proofs.«01_k».proof.Proof.Gen.Reference23Ideal.Run

/-! The reference's loss and its cotangent at an index. -/

@[expose] public section

set_option maxRecDepth 16384

noncomputable section

open Idealize.ShloMosaic Idealize.ShloMosaic.TcCoe Idealize.SL.Sem Idealize.ShloMosaic.StableHlo

namespace Cert.Loss

/-- The cotangent of the loss in one output: the error over the width. -/
theorem cotangent (x : EReal) :
    Ideal.div (Ideal.ofBits .f32 0x3F000000#32 * Ideal.ofBits .f32 0x3F800000#32) (Ideal.ofBits .f32 0x44800000#32) * (Ideal.ofBits .f32 0x40000000#32 * x) =
      x * Ideal.ofBits .f32 0x3A800000#32 := by
  rw [div_width, half_eq, one_eq, two_eq, share_eq, ← mul_assoc, mul_comm x]
  congr 1
  rw [← EReal.coe_mul, ← EReal.coe_mul, ← EReal.coe_mul]
  norm_num

end Cert.Loss

namespace Cert.Reference23Ideal.Head

open Cert.Reference23Ideal Cert.Reference23Ideal.Gen

/-- The reference's cotangent at an index. -/
theorem slope (y t : FVec Ideal S4096x1024 .f32) (r : Fin 4096) (l : Fin 1024) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y t)) : FVec Ideal S4096x1024 .f32) (ix2 r l) =
      ((y (ix2 r l) - t (ix2 r l)) * Ideal.ofBits .f32 0x3A800000#32 : EReal) := by
  refine Eq.trans ?_ (Loss.cotangent _)
  pointwise
  try rfl

/-- The reference's loss. -/
theorem total (y t : FVec Ideal S4096x1024 .f32) (i : S1x1.Idx) :
    (shapeCast S1x1 (mulf (constant S_ .f32 0x3F000000#32) (Host.reduceAdd (Host.divf (Host.reduceAdd (mulf (subf y t) (subf y t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1 : FVec Ideal S1x1 .f32) i = Loss.loss (fun r l => y (ix2 r l) - t (ix2 r l)) := by
  obtain rfl : i = (ix2 0 0 : S1x1.Idx) := funext fun a => match a with
    | ⟨0, _⟩ => Subsingleton.elim (α := Fin 1) _ _
    | ⟨1, _⟩ => Subsingleton.elim (α := Fin 1) _ _
  pointwise
  try rfl

end Cert.Reference23Ideal.Head

end
-- ==== Proof.LossHead.lean ====
module

public import Idealize.ShloMosaic.Lib.Quiescent
public import proofs.«01_k».proof.Defs
public import proofs.«01_k».proof.Proof.LossBody
public import proofs.«01_k».proof.Proof.LossRef
public import proofs.«01_k».proof.Proof.Gen.Kernel23.Frame

/-! The loss of one device's tokens and its cotangent in the outputs. -/

@[expose] public section

set_option maxRecDepth 16384

noncomputable section

open Idealize.ShloMosaic Idealize.ShloMosaic.TcCoe Idealize.SL.Sem Idealize.ShloMosaic.StableHlo

namespace Cert.Kernel23Ideal.Head

open Cert.Kernel23Ideal Cert.Kernel23Ideal.Gen Cert.Kernel23Ideal.Value

variable (m : (ℓ : Loc nD τ sig) → Buf (Elt Ideal) ℓ) (c : Dev nD)

/-- The outputs. -/
def Y : Mat 4096 1024 := fun r l => m ((c.tc : Thread nD τ).loc main_arg0) (ix2 r l)

/-- The targets. -/
def T : Mat 4096 1024 := fun r l => m ((c.tc : Thread nD τ).loc main_arg1) (ix2 r l)

/-- The outputs less the targets. -/
def E : Mat 4096 1024 := fun r l => Y m c r l - T m c r l

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 1024) :
    (iblk m c 0 t : Vec Ideal S512x1024 .f32) (ix2 r l) = Y m c (row t r) l := by
  unfold iblk
  rw [View.read_apply]
  refine congrArg (m ((c.tc : Thread nD τ).loc main_arg0)) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem index1 : ∀ t : Fin grid0.N, win0_1.index t 0 = t.val ∧ win0_1.index t 1 = 0 := by decide +kernel

theorem iblk1 (t : Fin cfg0.N) (r : Fin 512) (l : Fin 1024) :
    (iblk m c 1 t : Vec Ideal S512x1024 .f32) (ix2 r l) = T m c (row t r) l := by
  unfold iblk
  rw [View.read_apply]
  refine congrArg (m ((c.tc : Thread nD τ).loc main_arg1)) (funext fun a => Fin.ext ?_)
  match a with
  | ⟨0, _⟩ => show win0_1.index t 0 * 512 + 1 * r.val = t.val * 512 + r.val; rw [(index1 t).1]; omega
  | ⟨1, _⟩ => show win0_1.index t 1 * 1024 + 1 * l.val = l.val; rw [(index1 t).2]; omega

theorem err_eq (t : Fin cfg0.N) (r : Fin 512) (q : Fin 1024) : err (iblk m c 0 t) (iblk m c 1 t) r q = E m c (row t r) q :=
  congrArg₂ (fun a b : EReal => a - b) (iblk0 m c t r q) (iblk1 m c t r q)

theorem part_eq (t : Fin cfg0.N) :
    (∑ r : Fin 512, ∑ q : Fin 1024, err (iblk m c 0 t) (iblk m c 1 t) r q * err (iblk m c 0 t) (iblk m c 1 t) r q) = Loss.part (E m c) t.val := by
  refine Finset.sum_congr rfl fun r _ => ?_
  have e : Fin.ofNat 4096 (t.val * 512 + r.val) = row t r := Fin.ext (by
    show (t.val * 512 + r.val) % 4096 = t.val * 512 + r.val
    have := lt_N t; omega)
  rw [e]
  exact Finset.sum_congr rfl fun q _ => by rw [err_eq]

theorem outs_first (t : Fin cfg0.N) (h0 : t.val % 8 = 0) :
    outsAt0 m c t.val t.isLt = (k0_pay3 (F := Ideal) (iblk m c 0 t) (iblk m c 1 t), k0_pay4 (F := Ideal) (iblk m c 0 t) (iblk m c 1 t) (k0_pay1 (F := Ideal))) := by
  rw [outsAt0_A m c t h0]
  rw [slopeA, sumA]

theorem outs_later (t : Fin cfg0.N) (h0 : ¬t.val % 8 = 0) :
    outsAt0 m c t.val t.isLt = (k0_pay3 (F := Ideal) (iblk m c 0 t) (iblk m c 1 t), k0_pay4 (F := Ideal) (iblk m c 0 t) (iblk m c 1 t)
      (outsAt0 m c (t.val - 1) (Nat.lt_of_le_of_lt (Nat.sub_le _ _) t.isLt)).2) := by
  rw [outsAt0_B m c t h0]
  rw [slopeB, sumB]

theorem slope_eq (t : Fin cfg0.N) (r : Fin 512) (q : Fin 1024) :
    (outsAt0 m c t.val t.isLt).1 (ix2 r q) = (E m c (row t r) q * Ideal.ofBits .f32 0x3A800000#32 : EReal) := by
  by_cases h0 : t.val % 8 = 0
  · rw [outs_first m c t h0]
    dsimp only
    rw [slope_at, err_eq]
  · rw [outs_later m c t h0]
    dsimp only
    rw [slope_at, err_eq]

theorem sum_eq : ∀ (n : ℕ) (hn : n < cfg0.N), (outsAt0 m c n hn).2 (ix2 0 0) = Loss.upto (E m c) n
  | 0, hn => by
    have e := outs_first m c ⟨0, hn⟩ rfl
    dsimp only at e
    rw [e]
    dsimp only
    rw [sum_at, part_eq, reset_at]
    rfl
  | n + 1, hn => by
    have hN : cfg0.N = 8 := N_0
    have e := outs_later m c ⟨n + 1, hn⟩ (by show ¬(n + 1) % 8 = 0; omega)
    dsimp only at e
    rw [e]
    dsimp only
    rw [sum_at, part_eq]
    exact congrArg (fun a : EReal => a + Loss.part (E m c) (n + 1) * Ideal.ofBits .f32 0x3A000000#32) (sum_eq n (Nat.lt_of_succ_lt hn))

/-- The cotangents. -/
def slopes : Buf (Elt Ideal) ((c : Thread nD τ).loc main_v0_0) := fun i : S4096x1024.Idx => (E m c (i 0) (i 1) * Ideal.ofBits .f32 0x3A800000#32 : EReal)

/-- The loss. -/
def total : Buf (Elt Ideal) ((c : Thread nD τ).loc main_v0_1) := fun _ : S1x1.Idx => Loss.loss (E m c)

theorem index2 : ∀ t : Fin grid0.N, win0_2.index t 0 = t.val ∧ win0_2.index t 1 = 0 := by decide +kernel
theorem sizes2 : ∀ t : Fin grid0.N, win0_2.xsize (grid0.coords t) 0 = 512 ∧ win0_2.xsize (grid0.coords t) 1 = 1024 := by decide +kernel

theorem flushed_slopes (t : Fin cfg0.N) : (dats m 0 c).flushed 2 t = ((cfg0.win 2).blk t).view.read (Elt Ideal) (slopes m c) := by
  rw [flushed2]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (slope_eq m c t r l).trans (congrArg (slopes m c) (funext fun a => Fin.ext ?_) : slopes m c (ix2 (row t r) l) = _)
  match a with
  | ⟨0, _⟩ => show t.val * 512 + r.val = win0_2.index t 0 * 512 + 1 * r.val; rw [(index2 t).1]; omega
  | ⟨1, _⟩ => show l.val = win0_2.index t 1 * 1024 + 1 * l.val; rw [(index2 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final_slopes : (dats m 0 c).arrAt 2 cfg0.N = slopes m c :=
  (dats m 0 c).arrAt_eq_of_cover 2 (slopes m c) (fun t _ => flushed_slopes m c t) fun i : S4096x1024.Idx =>
    ⟨pointOf i, flush0_2 _, by
      show i ∈ ((View.whole main_v0_0).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 512 ≤ (i 0 : Nat) ∧ (i 0 : Nat) < win0_2.index (pointOf i) 0 * 512 + win0_2.xsize (grid0.coords (pointOf i)) 0
        rw [(index2 _).1, (sizes2 _).1]
        show (i 0 : Nat) / 512 * 512 ≤ (i 0 : Nat) ∧ (i 0 : Nat) < (i 0 : Nat) / 512 * 512 + 512
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

theorem index3 : ∀ t : Fin grid0.N, win0_3.index t 0 = 0 ∧ win0_3.index t 1 = 0 := by decide +kernel
theorem sizes3 : ∀ t : Fin grid0.N, win0_3.xsize (grid0.coords t) 0 = 1 ∧ win0_3.xsize (grid0.coords t) 1 = 1 := by decide +kernel

theorem flushed_total (t : Fin cfg0.N) (hf : (cfg0.win 3).flush t = true) :
    (dats m 0 c).flushed 3 t = ((cfg0.win 3).blk t).view.read (Elt Ideal) (total m c) := by
  rw [flushed3]
  funext j
  obtain rfl : j = (ix2 0 0 : S1x1.Idx) := one _ _
  rw [View.read_apply]
  have h7 := (flush0_3 t).1 hf
  have ht := lt_N t
  refine (sum_eq m c t.val t.isLt).trans ?_
  rw [show t.val = 7 by omega, Loss.upto_eq]
  rfl

/-- The point that writes the loss. -/
abbrev lastPoint : Fin cfg0.N := ⟨7, by have h : cfg0.N = 8 := N_0; omega⟩

theorem final_total : (dats m 0 c).arrAt 3 cfg0.N = total m c :=
  (dats m 0 c).arrAt_eq_of_cover 3 (total m c) (fun t h => flushed_total m c t h) fun i : S1x1.Idx =>
    ⟨lastPoint, (flush0_3 _).2 rfl, by
      show i ∈ ((View.whole main_v0_1).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPoint 0 * 1 ≤ (i 0 : Nat) ∧ (i 0 : Nat) < win0_3.index lastPoint 0 * 1 + win0_3.xsize (grid0.coords lastPoint) 0
        rw [(index3 _).1, (sizes3 _).1]
        omega
      | ⟨1, _⟩ =>
        show win0_3.index lastPoint 1 * 1 ≤ (i 1 : Nat) ∧ (i 1 : Nat) < win0_3.index lastPoint 1 * 1 + win0_3.xsize (grid0.coords lastPoint) 1
        rw [(index3 _).2, (sizes3 _).2]
        omega⟩

end Cert.Kernel23Ideal.Head

namespace Cert.Proof

theorem frame_reference23 : Cert.quiescent_Reference23Ideal := fun m ρ _ =>
  (θ_run Reference23Ideal.defs _ _).mono
    (fun r h => ⟨fun c => (h c).2.2, sem_eq_zero_of_no_sems (by decide) r.2⟩)
    (Reference23Ideal.Value.run (F := Ideal) m ρ)

theorem algebraic23 : Cert.algebraic_Kernel23Ideal_Reference23Ideal := by
  intro m ρ m' ρ' _ hagree
  refine ⟨fun c => Kernel23Ideal.Head.slopes m c, fun c => Kernel23Ideal.Head.total m c, ?_, ?_⟩
  · exact (θ_run _ _ _).mono (fun r h c => ⟨(h c).1.trans (Kernel23Ideal.Head.final_slopes m c), (h c).2.1.trans (Kernel23Ideal.Head.final_total m c), (h c).2.2⟩) (Kernel23Ideal.Value.run_blocks (F := Ideal) m ρ)
  · refine (θ_run _ _ _).mono (fun r h c => ⟨(h c).1.trans ?_, (h c).2.1.trans ?_, (h c).2.2⟩) (Reference23Ideal.Value.run (F := Ideal) m' ρ')
    · rw [(hagree c).1, (hagree c).2]
      funext i
      obtain ⟨r, l, rfl⟩ : ∃ (r : Fin 4096) (l : Fin 1024), i = (ix2 r l : Kernel23Ideal.S4096x1024.Idx) := ⟨i 0, i 1, (ix2_eta (i : Kernel23Ideal.S4096x1024.Idx)).symm⟩
      exact Reference23Ideal.Head.slope _ _ r l
    · rw [(hagree c).1, (hagree c).2]
      funext i
      exact Reference23Ideal.Head.total _ _ i

end Cert.Proof

end
-- ==== Proof.Rows.lean ====
module

public import proofs.«01_k».proof.Proof.Matrix

/-! What the calls that work row by row compute, on one row. -/

@[expose] public section

noncomputable section

open Idealize.ShloMosaic

namespace Cert.Rows

/-- A row of extended reals. -/
abbrev Row (n : ℕ) := Fin n → EReal

/-- The mean of a row of 1024 numbers. -/
def mean (x : Row 1024) : EReal := Ideal.div (∑ q, x q) (Ideal.ofBits .f32 0x44800000#32)

/-- A row over the root of its mean square, times the weights. -/
def rms (x w : Row 1024) : Row 1024 := fun l =>
  x l * Ideal.rsqrt (mean (fun q => x q * x q) + Ideal.ofBits .f32 0x358637BD#32) * w l

/-- A number times its sigmoid. -/
def silu (x : EReal) : EReal := x * Ideal.logistic x

/-- A row plus half of a row's normal form. -/
def half (x f w : Row 1024) : Row 1024 := fun l => x l + Ideal.ofBits .f32 0x3F000000#32 * rms f w l

/-- A row plus a row's normal form. -/
def whole (x f w : Row 1024) : Row 1024 := fun l => x l + rms f w l

/-- The gate's silu times the other half of the row. -/
def swiglu (x y : Row 2816) : Row 2816 := fun l => silu (x l) * y l

/-- A row less its mean, over the root of its variance, times the weights, plus the bias; silu of all that. -/
def lnsilu (x g b : Row 1024) : Row 1024 := fun l =>
  silu ((x l - mean x) * Ideal.rsqrt (mean (fun q => (x q - mean x) * (x q - mean x)) + Ideal.ofBits .f32 0x3727C5AC#32) * g l + b l)

end Cert.Rows

end
-- ==== Proof.Rms.lean ====
module

public import Idealize.ShloMosaic.Lib.StableHlo.ReadAt
public import Idealize.ShloMosaic.Lib.Quiescent
public import proofs.«01_k».proof.Defs
public import proofs.«01_k».proof.Proof.Rows
public import proofs.«01_k».proof.Proof.Gen.Kernel24.Frame
public import proofs.«01_k».proof.Proof.Gen.Kernel24Ideal.Value
public import proofs.«01_k».proof.Proof.Gen.Reference24Ideal.Run

/-! The row normalisation before a layer. -/

@[expose] public section

set_option maxRecDepth 16384

noncomputable section

open Idealize.ShloMosaic Idealize.ShloMosaic.TcCoe Idealize.SL.Sem Idealize.ShloMosaic.StableHlo

namespace Cert.Kernel24Ideal.Rowwise

open Cert.Kernel24Ideal Cert.Kernel24Ideal.Gen Cert.Kernel24Ideal.Value

variable (m : (ℓ : Loc nD τ sig) → Buf (Elt Ideal) ℓ) (c : Dev nD)

/-- Argument 0 as a matrix. -/
def X : Mat 4096 1024 := fun r l => m ((c.tc : Thread nD τ).loc main_arg0) (ix2 r l)

/-- Argument 1 as a row. -/
def Wt : Rows.Row 1024 := fun l => m ((c.tc : Thread nD τ).loc main_arg1) (ix1 l)

theorem V_X (r : Fin 4096) (l : Fin 1024) : V m c main_arg0 (ix2 r l) = X m c r l := by
  unfold V
  after_reads_at
  try rfl

theorem V_Wt (l : Fin 1024) : V m c main_v0 (ix2 0 l) = Wt m c l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) ⟨0 + l.val, by omega⟩ := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = 0 + l.val; rw [(index0 t).2]; omega

theorem index1 : ∀ t : Fin grid0.N, win0_1.index t 0 = 0 ∧ win0_1.index t 1 = 0 := by decide +kernel

theorem iblk1 (t : Fin cfg0.N) (l : Fin 1024) : (iblk m c 1 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * l.val = l.val; rw [(index1 t).2]; omega

/-- What one point computes. -/
theorem pay_at (x0 : Vec Ideal S512x1024 .f32) (x1 : Vec Ideal S1x1024 .f32) (r : Fin 512) (l : Fin 1024) :
    k0_pay1 (F := Ideal) x0 x1 (ix2 r l) = Rows.rms (fun q => x0 (ix2 r q)) (fun q => x1 (ix2 0 q)) l := by
  unfold k0_pay1
  pointwise
  try rfl

/-- The normalised rows. -/
def res : Buf (Elt Ideal) ((c : Thread nD τ).loc main_v1) := fun i : S4096x1024.Idx => Rows.rms (X m c (i 0)) (Wt m c) (i 1)

theorem left (t : Fin cfg0.N) (r : Fin 512) (l : Fin 1024) :
    out0_2 (F := Ideal) (iblk m c 0 t) (iblk m c 1 t) (ix2 r l) = res m c (ix2 (row t r) l) := by
  unfold out0_2
  rw [View.canon_unit_zero (by funext a; fin_cases a <;> rfl)]
  repeat rw [View.ld_unit_zero (by funext a; fin_cases a <;> rfl)]
  rw [pay_at]
  show _ = Rows.rms (X m c (row t r)) (Wt m c) l
  congr 1
  · funext q; exact (iblk0 m c t r q).trans (congrArg (X m c _) (Fin.ext (by first | rfl | (show 0 + q.val = q.val; omega))))
  · funext q; exact iblk1 m c t q

theorem index2 : ∀ t : Fin grid0.N, win0_2.index t 0 = t.val ∧ win0_2.index t 1 = 0 := by decide +kernel
theorem sizes2 : ∀ t : Fin grid0.N, win0_2.xsize (grid0.coords t) 0 = 512 ∧ win0_2.xsize (grid0.coords t) 1 = 1024 := by decide +kernel

theorem flushed_eq (t : Fin cfg0.N) : (dats m 0 c).flushed 2 t = ((cfg0.win 2).blk t).view.read (Elt Ideal) (res m c) := by
  rw [flushed2]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (res m c) (funext fun a => Fin.ext ?_) : res m c (ix2 (row t r) l) = _)
  match a with
  | ⟨0, _⟩ => show t.val * 512 + r.val = win0_2.index t 0 * 512 + 1 * r.val; rw [(index2 t).1]; omega
  | ⟨1, _⟩ => show l.val = win0_2.index t 1 * 1024 + 1 * l.val; rw [(index2 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final : (dats m 0 c).arrAt 2 cfg0.N = res m c :=
  (dats m 0 c).arrAt_eq_of_cover 2 (res m c) (fun t _ => flushed_eq m c t) fun i : S4096x1024.Idx =>
    ⟨pointOf i, flush0_2 _, by
      show i ∈ ((View.whole main_v1).slice (win0_2.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_2.index (pointOf i) 0 * 512 ≤ (i 0 : Nat) ∧ (i 0 : Nat) < win0_2.index (pointOf i) 0 * 512 + win0_2.xsize (grid0.coords (pointOf i)) 0
        rw [(index2 _).1, (sizes2 _).1]
        show (i 0 : Nat) / 512 * 512 ≤ (i 0 : Nat) ∧ (i 0 : Nat) < (i 0 : Nat) / 512 * 512 + 512
        omega
      | ⟨1, _⟩ =>
        show win0_2.index (pointOf i) 1 * 1024 ≤ (i 1 : Nat) ∧ (i 1 : Nat) < win0_2.index (pointOf i) 1 * 1024 + win0_2.xsize (grid0.coords (pointOf i)) 1
        rw [(index2 _).2, (sizes2 _).2]
        omega⟩

end Cert.Kernel24Ideal.Rowwise

namespace Cert.Reference24Ideal.Rowwise

open Cert.Reference24Ideal Cert.Reference24Ideal.Gen

/-- The reference's result at an index. -/
theorem value (x : FVec Ideal S4096x1024 .f32) (wt : FVec Ideal S1024 .f32) (r : Fin 4096) (l : Fin 1024) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 wt))) bitsLt_bf16_f32 : FVec Ideal S4096x1024 .bf16) (ix2 r l) = Rows.rms (fun q => x (ix2 r q)) (fun q => wt (ix1 q)) l := by
  pointwise
  try rfl

end Cert.Reference24Ideal.Rowwise

namespace Cert.Proof

theorem frame_reference24 : Cert.quiescent_Reference24Ideal := fun m ρ _ =>
  (θ_run Reference24Ideal.defs _ _).mono
    (fun r h => ⟨fun c => (h c).2, sem_eq_zero_of_no_sems (by decide) r.2⟩)
    (Reference24Ideal.Value.run (F := Ideal) m ρ)

theorem algebraic24 : Cert.algebraic_Kernel24Ideal_Reference24Ideal := by
  intro m ρ m' ρ' _ hagree
  refine ⟨fun c => Kernel24Ideal.Rowwise.res m c, ?_, ?_⟩
  · exact (θ_run _ _ _).mono (fun r h c => ⟨(h c).1.trans (Kernel24Ideal.Rowwise.final m c), (h c).2⟩) (Kernel24Ideal.Value.run_blocks (F := Ideal) m ρ)
  · refine (θ_run _ _ _).mono (fun r h c => ⟨(h c).1.trans ?_, (h c).2⟩) (Reference24Ideal.Value.run (F := Ideal) m' ρ')
    rw [(hagree c).1, (hagree c).2]
    funext i
    obtain ⟨r, l, rfl⟩ : ∃ (r : Fin 4096) (l : Fin 1024), i = (ix2 r l : Kernel24Ideal.S4096x1024.Idx) := ⟨i 0, i 1, (ix2_eta (i : Kernel24Ideal.S4096x1024.Idx)).symm⟩
    exact Reference24Ideal.Rowwise.value _ _ r l

end Cert.Proof

end
-- ==== Proof.Swiglu.lean ====
module

public import Idealize.ShloMosaic.Lib.StableHlo.ReadAt
public import Idealize.ShloMosaic.Lib.Quiescent
public import proofs.«01_k».proof.Defs
public import proofs.«01_k».proof.Proof.Rows
public import proofs.«01_k».proof.Proof.Gen.Kernel25.Frame
public import proofs.«01_k».proof.Proof.Gen.Kernel25Ideal.Value
public import proofs.«01_k».proof.Proof.Gen.Reference25Ideal.Run

/-! The feed-forward layer's gate. -/

@[expose] public section

set_option maxRecDepth 16384

noncomputable section

open Idealize.ShloMosaic Idealize.ShloMosaic.TcCoe Idealize.SL.Sem Idealize.ShloMosaic.StableHlo

namespace Cert.Kernel25Ideal.Rowwise

open Cert.Kernel25Ideal Cert.Kernel25Ideal.Gen Cert.Kernel25Ideal.Value

variable (m : (ℓ : Loc nD τ sig) → Buf (Elt Ideal) ℓ) (c : Dev nD)

/-- Argument 0 as a matrix. -/
def U : Mat 4096 5632 := fun r l => m ((c.tc : Thread nD τ).loc main_arg0) (ix2 r l)

theorem V_U (r : Fin 4096) (l : Fin 5632) : V m c main_v0 (ix2 r l) = U m c r l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 2816) : (iblk m c 0 t : Vec Ideal S512x2816 .bf16) (ix2 r l) = U m c (row t r) ⟨0 + l.val, by omega⟩ := by
  refine Eq.trans ?_ (V_U m c _ _)
  unfold iblk
  rw [View.read_apply]
  refine congrArg (V m c main_v0) (funext fun a => Fin.ext ?_)
  match a with
  | ⟨0, _⟩ => show win0_0.index t 0 * 512 + 1 * r.val = t.val * 512 + r.val; rw [(index0 t).1]; omega
  | ⟨1, _⟩ => show win0_0.index t 1 * 2816 + 1 * l.val = 0 + l.val; rw [(index0 t).2]; omega

theorem index1 : ∀ t : Fin grid0.N, win0_1.index t 0 = t.val ∧ win0_1.index t 1 = 1 := by decide +kernel

theorem iblk1 (t : Fin cfg0.N) (r : Fin 512) (l : Fin 2816) : (iblk m c 1 t : Vec Ideal S512x2816 .bf16) (ix2 r l) = U m c (row t r) ⟨2816 + l.val, by omega⟩ := by
  refine Eq.trans ?_ (V_U m c _ _)
  unfold iblk
  rw [View.read_apply]
  refine congrArg (V m c main_v0) (funext fun a => Fin.ext ?_)
  match a with
  | ⟨0, _⟩ => show win0_1.index t 0 * 512 + 1 * r.val = t.val * 512 + r.val; rw [(index1 t).1]; omega
  | ⟨1, _⟩ => show win0_1.index t 1 * 2816 + 1 * l.val = 2816 + l.val; rw [(index1 t).2]; omega

/-- What one point computes. -/
theorem pay_at (x0 : Vec Ideal S512x2816 .bf16) (x1 : Vec Ideal S512x2816 .bf16) (r : Fin 512) (l : Fin 2816) :
    k0_pay1 (F := Ideal) x0 x1 (ix2 r l) = Rows.swiglu (fun q => x0 (ix2 r q)) (fun q => x1 (ix2 r q)) l := by
  unfold k0_pay1
  pointwise
  try rfl

/-- The gated hidden values. -/
def res : Buf (Elt Ideal) ((c : Thread nD τ).loc main_v1) := fun i : S4096x2816.Idx => Rows.swiglu (fun q => U m c (i 0) ⟨0 + q.val, by omega⟩) (fun q => U m c (i 0) ⟨2816 + q.val, by omega⟩) (i 1)

theorem left (t : Fin cfg0.N) (r : Fin 512) (l : Fin 2816) :
    out0_2 (F := Ideal) (iblk m c 0 t) (iblk m c 1 t) (ix2 r l) = res m c (ix2 (row t r) l) := by
  unfold out0_2
  rw [View.canon_unit_zero (by funext a; fin_cases a <;> rfl)]
  repeat rw [View.ld_unit_zero (by funext a; fin_cases a <;> rfl)]
  rw [pay_at]
  show _ = Rows.swiglu (fun q => U m c (row t r) ⟨0 + q.val, by omega⟩) (fun q => U m c (row t r) ⟨2816 + q.val, by omega⟩) l
  congr 1
  · funext q; exact (iblk0 m c t r q).trans (congrArg (U m c _) (Fin.ext (by first | rfl | (show 0 + q.val = q.val; omega))))
  · funext q; exact (iblk1 m c t r q).trans (congrArg (U m c _) (Fin.ext (by first | rfl | (show 2816 + q.val = q.val; omega))))

theorem index2 : ∀ t : Fin grid0.N, win0_2.index t 0 = t.val ∧ win0_2.index t 1 = 0 := by decide +kernel
theorem sizes2 : ∀ t : Fin grid0.N, win0_2.xsize (grid0.coords t) 0 = 512 ∧ win0_2.xsize (grid0.coords t) 1 = 2816 := by decide +kernel

theorem flushed_eq (t : Fin cfg0.N) : (dats m 0 c).flushed 2 t = ((cfg0.win 2).blk t).view.read (Elt Ideal) (res m c) := by
  rw [flushed2]
  funext j
  obtain ⟨r, l, rfl⟩ : ∃ (r : Fin 512) (l : Fin 2816), j = (ix2 r l : S512x2816.Idx) := ⟨j 0, j 1, (ix2_eta (j : S512x2816.Idx)).symm⟩
  rw [View.read_apply]
  refine (left m c t r l).trans (congrArg (res m c) (funext fun a => Fin.ext ?_) : res m c (ix2 (row t r) l) = _)
  match a with
  | ⟨0, _⟩ => show t.val * 512 + r.val = win0_2.index t 0 * 512 + 1 * r.val; rw [(index2 t).1]; omega
  | ⟨1, _⟩ => show l.val = win0_2.index t 1 * 2816 + 1 * l.val; rw [(index2 t).2]; omega

/-- The point that writes an index. -/
abbrev pointOf (i : S4096x2816.Idx) : Fin cfg0.N := ⟨(i 0 : Nat) / 512, by
  have h : cfg0.N = 8 := N_0
  have h0 : (i 0 : Nat) < 4096 := (i 0).isLt
  omega⟩

theorem final : (dats m 0 c).arrAt 2 cfg0.N = res m c :=
  (dats m 0 c).arrAt_eq_of_cover 2 (res m c) (fun t _ => flushed_eq m c t) fun i : S4096x2816.Idx =>
    ⟨pointOf i, flush0_2 _, by
      show i ∈ ((View.whole main_v1).slice (win0_2.rect (pointOf i))).set
      rw [View.set_slice_whole, Rect.mem_set_unit]
      intro a
      have h0 : (i 0 : Nat) < 4096 := (i 0).isLt
      have h1 : (i 1 : Nat) < 2816 := (i 1).isLt
      match a with
      | ⟨0, _⟩ =>
        show win0_2.index (pointOf i) 0 * 512 ≤ (i 0 : Nat) ∧ (i 0 : Nat) < win0_2.index (pointOf i) 0 * 512 + win0_2.xsize (grid0.coords (pointOf i)) 0
        rw [(index2 _).1, (sizes2 _).1]
        show (i 0 : Nat) / 512 * 512 ≤ (i 0 : Nat) ∧ (i 0 : Nat) < (i 0 : Nat) / 512 * 512 + 512
        omega
      | ⟨1, _⟩ =>
        show win0_2.index (pointOf i) 1 * 2816 ≤ (i 1 : Nat) ∧ (i 1 : Nat) < win0_2.index (pointOf i) 1 * 2816 + win0_2.xsize (grid0.coords (pointOf i)) 1
        rw [(index2 _).2, (sizes2 _).2]
        omega⟩

end Cert.Kernel25Ideal.Rowwise

namespace Cert.Reference25Ideal.Rowwise

open Cert.Reference25Ideal Cert.Reference25Ideal.Gen

/-- The reference's result at an index. -/
theorem value (u : FVec Ideal S4096x5632 .f32) (r : Fin 4096) (l : Fin 2816) :
    (truncf .bf16 (mulf (mulf (extractStridedSlice S4096x2816 ![0, 0] u slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] u slices_S4096x5632_S4096x2816_0_0)))))) (extractStridedSlice S4096x2816 ![0, 2816] u slices_S4096x5632_S4096x2816_0_2816)) bitsLt_bf16_f32 : FVec Ideal S4096x2816 .bf16) (ix2 r l) = Rows.swiglu (fun q => u (ix2 r ⟨0 + q.val, by omega⟩)) (fun q => u (ix2 r ⟨2816 + q.val, by omega⟩)) l := by
  pointwise
  try rfl

end Cert.Reference25Ideal.Rowwise

namespace Cert.Proof

theorem frame_reference25 : Cert.quiescent_Reference25Ideal := fun m ρ _ =>
  (θ_run Reference25Ideal.defs _ _).mono
    (fun r h => ⟨fun c => (h c).2, sem_eq_zero_of_no_sems (by decide) r.2⟩)
    (Reference25Ideal.Value.run (F := Ideal) m ρ)

theorem algebraic25 : Cert.algebraic_Kernel25Ideal_Reference25Ideal := by
  intro m ρ m' ρ' _ hagree
  refine ⟨fun c => Kernel25Ideal.Rowwise.res m c, ?_, ?_⟩
  · exact (θ_run _ _ _).mono (fun r h c => ⟨(h c).1.trans (Kernel25Ideal.Rowwise.final m c), (h c).2⟩) (Kernel25Ideal.Value.run_blocks (F := Ideal) m ρ)
  · refine (θ_run _ _ _).mono (fun r h c => ⟨(h c).1.trans ?_, (h c).2⟩) (Reference25Ideal.Value.run (F := Ideal) m' ρ')
    rw [hagree c]
    funext i
    obtain ⟨r, l, rfl⟩ : ∃ (r : Fin 4096) (l : Fin 2816), i = (ix2 r l : Kernel25Ideal.S4096x2816.Idx) := ⟨i 0, i 1, (ix2_eta (i : Kernel25Ideal.S4096x2816.Idx)).symm⟩
    exact Reference25Ideal.Rowwise.value _ r l

end Cert.Proof

end
-- ==== Proof.ResHalf.lean ====
module

public import Idealize.ShloMosaic.Lib.StableHlo.ReadAt
public import Idealize.ShloMosaic.Lib.Quiescent
public import proofs.«01_k».proof.Defs
public import proofs.«01_k».proof.Proof.Rows
public import proofs.«01_k».proof.Proof.Gen.Kernel26.Frame
public import proofs.«01_k».proof.Proof.Gen.Kernel26Ideal.Value
public import proofs.«01_k».proof.Proof.Gen.Reference26Ideal.Run

/-! The end of a feed-forward layer: its input plus half of its normalised output. -/

@[expose] public section

set_option maxRecDepth 16384

noncomputable section

open Idealize.ShloMosaic Idealize.ShloMosaic.TcCoe Idealize.SL.Sem Idealize.ShloMosaic.StableHlo

namespace Cert.Kernel26Ideal.Rowwise

open Cert.Kernel26Ideal Cert.Kernel26Ideal.Gen Cert.Kernel26Ideal.Value

variable (m : (ℓ : Loc nD τ sig) → Buf (Elt Ideal) ℓ) (c : Dev nD)

/-- Argument 0 as a matrix. -/
def X : Mat 4096 1024 := fun r l => m ((c.tc : Thread nD τ).loc main_arg0) (ix2 r l)

/-- Argument 1 as a matrix. -/
def Fo : Mat 4096 1024 := fun r l => m ((c.tc : Thread nD τ).loc main_arg1) (ix2 r l)

/-- Argument 2 as a row. -/
def Wt : Rows.Row 1024 := fun l => m ((c.tc : Thread nD τ).loc main_arg2) (ix1 l)

theorem V_X (r : Fin 4096) (l : Fin 1024) : V m c main_arg0 (ix2 r l) = X m c r l := by
  unfold V
  after_reads_at
  try rfl

theorem V_Fo (r : Fin 4096) (l : Fin 1024) : V m c main_arg1 (ix2 r l) = Fo m c r l := by
  unfold V
  after_reads_at
  try rfl

theorem V_Wt (l : Fin 1024) : V m c main_v0 (ix2 0 l) = Wt m c l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) ⟨0 + l.val, by omega⟩ := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = 0 + l.val; rw [(index0 t).2]; omega

theorem index1 : ∀ t : Fin grid0.N, win0_1.index t 0 = t.val ∧ win0_1.index t 1 = 0 := by decide +kernel

theorem iblk1 (t : Fin cfg0.N) (r : Fin 512) (l : Fin 1024) : (iblk m c 1 t : Vec Ideal S512x1024 .f32) (ix2 r l) = Fo m c (row t r) ⟨0 + l.val, by omega⟩ := by
  refine Eq.trans ?_ (V_Fo m c _ _)
  unfold iblk
  rw [View.read_apply]
  refine congrArg (V m c main_arg1) (funext fun a => Fin.ext ?_)
  match a with
  | ⟨0, _⟩ => show win0_1.index t 0 * 512 + 1 * r.val = t.val * 512 + r.val; rw [(index1 t).1]; omega
  | ⟨1, _⟩ => show win0_1.index t 1 * 1024 + 1 * l.val = 0 + l.val; rw [(index1 t).2]; omega

theorem index2 : ∀ t : Fin grid0.N, win0_2.index t 0 = 0 ∧ win0_2.index t 1 = 0 := by decide +kernel

theorem iblk2 (t : Fin cfg0.N) (l : Fin 1024) : (iblk m c 2 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_2.index t 0 * 1 + 1 * 0 = 0; rw [(index2 t).1]
  | ⟨1, _⟩ => show win0_2.index t 1 * 1024 + 1 * l.val = l.val; rw [(index2 t).2]; omega

/-- What one point computes. -/
theorem pay_at (x0 : Vec Ideal S512x1024 .f32) (x1 : Vec Ideal S512x1024 .f32) (x2 : Vec Ideal S1x1024 .f32) (r : Fin 512) (l : Fin 1024) :
    k0_pay1 (F := Ideal) x0 x1 x2 (ix2 r l) = Rows.half (fun q => x0 (ix2 r q)) (fun q => x1 (ix2 r q)) (fun q => x2 (ix2 0 q)) l := by
  unfold k0_pay1
  pointwise
  try rfl

/-- The layer's results. -/
def res : Buf (Elt Ideal) ((c : Thread nD τ).loc main_v1) := fun i : S4096x1024.Idx => Rows.half (X m c (i 0)) (Fo m c (i 0)) (Wt m c) (i 1)

theorem left (t : Fin cfg0.N) (r : Fin 512) (l : Fin 1024) :
    out0_3 (F := Ideal) (iblk m c 0 t) (iblk m c 1 t) (iblk m c 2 t) (ix2 r l) = res m c (ix2 (row t r) l) := by
  unfold out0_3
  rw [View.canon_unit_zero (by funext a; fin_cases a <;> rfl)]
  repeat rw [View.ld_unit_zero (by funext a; fin_cases a <;> rfl)]
  rw [pay_at]
  show _ = Rows.half (X m c (row t r)) (Fo m c (row t r)) (Wt m c) l
  congr 1
  · funext q; exact (iblk0 m c t r q).trans (congrArg (X m c _) (Fin.ext (by first | rfl | (show 0 + q.val = q.val; omega))))
  · funext q; exact (iblk1 m c t r q).trans (congrArg (Fo m c _) (Fin.ext (by first | rfl | (show 0 + q.val = q.val; omega))))
  · funext q; exact iblk2 m c t q

theorem index3 : ∀ t : Fin grid0.N, win0_3.index t 0 = t.val ∧ win0_3.index t 1 = 0 := by decide +kernel
theorem sizes3 : ∀ t : Fin grid0.N, win0_3.xsize (grid0.coords t) 0 = 512 ∧ win0_3.xsize (grid0.coords t) 1 = 1024 := by decide +kernel

theorem flushed_eq (t : Fin cfg0.N) : (dats m 0 c).flushed 3 t = ((cfg0.win 3).blk t).view.read (Elt Ideal) (res m c) := by
  rw [flushed3]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (res m c) (funext fun a => Fin.ext ?_) : res m c (ix2 (row t r) l) = _)
  match a with
  | ⟨0, _⟩ => show t.val * 512 + r.val = win0_3.index t 0 * 512 + 1 * r.val; rw [(index3 t).1]; omega
  | ⟨1, _⟩ => show l.val = win0_3.index t 1 * 1024 + 1 * l.val; rw [(index3 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final : (dats m 0 c).arrAt 3 cfg0.N = res m c :=
  (dats m 0 c).arrAt_eq_of_cover 3 (res m c) (fun t _ => flushed_eq m c t) fun i : S4096x1024.Idx =>
    ⟨pointOf i, flush0_3 _, by
      show i ∈ ((View.whole main_v1).slice (win0_3.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_3.index (pointOf i) 0 * 512 ≤ (i 0 : Nat) ∧ (i 0 : Nat) < win0_3.index (pointOf i) 0 * 512 + win0_3.xsize (grid0.coords (pointOf i)) 0
        rw [(index3 _).1, (sizes3 _).1]
        show (i 0 : Nat) / 512 * 512 ≤ (i 0 : Nat) ∧ (i 0 : Nat) < (i 0 : Nat) / 512 * 512 + 512
        omega
      | ⟨1, _⟩ =>
        show win0_3.index (pointOf i) 1 * 1024 ≤ (i 1 : Nat) ∧ (i 1 : Nat) < win0_3.index (pointOf i) 1 * 1024 + win0_3.xsize (grid0.coords (pointOf i)) 1
        rw [(index3 _).2, (sizes3 _).2]
        omega⟩

end Cert.Kernel26Ideal.Rowwise

namespace Cert.Reference26Ideal.Rowwise

open Cert.Reference26Ideal Cert.Reference26Ideal.Gen

/-- The reference's result at an index. -/
theorem value (x : FVec Ideal S4096x1024 .f32) (fo : FVec Ideal S4096x1024 .f32) (wt : FVec Ideal S1024 .f32) (r : Fin 4096) (l : Fin 1024) :
    (addf x (mulf (broadcastInDim S4096x1024 ![] bcast_S_S4096x1024 (constant S_ .f32 0x3F000000#32)) (mulf (mulf fo (broadcastInDim S4096x1024 ![0, 1] bcast_S4096x1_S4096x1024_0_1 (Host.rsqrt (addf (Host.divf (broadcastInDim S4096x1 ![0] bcast_S4096_S4096x1_0 (Host.reduceAdd (mulf fo fo) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 wt)))) : FVec Ideal S4096x1024 .f32) (ix2 r l) = Rows.half (fun q => x (ix2 r q)) (fun q => fo (ix2 r q)) (fun q => wt (ix1 q)) l := by
  pointwise
  try rfl

end Cert.Reference26Ideal.Rowwise

namespace Cert.Proof

theorem frame_reference26 : Cert.quiescent_Reference26Ideal := fun m ρ _ =>
  (θ_run Reference26Ideal.defs _ _).mono
    (fun r h => ⟨fun c => (h c).2, sem_eq_zero_of_no_sems (by decide) r.2⟩)
    (Reference26Ideal.Value.run (F := Ideal) m ρ)

theorem algebraic26 : Cert.algebraic_Kernel26Ideal_Reference26Ideal := by
  intro m ρ m' ρ' _ hagree
  refine ⟨fun c => Kernel26Ideal.Rowwise.res m c, ?_, ?_⟩
  · exact (θ_run _ _ _).mono (fun r h c => ⟨(h c).1.trans (Kernel26Ideal.Rowwise.final m c), (h c).2⟩) (Kernel26Ideal.Value.run_blocks (F := Ideal) m ρ)
  · refine (θ_run _ _ _).mono (fun r h c => ⟨(h c).1.trans ?_, (h c).2⟩) (Reference26Ideal.Value.run (F := Ideal) m' ρ')
    rw [(hagree c).1, (hagree c).2.1, (hagree c).2.2]
    funext i
    obtain ⟨r, l, rfl⟩ : ∃ (r : Fin 4096) (l : Fin 1024), i = (ix2 r l : Kernel26Ideal.S4096x1024.Idx) := ⟨i 0, i 1, (ix2_eta (i : Kernel26Ideal.S4096x1024.Idx)).symm⟩
    exact Reference26Ideal.Rowwise.value _ _ _ r l

end Cert.Proof

end
-- ==== Proof.ResWhole.lean ====
module

public import Idealize.ShloMosaic.Lib.StableHlo.ReadAt
public import Idealize.ShloMosaic.Lib.Quiescent
public import proofs.«01_k».proof.Defs
public import proofs.«01_k».proof.Proof.Rows
public import proofs.«01_k».proof.Proof.Gen.Kernel27.Frame
public import proofs.«01_k».proof.Proof.Gen.Kernel27Ideal.Value
public import proofs.«01_k».proof.Proof.Gen.Reference27Ideal.Run

/-! The end of the mixer: its input plus its normalised output. -/

@[expose] public section

set_option maxRecDepth 16384

noncomputable section

open Idealize.ShloMosaic Idealize.ShloMosaic.TcCoe Idealize.SL.Sem Idealize.ShloMosaic.StableHlo

namespace Cert.Kernel27Ideal.Rowwise

open Cert.Kernel27Ideal Cert.Kernel27Ideal.Gen Cert.Kernel27Ideal.Value

variable (m : (ℓ : Loc nD τ sig) → Buf (Elt Ideal) ℓ) (c : Dev nD)

/-- Argument 0 as a matrix. -/
def X : Mat 4096 1024 := fun r l => m ((c.tc : Thread nD τ).loc main_arg0) (ix2 r l)

/-- Argument 1 as a matrix. -/
def Fo : Mat 4096 1024 := fun r l => m ((c.tc : Thread nD τ).loc main_arg1) (ix2 r l)

/-- Argument 2 as a row. -/
def Wt : Rows.Row 1024 := fun l => m ((c.tc : Thread nD τ).loc main_arg2) (ix1 l)

theorem V_X (r : Fin 4096) (l : Fin 1024) : V m c main_arg0 (ix2 r l) = X m c r l := by
  unfold V
  after_reads_at
  try rfl

theorem V_Fo (r : Fin 4096) (l : Fin 1024) : V m c main_arg1 (ix2 r l) = Fo m c r l := by
  unfold V
  after_reads_at
  try rfl

theorem V_Wt (l : Fin 1024) : V m c main_v0 (ix2 0 l) = Wt m c l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) ⟨0 + l.val, by omega⟩ := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = 0 + l.val; rw [(index0 t).2]; omega

theorem index1 : ∀ t : Fin grid0.N, win0_1.index t 0 = t.val ∧ win0_1.index t 1 = 0 := by decide +kernel

theorem iblk1 (t : Fin cfg0.N) (r : Fin 512) (l : Fin 1024) : (iblk m c 1 t : Vec Ideal S512x1024 .f32) (ix2 r l) = Fo m c (row t r) ⟨0 + l.val, by omega⟩ := by
  refine Eq.trans ?_ (V_Fo m c _ _)
  unfold iblk
  rw [View.read_apply]
  refine congrArg (V m c main_arg1) (funext fun a => Fin.ext ?_)
  match a with
  | ⟨0, _⟩ => show win0_1.index t 0 * 512 + 1 * r.val = t.val * 512 + r.val; rw [(index1 t).1]; omega
  | ⟨1, _⟩ => show win0_1.index t 1 * 1024 + 1 * l.val = 0 + l.val; rw [(index1 t).2]; omega

theorem index2 : ∀ t : Fin grid0.N, win0_2.index t 0 = 0 ∧ win0_2.index t 1 = 0 := by decide +kernel

theorem iblk2 (t : Fin cfg0.N) (l : Fin 1024) : (iblk m c 2 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_2.index t 0 * 1 + 1 * 0 = 0; rw [(index2 t).1]
  | ⟨1, _⟩ => show win0_2.index t 1 * 1024 + 1 * l.val = l.val; rw [(index2 t).2]; omega

/-- What one point computes. -/
theorem pay_at (x0 : Vec Ideal S512x1024 .f32) (x1 : Vec Ideal S512x1024 .f32) (x2 : Vec Ideal S1x1024 .f32) (r : Fin 512) (l : Fin 1024) :
    k0_pay1 (F := Ideal) x0 x1 x2 (ix2 r l) = Rows.whole (fun q => x0 (ix2 r q)) (fun q => x1 (ix2 r q)) (fun q => x2 (ix2 0 q)) l := by
  unfold k0_pay1
  pointwise
  try rfl

/-- The layer's results. -/
def res : Buf (Elt Ideal) ((c : Thread nD τ).loc main_v1) := fun i : S4096x1024.Idx => Rows.whole (X m c (i 0)) (Fo m c (i 0)) (Wt m c) (i 1)

theorem left (t : Fin cfg0.N) (r : Fin 512) (l : Fin 1024) :
    out0_3 (F := Ideal) (iblk m c 0 t) (iblk m c 1 t) (iblk m c 2 t) (ix2 r l) = res m c (ix2 (row t r) l) := by
  unfold out0_3
  rw [View.canon_unit_zero (by funext a; fin_cases a <;> rfl)]
  repeat rw [View.ld_unit_zero (by funext a; fin_cases a <;> rfl)]
  rw [pay_at]
  show _ = Rows.whole (X m c (row t r)) (Fo m c (row t r)) (Wt m c) l
  congr 1
  · funext q; exact (iblk0 m c t r q).trans (congrArg (X m c _) (Fin.ext (by first | rfl | (show 0 + q.val = q.val; omega))))
  · funext q; exact (iblk1 m c t r q).trans (congrArg (Fo m c _) (Fin.ext (by first | rfl | (show 0 + q.val = q.val; omega))))
  · funext q; exact iblk2 m c t q

theorem index3 : ∀ t : Fin grid0.N, win0_3.index t 0 = t.val ∧ win0_3.index t 1 = 0 := by decide +kernel
theorem sizes3 : ∀ t : Fin grid0.N, win0_3.xsize (grid0.coords t) 0 = 512 ∧ win0_3.xsize (grid0.coords t) 1 = 1024 := by decide +kernel

theorem flushed_eq (t : Fin cfg0.N) : (dats m 0 c).flushed 3 t = ((cfg0.win 3).blk t).view.read (Elt Ideal) (res m c) := by
  rw [flushed3]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (res m c) (funext fun a => Fin.ext ?_) : res m c (ix2 (row t r) l) = _)
  match a with
  | ⟨0, _⟩ => show t.val * 512 + r.val = win0_3.index t 0 * 512 + 1 * r.val; rw [(index3 t).1]; omega
  | ⟨1, _⟩ => show l.val = win0_3.index t 1 * 1024 + 1 * l.val; rw [(index3 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final : (dats m 0 c).arrAt 3 cfg0.N = res m c :=
  (dats m 0 c).arrAt_eq_of_cover 3 (res m c) (fun t _ => flushed_eq m c t) fun i : S4096x1024.Idx =>
    ⟨pointOf i, flush0_3 _, by
      show i ∈ ((View.whole main_v1).slice (win0_3.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_3.index (pointOf i) 0 * 512 ≤ (i 0 : Nat) ∧ (i 0 : Nat) < win0_3.index (pointOf i) 0 * 512 + win0_3.xsize (grid0.coords (pointOf i)) 0
        rw [(index3 _).1, (sizes3 _).1]
        show (i 0 : Nat) / 512 * 512 ≤ (i 0 : Nat) ∧ (i 0 : Nat) < (i 0 : Nat) / 512 * 512 + 512
        omega
      | ⟨1, _⟩ =>
        show win0_3.index (pointOf i) 1 * 1024 ≤ (i 1 : Nat) ∧ (i 1 : Nat) < win0_3.index (pointOf i) 1 * 1024 + win0_3.xsize (grid0.coords (pointOf i)) 1
        rw [(index3 _).2, (sizes3 _).2]
        omega⟩

end Cert.Kernel27Ideal.Rowwise

namespace Cert.Reference27Ideal.Rowwise

open Cert.Reference27Ideal Cert.Reference27Ideal.Gen

/-- The reference's result at an index. -/
theorem value (x : FVec Ideal S4096x1024 .f32) (fo : FVec Ideal S4096x1024 .f32) (wt : FVec Ideal S1024 .f32) (r : Fin 4096) (l : Fin 1024) :
    (addf x (mulf (mulf fo (broadcastInDim S4096x1024 ![0, 1] bcast_S4096x1_S4096x1024_0_1 (Host.rsqrt (addf (Host.divf (broadcastInDim S4096x1 ![0] bcast_S4096_S4096x1_0 (Host.reduceAdd (mulf fo fo) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 wt))) : FVec Ideal S4096x1024 .f32) (ix2 r l) = Rows.whole (fun q => x (ix2 r q)) (fun q => fo (ix2 r q)) (fun q => wt (ix1 q)) l := by
  pointwise
  try rfl

end Cert.Reference27Ideal.Rowwise

namespace Cert.Proof

theorem frame_reference27 : Cert.quiescent_Reference27Ideal := fun m ρ _ =>
  (θ_run Reference27Ideal.defs _ _).mono
    (fun r h => ⟨fun c => (h c).2, sem_eq_zero_of_no_sems (by decide) r.2⟩)
    (Reference27Ideal.Value.run (F := Ideal) m ρ)

theorem algebraic27 : Cert.algebraic_Kernel27Ideal_Reference27Ideal := by
  intro m ρ m' ρ' _ hagree
  refine ⟨fun c => Kernel27Ideal.Rowwise.res m c, ?_, ?_⟩
  · exact (θ_run _ _ _).mono (fun r h c => ⟨(h c).1.trans (Kernel27Ideal.Rowwise.final m c), (h c).2⟩) (Kernel27Ideal.Value.run_blocks (F := Ideal) m ρ)
  · refine (θ_run _ _ _).mono (fun r h c => ⟨(h c).1.trans ?_, (h c).2⟩) (Reference27Ideal.Value.run (F := Ideal) m' ρ')
    rw [(hagree c).1, (hagree c).2.1, (hagree c).2.2]
    funext i
    obtain ⟨r, l, rfl⟩ : ∃ (r : Fin 4096) (l : Fin 1024), i = (ix2 r l : Kernel27Ideal.S4096x1024.Idx) := ⟨i 0, i 1, (ix2_eta (i : Kernel27Ideal.S4096x1024.Idx)).symm⟩
    exact Reference27Ideal.Rowwise.value _ _ _ r l

end Cert.Proof

end
-- ==== Proof.LnSilu.lean ====
module

public import Idealize.ShloMosaic.Lib.StableHlo.ReadAt
public import Idealize.ShloMosaic.Lib.Quiescent
public import proofs.«01_k».proof.Defs
public import proofs.«01_k».proof.Proof.Rows
public import proofs.«01_k».proof.Proof.Gen.Kernel28.Frame
public import proofs.«01_k».proof.Proof.Gen.Kernel28Ideal.Value
public import proofs.«01_k».proof.Proof.Gen.Reference28Ideal.Run

/-! The convolution branch's layer norm and silu. -/

@[expose] public section

set_option maxRecDepth 16384

noncomputable section

open Idealize.ShloMosaic Idealize.ShloMosaic.TcCoe Idealize.SL.Sem Idealize.ShloMosaic.StableHlo

namespace Cert.Kernel28Ideal.Rowwise

open Cert.Kernel28Ideal Cert.Kernel28Ideal.Gen Cert.Kernel28Ideal.Value

variable (m : (ℓ : Loc nD τ sig) → Buf (Elt Ideal) ℓ) (c : Dev nD)

/-- Argument 0 as a matrix. -/
def X : Mat 4096 1024 := fun r l => m ((c.tc : Thread nD τ).loc main_arg0) (ix2 r l)

/-- Argument 1 as a row. -/
def Gn : Rows.Row 1024 := fun l => m ((c.tc : Thread nD τ).loc main_arg1) (ix1 l)

/-- Argument 2 as a row. -/
def Bs : Rows.Row 1024 := fun l => m ((c.tc : Thread nD τ).loc main_arg2) (ix1 l)

theorem V_X (r : Fin 4096) (l : Fin 1024) : V m c main_arg0 (ix2 r l) = X m c r l := by
  unfold V
  after_reads_at
  try rfl

theorem V_Gn (l : Fin 1024) : V m c main_v0 (ix2 0 l) = Gn m c l := by
  unfold V
  after_reads_at
  try rfl

theorem V_Bs (l : Fin 1024) : V m c main_v1 (ix2 0 l) = Bs m c l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) ⟨0 + l.val, by omega⟩ := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = 0 + l.val; rw [(index0 t).2]; omega

theorem index1 : ∀ t : Fin grid0.N, win0_1.index t 0 = 0 ∧ win0_1.index t 1 = 0 := by decide +kernel

theorem iblk1 (t : Fin cfg0.N) (l : Fin 1024) : (iblk m c 1 t : Vec Ideal S1x1024 .f32) (ix2 0 l) = Gn m c l := by
  refine Eq.trans ?_ (V_Gn m c _)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * l.val = l.val; rw [(index1 t).2]; omega

theorem index2 : ∀ t : Fin grid0.N, win0_2.index t 0 = 0 ∧ win0_2.index t 1 = 0 := by decide +kernel

theorem iblk2 (t : Fin cfg0.N) (l : Fin 1024) : (iblk m c 2 t : Vec Ideal S1x1024 .f32) (ix2 0 l) = Bs m c l := by
  refine Eq.trans ?_ (V_Bs m c _)
  unfold iblk
  rw [View.read_apply]
  refine congrArg (V m c main_v1) (funext fun a => Fin.ext ?_)
  match a with
  | ⟨0, _⟩ => show win0_2.index t 0 * 1 + 1 * 0 = 0; rw [(index2 t).1]
  | ⟨1, _⟩ => show win0_2.index t 1 * 1024 + 1 * l.val = l.val; rw [(index2 t).2]; omega

/-- What one point computes. -/
theorem pay_at (x0 : Vec Ideal S512x1024 .f32) (x1 : Vec Ideal S1x1024 .f32) (x2 : Vec Ideal S1x1024 .f32) (r : Fin 512) (l : Fin 1024) :
    k0_pay1 (F := Ideal) x0 x1 x2 (ix2 r l) = Rows.lnsilu (fun q => x0 (ix2 r q)) (fun q => x1 (ix2 0 q)) (fun q => x2 (ix2 0 q)) l := by
  unfold k0_pay1
  pointwise
  try rfl

/-- The normalised rows, after silu. -/
def res : Buf (Elt Ideal) ((c : Thread nD τ).loc main_v2) := fun i : S4096x1024.Idx => Rows.lnsilu (X m c (i 0)) (Gn m c) (Bs m c) (i 1)

theorem left (t : Fin cfg0.N) (r : Fin 512) (l : Fin 1024) :
    out0_3 (F := Ideal) (iblk m c 0 t) (iblk m c 1 t) (iblk m c 2 t) (ix2 r l) = res m c (ix2 (row t r) l) := by
  unfold out0_3
  rw [View.canon_unit_zero (by funext a; fin_cases a <;> rfl)]
  repeat rw [View.ld_unit_zero (by funext a; fin_cases a <;> rfl)]
  rw [pay_at]
  show _ = Rows.lnsilu (X m c (row t r)) (Gn m c) (Bs m c) l
  congr 1
  · funext q; exact (iblk0 m c t r q).trans (congrArg (X m c _) (Fin.ext (by first | rfl | (show 0 + q.val = q.val; omega))))
  · funext q; exact iblk1 m c t q
  · funext q; exact iblk2 m c t q

theorem index3 : ∀ t : Fin grid0.N, win0_3.index t 0 = t.val ∧ win0_3.index t 1 = 0 := by decide +kernel
theorem sizes3 : ∀ t : Fin grid0.N, win0_3.xsize (grid0.coords t) 0 = 512 ∧ win0_3.xsize (grid0.coords t) 1 = 1024 := by decide +kernel

theorem flushed_eq (t : Fin cfg0.N) : (dats m 0 c).flushed 3 t = ((cfg0.win 3).blk t).view.read (Elt Ideal) (res m c) := by
  rw [flushed3]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (res m c) (funext fun a => Fin.ext ?_) : res m c (ix2 (row t r) l) = _)
  match a with
  | ⟨0, _⟩ => show t.val * 512 + r.val = win0_3.index t 0 * 512 + 1 * r.val; rw [(index3 t).1]; omega
  | ⟨1, _⟩ => show l.val = win0_3.index t 1 * 1024 + 1 * l.val; rw [(index3 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final : (dats m 0 c).arrAt 3 cfg0.N = res m c :=
  (dats m 0 c).arrAt_eq_of_cover 3 (res m c) (fun t _ => flushed_eq m c t) fun i : S4096x1024.Idx =>
    ⟨pointOf i, flush0_3 _, by
      show i ∈ ((View.whole main_v2).slice (win0_3.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_3.index (pointOf i) 0 * 512 ≤ (i 0 : Nat) ∧ (i 0 : Nat) < win0_3.index (pointOf i) 0 * 512 + win0_3.xsize (grid0.coords (pointOf i)) 0
        rw [(index3 _).1, (sizes3 _).1]
        show (i 0 : Nat) / 512 * 512 ≤ (i 0 : Nat) ∧ (i 0 : Nat) < (i 0 : Nat) / 512 * 512 + 512
        omega
      | ⟨1, _⟩ =>
        show win0_3.index (pointOf i) 1 * 1024 ≤ (i 1 : Nat) ∧ (i 1 : Nat) < win0_3.index (pointOf i) 1 * 1024 + win0_3.xsize (grid0.coords (pointOf i)) 1
        rw [(index3 _).2, (sizes3 _).2]
        omega⟩

end Cert.Kernel28Ideal.Rowwise

namespace Cert.Reference28Ideal.Rowwise

open Cert.Reference28Ideal Cert.Reference28Ideal.Gen

/-- The reference's result at an index. -/
theorem value (x : FVec Ideal S4096x1024 .f32) (gn : FVec Ideal S1024 .f32) (bs : FVec Ideal S1024 .f32) (r : Fin 4096) (l : Fin 1024) :
    (truncf .bf16 (mulf (addf (mulf (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 gn))) (broadcastInDim S4096x1024 ![0, 1] bcast_S1x1024_S4096x1024_0_1 (broadcastInDim S1x1024 ![1] bcast_S1024_S1x1024_1 bs))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 gn))) (broadcastInDim S4096x1024 ![0, 1] bcast_S1x1024_S4096x1024_0_1 (broadcastInDim S1x1024 ![1] bcast_S1024_S1x1024_1 bs)))))))) bitsLt_bf16_f32 : FVec Ideal S4096x1024 .bf16) (ix2 r l) = Rows.lnsilu (fun q => x (ix2 r q)) (fun q => gn (ix1 q)) (fun q => bs (ix1 q)) l := by
  pointwise
  try rfl

end Cert.Reference28Ideal.Rowwise

namespace Cert.Proof

theorem frame_reference28 : Cert.quiescent_Reference28Ideal := fun m ρ _ =>
  (θ_run Reference28Ideal.defs _ _).mono
    (fun r h => ⟨fun c => (h c).2, sem_eq_zero_of_no_sems (by decide) r.2⟩)
    (Reference28Ideal.Value.run (F := Ideal) m ρ)

theorem algebraic28 : Cert.algebraic_Kernel28Ideal_Reference28Ideal := by
  intro m ρ m' ρ' _ hagree
  refine ⟨fun c => Kernel28Ideal.Rowwise.res m c, ?_, ?_⟩
  · exact (θ_run _ _ _).mono (fun r h c => ⟨(h c).1.trans (Kernel28Ideal.Rowwise.final m c), (h c).2⟩) (Kernel28Ideal.Value.run_blocks (F := Ideal) m ρ)
  · refine (θ_run _ _ _).mono (fun r h c => ⟨(h c).1.trans ?_, (h c).2⟩) (Reference28Ideal.Value.run (F := Ideal) m' ρ')
    rw [(hagree c).1, (hagree c).2.1, (hagree c).2.2]
    funext i
    obtain ⟨r, l, rfl⟩ : ∃ (r : Fin 4096) (l : Fin 1024), i = (ix2 r l : Kernel28Ideal.S4096x1024.Idx) := ⟨i 0, i 1, (ix2_eta (i : Kernel28Ideal.S4096x1024.Idx)).symm⟩
    exact Reference28Ideal.Rowwise.value _ _ _ r l

end Cert.Proof

end
-- ==== Proof.BackRow.lean ====
module

public import proofs.«01_k».proof.Proof.LossSum
public import proofs.«01_k».proof.Proof.Rows

/-! The cotangents of the row normalisation: one row's, and the weights' as a sum over the rows in eight parts. -/

@[expose] public section

noncomputable section

open Idealize.ShloMosaic

namespace Cert.BackRow

open Cert.Rows

/-- The mean square of a row plus the small constant. -/
def var (x : Row 1024) : EReal := mean (fun q => x q * x q) + Ideal.ofBits .f32 0x358637BD#32

/-- What reaches each entry of a row through the row's mean square. -/
def shared (x w d : Row 1024) : EReal :=
  Ideal.div ((∑ q, x q * (d q * w q)) * (Ideal.ofBits .f32 0xBF000000#32 * Ideal.div (Ideal.rsqrt (var x)) (var x))) (Ideal.ofBits .f32 0x44800000#32)

/-- The cotangent of a row, from the cotangent of its normal form. -/
def plain (x w d : Row 1024) : Row 1024 := fun l =>
  d l * w l * Ideal.rsqrt (var x) + x l * shared x w d + shared x w d * x l

/-- The cotangent of a row: from the normal form, and what comes past it. -/
def back (x w d a : Row 1024) : Row 1024 := fun l => plain x w d l + a l

/-- Half of a row. -/
def halved (d : Row 1024) : Row 1024 := fun q => Ideal.ofBits .f32 0x3F000000#32 * d q

/-- One row's share of the weights' cotangent. -/
def share (x d : Row 1024) : Row 1024 := fun l => x l * Ideal.rsqrt (var x) * d l

/-- The weights' cotangent. -/
def weights (X D : Mat 4096 1024) : Row 1024 := fun l => ∑ r, share (X r) (D r) l

/-- The share of point `t`'s rows. -/
def part (X D : Mat 4096 1024) (t : ℕ) (l : Fin 1024) : EReal :=
  ∑ r : Fin 512, share (X (Fin.ofNat 4096 (t * 512 + r.val))) (D (Fin.ofNat 4096 (t * 512 + r.val))) l

/-- What is accumulated up to point `n`. -/
def upto (X D : Mat 4096 1024) : ℕ → Row 1024
  | 0 => fun l => 0 + part X D 0 l
  | n + 1 => fun l => upto X D n l + part X D (n + 1) l

theorem upto_eq (X D : Mat 4096 1024) (l : Fin 1024) : upto X D 7 l = weights X D l := by
  unfold weights
  rw [Loss.sum_rows, Fin.sum_univ_eight]
  simp only [upto, zero_add]
  rfl

end Cert.BackRow

end
-- ==== Proof.RmsBackBody.lean ====
module

public import Idealize.ShloMosaic.Lib.Pipeline.CanonAppend
public import proofs.«01_k».proof.Proof.BackRow
public import proofs.«01_k».proof.Proof.Gen.Kernel29Ideal.Value

/-! What the kernel of the first normalisation's cotangents computes at one point. -/

@[expose] public section

set_option maxRecDepth 16384

noncomputable section

open Idealize.ShloMosaic Idealize.ShloMosaic.TcCoe Idealize.SL.Sem Idealize.ShloMosaic.StableHlo

namespace Cert.Kernel29Ideal.Back

open Cert.Kernel29Ideal Cert.Kernel29Ideal.Gen Cert.Kernel29Ideal.Value

/-- A store through the whole shape leaves its payload, whatever was stored before. -/
theorem canon_last (inb) (w : Vec Ideal S1x1024 .f32) (L : List (View.Piece (Elt Ideal) S1x1024 .f32)) :
    View.canon ((⟨Rect.unit (s := S1x1024) ![0, 0] (no_index ![1, 1024]) inb, w⟩ : View.Piece (Elt Ideal) S1x1024 .f32) :: L) = w := by
  funext y
  refine View.canon_append_of_pieces w L [⟨Rect.unit (s := S1x1024) ![0, 0] ![1, 1024] inb, w⟩] (fun p hp x => ?_) y ⟨_, List.mem_singleton.2 rfl, ?_⟩
  · obtain rfl := List.mem_singleton.1 hp
    refine congrArg w (funext fun a => Fin.ext ?_)
    match a with
    | ⟨0, _⟩ => show (x 0 : Nat) = 0 + 1 * (x 0 : Nat); omega
    | ⟨1, _⟩ => show (x 1 : Nat) = 0 + 1 * (x 1 : Nat); omega
  · show y ∈ (Rect.unit (s := S1x1024) ![0, 0] ![1, 1024] inb).set
    rw [Rect.mem_set_unit]
    intro a
    have h0 : (y 0 : Nat) < 1 := (y 0).isLt
    have h1 : (y 1 : Nat) < 1024 := (y 1).isLt
    match a with
    | ⟨0, _⟩ => show 0 ≤ (y 0 : Nat) ∧ (y 0 : Nat) < 0 + 1; omega
    | ⟨1, _⟩ => show 0 ≤ (y 1 : Nat) ∧ (y 1 : Nat) < 0 + 1024; omega

/-- A load of what one store through the whole shape left reads that store's payload. -/
theorem readCov_one (v : View sig .tc .vmem S1x1024 .f32) (inb) (w : Vec Ideal S1x1024 .f32) (R : Rect S1x1024) :
    v.readCov [(⟨Rect.unit (s := S1x1024) ![0, 0] (no_index ![1, 1024]) inb, w⟩ : View.Piece (Elt Ideal) S1x1024 .f32)] R.toLoadRect = View.ld w R := by
  rw [View.readCov_eq_canon']
  exact congrArg (fun X => View.ld X R) (canon_last inb w [])

section outs

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
  (x0 : Vec Ideal S512x1024 .f32) (x1 : Vec Ideal S1x1024 .f32) (x2 : Vec Ideal S512x1024 .f32) (x3 : Vec Ideal S512x1024 .f32) (z : Vec Ideal S1x1024 .f32)

theorem rowA (hc0 : cond0_0 i) : out0_A_4 (F := Ideal) c i arg2 harg2 arg3 harg3 arg4 harg4 arg5 harg5 arg6 harg6 arg7 harg7 hc0 x0 x1 x2 x3 = k0_pay6 (F := Ideal) x0 x1 x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumA (hc0 : cond0_0 i) : out0_A_5 (F := Ideal) c i arg2 harg2 arg3 harg3 arg4 harg4 arg5 harg5 arg6 harg6 arg7 harg7 hc0 x0 x1 x2 x3 = k0_pay2 (F := Ideal) (k0_pay5 (F := Ideal) x0 x2) (k0_pay1 (F := Ideal)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  simp only [View.readAt_eq_ld, Memref.IsWhole.read_unread, readCov_one]
  rw [canon_last]
  repeat rw [View.ld_unit_zero (by funext a; fin_cases a <;> rfl)]

theorem rowB (hc0 : ¬cond0_0 i) : out0_B_4 (F := Ideal) c i arg2 harg2 arg3 harg3 arg4 harg4 arg5 harg5 arg6 harg6 arg7 harg7 hc0 x0 x1 x2 x3 z = k0_pay6 (F := Ideal) x0 x1 x2 x3 := by
  unfold out0_B_4
  rw [View.read_writes_eq_canon _ _ _ (cover0_B_4 c i arg2 harg2 arg3 harg3 arg4 harg4 arg5 harg5 arg6 harg6 arg7 harg7 hc0 x0 x1 x2 x3 z)]
  unfold kernelRun0_B
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumB (hc0 : ¬cond0_0 i) : out0_B_5 (F := Ideal) c i arg2 harg2 arg3 harg3 arg4 harg4 arg5 harg5 arg6 harg6 arg7 harg7 hc0 x0 x1 x2 x3 z = k0_pay2 (F := Ideal) (k0_pay5 (F := Ideal) x0 x2) (z) := by
  unfold out0_B_5
  rw [View.read_writes_eq_canon _ _ _ (cover0_B_5 c i arg2 harg2 arg3 harg3 arg4 harg4 arg5 harg5 arg6 harg6 arg7 harg7 hc0 x0 x1 x2 x3 z)]
  unfold kernelRun0_B
  dsimp only
  sl_unfold_words
  simp only [View.readAt_eq_ld, Memref.IsWhole.read_unread, readCov_one]
  rw [canon_last]
  repeat rw [View.ld_unit_zero (by funext a; fin_cases a <;> rfl)]

end outs

theorem row_at (x0 : Vec Ideal S512x1024 .f32) (x1 : Vec Ideal S1x1024 .f32) (x2 x3 : Vec Ideal S512x1024 .f32) (r : Fin 512) (l : Fin 1024) :
    k0_pay6 (F := Ideal) x0 x1 x2 x3 (ix2 r l) = BackRow.back (fun q => x0 (ix2 r q)) (fun q => x1 (ix2 0 q)) (fun q => x2 (ix2 r q)) (fun q => x3 (ix2 r q)) l := by
  unfold k0_pay6 k0_pay4 k0_pay3
  pointwise
  simp only [Fin.sum_univ_one]
  rfl

theorem share_at (x0 x2 : Vec Ideal S512x1024 .f32) (l : Fin 1024) :
    k0_pay5 (F := Ideal) x0 x2 (ix2 0 l) = ∑ r : Fin 512, BackRow.share (fun q => x0 (ix2 r q)) (fun q => x2 (ix2 r q)) l := by
  unfold k0_pay5 k0_pay4 k0_pay3
  pointwise
  try rfl

theorem sum_at (s z : Vec Ideal S1x1024 .f32) (l : Fin 1024) : k0_pay2 (F := Ideal) s z (ix2 0 l) = (z (ix2 0 l) + s (ix2 0 l) : EReal) := by
  unfold k0_pay2
  pointwise
  try rfl

theorem reset_at (l : Fin 1024) : k0_pay1 (F := Ideal) (ix2 0 l) = (0 : EReal) := by
  unfold k0_pay1
  pointwise

end Cert.Kernel29Ideal.Back

end
-- ==== Proof.RmsBackRef.lean ====
module

public import proofs.«01_k».proof.Proof.BackRow
public import proofs.«01_k».proof.Proof.Gen.Reference29Ideal.Run

/-! The reference's cotangents of the first normalisation at an index. -/

@[expose] public section

set_option maxRecDepth 16384

noncomputable section

open Idealize.ShloMosaic Idealize.ShloMosaic.TcCoe Idealize.SL.Sem Idealize.ShloMosaic.StableHlo

namespace Cert.Reference29Ideal.Back

open Cert.Reference29Ideal Cert.Reference29Ideal.Gen

/-- The order of the four terms does not matter. -/
theorem order (p q r a : EReal) : a + p + q + r = p + q + r + a := by
  rw [add_assoc a p q, add_assoc a (p + q) r, add_comm a]

/-- The reference's cotangent of a row. -/
theorem row (x : FVec Ideal S4096x1024 .f32) (w : FVec Ideal S1024 .f32) (d a : FVec Ideal S4096x1024 .f32) (r : Fin 4096) (l : Fin 1024) :
    (addf (addf (addf a (mulf (mulf d (broadcastInDim S4096x1024 ![0, 1] bcast_S1x1024_S4096x1024_0_1 (broadcastInDim S1x1024 ![1] bcast_S1024_S1x1024_1 w))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast S4096x1 (Host.reduceAdd (mulf x (mulf d (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf x (mulf d (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x) : FVec Ideal S4096x1024 .f32) (ix2 r l) = BackRow.back (fun q => x (ix2 r q)) (fun q => w (ix1 q)) (fun q => d (ix2 r q)) (fun q => a (ix2 r q)) l := by
  refine Eq.trans ?_ (order _ _ _ _)
  pointwise
  simp only [Fin.sum_univ_one]
  rfl

/-- The reference's cotangent of the weights. -/
theorem weights (x d : FVec Ideal S4096x1024 .f32) (l : Fin 1024) :
    (shapeCast S1x1024 (Host.reduceAdd (shapeCast S1x1024 (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 0 l) = BackRow.weights (fun r q => x (ix2 r q)) (fun r q => d (ix2 r q)) l := by
  pointwise
  simp only [Fin.sum_univ_one]
  rfl

end Cert.Reference29Ideal.Back

end
-- ==== Proof.RmsBack.lean ====
module

public import Idealize.ShloMosaic.Lib.StableHlo.ReadAt
public import Idealize.ShloMosaic.Lib.Quiescent
public import proofs.«01_k».proof.Defs
public import proofs.«01_k».proof.Proof.RmsBackBody
public import proofs.«01_k».proof.Proof.RmsBackRef
public import proofs.«01_k».proof.Proof.Gen.Kernel29.Frame

/-! The cotangents of the first normalisation: of the layer's input and of the weights. -/

@[expose] public section

set_option maxRecDepth 16384

noncomputable section

open Idealize.ShloMosaic Idealize.ShloMosaic.TcCoe Idealize.SL.Sem Idealize.ShloMosaic.StableHlo

namespace Cert.Kernel29Ideal.Back

open Cert.Kernel29Ideal Cert.Kernel29Ideal.Gen Cert.Kernel29Ideal.Value

variable (m : (ℓ : Loc nD τ sig) → Buf (Elt Ideal) ℓ) (c : Dev nD)

/-- The layer's input. -/
def X : Mat 4096 1024 := fun r l => m ((c.tc : Thread nD τ).loc main_arg0) (ix2 r l)

/-- The weights. -/
def Wt : Rows.Row 1024 := fun l => m ((c.tc : Thread nD τ).loc main_arg1) (ix1 l)

/-- The cotangent of the normal form. -/
def D : Mat 4096 1024 := fun r l => m ((c.tc : Thread nD τ).loc main_arg2) (ix2 r l)

/-- The cotangent past the layer. -/
def A : Mat 4096 1024 := fun r l => m ((c.tc : Thread nD τ).loc main_arg3) (ix2 r l)

theorem V_X (r : Fin 4096) (l : Fin 1024) : V m c main_arg0 (ix2 r l) = X m c r l := by
  unfold V
  after_reads_at
  try rfl

theorem V_Wt (l : Fin 1024) : V m c main_v0 (ix2 0 l) = Wt m c l := by
  unfold V
  after_reads_at
  try rfl

theorem V_D (r : Fin 4096) (l : Fin 1024) : V m c main_arg2 (ix2 r l) = D m c r l := by
  unfold V
  after_reads_at
  try rfl

theorem V_A (r : Fin 4096) (l : Fin 1024) : V m c main_arg3 (ix2 r l) = A m c r l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem row_eq (t : Fin cfg0.N) (r : Fin 512) : Fin.ofNat 4096 (t.val * 512 + r.val) = row t r := Fin.ext (by
  show (t.val * 512 + r.val) % 4096 = t.val * 512 + r.val
  have := lt_N t; omega)

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) l := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem index2 : ∀ t : Fin grid0.N, win0_2.index t 0 = t.val ∧ win0_2.index t 1 = 0 := by decide +kernel

theorem iblk2 (t : Fin cfg0.N) (r : Fin 512) (l : Fin 1024) : (iblk m c 2 t : Vec Ideal S512x1024 .f32) (ix2 r l) = D m c (row t r) l := by
  refine Eq.trans ?_ (V_D m c _ _)
  unfold iblk
  rw [View.read_apply]
  refine congrArg (V m c main_arg2) (funext fun a => Fin.ext ?_)
  match a with
  | ⟨0, _⟩ => show win0_2.index t 0 * 512 + 1 * r.val = t.val * 512 + r.val; rw [(index2 t).1]; omega
  | ⟨1, _⟩ => show win0_2.index t 1 * 1024 + 1 * l.val = l.val; rw [(index2 t).2]; omega

theorem index3 : ∀ t : Fin grid0.N, win0_3.index t 0 = t.val ∧ win0_3.index t 1 = 0 := by decide +kernel

theorem iblk3 (t : Fin cfg0.N) (r : Fin 512) (l : Fin 1024) : (iblk m c 3 t : Vec Ideal S512x1024 .f32) (ix2 r l) = A m c (row t r) l := by
  refine Eq.trans ?_ (V_A m c _ _)
  unfold iblk
  rw [View.read_apply]
  refine congrArg (V m c main_arg3) (funext fun a => Fin.ext ?_)
  match a with
  | ⟨0, _⟩ => show win0_3.index t 0 * 512 + 1 * r.val = t.val * 512 + r.val; rw [(index3 t).1]; omega
  | ⟨1, _⟩ => show win0_3.index t 1 * 1024 + 1 * l.val = l.val; rw [(index3 t).2]; omega

theorem index1 : ∀ t : Fin grid0.N, win0_1.index t 0 = 0 ∧ win0_1.index t 1 = 0 := by decide +kernel

theorem iblk1 (t : Fin cfg0.N) (l : Fin 1024) : (iblk m c 1 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * l.val = l.val; rw [(index1 t).2]; omega

theorem outs_first (t : Fin cfg0.N) (h0 : t.val % 8 = 0) :
    outsAt0 m c t.val t.isLt = (k0_pay6 (F := Ideal) (iblk m c 0 t) (iblk m c 1 t) (iblk m c 2 t) (iblk m c 3 t),
      k0_pay2 (F := Ideal) (k0_pay5 (F := Ideal) (iblk m c 0 t) (iblk m c 2 t)) (k0_pay1 (F := Ideal))) := by
  rw [outsAt0_A m c t h0]
  rw [rowA, sumA]

theorem outs_later (t : Fin cfg0.N) (h0 : ¬t.val % 8 = 0) :
    outsAt0 m c t.val t.isLt = (k0_pay6 (F := Ideal) (iblk m c 0 t) (iblk m c 1 t) (iblk m c 2 t) (iblk m c 3 t),
      k0_pay2 (F := Ideal) (k0_pay5 (F := Ideal) (iblk m c 0 t) (iblk m c 2 t)) (outsAt0 m c (t.val - 1) (Nat.lt_of_le_of_lt (Nat.sub_le _ _) t.isLt)).2) := by
  rw [outsAt0_B m c t h0]
  rw [rowB, sumB]

theorem back_eq (t : Fin cfg0.N) (r : Fin 512) (l : Fin 1024) :
    k0_pay6 (F := Ideal) (iblk m c 0 t) (iblk m c 1 t) (iblk m c 2 t) (iblk m c 3 t) (ix2 r l) =
      BackRow.back (X m c (row t r)) (Wt m c) (D m c (row t r)) (A m c (row t r)) l := by
  rw [row_at]
  congr 1
  · funext q; exact iblk0 m c t r q
  · funext q; exact iblk1 m c t q
  · funext q; exact iblk2 m c t r q
  · funext q; exact iblk3 m c t r q

theorem part_eq (t : Fin cfg0.N) (l : Fin 1024) :
    k0_pay5 (F := Ideal) (iblk m c 0 t) (iblk m c 2 t) (ix2 0 l) = BackRow.part (X m c) (D m c) t.val l := by
  rw [share_at]
  refine Finset.sum_congr rfl fun r _ => ?_
  rw [row_eq]
  congr 1
  · funext q; exact iblk0 m c t r q
  · funext q; exact iblk2 m c t r q

theorem left (t : Fin cfg0.N) (r : Fin 512) (l : Fin 1024) :
    (outsAt0 m c t.val t.isLt).1 (ix2 r l) = BackRow.back (X m c (row t r)) (Wt m c) (D m c (row t r)) (A m c (row t r)) l := by
  by_cases h0 : t.val % 8 = 0
  · rw [outs_first m c t h0]
    exact back_eq m c t r l
  · rw [outs_later m c t h0]
    exact back_eq m c t r l

theorem sum_eq (l : Fin 1024) : ∀ (n : ℕ) (hn : n < cfg0.N), (outsAt0 m c n hn).2 (ix2 0 l) = BackRow.upto (X m c) (D m c) n l
  | 0, hn => by
    have e := outs_first m c ⟨0, hn⟩ rfl
    dsimp only at e
    rw [e]
    dsimp only
    rw [sum_at, part_eq, reset_at]
    rfl
  | n + 1, hn => by
    have hN : cfg0.N = 8 := N_0
    have e := outs_later m c ⟨n + 1, hn⟩ (by show ¬(n + 1) % 8 = 0; omega)
    dsimp only at e
    rw [e]
    dsimp only
    rw [sum_at, part_eq]
    exact congrArg (fun a : EReal => a + BackRow.part (X m c) (D m c) (n + 1) l) (sum_eq l n (Nat.lt_of_succ_lt hn))

/-- The cotangents of the input. -/
def rows : Buf (Elt Ideal) ((c : Thread nD τ).loc main_v1_0) := fun i : S4096x1024.Idx => BackRow.back (X m c (i 0)) (Wt m c) (D m c (i 0)) (A m c (i 0)) (i 1)

/-- The cotangent of the weights. -/
def total : Buf (Elt Ideal) ((c : Thread nD τ).loc main_v1_1) := fun i : S1x1024.Idx => BackRow.weights (X m c) (D m c) (i 1)

theorem index4 : ∀ t : Fin grid0.N, win0_4.index t 0 = t.val ∧ win0_4.index t 1 = 0 := by decide +kernel
theorem sizes4 : ∀ t : Fin grid0.N, win0_4.xsize (grid0.coords t) 0 = 512 ∧ win0_4.xsize (grid0.coords t) 1 = 1024 := by decide +kernel

theorem flushed_rows (t : Fin cfg0.N) : (dats m 0 c).flushed 4 t = ((cfg0.win 4).blk t).view.read (Elt Ideal) (rows m c) := by
  rw [flushed4]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (rows m c) (funext fun a => Fin.ext ?_) : rows m c (ix2 (row t r) l) = _)
  match a with
  | ⟨0, _⟩ => show t.val * 512 + r.val = win0_4.index t 0 * 512 + 1 * r.val; rw [(index4 t).1]; omega
  | ⟨1, _⟩ => show l.val = win0_4.index t 1 * 1024 + 1 * l.val; rw [(index4 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final_rows : (dats m 0 c).arrAt 4 cfg0.N = rows m c :=
  (dats m 0 c).arrAt_eq_of_cover 4 (rows m c) (fun t _ => flushed_rows m c t) fun i : S4096x1024.Idx =>
    ⟨pointOf i, flush0_4 _, by
      show i ∈ ((View.whole main_v1_0).slice (win0_4.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_4.index (pointOf i) 0 * 512 ≤ (i 0 : Nat) ∧ (i 0 : Nat) < win0_4.index (pointOf i) 0 * 512 + win0_4.xsize (grid0.coords (pointOf i)) 0
        rw [(index4 _).1, (sizes4 _).1]
        show (i 0 : Nat) / 512 * 512 ≤ (i 0 : Nat) ∧ (i 0 : Nat) < (i 0 : Nat) / 512 * 512 + 512
        omega
      | ⟨1, _⟩ =>
        show win0_4.index (pointOf i) 1 * 1024 ≤ (i 1 : Nat) ∧ (i 1 : Nat) < win0_4.index (pointOf i) 1 * 1024 + win0_4.xsize (grid0.coords (pointOf i)) 1
        rw [(index4 _).2, (sizes4 _).2]
        omega⟩

theorem index5 : ∀ t : Fin grid0.N, win0_5.index t 0 = 0 ∧ win0_5.index t 1 = 0 := by decide +kernel
theorem sizes5 : ∀ t : Fin grid0.N, win0_5.xsize (grid0.coords t) 0 = 1 ∧ win0_5.xsize (grid0.coords t) 1 = 1024 := by decide +kernel

theorem flushed_total (t : Fin cfg0.N) (hf : (cfg0.win 5).flush t = true) :
    (dats m 0 c).flushed 5 t = ((cfg0.win 5).blk t).view.read (Elt Ideal) (total m c) := by
  rw [flushed5]
  funext j
  obtain ⟨l, rfl⟩ : ∃ l : Fin 1024, j = (ix2 0 l : S1x1024.Idx) := ⟨j 1, funext fun a =>
    match a with
    | ⟨0, _⟩ => Subsingleton.elim (α := Fin 1) _ _
    | ⟨1, _⟩ => rfl⟩
  rw [View.read_apply]
  have h7 := (flush0_5 t).1 hf
  have ht := lt_N t
  refine (sum_eq m c l t.val t.isLt).trans ?_
  rw [show t.val = 7 by omega, BackRow.upto_eq]
  refine (congrArg (total m c) (funext fun a => Fin.ext ?_) : total m c (ix2 0 l) = _)
  match a with
  | ⟨0, _⟩ => show 0 = win0_5.index t 0 * 1 + 1 * 0; rw [(index5 t).1]
  | ⟨1, _⟩ => show l.val = win0_5.index t 1 * 1024 + 1 * l.val; rw [(index5 t).2]; omega

/-- The point that writes the total. -/
abbrev lastPoint : Fin cfg0.N := ⟨7, by have h : cfg0.N = 8 := N_0; omega⟩

theorem final_total : (dats m 0 c).arrAt 5 cfg0.N = total m c :=
  (dats m 0 c).arrAt_eq_of_cover 5 (total m c) (fun t h => flushed_total m c t h) fun i : S1x1024.Idx =>
    ⟨lastPoint, (flush0_5 _).2 rfl, by
      show i ∈ ((View.whole main_v1_1).slice (win0_5.rect lastPoint)).set
      rw [View.set_slice_whole, Rect.mem_set_unit]
      intro a
      have h0 : (i 0 : Nat) < 1 := (i 0).isLt
      have h1 : (i 1 : Nat) < 1024 := (i 1).isLt
      match a with
      | ⟨0, _⟩ =>
        show win0_5.index lastPoint 0 * 1 ≤ (i 0 : Nat) ∧ (i 0 : Nat) < win0_5.index lastPoint 0 * 1 + win0_5.xsize (grid0.coords lastPoint) 0
        rw [(index5 _).1, (sizes5 _).1]
        omega
      | ⟨1, _⟩ =>
        show win0_5.index lastPoint 1 * 1024 ≤ (i 1 : Nat) ∧ (i 1 : Nat) < win0_5.index lastPoint 1 * 1024 + win0_5.xsize (grid0.coords lastPoint) 1
        rw [(index5 _).2, (sizes5 _).2]
        omega⟩

end Cert.Kernel29Ideal.Back

namespace Cert.Proof

theorem frame_reference29 : Cert.quiescent_Reference29Ideal := fun m ρ _ =>
  (θ_run Reference29Ideal.defs _ _).mono
    (fun r h => ⟨fun c => (h c).2.2, sem_eq_zero_of_no_sems (by decide) r.2⟩)
    (Reference29Ideal.Value.run (F := Ideal) m ρ)

theorem algebraic29 : Cert.algebraic_Kernel29Ideal_Reference29Ideal := by
  intro m ρ m' ρ' _ hagree
  refine ⟨fun c => Kernel29Ideal.Back.rows m c, fun c => Kernel29Ideal.Back.total m c, ?_, ?_⟩
  · exact (θ_run _ _ _).mono (fun r h c => ⟨(h c).1.trans (Kernel29Ideal.Back.final_rows m c), (h c).2.1.trans (Kernel29Ideal.Back.final_total m c), (h c).2.2⟩) (Kernel29Ideal.Value.run_blocks (F := Ideal) m ρ)
  · refine (θ_run _ _ _).mono (fun r h c => ⟨(h c).1.trans ?_, (h c).2.1.trans ?_, (h c).2.2⟩) (Reference29Ideal.Value.run (F := Ideal) m' ρ')
    · rw [(hagree c).1, (hagree c).2.1, (hagree c).2.2.1, (hagree c).2.2.2]
      funext i
      obtain ⟨r, l, rfl⟩ : ∃ (r : Fin 4096) (l : Fin 1024), i = (ix2 r l : Kernel29Ideal.S4096x1024.Idx) := ⟨i 0, i 1, (ix2_eta (i : Kernel29Ideal.S4096x1024.Idx)).symm⟩
      exact Reference29Ideal.Back.row _ _ _ _ r l
    · rw [(hagree c).1, (hagree c).2.2.1]
      funext i
      obtain ⟨l, rfl⟩ : ∃ l : Fin 1024, i = (ix2 0 l : Kernel29Ideal.S1x1024.Idx) := ⟨i 1, funext fun a =>
        match a with
        | ⟨0, _⟩ => Subsingleton.elim (α := Fin 1) _ _
        | ⟨1, _⟩ => rfl⟩
      exact Reference29Ideal.Back.weights _ _ l

end Cert.Proof

end
-- ==== Proof.FfnBackBody.lean ====
module

public import Idealize.ShloMosaic.Lib.Pipeline.CanonAppend
public import proofs.«01_k».proof.Proof.BackRow
public import proofs.«01_k».proof.Proof.Gen.Kernel30Ideal.Value

/-! What the kernel of the normalisation after a feed-forward layer's cotangents computes at one point. -/

@[expose] public section

set_option maxRecDepth 16384

noncomputable section

open Idealize.ShloMosaic Idealize.ShloMosaic.TcCoe Idealize.SL.Sem Idealize.ShloMosaic.StableHlo

namespace Cert.Kernel30Ideal.Back

open Cert.Kernel30Ideal Cert.Kernel30Ideal.Gen Cert.Kernel30Ideal.Value

/-- A store through the whole shape leaves its payload, whatever was stored before. -/
theorem canon_last (inb) (w : Vec Ideal S1x1024 .f32) (L : List (View.Piece (Elt Ideal) S1x1024 .f32)) :
    View.canon ((⟨Rect.unit (s := S1x1024) ![0, 0] (no_index ![1, 1024]) inb, w⟩ : View.Piece (Elt Ideal) S1x1024 .f32) :: L) = w := by
  funext y
  refine View.canon_append_of_pieces w L [⟨Rect.unit (s := S1x1024) ![0, 0] ![1, 1024] inb, w⟩] (fun p hp x => ?_) y ⟨_, List.mem_singleton.2 rfl, ?_⟩
  · obtain rfl := List.mem_singleton.1 hp
    refine congrArg w (funext fun a => Fin.ext ?_)
    match a with
    | ⟨0, _⟩ => show (x 0 : Nat) = 0 + 1 * (x 0 : Nat); omega
    | ⟨1, _⟩ => show (x 1 : Nat) = 0 + 1 * (x 1 : Nat); omega
  · show y ∈ (Rect.unit (s := S1x1024) ![0, 0] ![1, 1024] inb).set
    rw [Rect.mem_set_unit]
    intro a
    have h0 : (y 0 : Nat) < 1 := (y 0).isLt
    have h1 : (y 1 : Nat) < 1024 := (y 1).isLt
    match a with
    | ⟨0, _⟩ => show 0 ≤ (y 0 : Nat) ∧ (y 0 : Nat) < 0 + 1; omega
    | ⟨1, _⟩ => show 0 ≤ (y 1 : Nat) ∧ (y 1 : Nat) < 0 + 1024; omega

/-- A load of what one store through the whole shape left reads that store's payload. -/
theorem readCov_one (v : View sig .tc .vmem S1x1024 .f32) (inb) (w : Vec Ideal S1x1024 .f32) (R : Rect S1x1024) :
    v.readCov [(⟨Rect.unit (s := S1x1024) ![0, 0] (no_index ![1, 1024]) inb, w⟩ : View.Piece (Elt Ideal) S1x1024 .f32)] R.toLoadRect = View.ld w R := by
  rw [View.readCov_eq_canon']
  exact congrArg (fun X => View.ld X R) (canon_last inb w [])

section outs

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole)
  (x0 : Vec Ideal S512x1024 .f32) (x1 : Vec Ideal S1x1024 .f32) (x2 : Vec Ideal S512x1024 .f32) (z : Vec Ideal S1x1024 .f32)

theorem rowA (hc0 : cond0_0 i) : out0_A_3 (F := Ideal) c i arg2 harg2 arg3 harg3 arg4 harg4 arg5 harg5 arg6 harg6 hc0 x0 x1 x2 = k0_pay7 (F := Ideal) x0 x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumA (hc0 : cond0_0 i) : out0_A_4 (F := Ideal) c i arg2 harg2 arg3 harg3 arg4 harg4 arg5 harg5 arg6 harg6 hc0 x0 x1 x2 = k0_pay2 (F := Ideal) (k0_pay6 (F := Ideal) x0 x2) (k0_pay1 (F := Ideal)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  simp only [View.readAt_eq_ld, Memref.IsWhole.read_unread, readCov_one]
  rw [canon_last]
  repeat rw [View.ld_unit_zero (by funext a; fin_cases a <;> rfl)]

theorem rowB (hc0 : ¬cond0_0 i) : out0_B_3 (F := Ideal) c i arg2 harg2 arg3 harg3 arg4 harg4 arg5 harg5 arg6 harg6 hc0 x0 x1 x2 z = k0_pay7 (F := Ideal) x0 x1 x2 := by
  unfold out0_B_3
  rw [View.read_writes_eq_canon _ _ _ (cover0_B_3 c i arg2 harg2 arg3 harg3 arg4 harg4 arg5 harg5 arg6 harg6 hc0 x0 x1 x2 z)]
  unfold kernelRun0_B
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumB (hc0 : ¬cond0_0 i) : out0_B_4 (F := Ideal) c i arg2 harg2 arg3 harg3 arg4 harg4 arg5 harg5 arg6 harg6 hc0 x0 x1 x2 z = k0_pay2 (F := Ideal) (k0_pay6 (F := Ideal) x0 x2) (z) := by
  unfold out0_B_4
  rw [View.read_writes_eq_canon _ _ _ (cover0_B_4 c i arg2 harg2 arg3 harg3 arg4 harg4 arg5 harg5 arg6 harg6 hc0 x0 x1 x2 z)]
  unfold kernelRun0_B
  dsimp only
  sl_unfold_words
  simp only [View.readAt_eq_ld, Memref.IsWhole.read_unread, readCov_one]
  rw [canon_last]
  repeat rw [View.ld_unit_zero (by funext a; fin_cases a <;> rfl)]

end outs

theorem row_at (x0 : Vec Ideal S512x1024 .f32) (x1 : Vec Ideal S1x1024 .f32) (x2 : Vec Ideal S512x1024 .f32) (r : Fin 512) (l : Fin 1024) :
    k0_pay7 (F := Ideal) x0 x1 x2 (ix2 r l) = BackRow.plain (fun q => x0 (ix2 r q)) (fun q => x1 (ix2 0 q)) (BackRow.halved (fun q => x2 (ix2 r q))) l := by
  unfold k0_pay7 k0_pay5 k0_pay4 k0_pay3
  pointwise
  simp only [Fin.sum_univ_one]
  rfl

theorem share_at (x0 x2 : Vec Ideal S512x1024 .f32) (l : Fin 1024) :
    k0_pay6 (F := Ideal) x0 x2 (ix2 0 l) = ∑ r : Fin 512, BackRow.share (fun q => x0 (ix2 r q)) (BackRow.halved (fun q => x2 (ix2 r q))) l := by
  unfold k0_pay6 k0_pay5 k0_pay4 k0_pay3
  pointwise
  try rfl

theorem sum_at (s z : Vec Ideal S1x1024 .f32) (l : Fin 1024) : k0_pay2 (F := Ideal) s z (ix2 0 l) = (z (ix2 0 l) + s (ix2 0 l) : EReal) := by
  unfold k0_pay2
  pointwise
  try rfl

theorem reset_at (l : Fin 1024) : k0_pay1 (F := Ideal) (ix2 0 l) = (0 : EReal) := by
  unfold k0_pay1
  pointwise

end Cert.Kernel30Ideal.Back

end
-- ==== Proof.FfnBackRef.lean ====
module

public import proofs.«01_k».proof.Proof.BackRow
public import proofs.«01_k».proof.Proof.Gen.Reference30Ideal.Run

/-! The reference's cotangents of the normalisation after a feed-forward layer at an index. -/

@[expose] public section

set_option maxRecDepth 16384

noncomputable section

open Idealize.ShloMosaic Idealize.ShloMosaic.TcCoe Idealize.SL.Sem Idealize.ShloMosaic.StableHlo

namespace Cert.Reference30Ideal.Back

open Cert.Reference30Ideal Cert.Reference30Ideal.Gen

/-- The reference's cotangent of a row. -/
theorem row (x : FVec Ideal S4096x1024 .f32) (w : FVec Ideal S1024 .f32) (d : FVec Ideal S4096x1024 .f32) (r : Fin 4096) (l : Fin 1024) :
    (truncf .bf16 (addf (addf (mulf (mulf (mulf (broadcastInDim S4096x1024 ![] bcast_S_S4096x1024 (constant S_ .f32 0x3F000000#32)) d) (broadcastInDim S4096x1024 ![0, 1] bcast_S1x1024_S4096x1024_0_1 (broadcastInDim S1x1024 ![1] bcast_S1024_S1x1024_1 w))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast S4096x1 (Host.reduceAdd (mulf x (mulf (mulf (broadcastInDim S4096x1024 ![] bcast_S_S4096x1024 (constant S_ .f32 0x3F000000#32)) d) (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf x (mulf (mulf (broadcastInDim S4096x1024 ![] bcast_S_S4096x1024 (constant S_ .f32 0x3F000000#32)) d) (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) bitsLt_bf16_f32 : FVec Ideal S4096x1024 .bf16) (ix2 r l) = BackRow.plain (fun q => x (ix2 r q)) (fun q => w (ix1 q)) (BackRow.halved (fun q => d (ix2 r q))) l := by
  pointwise
  simp only [Fin.sum_univ_one]
  rfl

/-- The reference's cotangent of the weights. -/
theorem weights (x d : FVec Ideal S4096x1024 .f32) (l : Fin 1024) :
    (shapeCast S1x1024 (Host.reduceAdd (shapeCast S1x1024 (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (broadcastInDim S4096x1024 ![] bcast_S_S4096x1024 (constant S_ .f32 0x3F000000#32)) d)) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 0 l) = BackRow.weights (fun r q => x (ix2 r q)) (fun r => (BackRow.halved (fun q => d (ix2 r q)))) l := by
  pointwise
  simp only [Fin.sum_univ_one]
  rfl

end Cert.Reference30Ideal.Back

end
-- ==== Proof.FfnBack.lean ====
module

public import Idealize.ShloMosaic.Lib.StableHlo.ReadAt
public import Idealize.ShloMosaic.Lib.Quiescent
public import proofs.«01_k».proof.Defs
public import proofs.«01_k».proof.Proof.FfnBackBody
public import proofs.«01_k».proof.Proof.FfnBackRef
public import proofs.«01_k».proof.Proof.Gen.Kernel30.Frame

/-! The cotangents of the normalisation after a feed-forward layer: of the layer's output and of the weights. -/

@[expose] public section

set_option maxRecDepth 16384

noncomputable section

open Idealize.ShloMosaic Idealize.ShloMosaic.TcCoe Idealize.SL.Sem Idealize.ShloMosaic.StableHlo

namespace Cert.Kernel30Ideal.Back

open Cert.Kernel30Ideal Cert.Kernel30Ideal.Gen Cert.Kernel30Ideal.Value

variable (m : (ℓ : Loc nD τ sig) → Buf (Elt Ideal) ℓ) (c : Dev nD)

/-- The layer's output. -/
def X : Mat 4096 1024 := fun r l => m ((c.tc : Thread nD τ).loc main_arg0) (ix2 r l)

/-- The weights. -/
def Wt : Rows.Row 1024 := fun l => m ((c.tc : Thread nD τ).loc main_arg1) (ix1 l)

/-- The cotangent of the normal form. -/
def D : Mat 4096 1024 := fun r l => m ((c.tc : Thread nD τ).loc main_arg2) (ix2 r l)

theorem V_X (r : Fin 4096) (l : Fin 1024) : V m c main_arg0 (ix2 r l) = X m c r l := by
  unfold V
  after_reads_at
  try rfl

theorem V_Wt (l : Fin 1024) : V m c main_v0 (ix2 0 l) = Wt m c l := by
  unfold V
  after_reads_at
  try rfl

theorem V_D (r : Fin 4096) (l : Fin 1024) : V m c main_arg2 (ix2 r l) = D m c r l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem row_eq (t : Fin cfg0.N) (r : Fin 512) : Fin.ofNat 4096 (t.val * 512 + r.val) = row t r := Fin.ext (by
  show (t.val * 512 + r.val) % 4096 = t.val * 512 + r.val
  have := lt_N t; omega)

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) l := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem index2 : ∀ t : Fin grid0.N, win0_2.index t 0 = t.val ∧ win0_2.index t 1 = 0 := by decide +kernel

theorem iblk2 (t : Fin cfg0.N) (r : Fin 512) (l : Fin 1024) : (iblk m c 2 t : Vec Ideal S512x1024 .f32) (ix2 r l) = D m c (row t r) l := by
  refine Eq.trans ?_ (V_D m c _ _)
  unfold iblk
  rw [View.read_apply]
  refine congrArg (V m c main_arg2) (funext fun a => Fin.ext ?_)
  match a with
  | ⟨0, _⟩ => show win0_2.index t 0 * 512 + 1 * r.val = t.val * 512 + r.val; rw [(index2 t).1]; omega
  | ⟨1, _⟩ => show win0_2.index t 1 * 1024 + 1 * l.val = l.val; rw [(index2 t).2]; omega

theorem index1 : ∀ t : Fin grid0.N, win0_1.index t 0 = 0 ∧ win0_1.index t 1 = 0 := by decide +kernel

theorem iblk1 (t : Fin cfg0.N) (l : Fin 1024) : (iblk m c 1 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * l.val = l.val; rw [(index1 t).2]; omega

theorem outs_first (t : Fin cfg0.N) (h0 : t.val % 8 = 0) :
    outsAt0 m c t.val t.isLt = (k0_pay7 (F := Ideal) (iblk m c 0 t) (iblk m c 1 t) (iblk m c 2 t),
      k0_pay2 (F := Ideal) (k0_pay6 (F := Ideal) (iblk m c 0 t) (iblk m c 2 t)) (k0_pay1 (F := Ideal))) := by
  rw [outsAt0_A m c t h0]
  rw [rowA, sumA]

theorem outs_later (t : Fin cfg0.N) (h0 : ¬t.val % 8 = 0) :
    outsAt0 m c t.val t.isLt = (k0_pay7 (F := Ideal) (iblk m c 0 t) (iblk m c 1 t) (iblk m c 2 t),
      k0_pay2 (F := Ideal) (k0_pay6 (F := Ideal) (iblk m c 0 t) (iblk m c 2 t)) (outsAt0 m c (t.val - 1) (Nat.lt_of_le_of_lt (Nat.sub_le _ _) t.isLt)).2) := by
  rw [outsAt0_B m c t h0]
  rw [rowB, sumB]

theorem back_eq (t : Fin cfg0.N) (r : Fin 512) (l : Fin 1024) :
    k0_pay7 (F := Ideal) (iblk m c 0 t) (iblk m c 1 t) (iblk m c 2 t) (ix2 r l) =
      BackRow.plain (X m c (row t r)) (Wt m c) (BackRow.halved (D m c (row t r))) l := by
  rw [row_at]
  congr 1
  · funext q; exact iblk0 m c t r q
  · funext q; exact iblk1 m c t q
  · funext q; exact congrArg (fun a : EReal => Ideal.ofBits .f32 0x3F000000#32 * a) (iblk2 m c t r q)

theorem part_eq (t : Fin cfg0.N) (l : Fin 1024) :
    k0_pay6 (F := Ideal) (iblk m c 0 t) (iblk m c 2 t) (ix2 0 l) = BackRow.part (X m c) (fun r => BackRow.halved (D m c r)) t.val l := by
  rw [share_at]
  refine Finset.sum_congr rfl fun r _ => ?_
  rw [row_eq]
  congr 1
  · funext q; exact iblk0 m c t r q
  · funext q; exact congrArg (fun a : EReal => Ideal.ofBits .f32 0x3F000000#32 * a) (iblk2 m c t r q)

theorem left (t : Fin cfg0.N) (r : Fin 512) (l : Fin 1024) :
    (outsAt0 m c t.val t.isLt).1 (ix2 r l) = BackRow.plain (X m c (row t r)) (Wt m c) (BackRow.halved (D m c (row t r))) l := by
  by_cases h0 : t.val % 8 = 0
  · rw [outs_first m c t h0]
    exact back_eq m c t r l
  · rw [outs_later m c t h0]
    exact back_eq m c t r l

theorem sum_eq (l : Fin 1024) : ∀ (n : ℕ) (hn : n < cfg0.N), (outsAt0 m c n hn).2 (ix2 0 l) = BackRow.upto (X m c) (fun r => BackRow.halved (D m c r)) n l
  | 0, hn => by
    have e := outs_first m c ⟨0, hn⟩ rfl
    dsimp only at e
    rw [e]
    dsimp only
    rw [sum_at, part_eq, reset_at]
    rfl
  | n + 1, hn => by
    have hN : cfg0.N = 8 := N_0
    have e := outs_later m c ⟨n + 1, hn⟩ (by show ¬(n + 1) % 8 = 0; omega)
    dsimp only at e
    rw [e]
    dsimp only
    rw [sum_at, part_eq]
    exact congrArg (fun a : EReal => a + BackRow.part (X m c) (fun r => BackRow.halved (D m c r)) (n + 1) l) (sum_eq l n (Nat.lt_of_succ_lt hn))

/-- The cotangents of the output. -/
def rows : Buf (Elt Ideal) ((c : Thread nD τ).loc main_v1_0) := fun i : S4096x1024.Idx => BackRow.plain (X m c (i 0)) (Wt m c) (BackRow.halved (D m c (i 0))) (i 1)

/-- The cotangent of the weights. -/
def total : Buf (Elt Ideal) ((c : Thread nD τ).loc main_v1_1) := fun i : S1x1024.Idx => BackRow.weights (X m c) (fun r => BackRow.halved (D m c r)) (i 1)

theorem index3 : ∀ t : Fin grid0.N, win0_3.index t 0 = t.val ∧ win0_3.index t 1 = 0 := by decide +kernel
theorem sizes3 : ∀ t : Fin grid0.N, win0_3.xsize (grid0.coords t) 0 = 512 ∧ win0_3.xsize (grid0.coords t) 1 = 1024 := by decide +kernel

theorem flushed_rows (t : Fin cfg0.N) : (dats m 0 c).flushed 3 t = ((cfg0.win 3).blk t).view.read (Elt Ideal) (rows m c) := by
  rw [flushed3]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (rows m c) (funext fun a => Fin.ext ?_) : rows m c (ix2 (row t r) l) = _)
  match a with
  | ⟨0, _⟩ => show t.val * 512 + r.val = win0_3.index t 0 * 512 + 1 * r.val; rw [(index3 t).1]; omega
  | ⟨1, _⟩ => show l.val = win0_3.index t 1 * 1024 + 1 * l.val; rw [(index3 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final_rows : (dats m 0 c).arrAt 3 cfg0.N = rows m c :=
  (dats m 0 c).arrAt_eq_of_cover 3 (rows m c) (fun t _ => flushed_rows m c t) fun i : S4096x1024.Idx =>
    ⟨pointOf i, flush0_3 _, by
      show i ∈ ((View.whole main_v1_0).slice (win0_3.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_3.index (pointOf i) 0 * 512 ≤ (i 0 : Nat) ∧ (i 0 : Nat) < win0_3.index (pointOf i) 0 * 512 + win0_3.xsize (grid0.coords (pointOf i)) 0
        rw [(index3 _).1, (sizes3 _).1]
        show (i 0 : Nat) / 512 * 512 ≤ (i 0 : Nat) ∧ (i 0 : Nat) < (i 0 : Nat) / 512 * 512 + 512
        omega
      | ⟨1, _⟩ =>
        show win0_3.index (pointOf i) 1 * 1024 ≤ (i 1 : Nat) ∧ (i 1 : Nat) < win0_3.index (pointOf i) 1 * 1024 + win0_3.xsize (grid0.coords (pointOf i)) 1
        rw [(index3 _).2, (sizes3 _).2]
        omega⟩

theorem index4 : ∀ t : Fin grid0.N, win0_4.index t 0 = 0 ∧ win0_4.index t 1 = 0 := by decide +kernel
theorem sizes4 : ∀ t : Fin grid0.N, win0_4.xsize (grid0.coords t) 0 = 1 ∧ win0_4.xsize (grid0.coords t) 1 = 1024 := by decide +kernel

theorem flushed_total (t : Fin cfg0.N) (hf : (cfg0.win 4).flush t = true) :
    (dats m 0 c).flushed 4 t = ((cfg0.win 4).blk t).view.read (Elt Ideal) (total m c) := by
  rw [flushed4]
  funext j
  obtain ⟨l, rfl⟩ : ∃ l : Fin 1024, j = (ix2 0 l : S1x1024.Idx) := ⟨j 1, funext fun a =>
    match a with
    | ⟨0, _⟩ => Subsingleton.elim (α := Fin 1) _ _
    | ⟨1, _⟩ => rfl⟩
  rw [View.read_apply]
  have h7 := (flush0_4 t).1 hf
  have ht := lt_N t
  refine (sum_eq m c l t.val t.isLt).trans ?_
  rw [show t.val = 7 by omega, BackRow.upto_eq]
  refine (congrArg (total m c) (funext fun a => Fin.ext ?_) : total m c (ix2 0 l) = _)
  match a with
  | ⟨0, _⟩ => show 0 = win0_4.index t 0 * 1 + 1 * 0; rw [(index4 t).1]
  | ⟨1, _⟩ => show l.val = win0_4.index t 1 * 1024 + 1 * l.val; rw [(index4 t).2]; omega

/-- The point that writes the total. -/
abbrev lastPoint : Fin cfg0.N := ⟨7, by have h : cfg0.N = 8 := N_0; omega⟩

theorem final_total : (dats m 0 c).arrAt 4 cfg0.N = total m c :=
  (dats m 0 c).arrAt_eq_of_cover 4 (total m c) (fun t h => flushed_total m c t h) fun i : S1x1024.Idx =>
    ⟨lastPoint, (flush0_4 _).2 rfl, by
      show i ∈ ((View.whole main_v1_1).slice (win0_4.rect lastPoint)).set
      rw [View.set_slice_whole, Rect.mem_set_unit]
      intro a
      have h0 : (i 0 : Nat) < 1 := (i 0).isLt
      have h1 : (i 1 : Nat) < 1024 := (i 1).isLt
      match a with
      | ⟨0, _⟩ =>
        show win0_4.index lastPoint 0 * 1 ≤ (i 0 : Nat) ∧ (i 0 : Nat) < win0_4.index lastPoint 0 * 1 + win0_4.xsize (grid0.coords lastPoint) 0
        rw [(index4 _).1, (sizes4 _).1]
        omega
      | ⟨1, _⟩ =>
        show win0_4.index lastPoint 1 * 1024 ≤ (i 1 : Nat) ∧ (i 1 : Nat) < win0_4.index lastPoint 1 * 1024 + win0_4.xsize (grid0.coords lastPoint) 1
        rw [(index4 _).2, (sizes4 _).2]
        omega⟩

end Cert.Kernel30Ideal.Back

namespace Cert.Proof

theorem frame_reference30 : Cert.quiescent_Reference30Ideal := fun m ρ _ =>
  (θ_run Reference30Ideal.defs _ _).mono
    (fun r h => ⟨fun c => (h c).2.2, sem_eq_zero_of_no_sems (by decide) r.2⟩)
    (Reference30Ideal.Value.run (F := Ideal) m ρ)

theorem algebraic30 : Cert.algebraic_Kernel30Ideal_Reference30Ideal := by
  intro m ρ m' ρ' _ hagree
  refine ⟨fun c => Kernel30Ideal.Back.rows m c, fun c => Kernel30Ideal.Back.total m c, ?_, ?_⟩
  · exact (θ_run _ _ _).mono (fun r h c => ⟨(h c).1.trans (Kernel30Ideal.Back.final_rows m c), (h c).2.1.trans (Kernel30Ideal.Back.final_total m c), (h c).2.2⟩) (Kernel30Ideal.Value.run_blocks (F := Ideal) m ρ)
  · refine (θ_run _ _ _).mono (fun r h c => ⟨(h c).1.trans ?_, (h c).2.1.trans ?_, (h c).2.2⟩) (Reference30Ideal.Value.run (F := Ideal) m' ρ')
    · unfold Reference30Ideal.Value.res_main_v40
      rw [(hagree c).1, (hagree c).2.1, (hagree c).2.2]
      funext i
      obtain ⟨r, l, rfl⟩ : ∃ (r : Fin 4096) (l : Fin 1024), i = (ix2 r l : Kernel30Ideal.S4096x1024.Idx) := ⟨i 0, i 1, (ix2_eta (i : Kernel30Ideal.S4096x1024.Idx)).symm⟩
      exact Reference30Ideal.Back.row _ _ _ r l
    · rw [(hagree c).1, (hagree c).2.2]
      funext i
      obtain ⟨l, rfl⟩ : ∃ l : Fin 1024, i = (ix2 0 l : Kernel30Ideal.S1x1024.Idx) := ⟨i 1, funext fun a =>
        match a with
        | ⟨0, _⟩ => Subsingleton.elim (α := Fin 1) _ _
        | ⟨1, _⟩ => rfl⟩
      exact Reference30Ideal.Back.weights _ _ l

end Cert.Proof

end
-- ==== Proof.MixBackBody.lean ====
module

public import Idealize.ShloMosaic.Lib.Pipeline.CanonAppend
public import proofs.«01_k».proof.Proof.BackRow
public import proofs.«01_k».proof.Proof.Gen.Kernel31Ideal.Value

/-! What the kernel of the normalisation after the mixer's cotangents computes at one point. -/

@[expose] public section

set_option maxRecDepth 16384

noncomputable section

open Idealize.ShloMosaic Idealize.ShloMosaic.TcCoe Idealize.SL.Sem Idealize.ShloMosaic.StableHlo

namespace Cert.Kernel31Ideal.Back

open Cert.Kernel31Ideal Cert.Kernel31Ideal.Gen Cert.Kernel31Ideal.Value

/-- A store through the whole shape leaves its payload, whatever was stored before. -/
theorem canon_last (inb) (w : Vec Ideal S1x1024 .f32) (L : List (View.Piece (Elt Ideal) S1x1024 .f32)) :
    View.canon ((⟨Rect.unit (s := S1x1024) ![0, 0] (no_index ![1, 1024]) inb, w⟩ : View.Piece (Elt Ideal) S1x1024 .f32) :: L) = w := by
  funext y
  refine View.canon_append_of_pieces w L [⟨Rect.unit (s := S1x1024) ![0, 0] ![1, 1024] inb, w⟩] (fun p hp x => ?_) y ⟨_, List.mem_singleton.2 rfl, ?_⟩
  · obtain rfl := List.mem_singleton.1 hp
    refine congrArg w (funext fun a => Fin.ext ?_)
    match a with
    | ⟨0, _⟩ => show (x 0 : Nat) = 0 + 1 * (x 0 : Nat); omega
    | ⟨1, _⟩ => show (x 1 : Nat) = 0 + 1 * (x 1 : Nat); omega
  · show y ∈ (Rect.unit (s := S1x1024) ![0, 0] ![1, 1024] inb).set
    rw [Rect.mem_set_unit]
    intro a
    have h0 : (y 0 : Nat) < 1 := (y 0).isLt
    have h1 : (y 1 : Nat) < 1024 := (y 1).isLt
    match a with
    | ⟨0, _⟩ => show 0 ≤ (y 0 : Nat) ∧ (y 0 : Nat) < 0 + 1; omega
    | ⟨1, _⟩ => show 0 ≤ (y 1 : Nat) ∧ (y 1 : Nat) < 0 + 1024; omega

/-- A load of what one store through the whole shape left reads that store's payload. -/
theorem readCov_one (v : View sig .tc .vmem S1x1024 .f32) (inb) (w : Vec Ideal S1x1024 .f32) (R : Rect S1x1024) :
    v.readCov [(⟨Rect.unit (s := S1x1024) ![0, 0] (no_index ![1, 1024]) inb, w⟩ : View.Piece (Elt Ideal) S1x1024 .f32)] R.toLoadRect = View.ld w R := by
  rw [View.readCov_eq_canon']
  exact congrArg (fun X => View.ld X R) (canon_last inb w [])

section outs

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole)
  (x0 : Vec Ideal S512x1024 .f32) (x1 : Vec Ideal S1x1024 .f32) (x2 : Vec Ideal S512x1024 .f32) (z : Vec Ideal S1x1024 .f32)

theorem rowA (hc0 : cond0_0 i) : out0_A_3 (F := Ideal) c i arg2 harg2 arg3 harg3 arg4 harg4 arg5 harg5 arg6 harg6 hc0 x0 x1 x2 = k0_pay6 (F := Ideal) x0 x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumA (hc0 : cond0_0 i) : out0_A_4 (F := Ideal) c i arg2 harg2 arg3 harg3 arg4 harg4 arg5 harg5 arg6 harg6 hc0 x0 x1 x2 = k0_pay2 (F := Ideal) (k0_pay5 (F := Ideal) x0 x2) (k0_pay1 (F := Ideal)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  simp only [View.readAt_eq_ld, Memref.IsWhole.read_unread, readCov_one]
  rw [canon_last]
  repeat rw [View.ld_unit_zero (by funext a; fin_cases a <;> rfl)]

theorem rowB (hc0 : ¬cond0_0 i) : out0_B_3 (F := Ideal) c i arg2 harg2 arg3 harg3 arg4 harg4 arg5 harg5 arg6 harg6 hc0 x0 x1 x2 z = k0_pay6 (F := Ideal) x0 x1 x2 := by
  unfold out0_B_3
  rw [View.read_writes_eq_canon _ _ _ (cover0_B_3 c i arg2 harg2 arg3 harg3 arg4 harg4 arg5 harg5 arg6 harg6 hc0 x0 x1 x2 z)]
  unfold kernelRun0_B
  dsimp only
  sl_unfold_words
  simp only [View.readAt_eq_ld, Memref.IsWhole.read_unread]
  rw [View.canon_unit_zero (by funext a; fin_cases a <;> rfl)]
  repeat rw [View.ld_unit_zero (by funext a; fin_cases a <;> rfl)]

theorem sumB (hc0 : ¬cond0_0 i) : out0_B_4 (F := Ideal) c i arg2 harg2 arg3 harg3 arg4 harg4 arg5 harg5 arg6 harg6 hc0 x0 x1 x2 z = k0_pay2 (F := Ideal) (k0_pay5 (F := Ideal) x0 x2) (z) := by
  unfold out0_B_4
  rw [View.read_writes_eq_canon _ _ _ (cover0_B_4 c i arg2 harg2 arg3 harg3 arg4 harg4 arg5 harg5 arg6 harg6 hc0 x0 x1 x2 z)]
  unfold kernelRun0_B
  dsimp only
  sl_unfold_words
  simp only [View.readAt_eq_ld, Memref.IsWhole.read_unread, readCov_one]
  rw [canon_last]
  repeat rw [View.ld_unit_zero (by funext a; fin_cases a <;> rfl)]

end outs

theorem row_at (x0 : Vec Ideal S512x1024 .f32) (x1 : Vec Ideal S1x1024 .f32) (x2 : Vec Ideal S512x1024 .f32) (r : Fin 512) (l : Fin 1024) :
    k0_pay6 (F := Ideal) x0 x1 x2 (ix2 r l) = BackRow.plain (fun q => x0 (ix2 r q)) (fun q => x1 (ix2 0 q)) (fun q => x2 (ix2 r q)) l := by
  unfold k0_pay6 k0_pay4 k0_pay3
  pointwise
  simp only [Fin.sum_univ_one]
  rfl

theorem share_at (x0 x2 : Vec Ideal S512x1024 .f32) (l : Fin 1024) :
    k0_pay5 (F := Ideal) x0 x2 (ix2 0 l) = ∑ r : Fin 512, BackRow.share (fun q => x0 (ix2 r q)) (fun q => x2 (ix2 r q)) l := by
  unfold k0_pay5 k0_pay4 k0_pay3
  pointwise
  try rfl

theorem sum_at (s z : Vec Ideal S1x1024 .f32) (l : Fin 1024) : k0_pay2 (F := Ideal) s z (ix2 0 l) = (z (ix2 0 l) + s (ix2 0 l) : EReal) := by
  unfold k0_pay2
  pointwise
  try rfl

theorem reset_at (l : Fin 1024) : k0_pay1 (F := Ideal) (ix2 0 l) = (0 : EReal) := by
  unfold k0_pay1
  pointwise

end Cert.Kernel31Ideal.Back

end
-- ==== Proof.MixBackRef.lean ====
module

public import proofs.«01_k».proof.Proof.BackRow
public import proofs.«01_k».proof.Proof.Gen.Reference31Ideal.Run

/-! The reference's cotangents of the normalisation after the mixer at an index. -/

@[expose] public section

set_option maxRecDepth 16384

noncomputable section

open Idealize.ShloMosaic Idealize.ShloMosaic.TcCoe Idealize.SL.Sem Idealize.ShloMosaic.StableHlo

namespace Cert.Reference31Ideal.Back

open Cert.Reference31Ideal Cert.Reference31Ideal.Gen

/-- The reference's cotangent of a row. -/
theorem row (x : FVec Ideal S4096x1024 .f32) (w : FVec Ideal S1024 .f32) (d : FVec Ideal S4096x1024 .f32) (r : Fin 4096) (l : Fin 1024) :
    (truncf .bf16 (addf (addf (mulf (mulf d (broadcastInDim S4096x1024 ![0, 1] bcast_S1x1024_S4096x1024_0_1 (broadcastInDim S1x1024 ![1] bcast_S1024_S1x1024_1 w))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast S4096x1 (Host.reduceAdd (mulf x (mulf d (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf x (mulf d (broadcastInDim S4096x1024 ![0, 1] bcast_S1x1024_S4096x1024_0_1 (broadcastInDim S1x1024 ![1] bcast_S1024_S1x1024_1 w)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) bitsLt_bf16_f32 : FVec Ideal S4096x1024 .bf16) (ix2 r l) = BackRow.plain (fun q => x (ix2 r q)) (fun q => w (ix1 q)) (fun q => d (ix2 r q)) l := by
  pointwise
  simp only [Fin.sum_univ_one]
  rfl

/-- The reference's cotangent of the weights. -/
theorem weights (x d : FVec Ideal S4096x1024 .f32) (l : Fin 1024) :
    (shapeCast S1x1024 (Host.reduceAdd (shapeCast S1x1024 (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 0 l) = BackRow.weights (fun r q => x (ix2 r q)) (fun r => (fun q => d (ix2 r q))) l := by
  pointwise
  simp only [Fin.sum_univ_one]
  rfl

end Cert.Reference31Ideal.Back

end
-- ==== Proof.MixBack.lean ====
module

public import Idealize.ShloMosaic.Lib.StableHlo.ReadAt
public import Idealize.ShloMosaic.Lib.Quiescent
public import proofs.«01_k».proof.Defs
public import proofs.«01_k».proof.Proof.MixBackBody
public import proofs.«01_k».proof.Proof.MixBackRef
public import proofs.«01_k».proof.Proof.Gen.Kernel31.Frame

/-! The cotangents of the normalisation after the mixer: of the layer's output and of the weights. -/

@[expose] public section

set_option maxRecDepth 16384

noncomputable section

open Idealize.ShloMosaic Idealize.ShloMosaic.TcCoe Idealize.SL.Sem Idealize.ShloMosaic.StableHlo

namespace Cert.Kernel31Ideal.Back

open Cert.Kernel31Ideal Cert.Kernel31Ideal.Gen Cert.Kernel31Ideal.Value

variable (m : (ℓ : Loc nD τ sig) → Buf (Elt Ideal) ℓ) (c : Dev nD)

/-- The layer's output. -/
def X : Mat 4096 1024 := fun r l => m ((c.tc : Thread nD τ).loc main_arg0) (ix2 r l)

/-- The weights. -/
def Wt : Rows.Row 1024 := fun l => m ((c.tc : Thread nD τ).loc main_arg1) (ix1 l)

/-- The cotangent of the normal form. -/
def D : Mat 4096 1024 := fun r l => m ((c.tc : Thread nD τ).loc main_arg2) (ix2 r l)

theorem V_X (r : Fin 4096) (l : Fin 1024) : V m c main_arg0 (ix2 r l) = X m c r l := by
  unfold V
  after_reads_at
  try rfl

theorem V_Wt (l : Fin 1024) : V m c main_v0 (ix2 0 l) = Wt m c l := by
  unfold V
  after_reads_at
  try rfl

theorem V_D (r : Fin 4096) (l : Fin 1024) : V m c main_arg2 (ix2 r l) = D m c r l := by
  unfold V
  after_reads_at
  try rfl

theorem lt_N (t : Fin cfg0.N) : t.val < 8 := by
  have h : cfg0.N = 8 := N_0
  have := t.isLt
  omega

/-- The place of a point's row. -/
abbrev row (t : Fin cfg0.N) (r : Fin 512) : Fin 4096 := ⟨t.val * 512 + r.val, by have := lt_N t; omega⟩

theorem row_eq (t : Fin cfg0.N) (r : Fin 512) : Fin.ofNat 4096 (t.val * 512 + r.val) = row t r := Fin.ext (by
  show (t.val * 512 + r.val) % 4096 = t.val * 512 + r.val
  have := lt_N t; omega)

theorem index0 : ∀ t : Fin grid0.N, win0_0.index t 0 = t.val ∧ win0_0.index t 1 = 0 := by decide +kernel

theorem iblk0 (t : Fin cfg0.N) (r : Fin 512) (l : Fin 1024) : (iblk m c 0 t : Vec Ideal S512x1024 .f32) (ix2 r l) = X m c (row t r) l := by
  refine Eq.trans ?_ (V_X m c _ _)
  unfold iblk
  rw [View.read_apply]
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem index2 : ∀ t : Fin grid0.N, win0_2.index t 0 = t.val ∧ win0_2.index t 1 = 0 := by decide +kernel

theorem iblk2 (t : Fin cfg0.N) (r : Fin 512) (l : Fin 1024) : (iblk m c 2 t : Vec Ideal S512x1024 .f32) (ix2 r l) = D m c (row t r) l := by
  refine Eq.trans ?_ (V_D m c _ _)
  unfold iblk
  rw [View.read_apply]
  refine congrArg (V m c main_arg2) (funext fun a => Fin.ext ?_)
  match a with
  | ⟨0, _⟩ => show win0_2.index t 0 * 512 + 1 * r.val = t.val * 512 + r.val; rw [(index2 t).1]; omega
  | ⟨1, _⟩ => show win0_2.index t 1 * 1024 + 1 * l.val = l.val; rw [(index2 t).2]; omega

theorem index1 : ∀ t : Fin grid0.N, win0_1.index t 0 = 0 ∧ win0_1.index t 1 = 0 := by decide +kernel

theorem iblk1 (t : Fin cfg0.N) (l : Fin 1024) : (iblk m c 1 t : Vec Ideal S1x1024 .f32) (ix2 0 l) = Wt m c l := by
  refine Eq.trans ?_ (V_Wt m c _)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * l.val = l.val; rw [(index1 t).2]; omega

theorem outs_first (t : Fin cfg0.N) (h0 : t.val % 8 = 0) :
    outsAt0 m c t.val t.isLt = (k0_pay6 (F := Ideal) (iblk m c 0 t) (iblk m c 1 t) (iblk m c 2 t),
      k0_pay2 (F := Ideal) (k0_pay5 (F := Ideal) (iblk m c 0 t) (iblk m c 2 t)) (k0_pay1 (F := Ideal))) := by
  rw [outsAt0_A m c t h0]
  rw [rowA, sumA]

theorem outs_later (t : Fin cfg0.N) (h0 : ¬t.val % 8 = 0) :
    outsAt0 m c t.val t.isLt = (k0_pay6 (F := Ideal) (iblk m c 0 t) (iblk m c 1 t) (iblk m c 2 t),
      k0_pay2 (F := Ideal) (k0_pay5 (F := Ideal) (iblk m c 0 t) (iblk m c 2 t)) (outsAt0 m c (t.val - 1) (Nat.lt_of_le_of_lt (Nat.sub_le _ _) t.isLt)).2) := by
  rw [outsAt0_B m c t h0]
  rw [rowB, sumB]

theorem back_eq (t : Fin cfg0.N) (r : Fin 512) (l : Fin 1024) :
    k0_pay6 (F := Ideal) (iblk m c 0 t) (iblk m c 1 t) (iblk m c 2 t) (ix2 r l) =
      BackRow.plain (X m c (row t r)) (Wt m c) (D m c (row t r)) l := by
  rw [row_at]
  congr 1
  · funext q; exact iblk0 m c t r q
  · funext q; exact iblk1 m c t q
  · funext q; exact iblk2 m c t r q

theorem part_eq (t : Fin cfg0.N) (l : Fin 1024) :
    k0_pay5 (F := Ideal) (iblk m c 0 t) (iblk m c 2 t) (ix2 0 l) = BackRow.part (X m c) (D m c) t.val l := by
  rw [share_at]
  refine Finset.sum_congr rfl fun r _ => ?_
  rw [row_eq]
  congr 1
  · funext q; exact iblk0 m c t r q
  · funext q; exact iblk2 m c t r q

theorem left (t : Fin cfg0.N) (r : Fin 512) (l : Fin 1024) :
    (outsAt0 m c t.val t.isLt).1 (ix2 r l) = BackRow.plain (X m c (row t r)) (Wt m c) (D m c (row t r)) l := by
  by_cases h0 : t.val % 8 = 0
  · rw [outs_first m c t h0]
    exact back_eq m c t r l
  · rw [outs_later m c t h0]
    exact back_eq m c t r l

theorem sum_eq (l : Fin 1024) : ∀ (n : ℕ) (hn : n < cfg0.N), (outsAt0 m c n hn).2 (ix2 0 l) = BackRow.upto (X m c) (D m c) n l
  | 0, hn => by
    have e := outs_first m c ⟨0, hn⟩ rfl
    dsimp only at e
    rw [e]
    dsimp only
    rw [sum_at, part_eq, reset_at]
    rfl
  | n + 1, hn => by
    have hN : cfg0.N = 8 := N_0
    have e := outs_later m c ⟨n + 1, hn⟩ (by show ¬(n + 1) % 8 = 0; omega)
    dsimp only at e
    rw [e]
    dsimp only
    rw [sum_at, part_eq]
    exact congrArg (fun a : EReal => a + BackRow.part (X m c) (D m c) (n + 1) l) (sum_eq l n (Nat.lt_of_succ_lt hn))

/-- The cotangents of the output. -/
def rows : Buf (Elt Ideal) ((c : Thread nD τ).loc main_v1_0) := fun i : S4096x1024.Idx => BackRow.plain (X m c (i 0)) (Wt m c) (D m c (i 0)) (i 1)

/-- The cotangent of the weights. -/
def total : Buf (Elt Ideal) ((c : Thread nD τ).loc main_v1_1) := fun i : S1x1024.Idx => BackRow.weights (X m c) (D m c) (i 1)

theorem index3 : ∀ t : Fin grid0.N, win0_3.index t 0 = t.val ∧ win0_3.index t 1 = 0 := by decide +kernel
theorem sizes3 : ∀ t : Fin grid0.N, win0_3.xsize (grid0.coords t) 0 = 512 ∧ win0_3.xsize (grid0.coords t) 1 = 1024 := by decide +kernel

theorem flushed_rows (t : Fin cfg0.N) : (dats m 0 c).flushed 3 t = ((cfg0.win 3).blk t).view.read (Elt Ideal) (rows m c) := by
  rw [flushed3]
  funext j
  obtain ⟨r, l, rfl⟩ : ∃ (r : Fin 512) (l : Fin 1024), j = (ix2 r l : S512x1024.Idx) := ⟨j 0, j 1, (ix2_eta (j : S512x1024.Idx)).symm⟩
  rw [View.read_apply]
  refine (left m c t r l).trans (congrArg (rows m c) (funext fun a => Fin.ext ?_) : rows m c (ix2 (row t r) l) = _)
  match a with
  | ⟨0, _⟩ => show t.val * 512 + r.val = win0_3.index t 0 * 512 + 1 * r.val; rw [(index3 t).1]; omega
  | ⟨1, _⟩ => show l.val = win0_3.index t 1 * 1024 + 1 * l.val; rw [(index3 t).2]; omega

/-- The point that writes an index. -/
abbrev pointOf (i : S4096x1024.Idx) : Fin cfg0.N := ⟨(i 0 : Nat) / 512, by
  have h : cfg0.N = 8 := N_0
  have h0 : (i 0 : Nat) < 4096 := (i 0).isLt
  omega⟩

theorem final_rows : (dats m 0 c).arrAt 3 cfg0.N = rows m c :=
  (dats m 0 c).arrAt_eq_of_cover 3 (rows m c) (fun t _ => flushed_rows m c t) fun i : S4096x1024.Idx =>
    ⟨pointOf i, flush0_3 _, by
      show i ∈ ((View.whole main_v1_0).slice (win0_3.rect (pointOf i))).set
      rw [View.set_slice_whole, Rect.mem_set_unit]
      intro a
      have h0 : (i 0 : Nat) < 4096 := (i 0).isLt
      have h1 : (i 1 : Nat) < 1024 := (i 1).isLt
      match a with
      | ⟨0, _⟩ =>
        show win0_3.index (pointOf i) 0 * 512 ≤ (i 0 : Nat) ∧ (i 0 : Nat) < win0_3.index (pointOf i) 0 * 512 + win0_3.xsize (grid0.coords (pointOf i)) 0
        rw [(index3 _).1, (sizes3 _).1]
        show (i 0 : Nat) / 512 * 512 ≤ (i 0 : Nat) ∧ (i 0 : Nat) < (i 0 : Nat) / 512 * 512 + 512
        omega
      | ⟨1, _⟩ =>
        show win0_3.index (pointOf i) 1 * 1024 ≤ (i 1 : Nat) ∧ (i 1 : Nat) < win0_3.index (pointOf i) 1 * 1024 + win0_3.xsize (grid0.coords (pointOf i)) 1
        rw [(index3 _).2, (sizes3 _).2]
        omega⟩

theorem index4 : ∀ t : Fin grid0.N, win0_4.index t 0 = 0 ∧ win0_4.index t 1 = 0 := by decide +kernel
theorem sizes4 : ∀ t : Fin grid0.N, win0_4.xsize (grid0.coords t) 0 = 1 ∧ win0_4.xsize (grid0.coords t) 1 = 1024 := by decide +kernel

theorem flushed_total (t : Fin cfg0.N) (hf : (cfg0.win 4).flush t = true) :
    (dats m 0 c).flushed 4 t = ((cfg0.win 4).blk t).view.read (Elt Ideal) (total m c) := by
  rw [flushed4]
  funext j
  obtain ⟨l, rfl⟩ : ∃ l : Fin 1024, j = (ix2 0 l : S1x1024.Idx) := ⟨j 1, funext fun a =>
    match a with
    | ⟨0, _⟩ => Subsingleton.elim (α := Fin 1) _ _
    | ⟨1, _⟩ => rfl⟩
  rw [View.read_apply]
  have h7 := (flush0_4 t).1 hf
  have ht := lt_N t
  refine (sum_eq m c l t.val t.isLt).trans ?_
  rw [show t.val = 7 by omega, BackRow.upto_eq]
  refine (congrArg (total m c) (funext fun a => Fin.ext ?_) : total m c (ix2 0 l) = _)
  match a with
  | ⟨0, _⟩ => show 0 = win0_4.index t 0 * 1 + 1 * 0; rw [(index4 t).1]
  | ⟨1, _⟩ => show l.val = win0_4.index t 1 * 1024 + 1 * l.val; rw [(index4 t).2]; omega

/-- The point that writes the total. -/
abbrev lastPoint : Fin cfg0.N := ⟨7, by have h : cfg0.N = 8 := N_0; omega⟩

theorem final_total : (dats m 0 c).arrAt 4 cfg0.N = total m c :=
  (dats m 0 c).arrAt_eq_of_cover 4 (total m c) (fun t h => flushed_total m c t h) fun i : S1x1024.Idx =>
    ⟨lastPoint, (flush0_4 _).2 rfl, by
      show i ∈ ((View.whole main_v1_1).slice (win0_4.rect lastPoint)).set
      rw [View.set_slice_whole, Rect.mem_set_unit]
      intro a
      have h0 : (i 0 : Nat) < 1 := (i 0).isLt
      have h1 : (i 1 : Nat) < 1024 := (i 1).isLt
      match a with
      | ⟨0, _⟩ =>
        show win0_4.index lastPoint 0 * 1 ≤ (i 0 : Nat) ∧ (i 0 : Nat) < win0_4.index lastPoint 0 * 1 + win0_4.xsize (grid0.coords lastPoint) 0
        rw [(index4 _).1, (sizes4 _).1]
        omega
      | ⟨1, _⟩ =>
        show win0_4.index lastPoint 1 * 1024 ≤ (i 1 : Nat) ∧ (i 1 : Nat) < win0_4.index lastPoint 1 * 1024 + win0_4.xsize (grid0.coords lastPoint) 1
        rw [(index4 _).2, (sizes4 _).2]
        omega⟩

end Cert.Kernel31Ideal.Back

namespace Cert.Proof

theorem frame_reference31 : Cert.quiescent_Reference31Ideal := fun m ρ _ =>
  (θ_run Reference31Ideal.defs _ _).mono
    (fun r h => ⟨fun c => (h c).2.2, sem_eq_zero_of_no_sems (by decide) r.2⟩)
    (Reference31Ideal.Value.run (F := Ideal) m ρ)

theorem algebraic31 : Cert.algebraic_Kernel31Ideal_Reference31Ideal := by
  intro m ρ m' ρ' _ hagree
  refine ⟨fun c => Kernel31Ideal.Back.rows m c, fun c => Kernel31Ideal.Back.total m c, ?_, ?_⟩
  · exact (θ_run _ _ _).mono (fun r h c => ⟨(h c).1.trans (Kernel31Ideal.Back.final_rows m c), (h c).2.1.trans (Kernel31Ideal.Back.final_total m c), (h c).2.2⟩) (Kernel31Ideal.Value.run_blocks (F := Ideal) m ρ)
  · refine (θ_run _ _ _).mono (fun r h c => ⟨(h c).1.trans ?_, (h c).2.1.trans ?_, (h c).2.2⟩) (Reference31Ideal.Value.run (F := Ideal) m' ρ')
    · rw [(hagree c).1, (hagree c).2.1, (hagree c).2.2]
      funext i
      obtain ⟨r, l, rfl⟩ : ∃ (r : Fin 4096) (l : Fin 1024), i = (ix2 r l : Kernel31Ideal.S4096x1024.Idx) := ⟨i 0, i 1, (ix2_eta (i : Kernel31Ideal.S4096x1024.Idx)).symm⟩
      exact Reference31Ideal.Back.row _ _ _ r l
    · rw [(hagree c).1, (hagree c).2.2]
      funext i
      obtain ⟨l, rfl⟩ : ∃ l : Fin 1024, i = (ix2 0 l : Kernel31Ideal.S1x1024.Idx) := ⟨i 1, funext fun a =>
        match a with
        | ⟨0, _⟩ => Subsingleton.elim (α := Fin 1) _ _
        | ⟨1, _⟩ => rfl⟩
      exact Reference31Ideal.Back.weights _ _ l

end Cert.Proof

end
-- ==== Proof.lean ====
module

public import proofs.«01_k».proof.Defs
public import proofs.«01_k».proof.Proof.Gen.Kernel.Frame
public import proofs.«01_k».proof.Proof.Results
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.RefResults
public import proofs.«01_k».proof.Proof.FfnInW
public import proofs.«01_k».proof.Proof.FfnInX
public import proofs.«01_k».proof.Proof.FfnOutW
public import proofs.«01_k».proof.Proof.FfnOutX
public import proofs.«01_k».proof.Proof.MixOutW
public import proofs.«01_k».proof.Proof.MixInW
public import proofs.«01_k».proof.Proof.MixOutX
public import proofs.«01_k».proof.Proof.MixInX
public import proofs.«01_k».proof.Proof.FfnIn
public import proofs.«01_k».proof.Proof.FfnOut
public import proofs.«01_k».proof.Proof.MixIn
public import proofs.«01_k».proof.Proof.MixOut
public import proofs.«01_k».proof.Proof.AdamFfnIn
public import proofs.«01_k».proof.Proof.AdamMixIn
public import proofs.«01_k».proof.Proof.AdamFfnOut
public import proofs.«01_k».proof.Proof.AdamMixOut
public import proofs.«01_k».proof.Proof.AdamConv
public import proofs.«01_k».proof.Proof.AdamDepth
public import proofs.«01_k».proof.Proof.AdamSmall
public import proofs.«01_k».proof.Proof.GdnFwd
public import proofs.«01_k».proof.Proof.MixInBa
public import proofs.«01_k».proof.Proof.LossHead
public import proofs.«01_k».proof.Proof.Rms
public import proofs.«01_k».proof.Proof.Swiglu
public import proofs.«01_k».proof.Proof.ResHalf
public import proofs.«01_k».proof.Proof.ResWhole
public import proofs.«01_k».proof.Proof.LnSilu
public import proofs.«01_k».proof.Proof.RmsBack
public import proofs.«01_k».proof.Proof.FfnBack
public import proofs.«01_k».proof.Proof.MixBack
public import Idealize.ShloMosaic.Lib.Quiescent

/-! The certificate: the frames, and the equality of the kernel's and the reference's results. -/

@[expose] public section

set_option maxRecDepth 16384

noncomputable section

open Idealize.ShloMosaic Idealize.ShloMosaic.TcCoe Idealize.SL.Sem

namespace Cert.Proof

/-- The kernel's run: every result is the gradient of its arguments. -/
theorem run_kernel (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v10_0) = KernelIdeal.Body.res_du m c
      ∧ r.2.mem ((c.tc : Thread KernelIdeal.nD KernelIdeal.τ).loc KernelIdeal.main_v10_1) = KernelIdeal.Body.res_dw m c
      ∧ r.2.mem ((c.tc : Thread KernelIdeal.nD KernelIdeal.τ).loc KernelIdeal.main_v10_2) = KernelIdeal.Body.res_dq m c
      ∧ r.2.mem ((c.tc : Thread KernelIdeal.nD KernelIdeal.τ).loc KernelIdeal.main_v10_3) = KernelIdeal.Body.res_dk m c
      ∧ r.2.mem ((c.tc : Thread KernelIdeal.nD KernelIdeal.τ).loc KernelIdeal.main_v10_4) = KernelIdeal.Body.res_dqk m c
      ∧ r.2.mem ((c.tc : Thread KernelIdeal.nD KernelIdeal.τ).loc KernelIdeal.main_v10_5) = KernelIdeal.Body.res_dd m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7) :=
  (θ_run (KernelIdeal.defs (F := Ideal)) _ _).mono
    (fun r h c => And.intro ((h c).1.trans (KernelIdeal.Body.final_du m c))
      (And.intro ((h c).2.1.trans (KernelIdeal.Body.final_dw m c))
      (And.intro ((h c).2.2.1.trans (KernelIdeal.Body.final_dq m c))
      (And.intro ((h c).2.2.2.1.trans (KernelIdeal.Body.final_dk m c))
      (And.intro ((h c).2.2.2.2.1.trans (KernelIdeal.Body.final_dqk m c))
      (And.intro ((h c).2.2.2.2.2.1.trans (KernelIdeal.Body.final_dd m c)) (h c).2.2.2.2.2.2))))))
    (KernelIdeal.Value.run_blocks (F := Ideal) m ρ)

/-- The reference's run: every result is the gradient of its arguments. -/
theorem run_reference (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v28) = ReferenceIdeal.Step.res_du m c
      ∧ r.2.mem ((c.tc : Thread ReferenceIdeal.nD ReferenceIdeal.τ).loc ReferenceIdeal.main_v30) = ReferenceIdeal.Step.res_dw m c
      ∧ r.2.mem ((c.tc : Thread ReferenceIdeal.nD ReferenceIdeal.τ).loc ReferenceIdeal.main_v32) = ReferenceIdeal.Step.res_dq m c
      ∧ r.2.mem ((c.tc : Thread ReferenceIdeal.nD ReferenceIdeal.τ).loc ReferenceIdeal.main_v34) = ReferenceIdeal.Step.res_dk m c
      ∧ r.2.mem ((c.tc : Thread ReferenceIdeal.nD ReferenceIdeal.τ).loc ReferenceIdeal.main_v24) = ReferenceIdeal.Step.res_dqk m c
      ∧ r.2.mem ((c.tc : Thread ReferenceIdeal.nD ReferenceIdeal.τ).loc ReferenceIdeal.main_v26) = ReferenceIdeal.Step.res_dd m c
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7) :=
  (θ_run (ReferenceIdeal.defs (F := Ideal)) _ _).mono
    (fun r h c => And.intro ((h c).1.trans (ReferenceIdeal.Step.out_du m c _ rfl))
      (And.intro ((h c).2.1.trans (ReferenceIdeal.Step.out_dw m c _ rfl))
      (And.intro ((h c).2.2.1.trans (ReferenceIdeal.Step.out_dq m c _ rfl))
      (And.intro ((h c).2.2.2.1.trans (ReferenceIdeal.Step.out_dk m c _ rfl))
      (And.intro ((h c).2.2.2.2.1.trans (ReferenceIdeal.Step.out_dqk m c _ rfl))
      (And.intro ((h c).2.2.2.2.2.1.trans (ReferenceIdeal.Step.out_dd m c _ rfl)) (h c).2.2.2.2.2.2))))))
    (ReferenceIdeal.Value.run (F := Ideal) m ρ)

theorem frame_reference : Cert.quiescent_ReferenceIdeal := fun m ρ _ =>
  (θ_run ReferenceIdeal.defs _ _).mono
    (fun r h => ⟨fun c => (h c).2.2.2.2.2.2, sem_eq_zero_of_no_sems (by decide) r.2⟩)
    (ReferenceIdeal.Value.run (F := Ideal) m ρ)

theorem algebraic : Cert.algebraic_KernelIdeal_ReferenceIdeal := by
  intro m ρ m' ρ' _ hagree
  have hargs (c : Dev KernelIdeal.nD) : ReferenceIdeal.Step.args m' c = KernelIdeal.Body.args m c := by
    obtain ⟨h0, h1, h2, h3, h4, h5, h6, h7⟩ := hagree c
    unfold ReferenceIdeal.Step.args KernelIdeal.Body.args
    congr 1
    · funext r l; exact congrFun h0 _
    · funext r l; exact congrFun h1 _
    · funext r l; exact congrFun h2 _
    · funext r l; exact congrFun h3 _
    · funext h n a b; exact congrFun h4 _
    · funext h n; exact congrFun h5 _
    · funext n k v; exact congrFun h6 _
    · funext r l; exact congrFun h7 _
  have e_du (c : Dev KernelIdeal.nD) : ReferenceIdeal.Step.res_du m' c = KernelIdeal.Body.res_du m c :=
    funext fun i => congrArg (fun a : Gdn.Args => a.du (i 0) (i 1)) (hargs c)
  have e_dw (c : Dev KernelIdeal.nD) : ReferenceIdeal.Step.res_dw m' c = KernelIdeal.Body.res_dw m c :=
    funext fun i => congrArg (fun a : Gdn.Args => a.dw (i 0) (i 1)) (hargs c)
  have e_dq (c : Dev KernelIdeal.nD) : ReferenceIdeal.Step.res_dq m' c = KernelIdeal.Body.res_dq m c :=
    funext fun i => congrArg (fun a : Gdn.Args => a.dq (i 0) (i 1)) (hargs c)
  have e_dk (c : Dev KernelIdeal.nD) : ReferenceIdeal.Step.res_dk m' c = KernelIdeal.Body.res_dk m c :=
    funext fun i => congrArg (fun a : Gdn.Args => a.dk (i 0) (i 1)) (hargs c)
  have e_dqk (c : Dev KernelIdeal.nD) : ReferenceIdeal.Step.res_dqk m' c = KernelIdeal.Body.res_dqk m c :=
    funext fun i => congrArg (fun a : Gdn.Args => a.dqk (i 0) (i 1)) (hargs c)
  have e_dd (c : Dev KernelIdeal.nD) : ReferenceIdeal.Step.res_dd m' c = KernelIdeal.Body.res_dd m c :=
    funext fun i => congrArg (fun a : Gdn.Args => a.dd (i 0) (i 1)) (hargs c)
  refine ⟨fun c => KernelIdeal.Body.res_du m c, fun c => KernelIdeal.Body.res_dw m c, fun c => KernelIdeal.Body.res_dq m c, fun c => KernelIdeal.Body.res_dk m c, fun c => KernelIdeal.Body.res_dqk m c, fun c => KernelIdeal.Body.res_dd m c, run_kernel m ρ, ?_⟩
  refine (θ_run _ _ _).mono (fun r h c => ?_) (run_reference m' ρ')
  exact ⟨(h c).1.trans (e_du c), (h c).2.1.trans (e_dw c), (h c).2.2.1.trans (e_dq c), (h c).2.2.2.1.trans (e_dk c),
    (h c).2.2.2.2.1.trans (e_dqk c), (h c).2.2.2.2.2.1.trans (e_dd c), (h c).2.2.2.2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29,
    trivial, algebraic30,
    trivial, algebraic31⟩

end Cert.Proof

end
